-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def Pre_KernelDw (m : (ℓ : Loc Cert.KernelDw.nD Cert.KernelDw.τ Cert.KernelDw.sig) → Buf (Elt Bits) ℓ) : Prop :=
  True

def Pre_KernelDwIdeal (m : (ℓ : Loc Cert.KernelDwIdeal.nD Cert.KernelDwIdeal.τ Cert.KernelDwIdeal.sig) → Buf (Elt Ideal) ℓ) : Prop :=
  True

def Pre_KernelDwIdeal_in_range_dw [hPre_in_range_dw : Cert.Pre_in_range_dw.Facts] (m : (ℓ : Loc Cert.KernelDwIdeal.nD Cert.KernelDwIdeal.τ Cert.KernelDwIdeal.sig) → Buf (Elt Ideal) ℓ) : Prop :=
  ∀ c : Dev Cert.KernelDwIdeal.nD,
    (Cert.Pre_in_range_dw.fn (F := Ideal) (m ((c.tc : Thread Cert.KernelDwIdeal.nD Cert.KernelDwIdeal.τ).loc Cert.KernelDwIdeal.main_arg0)) (m ((c.tc : Thread Cert.KernelDwIdeal.nD Cert.KernelDwIdeal.τ).loc Cert.KernelDwIdeal.main_arg1)) (m ((c.tc : Thread Cert.KernelDwIdeal.nD Cert.KernelDwIdeal.τ).loc Cert.KernelDwIdeal.main_arg2)) (m ((c.tc : Thread Cert.KernelDwIdeal.nD Cert.KernelDwIdeal.τ).loc Cert.KernelDwIdeal.main_arg3))).1 = (fun _ => 1#1)
    ∧ (Cert.Pre_in_range_dw.fn (F := Ideal) (m ((c.tc : Thread Cert.KernelDwIdeal.nD Cert.KernelDwIdeal.τ).loc Cert.KernelDwIdeal.main_arg0)) (m ((c.tc : Thread Cert.KernelDwIdeal.nD Cert.KernelDwIdeal.τ).loc Cert.KernelDwIdeal.main_arg1)) (m ((c.tc : Thread Cert.KernelDwIdeal.nD Cert.KernelDwIdeal.τ).loc Cert.KernelDwIdeal.main_arg2)) (m ((c.tc : Thread Cert.KernelDwIdeal.nD Cert.KernelDwIdeal.τ).loc Cert.KernelDwIdeal.main_arg3))).2 = (fun _ => 1#1)

def Pre_ReferenceDwIdeal (m : (ℓ : Loc Cert.ReferenceDwIdeal.nD Cert.ReferenceDwIdeal.τ Cert.ReferenceDwIdeal.sig) → Buf (Elt Ideal) ℓ) : Prop :=
  True

def Pre_ReferenceDwIdeal_in_range_dw [hPre_in_range_dw : Cert.Pre_in_range_dw.Facts] (m : (ℓ : Loc Cert.ReferenceDwIdeal.nD Cert.ReferenceDwIdeal.τ Cert.ReferenceDwIdeal.sig) → Buf (Elt Ideal) ℓ) : Prop :=
  ∀ c : Dev Cert.ReferenceDwIdeal.nD,
    (Cert.Pre_in_range_dw.fn (F := Ideal) (m ((c.tc : Thread Cert.ReferenceDwIdeal.nD Cert.ReferenceDwIdeal.τ).loc Cert.ReferenceDwIdeal.main_arg0)) (m ((c.tc : Thread Cert.ReferenceDwIdeal.nD Cert.ReferenceDwIdeal.τ).loc Cert.ReferenceDwIdeal.main_arg1)) (m ((c.tc : Thread Cert.ReferenceDwIdeal.nD Cert.ReferenceDwIdeal.τ).loc Cert.ReferenceDwIdeal.main_arg2)) (m ((c.tc : Thread Cert.ReferenceDwIdeal.nD Cert.ReferenceDwIdeal.τ).loc Cert.ReferenceDwIdeal.main_arg3))).1 = (fun _ => 1#1)
    ∧ (Cert.Pre_in_range_dw.fn (F := Ideal) (m ((c.tc : Thread Cert.ReferenceDwIdeal.nD Cert.ReferenceDwIdeal.τ).loc Cert.ReferenceDwIdeal.main_arg0)) (m ((c.tc : Thread Cert.ReferenceDwIdeal.nD Cert.ReferenceDwIdeal.τ).loc Cert.ReferenceDwIdeal.main_arg1)) (m ((c.tc : Thread Cert.ReferenceDwIdeal.nD Cert.ReferenceDwIdeal.τ).loc Cert.ReferenceDwIdeal.main_arg2)) (m ((c.tc : Thread Cert.ReferenceDwIdeal.nD Cert.ReferenceDwIdeal.τ).loc Cert.ReferenceDwIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelDw [hKernelDw : Cert.KernelDw.Facts] : Prop :=
  ∀ (m : (ℓ : Loc Cert.KernelDw.nD Cert.KernelDw.τ Cert.KernelDw.sig) → Buf (Elt Bits) ℓ) (g : Dev Cert.KernelDw.nD → PrngReg), Pre_KernelDw m →
    θ_run (Cert.KernelDw.defs (F := Bits)) (onTc (τ := Cert.KernelDw.τ) (Cert.KernelDw.main (F := Bits))) ⟨m, fun _ => 0, g⟩ (fun r => (∀ c : Dev Cert.KernelDw.nD,
      r.2.mem ((c.tc : Thread Cert.KernelDw.nD Cert.KernelDw.τ).loc Cert.KernelDw.main_arg0) = m ((c.tc : Thread Cert.KernelDw.nD Cert.KernelDw.τ).loc Cert.KernelDw.main_arg0)
      ∧ r.2.mem ((c.tc : Thread Cert.KernelDw.nD Cert.KernelDw.τ).loc Cert.KernelDw.main_arg1) = m ((c.tc : Thread Cert.KernelDw.nD Cert.KernelDw.τ).loc Cert.KernelDw.main_arg1)
      ∧ r.2.mem ((c.tc : Thread Cert.KernelDw.nD Cert.KernelDw.τ).loc Cert.KernelDw.main_arg2) = m ((c.tc : Thread Cert.KernelDw.nD Cert.KernelDw.τ).loc Cert.KernelDw.main_arg2)
      ∧ r.2.mem ((c.tc : Thread Cert.KernelDw.nD Cert.KernelDw.τ).loc Cert.KernelDw.main_arg3) = m ((c.tc : Thread Cert.KernelDw.nD Cert.KernelDw.τ).loc Cert.KernelDw.main_arg3))
      ∧ r.2.sem = fun _ => 0)

def quiescent_KernelDwIdeal [hKernelDwIdeal : Cert.KernelDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg), Pre_KernelDwIdeal m →
    θ_run (Cert.KernelDwIdeal.defs (F := Ideal)) (onTc (τ := Cert.KernelDwIdeal.τ) (Cert.KernelDwIdeal.main (F := Ideal))) ⟨m, fun _ => 0, g⟩ (fun r => (∀ c : Dev Cert.KernelDwIdeal.nD,
      r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
      ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1)
      ∧ r.2.mem ((c.tc : Thread Cert.KernelDwIdeal.nD Cert.KernelDwIdeal.τ).loc Cert.KernelDwIdeal.main_arg2) = m ((c.tc : Thread Cert.KernelDwIdeal.nD Cert.KernelDwIdeal.τ).loc Cert.KernelDwIdeal.main_arg2)
      ∧ r.2.mem ((c.tc : Thread Cert.KernelDwIdeal.nD Cert.KernelDwIdeal.τ).loc Cert.KernelDwIdeal.main_arg3) = m ((c.tc : Thread Cert.KernelDwIdeal.nD Cert.KernelDwIdeal.τ).loc Cert.KernelDwIdeal.main_arg3))
      ∧ r.2.sem = fun _ => 0)

def quiescent_KernelDwIdeal_pre_in_range_dw [hKernelDwIdeal : Cert.KernelDwIdeal.Facts] [hPre_in_range_dw : Cert.Pre_in_range_dw.Facts] : Prop :=
  ∀ (m : (ℓ : Loc Cert.KernelDwIdeal.nD Cert.KernelDwIdeal.τ Cert.KernelDwIdeal.sig) → Buf (Elt Ideal) ℓ) (g : Dev Cert.KernelDwIdeal.nD → PrngReg), Pre_KernelDwIdeal_in_range_dw m →
    θ_run (Cert.KernelDwIdeal.defs (F := Ideal)) (onTc (τ := Cert.KernelDwIdeal.τ) (Cert.KernelDwIdeal.main (F := Ideal))) ⟨m, fun _ => 0, g⟩ (fun r => (∀ c : Dev Cert.KernelDwIdeal.nD,
      r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
      ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1)
      ∧ r.2.mem ((c.tc : Thread Cert.KernelDwIdeal.nD Cert.KernelDwIdeal.τ).loc Cert.KernelDwIdeal.main_arg2) = m ((c.tc : Thread Cert.KernelDwIdeal.nD Cert.KernelDwIdeal.τ).loc Cert.KernelDwIdeal.main_arg2)
      ∧ r.2.mem ((c.tc : Thread Cert.KernelDwIdeal.nD Cert.KernelDwIdeal.τ).loc Cert.KernelDwIdeal.main_arg3) = m ((c.tc : Thread Cert.KernelDwIdeal.nD Cert.KernelDwIdeal.τ).loc Cert.KernelDwIdeal.main_arg3))
      ∧ r.2.sem = fun _ => 0)

def quiescent_ReferenceDwIdeal [hReferenceDwIdeal : Cert.ReferenceDwIdeal.Facts] : Prop :=
  ∀ (m : (ℓ : Loc Cert.ReferenceDwIdeal.nD Cert.ReferenceDwIdeal.τ Cert.ReferenceDwIdeal.sig) → Buf (Elt Ideal) ℓ) (g : Dev Cert.ReferenceDwIdeal.nD → PrngReg), Pre_ReferenceDwIdeal m →
    θ_run (Cert.ReferenceDwIdeal.defs (F := Ideal)) (onTc (τ := Cert.ReferenceDwIdeal.τ) (Cert.ReferenceDwIdeal.main (F := Ideal))) ⟨m, fun _ => 0, g⟩ (fun r => (∀ c : Dev Cert.ReferenceDwIdeal.nD,
      r.2.mem ((c.tc : Thread Cert.ReferenceDwIdeal.nD Cert.ReferenceDwIdeal.τ).loc Cert.ReferenceDwIdeal.main_arg0) = m ((c.tc : Thread Cert.ReferenceDwIdeal.nD Cert.ReferenceDwIdeal.τ).loc Cert.ReferenceDwIdeal.main_arg0)
      ∧ r.2.mem ((c.tc : Thread Cert.ReferenceDwIdeal.nD Cert.ReferenceDwIdeal.τ).loc Cert.ReferenceDwIdeal.main_arg1) = m ((c.tc : Thread Cert.ReferenceDwIdeal.nD Cert.ReferenceDwIdeal.τ).loc Cert.ReferenceDwIdeal.main_arg1)
      ∧ r.2.mem ((c.tc : Thread Cert.ReferenceDwIdeal.nD Cert.ReferenceDwIdeal.τ).loc Cert.ReferenceDwIdeal.main_arg2) = m ((c.tc : Thread Cert.ReferenceDwIdeal.nD Cert.ReferenceDwIdeal.τ).loc Cert.ReferenceDwIdeal.main_arg2)
      ∧ r.2.mem ((c.tc : Thread Cert.ReferenceDwIdeal.nD Cert.ReferenceDwIdeal.τ).loc Cert.ReferenceDwIdeal.main_arg3) = m ((c.tc : Thread Cert.ReferenceDwIdeal.nD Cert.ReferenceDwIdeal.τ).loc Cert.ReferenceDwIdeal.main_arg3))
      ∧ r.2.sem = fun _ => 0)

def quiescent_ReferenceDwIdeal_pre_in_range_dw [hReferenceDwIdeal : Cert.ReferenceDwIdeal.Facts] [hPre_in_range_dw : Cert.Pre_in_range_dw.Facts] : Prop :=
  ∀ (m : (ℓ : Loc Cert.ReferenceDwIdeal.nD Cert.ReferenceDwIdeal.τ Cert.ReferenceDwIdeal.sig) → Buf (Elt Ideal) ℓ) (g : Dev Cert.ReferenceDwIdeal.nD → PrngReg), Pre_ReferenceDwIdeal_in_range_dw m →
    θ_run (Cert.ReferenceDwIdeal.defs (F := Ideal)) (onTc (τ := Cert.ReferenceDwIdeal.τ) (Cert.ReferenceDwIdeal.main (F := Ideal))) ⟨m, fun _ => 0, g⟩ (fun r => (∀ c : Dev Cert.ReferenceDwIdeal.nD,
      r.2.mem ((c.tc : Thread Cert.ReferenceDwIdeal.nD Cert.ReferenceDwIdeal.τ).loc Cert.ReferenceDwIdeal.main_arg0) = m ((c.tc : Thread Cert.ReferenceDwIdeal.nD Cert.ReferenceDwIdeal.τ).loc Cert.ReferenceDwIdeal.main_arg0)
      ∧ r.2.mem ((c.tc : Thread Cert.ReferenceDwIdeal.nD Cert.ReferenceDwIdeal.τ).loc Cert.ReferenceDwIdeal.main_arg1) = m ((c.tc : Thread Cert.ReferenceDwIdeal.nD Cert.ReferenceDwIdeal.τ).loc Cert.ReferenceDwIdeal.main_arg1)
      ∧ r.2.mem ((c.tc : Thread Cert.ReferenceDwIdeal.nD Cert.ReferenceDwIdeal.τ).loc Cert.ReferenceDwIdeal.main_arg2) = m ((c.tc : Thread Cert.ReferenceDwIdeal.nD Cert.ReferenceDwIdeal.τ).loc Cert.ReferenceDwIdeal.main_arg2)
      ∧ r.2.mem ((c.tc : Thread Cert.ReferenceDwIdeal.nD Cert.ReferenceDwIdeal.τ).loc Cert.ReferenceDwIdeal.main_arg3) = m ((c.tc : Thread Cert.ReferenceDwIdeal.nD Cert.ReferenceDwIdeal.τ).loc Cert.ReferenceDwIdeal.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v89_0)) (v1 : (c : Dev Cert.KernelIdeal.nD) → Buf (Elt Ideal) ((c.tc : Thread Cert.KernelIdeal.nD Cert.KernelIdeal.τ).loc Cert.KernelIdeal.main_v89_1)) (v2 : (c : Dev Cert.KernelIdeal.nD) → Buf (Elt Ideal) ((c.tc : Thread Cert.KernelIdeal.nD Cert.KernelIdeal.τ).loc Cert.KernelIdeal.main_v89_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89_0) = v0 c
          ∧ r.2.mem ((c.tc : Thread Cert.KernelIdeal.nD Cert.KernelIdeal.τ).loc Cert.KernelIdeal.main_v89_1) = v1 c
          ∧ r.2.mem ((c.tc : Thread Cert.KernelIdeal.nD Cert.KernelIdeal.τ).loc Cert.KernelIdeal.main_v89_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v273) = v0 c
          ∧ r.2.mem ((c.tc : Thread Cert.ReferenceIdeal.nD Cert.ReferenceIdeal.τ).loc Cert.ReferenceIdeal.main_v274) = v1 c
          ∧ r.2.mem ((c.tc : Thread Cert.ReferenceIdeal.nD Cert.ReferenceIdeal.τ).loc Cert.ReferenceIdeal.main_v277) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelDw_KernelDwIdeal : Prop :=
  True

def algebraic_KernelDwIdeal_ReferenceDwIdeal_pre_in_range_dw [hKernelDwIdeal : Cert.KernelDwIdeal.Facts] [hReferenceDwIdeal : Cert.ReferenceDwIdeal.Facts] [hPre_in_range_dw : Cert.Pre_in_range_dw.Facts] : Prop :=
  ∀ (m : (ℓ : Loc Cert.KernelDwIdeal.nD Cert.KernelDwIdeal.τ Cert.KernelDwIdeal.sig) → Buf (Elt Ideal) ℓ) (g : Dev Cert.KernelDwIdeal.nD → PrngReg)
    (m' : (ℓ : Loc Cert.ReferenceDwIdeal.nD Cert.ReferenceDwIdeal.τ Cert.ReferenceDwIdeal.sig) → Buf (Elt Ideal) ℓ) (g' : Dev Cert.ReferenceDwIdeal.nD → PrngReg), Pre_KernelDwIdeal_in_range_dw m →
    (∀ c : Dev Cert.KernelDwIdeal.nD,
      m' ((c.tc : Thread Cert.ReferenceDwIdeal.nD Cert.ReferenceDwIdeal.τ).loc Cert.ReferenceDwIdeal.main_arg0) = m ((c.tc : Thread Cert.KernelDwIdeal.nD Cert.KernelDwIdeal.τ).loc Cert.KernelDwIdeal.main_arg0)
      ∧ m' ((c.tc : Thread Cert.ReferenceDwIdeal.nD Cert.ReferenceDwIdeal.τ).loc Cert.ReferenceDwIdeal.main_arg1) = m ((c.tc : Thread Cert.KernelDwIdeal.nD Cert.KernelDwIdeal.τ).loc Cert.KernelDwIdeal.main_arg1)
      ∧ m' ((c.tc : Thread Cert.ReferenceDwIdeal.nD Cert.ReferenceDwIdeal.τ).loc Cert.ReferenceDwIdeal.main_arg2) = m ((c.tc : Thread Cert.KernelDwIdeal.nD Cert.KernelDwIdeal.τ).loc Cert.KernelDwIdeal.main_arg2)
      ∧ m' ((c.tc : Thread Cert.ReferenceDwIdeal.nD Cert.ReferenceDwIdeal.τ).loc Cert.ReferenceDwIdeal.main_arg3) = m ((c.tc : Thread Cert.KernelDwIdeal.nD Cert.KernelDwIdeal.τ).loc Cert.KernelDwIdeal.main_arg3)) →
    ∃ (v0 : (c : Dev Cert.KernelDwIdeal.nD) → Buf (Elt Ideal) ((c.tc : Thread Cert.KernelDwIdeal.nD Cert.KernelDwIdeal.τ).loc Cert.KernelDwIdeal.main_v54_0)) (v1 : (c : Dev Cert.KernelDwIdeal.nD) → Buf (Elt Ideal) ((c.tc : Thread Cert.KernelDwIdeal.nD Cert.KernelDwIdeal.τ).loc Cert.KernelDwIdeal.main_v54_1)) (v2 : (c : Dev Cert.KernelDwIdeal.nD) → Buf (Elt Ideal) ((c.tc : Thread Cert.KernelDwIdeal.nD Cert.KernelDwIdeal.τ).loc Cert.KernelDwIdeal.main_v54_2)),
      θ_run (Cert.KernelDwIdeal.defs (F := Ideal)) (onTc (τ := Cert.KernelDwIdeal.τ) (Cert.KernelDwIdeal.main (F := Ideal))) ⟨m, fun _ => 0, g⟩ (fun r => ∀ c : Dev Cert.KernelDwIdeal.nD,
          r.2.mem ((c.tc : Thread Cert.KernelDwIdeal.nD Cert.KernelDwIdeal.τ).loc Cert.KernelDwIdeal.main_v54_0) = v0 c
          ∧ r.2.mem ((c.tc : Thread Cert.KernelDwIdeal.nD Cert.KernelDwIdeal.τ).loc Cert.KernelDwIdeal.main_v54_1) = v1 c
          ∧ r.2.mem ((c.tc : Thread Cert.KernelDwIdeal.nD Cert.KernelDwIdeal.τ).loc Cert.KernelDwIdeal.main_v54_2) = v2 c
          ∧ r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
          ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1)
          ∧ r.2.mem ((c.tc : Thread Cert.KernelDwIdeal.nD Cert.KernelDwIdeal.τ).loc Cert.KernelDwIdeal.main_arg2) = m ((c.tc : Thread Cert.KernelDwIdeal.nD Cert.KernelDwIdeal.τ).loc Cert.KernelDwIdeal.main_arg2)
          ∧ r.2.mem ((c.tc : Thread Cert.KernelDwIdeal.nD Cert.KernelDwIdeal.τ).loc Cert.KernelDwIdeal.main_arg3) = m ((c.tc : Thread Cert.KernelDwIdeal.nD Cert.KernelDwIdeal.τ).loc Cert.KernelDwIdeal.main_arg3))
      ∧ θ_run (Cert.ReferenceDwIdeal.defs (F := Ideal)) (onTc (τ := Cert.ReferenceDwIdeal.τ) (Cert.ReferenceDwIdeal.main (F := Ideal))) ⟨m', fun _ => 0, g'⟩ (fun r => ∀ c : Dev Cert.ReferenceDwIdeal.nD,
          r.2.mem ((c.tc : Thread Cert.ReferenceDwIdeal.nD Cert.ReferenceDwIdeal.τ).loc Cert.ReferenceDwIdeal.main_v210) = v0 c
          ∧ r.2.mem ((c.tc : Thread Cert.ReferenceDwIdeal.nD Cert.ReferenceDwIdeal.τ).loc Cert.ReferenceDwIdeal.main_v211) = v1 c
          ∧ r.2.mem ((c.tc : Thread Cert.ReferenceDwIdeal.nD Cert.ReferenceDwIdeal.τ).loc Cert.ReferenceDwIdeal.main_v117) = v2 c
          ∧ r.2.mem ((c.tc : Thread Cert.ReferenceDwIdeal.nD Cert.ReferenceDwIdeal.τ).loc Cert.ReferenceDwIdeal.main_arg0) = m' ((c.tc : Thread Cert.ReferenceDwIdeal.nD Cert.ReferenceDwIdeal.τ).loc Cert.ReferenceDwIdeal.main_arg0)
          ∧ r.2.mem ((c.tc : Thread Cert.ReferenceDwIdeal.nD Cert.ReferenceDwIdeal.τ).loc Cert.ReferenceDwIdeal.main_arg1) = m' ((c.tc : Thread Cert.ReferenceDwIdeal.nD Cert.ReferenceDwIdeal.τ).loc Cert.ReferenceDwIdeal.main_arg1)
          ∧ r.2.mem ((c.tc : Thread Cert.ReferenceDwIdeal.nD Cert.ReferenceDwIdeal.τ).loc Cert.ReferenceDwIdeal.main_arg2) = m' ((c.tc : Thread Cert.ReferenceDwIdeal.nD Cert.ReferenceDwIdeal.τ).loc Cert.ReferenceDwIdeal.main_arg2)
          ∧ r.2.mem ((c.tc : Thread Cert.ReferenceDwIdeal.nD Cert.ReferenceDwIdeal.τ).loc Cert.ReferenceDwIdeal.main_arg3) = m' ((c.tc : Thread Cert.ReferenceDwIdeal.nD Cert.ReferenceDwIdeal.τ).loc Cert.ReferenceDwIdeal.main_arg3))

def Claim : Prop :=
  ∃ (hKernel : Cert.Kernel.Facts) (hKernelIdeal : Cert.KernelIdeal.Facts) (hReferenceIdeal : Cert.ReferenceIdeal.Facts) (hKernelDw : Cert.KernelDw.Facts) (hKernelDwIdeal : Cert.KernelDwIdeal.Facts) (hReferenceDwIdeal : Cert.ReferenceDwIdeal.Facts) (hPre_in_range : Cert.Pre_in_range.Facts) (hPre_in_range_dw : Cert.Pre_in_range_dw.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_KernelDw (hKernelDw := hKernelDw)
    ∧ quiescent_KernelDwIdeal (hKernelDwIdeal := hKernelDwIdeal)
    ∧ quiescent_KernelDwIdeal_pre_in_range_dw (hKernelDwIdeal := hKernelDwIdeal) (hPre_in_range_dw := hPre_in_range_dw)
    ∧ quiescent_ReferenceDwIdeal (hReferenceDwIdeal := hReferenceDwIdeal)
    ∧ quiescent_ReferenceDwIdeal_pre_in_range_dw (hReferenceDwIdeal := hReferenceDwIdeal) (hPre_in_range_dw := hPre_in_range_dw)
    ∧ preserves_Kernel_KernelIdeal
    ∧ algebraic_KernelIdeal_ReferenceIdeal_pre_in_range (hKernelIdeal := hKernelIdeal) (hReferenceIdeal := hReferenceIdeal) (hPre_in_range := hPre_in_range)
    ∧ preserves_KernelDw_KernelDwIdeal
    ∧ algebraic_KernelDwIdeal_ReferenceDwIdeal_pre_in_range_dw (hKernelDwIdeal := hKernelDwIdeal) (hReferenceDwIdeal := hReferenceDwIdeal) (hPre_in_range_dw := hPre_in_range_dw)
-- ==== Pre_in_range.lean ====
abbrev S2x896x6912 : Shape := ⟨3, ![2, 896, 6912]⟩
abbrev S2560x3456 : Shape := ⟨2, ![2560, 3456]⟩
abbrev S6912 : Shape := ⟨1, ![6912]⟩
abbrev S2560x216 : Shape := ⟨2, ![2560, 216]⟩
abbrev S_ : Shape := ⟨0, ![]⟩

class Facts : Prop where
  bitsLt_bf16_f32 : FTy.bits .bf16 < FTy.bits .f32
  bcast_S_S2x896x6912 : S_.BroadcastsInDim S2x896x6912 (![] : Fin 0 → Fin S2x896x6912.rank)
  bcast_S_S6912 : S_.BroadcastsInDim S6912 (![] : Fin 0 → Fin S6912.rank)

variable [Facts]

def fn {F : FTy → Type} [FloatOps F] (main_arg0 : FVec F S2x896x6912 .bf16) (main_arg1 : IVec S2560x3456 8) (main_arg2 : FVec F S6912 .f32) (main_arg3 : IVec S2x896x6912 8) (main_arg4 : IVec S2560x216 8) : IVec S2x896x6912 1 × IVec S6912 1 :=
  let main_v0 : FVec F S2x896x6912 .f32 := (extf .f32 · bitsLt_bf16_f32) main_arg0
  let main_v1 : FVec F S2x896x6912 .f32 := Host.absf main_v0
  let main_cst : FVec F S_ .f32 := constant S_ .f32 0x00000000#32
  let main_v2 : FVec F S2x896x6912 .f32 := broadcastInDim S2x896x6912 ![] bcast_S_S2x896x6912 main_cst
  let main_v3 : IVec S2x896x6912 1 := cmpf .oeq main_v1 main_v2
  let main_cst_0 : FVec F S_ .f32 := constant S_ .f32 0x0D800000#32
  let main_v4 : FVec F S2x896x6912 .f32 := broadcastInDim S2x896x6912 ![] bcast_S_S2x896x6912 main_cst_0
  let main_v5 : IVec S2x896x6912 1 := cmpf .oge main_v1 main_v4
  let main_cst_1 : FVec F S_ .f32 := constant S_ .f32 0x71800000#32
  let main_v6 : FVec F S2x896x6912 .f32 := broadcastInDim S2x896x6912 ![] bcast_S_S2x896x6912 main_cst_1
  let main_v7 : IVec S2x896x6912 1 := cmpf .ole main_v1 main_v6
  let main_v8 : IVec S2x896x6912 1 := andi main_v5 main_v7
  let main_v9 : IVec S2x896x6912 1 := ori main_v3 main_v8
  let main_v10 : FVec F S6912 .f32 := Host.absf main_arg2
  let main_cst_2 : FVec F S_ .f32 := constant S_ .f32 0x3F800000#32
  let main_v11 : FVec F S6912 .f32 := broadcastInDim S6912 ![] bcast_S_S6912 main_cst_2
  let main_v12 : IVec S6912 1 := cmpf .oeq main_v10 main_v11
  (main_v9, main_v12)
-- ==== Pre_in_range_dw.lean ====
abbrev S2560x1792 : Shape := ⟨2, ![2560, 1792]⟩
abbrev S2x896x6912 : Shape := ⟨3, ![2, 896, 6912]⟩
abbrev S2x896 : Shape := ⟨2, ![2, 896]⟩
abbrev S_ : Shape := ⟨0, ![]⟩

class Facts : Prop where
  bitsLt_bf16_f32 : FTy.bits .bf16 < FTy.bits .f32
  bcast_S_S2x896x6912 : S_.BroadcastsInDim S2x896x6912 (![] : Fin 0 → Fin S2x896x6912.rank)
  bcast_S_S2x896 : S_.BroadcastsInDim S2x896 (![] : Fin 0 → Fin S2x896.rank)

variable [Facts]

def fn {F : FTy → Type} [FloatOps F] (main_arg0 : FVec F S2560x1792 .bf16) (main_arg1 : FVec F S2x896x6912 .bf16) (main_arg2 : FVec F S2x896 .f32) (main_arg3 : IVec S2x896x6912 8) : IVec S2x896x6912 1 × IVec S2x896 1 :=
  let main_v0 : FVec F S2x896x6912 .f32 := (extf .f32 · bitsLt_bf16_f32) main_arg1
  let main_v1 : FVec F S2x896x6912 .f32 := Host.absf main_v0
  let main_cst : FVec F S_ .f32 := constant S_ .f32 0x00000000#32
  let main_v2 : FVec F S2x896x6912 .f32 := broadcastInDim S2x896x6912 ![] bcast_S_S2x896x6912 main_cst
  let main_v3 : IVec S2x896x6912 1 := cmpf .oeq main_v1 main_v2
  let main_cst_0 : FVec F S_ .f32 := constant S_ .f32 0x0D800000#32
  let main_v4 : FVec F S2x896x6912 .f32 := broadcastInDim S2x896x6912 ![] bcast_S_S2x896x6912 main_cst_0
  let main_v5 : IVec S2x896x6912 1 := cmpf .oge main_v1 main_v4
  let main_cst_1 : FVec F S_ .f32 := constant S_ .f32 0x71800000#32
  let main_v6 : FVec F S2x896x6912 .f32 := broadcastInDim S2x896x6912 ![] bcast_S_S2x896x6912 main_cst_1
  let main_v7 : IVec S2x896x6912 1 := cmpf .ole main_v1 main_v6
  let main_v8 : IVec S2x896x6912 1 := andi main_v5 main_v7
  let main_v9 : IVec S2x896x6912 1 := ori main_v3 main_v8
  let main_v10 : FVec F S2x896 .f32 := Host.absf main_arg2
  let main_cst_2 : FVec F S_ .f32 := constant S_ .f32 0x3F800000#32
  let main_v11 : FVec F S2x896 .f32 := broadcastInDim S2x896 ![] bcast_S_S2x896 main_cst_2
  let main_v12 : IVec S2x896 1 := cmpf .oeq main_v10 main_v11
  (main_v9, main_v12)
-- ==== Kernel.lean ====
abbrev S2x896x6912 : Shape := ⟨3, ![2, 896, 6912]⟩
abbrev S2560x3456 : Shape := ⟨2, ![2560, 3456]⟩
abbrev S6912 : Shape := ⟨1, ![6912]⟩
abbrev S2560x216 : Shape := ⟨2, ![2560, 216]⟩
abbrev S1792x6912 : Shape := ⟨2, ![1792, 6912]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S8x8 : Shape := ⟨2, ![8, 8]⟩
abbrev S8x1x8x1 : Shape := ⟨4, ![8, 1, 8, 1]⟩
abbrev S1x32x1x32 : Shape := ⟨4, ![1, 32, 1, 32]⟩
abbrev S8x32x8x32 : Shape := ⟨4, ![8, 32, 8, 32]⟩
abbrev S256x256 : Shape := ⟨2, ![256, 256]⟩
abbrev S128 : Shape := ⟨1, ![128]⟩
abbrev S256 : Shape := ⟨1, ![256]⟩
abbrev S256x1 : Shape := ⟨2, ![256, 1]⟩
abbrev S1x256x256 : Shape := ⟨3, ![1, 256, 256]⟩
abbrev S27x256x1 : Shape := ⟨3, ![27, 256, 1]⟩
abbrev S27x256x256 : Shape := ⟨3, ![27, 256, 256]⟩
abbrev S1x256 : Shape := ⟨2, ![1, 256]⟩
abbrev S2560x27x8 : Shape := ⟨3, ![2560, 27, 8]⟩
abbrev S27x2560x8 : Shape := ⟨3, ![27, 2560, 8]⟩
abbrev S27x2560x8x16 : Shape := ⟨4, ![27, 2560, 8, 16]⟩
abbrev S27x2560x128 : Shape := ⟨3, ![27, 2560, 128]⟩
abbrev S1792x2560 : Shape := ⟨2, ![1792, 2560]⟩
abbrev S1792x3456 : Shape := ⟨2, ![1792, 3456]⟩
abbrev S1792x256 : Shape := ⟨2, ![1792, 256]⟩
abbrev S2560x128 : Shape := ⟨2, ![2560, 128]⟩
abbrev S1x2560x128 : Shape := ⟨3, ![1, 2560, 128]⟩
abbrev S1792x128 : Shape := ⟨2, ![1792, 128]⟩
abbrev S2560x256 : Shape := ⟨2, ![2560, 256]⟩
abbrev S256x128 : Shape := ⟨2, ![256, 128]⟩
abbrev S1x256x128 : Shape := ⟨3, ![1, 256, 128]⟩

abbrev nBuf : Space → Nat
  | .hbm => 148
  | .vmem => 19
  | .smem => 0
  | _ => 0

abbrev hbmTy0_0 (i : Nat) : BufTy := match i % 128 with
  | 0 => ⟨S2x896x6912, .bf16⟩
  | 1 => ⟨S2560x3456, .i8⟩
  | 2 => ⟨S6912, .f32⟩
  | 3 => ⟨S2x896x6912, .i8⟩
  | 4 => ⟨S2560x216, .i8⟩
  | 5 => ⟨S1792x6912, .bf16⟩
  | 6 => ⟨S32, .i32⟩
  | 7 => ⟨S32x1, .i32⟩
  | 8 => ⟨S1x32, .i32⟩
  | 9 => ⟨S32x32, .i32⟩
  | 10 => ⟨S32x32, .i32⟩
  | 11 => ⟨S32x32, .i32⟩
  | 12 => ⟨S_, .i32⟩
  | 13 => ⟨S32x32, .i32⟩
  | 14 => ⟨S32x32, .i32⟩
  | 15 => ⟨S_, .i32⟩
  | 16 => ⟨S32x32, .i32⟩
  | 17 => ⟨S32x32, .i32⟩
  | 18 => ⟨S_, .i32⟩
  | 19 => ⟨S32x32, .i32⟩
  | 20 => ⟨S32x32, .i32⟩
  | 21 => ⟨S_, .i32⟩
  | 22 => ⟨S32x32, .i32⟩
  | 23 => ⟨S32x32, .i32⟩
  | 24 => ⟨S_, .i32⟩
  | 25 => ⟨S32x32, .i32⟩
  | 26 => ⟨S32x32, .i32⟩
  | 27 => ⟨S32x32, .i32⟩
  | 28 => ⟨S_, .i32⟩
  | 29 => ⟨S32x32, .i32⟩
  | 30 => ⟨S32x32, .i32⟩
  | 31 => ⟨S_, .i32⟩
  | 32 => ⟨S32x32, .i32⟩
  | 33 => ⟨S32x32, .i32⟩
  | 34 => ⟨S32x32, .i32⟩
  | 35 => ⟨S_, .i32⟩
  | 36 => ⟨S32x32, .i32⟩
  | 37 => ⟨S32x32, .i32⟩
  | 38 => ⟨S_, .i32⟩
  | 39 => ⟨S32x32, .i32⟩
  | 40 => ⟨S32x32, .i32⟩
  | 41 => ⟨S32x32, .i32⟩
  | 42 => ⟨S_, .i32⟩
  | 43 => ⟨S32x32, .i32⟩
  | 44 => ⟨S32x32, .i32⟩
  | 45 => ⟨S_, .i32⟩
  | 46 => ⟨S32x32, .i32⟩
  | 47 => ⟨S32x32, .i32⟩
  | 48 => ⟨S32x32, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S32x32, .i32⟩
  | 56 => ⟨S32x32, .i32⟩
  | 57 => ⟨S_, .i32⟩
  | 58 => ⟨S32x32, .i32⟩
  | 59 => ⟨S32x32, .i1⟩
  | 60 => ⟨S_, .i32⟩
  | 61 => ⟨S32x32, .i32⟩
  | 62 => ⟨S32x32, .i1⟩
  | 63 => ⟨S_, .i32⟩
  | 64 => ⟨S_, .i1⟩
  | 65 => ⟨S32x32, .i1⟩
  | 66 => ⟨S32x32, .i1⟩
  | 67 => ⟨S32x32, .i1⟩
  | 68 => ⟨S32x32, .i32⟩
  | 69 => ⟨S32x32, .i32⟩
  | 70 => ⟨S32x32, .i32⟩
  | 71 => ⟨S_, .i32⟩
  | 72 => ⟨S32x32, .i32⟩
  | 73 => ⟨S32x32, .i1⟩
  | 74 => ⟨S_, .f32⟩
  | 75 => ⟨S_, .f32⟩
  | 76 => ⟨S32x32, .f32⟩
  | 77 => ⟨S32x32, .f32⟩
  | 78 => ⟨S32x32, .f32⟩
  | 79 => ⟨S32x32, .f32⟩
  | 80 => ⟨S_, .f32⟩
  | 81 => ⟨S32x32, .f32⟩
  | 82 => ⟨S32x32, .f32⟩
  | 83 => ⟨S8x8, .i32⟩
  | 84 => ⟨S8x8, .i32⟩
  | 85 => ⟨S_, .i32⟩
  | 86 => ⟨S8x8, .i32⟩
  | 87 => ⟨S8x8, .i32⟩
  | 88 => ⟨S8x8, .i1⟩
  | 89 => ⟨S8x8, .f32⟩
  | 90 => ⟨S8x1x8x1, .f32⟩
  | 91 => ⟨S1x32x1x32, .f32⟩
  | 92 => ⟨S8x32x8x32, .f32⟩
  | 93 => ⟨S8x32x8x32, .f32⟩
  | 94 => ⟨S8x32x8x32, .f32⟩
  | 95 => ⟨S256x256, .f32⟩
  | 96 => ⟨S128, .i32⟩
  | 97 => ⟨S_, .i32⟩
  | 98 => ⟨S128, .i32⟩
  | 99 => ⟨S128, .i32⟩
  | 100 => ⟨S_, .i32⟩
  | 101 => ⟨S128, .i32⟩
  | 102 => ⟨S128, .i32⟩
  | 103 => ⟨S128, .i32⟩
  | 104 => ⟨S_, .i32⟩
  | 105 => ⟨S128, .i32⟩
  | 106 => ⟨S128, .i32⟩
  | 107 => ⟨S_, .i32⟩
  | 108 => ⟨S128, .i32⟩
  | 109 => ⟨S128, .i32⟩
  | 110 => ⟨S256, .i32⟩
  | 111 => ⟨S256x256, .f32⟩
  | 112 => ⟨S_, .i32⟩
  | 113 => ⟨S256, .i32⟩
  | 114 => ⟨S256, .i1⟩
  | 115 => ⟨S_, .i32⟩
  | 116 => ⟨S256, .i32⟩
  | 117 => ⟨S256, .i32⟩
  | 118 => ⟨S256, .i32⟩
  | 119 => ⟨S256x1, .i32⟩
  | 120 => ⟨S256x256, .f32⟩
  | 121 => ⟨S1x256x256, .f32⟩
  | 122 => ⟨S27x256x1, .f32⟩
  | 123 => ⟨S27x256x256, .f32⟩
  | 124 => ⟨S27x256x256, .f32⟩
  | 125 => ⟨S27x256x256, .f32⟩
  | 126 => ⟨S27x256x256, .bf16⟩
  | 127 => ⟨S256, .i32⟩
  | _ => ⟨S2x896x6912, .bf16⟩

abbrev hbmTy0_1 (i : Nat) : BufTy := match i % 128 with
  | 0 => ⟨S256x1, .i32⟩
  | 1 => ⟨S1x256, .i32⟩
  | 2 => ⟨S256x256, .i32⟩
  | 3 => ⟨S256x256, .i32⟩
  | 4 => ⟨S256x256, .i1⟩
  | 5 => ⟨S256x256, .bf16⟩
  | 6 => ⟨S2560x216, .i32⟩
  | 7 => ⟨S2560x216, .f32⟩
  | 8 => ⟨S_, .f32⟩
  | 9 => ⟨S2560x216, .f32⟩
  | 10 => ⟨S2560x216, .f32⟩
  | 11 => ⟨S2560x216, .bf16⟩
  | 12 => ⟨S2560x27x8, .bf16⟩
  | 13 => ⟨S27x2560x8, .bf16⟩
  | 14 => ⟨S27x2560x8x16, .bf16⟩
  | 15 => ⟨S27x2560x128, .bf16⟩
  | 16 => ⟨S1792x6912, .i8⟩
  | 17 => ⟨S1792x2560, .bf16⟩
  | 18 => ⟨S1792x3456, .i8⟩
  | 19 => ⟨S1792x3456, .i8⟩
  | _ => ⟨S2x896x6912, .bf16⟩

abbrev hbmTy (i : Nat) : BufTy := match i / 128 with
  | 0 => hbmTy0_0 i
  | 1 => hbmTy0_1 i
  | _ => ⟨S2x896x6912, .bf16⟩

abbrev bufTy : (tb : Table) → Fin (tcTables nBuf tb) → BufTy
  | .hbm, ⟨i, _⟩ => hbmTy i
  | .local _ .vmem, ⟨0, _⟩ => ⟨S1792x256, .bf16⟩
  | .local _ .vmem, ⟨1, _⟩ => ⟨S1792x256, .bf16⟩
  | .local _ .vmem, ⟨2, _⟩ => ⟨S1792x256, .i8⟩
  | .local _ .vmem, ⟨3, _⟩ => ⟨S1792x256, .i8⟩
  | .local _ .vmem, ⟨4, _⟩ => ⟨S1x256x256, .bf16⟩
  | .local _ .vmem, ⟨5, _⟩ => ⟨S1x256x256, .bf16⟩
  | .local _ .vmem, ⟨6, _⟩ => ⟨S256x256, .bf16⟩
  | .local _ .vmem, ⟨7, _⟩ => ⟨S2560x128, .i8⟩
  | .local _ .vmem, ⟨8, _⟩ => ⟨S2560x128, .i8⟩
  | .local _ .vmem, ⟨9, _⟩ => ⟨S1x2560x128, .bf16⟩
  | .local _ .vmem, ⟨10, _⟩ => ⟨S1x2560x128, .bf16⟩
  | .local _ .vmem, ⟨11, _⟩ => ⟨S1792x2560, .bf16⟩
  | .local _ .vmem, ⟨12, _⟩ => ⟨S1792x128, .i8⟩
  | .local _ .vmem, ⟨13, _⟩ => ⟨S1792x128, .i8⟩
  | .local _ .vmem, ⟨14, _⟩ => ⟨S1792x128, .i8⟩
  | .local _ .vmem, ⟨15, _⟩ => ⟨S1792x128, .i8⟩
  | .local _ .vmem, ⟨16, _⟩ => ⟨S1792x2560, .f32⟩
  | .local _ .vmem, ⟨17, _⟩ => ⟨S1792x256, .bf16⟩
  | .local _ .vmem, ⟨18, _⟩ => ⟨S2560x256, .bf16⟩
  | _, _ => ⟨S2x896x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_6 : Ref sig .tc := ⟨.hbm, 35, rfl⟩
abbrev main_v23 : Ref sig .tc := ⟨.hbm, 36, rfl⟩
abbrev main_v24 : Ref sig .tc := ⟨.hbm, 37, rfl⟩
abbrev main_c_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_8 : Ref sig .tc := ⟨.hbm, 42, rfl⟩
abbrev main_v28 : Ref sig .tc := ⟨.hbm, 43, rfl⟩
abbrev main_v29 : Ref sig .tc := ⟨.hbm, 44, rfl⟩
abbrev main_c_9 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_10 : Ref sig .tc := ⟨.hbm, 49, rfl⟩
abbrev main_call0_v0 : Ref sig .tc := ⟨.hbm, 50, rfl⟩
abbrev main_call0_c : Ref sig .tc := ⟨.hbm, 51, rfl⟩
abbrev main_call0_v1 : Ref sig .tc := ⟨.hbm, 52, rfl⟩
abbrev main_call0_c_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_c_1 : Ref sig .tc := ⟨.hbm, 57, rfl⟩
abbrev main_call0_v5 : Ref sig .tc := ⟨.hbm, 58, rfl⟩
abbrev main_call0_v6 : Ref sig .tc := ⟨.hbm, 59, rfl⟩
abbrev main_call0_c_2 : Ref sig .tc := ⟨.hbm, 60, rfl⟩
abbrev main_call0_v7 : Ref sig .tc := ⟨.hbm, 61, rfl⟩
abbrev main_call0_v8 : Ref sig .tc := ⟨.hbm, 62, rfl⟩
abbrev main_call0_c_3 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_v12 : Ref sig .tc := ⟨.hbm, 67, rfl⟩
abbrev main_call0_v13 : Ref sig .tc := ⟨.hbm, 68, rfl⟩
abbrev main_call0_v14 : Ref sig .tc := ⟨.hbm, 69, rfl⟩
abbrev main_v33 : Ref sig .tc := ⟨.hbm, 70, rfl⟩
abbrev main_c_11 : Ref sig .tc := ⟨.hbm, 71, rfl⟩
abbrev main_v34 : Ref sig .tc := ⟨.hbm, 72, rfl⟩
abbrev main_v35 : Ref sig .tc := ⟨.hbm, 73, rfl⟩
abbrev main_cst : Ref sig .tc := ⟨.hbm, 74, rfl⟩
abbrev main_cst_12 : Ref sig .tc := ⟨.hbm, 75, rfl⟩
abbrev main_call1_v0 : Ref sig .tc := ⟨.hbm, 76, rfl⟩
abbrev main_call1_v1 : Ref sig .tc := ⟨.hbm, 77, rfl⟩
abbrev main_v36 : Ref sig .tc := ⟨.hbm, 78, rfl⟩
abbrev main_v37 : Ref sig .tc := ⟨.hbm, 79, rfl⟩
abbrev main_cst_13 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_c_14 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_v46 : Ref sig .tc := ⟨.hbm, 95, rfl⟩
abbrev main_v47 : Ref sig .tc := ⟨.hbm, 96, rfl⟩
abbrev main_c_15 : Ref sig .tc := ⟨.hbm, 97, rfl⟩
abbrev main_v48 : Ref sig .tc := ⟨.hbm, 98, rfl⟩
abbrev main_v49 : Ref sig .tc := ⟨.hbm, 99, rfl⟩
abbrev main_c_16 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_c_17 : Ref sig .tc := ⟨.hbm, 104, rfl⟩
abbrev main_v53 : Ref sig .tc := ⟨.hbm, 105, rfl⟩
abbrev main_v54 : Ref sig .tc := ⟨.hbm, 106, rfl⟩
abbrev main_c_18 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_c_19 : Ref sig .tc := ⟨.hbm, 112, rfl⟩
abbrev main_v59 : Ref sig .tc := ⟨.hbm, 113, rfl⟩
abbrev main_v60 : Ref sig .tc := ⟨.hbm, 114, rfl⟩
abbrev main_c_20 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_cst_21 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89_0 : Ref sig .tc := ⟨.hbm, 145, rfl⟩
abbrev main_v89_1 : Ref sig .tc := ⟨.hbm, 146, rfl⟩
abbrev main_v89_2 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![27], ![false]⟩

def k0_cond3 (i : grid0.Coords) : BitVec 1 :=
  let arg0 : BitVec 32 := BitVec.ofNat 32 (i 0).val
  let c26_i32 : BitVec 32 := 26#32
  let v3618 : BitVec 1 := Scalar.cmpi .eq arg0 c26_i32
  let v3619 : BitVec 32 := Scalar.extui v3618
  let c0_i32_1418 : BitVec 32 := 0#32
  let v3620 : BitVec 1 := Scalar.cmpi .ne v3619 c0_i32_1418
  v3620

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1792x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1792x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2560x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2560x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1792x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1792x128 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1792x128 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S2x896x6912 : Shape := ⟨3, ![2, 896, 6912]⟩
abbrev S2560x3456 : Shape := ⟨2, ![2560, 3456]⟩
abbrev S6912 : Shape := ⟨1, ![6912]⟩
abbrev S2560x216 : Shape := ⟨2, ![2560, 216]⟩
abbrev S1x1x6912 : Shape := ⟨3, ![1, 1, 6912]⟩
abbrev S2x896x216x32 : Shape := ⟨4, ![2, 896, 216, 32]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S2x896x216 : Shape := ⟨3, ![2, 896, 216]⟩
abbrev S2x896x216x1 : Shape := ⟨4, ![2, 896, 216, 1]⟩
abbrev S2x896x216x16x2 : Shape := ⟨5, ![2, 896, 216, 16, 2]⟩
abbrev S2x896x216x16x1 : Shape := ⟨5, ![2, 896, 216, 16, 1]⟩
abbrev S2x896x216x16 : Shape := ⟨4, ![2, 896, 216, 16]⟩
abbrev S2x896x3456 : Shape := ⟨3, ![2, 896, 3456]⟩
abbrev S2560x216x1 : Shape := ⟨3, ![2560, 216, 1]⟩
abbrev S2560x216x16 : Shape := ⟨3, ![2560, 216, 16]⟩
abbrev S2x896x2560 : Shape := ⟨3, ![2, 896, 2560]⟩
abbrev S1792x2560 : Shape := ⟨2, ![1792, 2560]⟩
abbrev S1792x3456 : Shape := ⟨2, ![1792, 3456]⟩

abbrev nBuf : Space → Nat
  | .hbm => 458
  | .vmem => 0
  | .smem => 0
  | _ => 0

abbrev hbmTy0_0 (i : Nat) : BufTy := match i % 128 with
  | 0 => ⟨S2x896x6912, .bf16⟩
  | 1 => ⟨S2560x3456, .i8⟩
  | 2 => ⟨S6912, .f32⟩
  | 3 => ⟨S2x896x6912, .i8⟩
  | 4 => ⟨S2560x216, .i8⟩
  | 5 => ⟨S2x896x6912, .f32⟩
  | 6 => ⟨S1x1x6912, .f32⟩
  | 7 => ⟨S2x896x6912, .f32⟩
  | 8 => ⟨S2x896x6912, .f32⟩
  | 9 => ⟨S2x896x216x32, .f32⟩
  | 10 => ⟨S32, .i32⟩
  | 11 => ⟨S32x1, .i32⟩
  | 12 => ⟨S1x32, .i32⟩
  | 13 => ⟨S32x32, .i32⟩
  | 14 => ⟨S32x32, .i32⟩
  | 15 => ⟨S32x32, .i32⟩
  | 16 => ⟨S_, .i32⟩
  | 17 => ⟨S32x32, .i32⟩
  | 18 => ⟨S32x32, .i32⟩
  | 19 => ⟨S_, .i32⟩
  | 20 => ⟨S32x32, .i32⟩
  | 21 => ⟨S32x32, .i32⟩
  | 22 => ⟨S_, .i32⟩
  | 23 => ⟨S32x32, .i32⟩
  | 24 => ⟨S32x32, .i32⟩
  | 25 => ⟨S_, .i32⟩
  | 26 => ⟨S32x32, .i32⟩
  | 27 => ⟨S32x32, .i32⟩
  | 28 => ⟨S_, .i32⟩
  | 29 => ⟨S32x32, .i32⟩
  | 30 => ⟨S32x32, .i32⟩
  | 31 => ⟨S32x32, .i32⟩
  | 32 => ⟨S_, .i32⟩
  | 33 => ⟨S32x32, .i32⟩
  | 34 => ⟨S32x32, .i32⟩
  | 35 => ⟨S_, .i32⟩
  | 36 => ⟨S32x32, .i32⟩
  | 37 => ⟨S32x32, .i32⟩
  | 38 => ⟨S32x32, .i32⟩
  | 39 => ⟨S_, .i32⟩
  | 40 => ⟨S32x32, .i32⟩
  | 41 => ⟨S32x32, .i32⟩
  | 42 => ⟨S_, .i32⟩
  | 43 => ⟨S32x32, .i32⟩
  | 44 => ⟨S32x32, .i32⟩
  | 45 => ⟨S32x32, .i32⟩
  | 46 => ⟨S_, .i32⟩
  | 47 => ⟨S32x32, .i32⟩
  | 48 => ⟨S32x32, .i32⟩
  | 49 => ⟨S_, .i32⟩
  | 50 => ⟨S32x32, .i32⟩
  | 51 => ⟨S32x32, .i32⟩
  | 52 => ⟨S32x32, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S32x32, .i32⟩
  | 60 => ⟨S32x32, .i32⟩
  | 61 => ⟨S_, .i32⟩
  | 62 => ⟨S32x32, .i32⟩
  | 63 => ⟨S32x32, .i1⟩
  | 64 => ⟨S_, .i32⟩
  | 65 => ⟨S32x32, .i32⟩
  | 66 => ⟨S32x32, .i1⟩
  | 67 => ⟨S_, .i32⟩
  | 68 => ⟨S_, .i1⟩
  | 69 => ⟨S32x32, .i1⟩
  | 70 => ⟨S32x32, .i1⟩
  | 71 => ⟨S32x32, .i1⟩
  | 72 => ⟨S32x32, .i32⟩
  | 73 => ⟨S32x32, .i32⟩
  | 74 => ⟨S32x32, .i32⟩
  | 75 => ⟨S_, .i32⟩
  | 76 => ⟨S32x32, .i32⟩
  | 77 => ⟨S32x32, .i1⟩
  | 78 => ⟨S_, .f32⟩
  | 79 => ⟨S_, .f32⟩
  | 80 => ⟨S32x32, .f32⟩
  | 81 => ⟨S32x32, .f32⟩
  | 82 => ⟨S32x32, .f32⟩
  | 83 => ⟨S32x32, .f32⟩
  | 84 => ⟨S_, .f32⟩
  | 85 => ⟨S32x32, .f32⟩
  | 86 => ⟨S32x32, .f32⟩
  | 87 => ⟨S2x896x216x32, .f32⟩
  | 88 => ⟨S2x896x216x32, .i8⟩
  | 89 => ⟨S2x896x216x32, .f32⟩
  | 90 => ⟨S_, .f32⟩
  | 91 => ⟨S2x896x216, .f32⟩
  | 92 => ⟨S2x896x216x1, .f32⟩
  | 93 => ⟨S2x896x216x1, .f32⟩
  | 94 => ⟨S_, .f32⟩
  | 95 => ⟨S_, .f32⟩
  | 96 => ⟨S2x896x216x1, .f32⟩
  | 97 => ⟨S2x896x216x1, .f32⟩
  | 98 => ⟨S2x896x216x1, .f32⟩
  | 99 => ⟨S_, .f32⟩
  | 100 => ⟨S2x896x216x1, .f32⟩
  | 101 => ⟨S2x896x216x1, .f32⟩
  | 102 => ⟨S_, .f32⟩
  | 103 => ⟨S2x896x216x1, .f32⟩
  | 104 => ⟨S2x896x216x1, .i1⟩
  | 105 => ⟨S_, .f32⟩
  | 106 => ⟨S2x896x216x1, .f32⟩
  | 107 => ⟨S2x896x216x1, .f32⟩
  | 108 => ⟨S_, .f32⟩
  | 109 => ⟨S_, .f32⟩
  | 110 => ⟨S2x896x216x1, .f32⟩
  | 111 => ⟨S2x896x216x1, .f32⟩
  | 112 => ⟨S2x896x216x1, .i32⟩
  | 113 => ⟨S2x896x216x1, .f32⟩
  | 114 => ⟨S2x896x216x1, .f32⟩
  | 115 => ⟨S_, .f32⟩
  | 116 => ⟨S2x896x216x1, .f32⟩
  | 117 => ⟨S2x896x216x1, .f32⟩
  | 118 => ⟨S_, .f32⟩
  | 119 => ⟨S2x896x216x1, .f32⟩
  | 120 => ⟨S2x896x216x1, .f32⟩
  | 121 => ⟨S2x896x216x32, .f32⟩
  | 122 => ⟨S2x896x216x32, .f32⟩
  | 123 => ⟨S2x896x216x32, .f32⟩
  | 124 => ⟨S_, .f32⟩
  | 125 => ⟨S2x896x216x32, .f32⟩
  | 126 => ⟨S2x896x216x32, .i1⟩
  | 127 => ⟨S_, .f32⟩
  | _ => ⟨S2x896x6912, .bf16⟩

abbrev hbmTy0_1 (i : Nat) : BufTy := match i % 128 with
  | 0 => ⟨S2x896x216x32, .f32⟩
  | 1 => ⟨S2x896x216x32, .i1⟩
  | 2 => ⟨S_, .f32⟩
  | 3 => ⟨S_, .f32⟩
  | 4 => ⟨S2x896x216x32, .f32⟩
  | 5 => ⟨S2x896x216x32, .f32⟩
  | 6 => ⟨S2x896x216x32, .f32⟩
  | 7 => ⟨S_, .f32⟩
  | 8 => ⟨S2x896x216x32, .f32⟩
  | 9 => ⟨S2x896x216x32, .f32⟩
  | 10 => ⟨S2x896x216x32, .f32⟩
  | 11 => ⟨S2x896x216x32, .f32⟩
  | 12 => ⟨S2x896x216x32, .f32⟩
  | 13 => ⟨S2x896x216x32, .f32⟩
  | 14 => ⟨S2x896x216x32, .f32⟩
  | 15 => ⟨S2x896x216x32, .i32⟩
  | 16 => ⟨S2x896x216x32, .f32⟩
  | 17 => ⟨S_, .f32⟩
  | 18 => ⟨S2x896x216x32, .f32⟩
  | 19 => ⟨S2x896x216x32, .f32⟩
  | 20 => ⟨S_, .f32⟩
  | 21 => ⟨S2x896x216x32, .f32⟩
  | 22 => ⟨S2x896x216x32, .f32⟩
  | 23 => ⟨S2x896x216x32, .i1⟩
  | 24 => ⟨S2x896x216x32, .f32⟩
  | 25 => ⟨S2x896x216x32, .f32⟩
  | 26 => ⟨S2x896x216x32, .f32⟩
  | 27 => ⟨S_, .f32⟩
  | 28 => ⟨S2x896x216x32, .f32⟩
  | 29 => ⟨S2x896x216x32, .i1⟩
  | 30 => ⟨S_, .f32⟩
  | 31 => ⟨S2x896x216x32, .f32⟩
  | 32 => ⟨S2x896x216x32, .f32⟩
  | 33 => ⟨S_, .f32⟩
  | 34 => ⟨S2x896x216x32, .f32⟩
  | 35 => ⟨S2x896x216x32, .i1⟩
  | 36 => ⟨S_, .f32⟩
  | 37 => ⟨S2x896x216x32, .f32⟩
  | 38 => ⟨S2x896x216x32, .f32⟩
  | 39 => ⟨S_, .f32⟩
  | 40 => ⟨S2x896x216x32, .f32⟩
  | 41 => ⟨S2x896x216x32, .i1⟩
  | 42 => ⟨S_, .f32⟩
  | 43 => ⟨S_, .f32⟩
  | 44 => ⟨S2x896x216x32, .f32⟩
  | 45 => ⟨S2x896x216x32, .f32⟩
  | 46 => ⟨S2x896x216x32, .f32⟩
  | 47 => ⟨S2x896x216x32, .f32⟩
  | 48 => ⟨S2x896x216x32, .f32⟩
  | 49 => ⟨S2x896x216x32, .f32⟩
  | 50 => ⟨S2x896x216x32, .i32⟩
  | 51 => ⟨S_, .f32⟩
  | 52 => ⟨S2x896x216x32, .f32⟩
  | 53 => ⟨S2x896x216x32, .i1⟩
  | 54 => ⟨S_, .i32⟩
  | 55 => ⟨S2x896x216x32, .i32⟩
  | 56 => ⟨S2x896x216x32, .i1⟩
  | 57 => ⟨S2x896x216x32, .i1⟩
  | 58 => ⟨S2x896x216x32, .i32⟩
  | 59 => ⟨S_, .i32⟩
  | 60 => ⟨S2x896x216x32, .i32⟩
  | 61 => ⟨S2x896x216x32, .i32⟩
  | 62 => ⟨S2x896x216x32, .i32⟩
  | 63 => ⟨S2x896x216, .i32⟩
  | 64 => ⟨S2x896x216, .i8⟩
  | 65 => ⟨S2x896x216x16x2, .i32⟩
  | 66 => ⟨S2x896x216x16x1, .i32⟩
  | 67 => ⟨S2x896x216x16, .i32⟩
  | 68 => ⟨S2x896x216x16x1, .i32⟩
  | 69 => ⟨S2x896x216x16, .i32⟩
  | 70 => ⟨S_, .i32⟩
  | 71 => ⟨S2x896x216x16, .i32⟩
  | 72 => ⟨S2x896x216x16, .i32⟩
  | 73 => ⟨S2x896x216x16, .i32⟩
  | 74 => ⟨S2x896x216x16, .i8⟩
  | 75 => ⟨S2x896x3456, .i8⟩
  | 76 => ⟨S2x896x216, .i32⟩
  | 77 => ⟨S2x896x216, .f32⟩
  | 78 => ⟨S_, .f32⟩
  | 79 => ⟨S2x896x216, .f32⟩
  | 80 => ⟨S2x896x216, .f32⟩
  | 81 => ⟨S2x896x216, .bf16⟩
  | 82 => ⟨S2x896x216x1, .bf16⟩
  | 83 => ⟨S2x896x3456, .i32⟩
  | 84 => ⟨S2x896x216x16, .i32⟩
  | 85 => ⟨S_, .i32⟩
  | 86 => ⟨S2x896x216x16, .i32⟩
  | 87 => ⟨S2x896x216x16, .i32⟩
  | 88 => ⟨S_, .i32⟩
  | 89 => ⟨S2x896x216x16, .i32⟩
  | 90 => ⟨S2x896x216x16, .i32⟩
  | 91 => ⟨S_, .i32⟩
  | 92 => ⟨S2x896x216x16, .i32⟩
  | 93 => ⟨S2x896x216x16, .i1⟩
  | 94 => ⟨S_, .i32⟩
  | 95 => ⟨S2x896x216x16, .i32⟩
  | 96 => ⟨S2x896x216x16, .i32⟩
  | 97 => ⟨S_, .i32⟩
  | 98 => ⟨S2x896x216x16, .i32⟩
  | 99 => ⟨S2x896x216x16, .i1⟩
  | 100 => ⟨S_, .i32⟩
  | 101 => ⟨S2x896x216x16, .i32⟩
  | 102 => ⟨S2x896x216x16, .i32⟩
  | 103 => ⟨S_, .i32⟩
  | 104 => ⟨S2x896x216x16, .i32⟩
  | 105 => ⟨S2x896x216x16, .i1⟩
  | 106 => ⟨S_, .i32⟩
  | 107 => ⟨S2x896x216x16, .i32⟩
  | 108 => ⟨S2x896x216x16, .i32⟩
  | 109 => ⟨S_, .i32⟩
  | 110 => ⟨S2x896x216x16, .i32⟩
  | 111 => ⟨S2x896x216x16, .i1⟩
  | 112 => ⟨S_, .f32⟩
  | 113 => ⟨S_, .f32⟩
  | 114 => ⟨S2x896x216x16, .f32⟩
  | 115 => ⟨S2x896x216x16, .f32⟩
  | 116 => ⟨S2x896x216x16, .f32⟩
  | 117 => ⟨S_, .f32⟩
  | 118 => ⟨S_, .f32⟩
  | 119 => ⟨S2x896x216x16, .f32⟩
  | 120 => ⟨S2x896x216x16, .f32⟩
  | 121 => ⟨S2x896x216x16, .f32⟩
  | 122 => ⟨S2x896x216x16, .f32⟩
  | 123 => ⟨S_, .f32⟩
  | 124 => ⟨S_, .f32⟩
  | 125 => ⟨S2x896x216x16, .f32⟩
  | 126 => ⟨S2x896x216x16, .f32⟩
  | 127 => ⟨S2x896x216x16, .f32⟩
  | _ => ⟨S2x896x6912, .bf16⟩

abbrev hbmTy0_2 (i : Nat) : BufTy := match i % 128 with
  | 0 => ⟨S_, .f32⟩
  | 1 => ⟨S_, .f32⟩
  | 2 => ⟨S2x896x216x16, .f32⟩
  | 3 => ⟨S2x896x216x16, .f32⟩
  | 4 => ⟨S2x896x216x16, .f32⟩
  | 5 => ⟨S2x896x216x16, .f32⟩
  | 6 => ⟨S2x896x216x16, .f32⟩
  | 7 => ⟨S2x896x216x16, .f32⟩
  | 8 => ⟨S2x896x216x16, .f32⟩
  | 9 => ⟨S2x896x216x16, .bf16⟩
  | 10 => ⟨S2x896x216x16, .bf16⟩
  | 11 => ⟨S2x896x216x16, .bf16⟩
  | 12 => ⟨S2x896x3456, .bf16⟩
  | 13 => ⟨S_, .i32⟩
  | 14 => ⟨S2x896x216x16, .i32⟩
  | 15 => ⟨S2x896x216x16, .i32⟩
  | 16 => ⟨S_, .i32⟩
  | 17 => ⟨S2x896x216x16, .i32⟩
  | 18 => ⟨S2x896x216x16, .i32⟩
  | 19 => ⟨S_, .i32⟩
  | 20 => ⟨S2x896x216x16, .i32⟩
  | 21 => ⟨S2x896x216x16, .i1⟩
  | 22 => ⟨S_, .i32⟩
  | 23 => ⟨S2x896x216x16, .i32⟩
  | 24 => ⟨S2x896x216x16, .i32⟩
  | 25 => ⟨S_, .i32⟩
  | 26 => ⟨S2x896x216x16, .i32⟩
  | 27 => ⟨S2x896x216x16, .i1⟩
  | 28 => ⟨S_, .i32⟩
  | 29 => ⟨S2x896x216x16, .i32⟩
  | 30 => ⟨S2x896x216x16, .i32⟩
  | 31 => ⟨S_, .i32⟩
  | 32 => ⟨S2x896x216x16, .i32⟩
  | 33 => ⟨S2x896x216x16, .i1⟩
  | 34 => ⟨S_, .i32⟩
  | 35 => ⟨S2x896x216x16, .i32⟩
  | 36 => ⟨S2x896x216x16, .i32⟩
  | 37 => ⟨S_, .i32⟩
  | 38 => ⟨S2x896x216x16, .i32⟩
  | 39 => ⟨S2x896x216x16, .i1⟩
  | 40 => ⟨S_, .f32⟩
  | 41 => ⟨S_, .f32⟩
  | 42 => ⟨S2x896x216x16, .f32⟩
  | 43 => ⟨S2x896x216x16, .f32⟩
  | 44 => ⟨S2x896x216x16, .f32⟩
  | 45 => ⟨S_, .f32⟩
  | 46 => ⟨S_, .f32⟩
  | 47 => ⟨S2x896x216x16, .f32⟩
  | 48 => ⟨S2x896x216x16, .f32⟩
  | 49 => ⟨S2x896x216x16, .f32⟩
  | 50 => ⟨S2x896x216x16, .f32⟩
  | 51 => ⟨S_, .f32⟩
  | 52 => ⟨S_, .f32⟩
  | 53 => ⟨S2x896x216x16, .f32⟩
  | 54 => ⟨S2x896x216x16, .f32⟩
  | 55 => ⟨S2x896x216x16, .f32⟩
  | 56 => ⟨S_, .f32⟩
  | 57 => ⟨S_, .f32⟩
  | 58 => ⟨S2x896x216x16, .f32⟩
  | 59 => ⟨S2x896x216x16, .f32⟩
  | 60 => ⟨S2x896x216x16, .f32⟩
  | 61 => ⟨S2x896x216x16, .f32⟩
  | 62 => ⟨S2x896x216x16, .f32⟩
  | 63 => ⟨S2x896x216x16, .f32⟩
  | 64 => ⟨S2x896x216x16, .f32⟩
  | 65 => ⟨S2x896x216x16, .bf16⟩
  | 66 => ⟨S2x896x216x16, .bf16⟩
  | 67 => ⟨S2x896x216x16, .bf16⟩
  | 68 => ⟨S2x896x3456, .bf16⟩
  | 69 => ⟨S2560x216, .i32⟩
  | 70 => ⟨S2560x216, .f32⟩
  | 71 => ⟨S_, .f32⟩
  | 72 => ⟨S2560x216, .f32⟩
  | 73 => ⟨S2560x216, .f32⟩
  | 74 => ⟨S2560x216, .bf16⟩
  | 75 => ⟨S2560x216x1, .bf16⟩
  | 76 => ⟨S2560x3456, .i32⟩
  | 77 => ⟨S2560x216x16, .i32⟩
  | 78 => ⟨S_, .i32⟩
  | 79 => ⟨S2560x216x16, .i32⟩
  | 80 => ⟨S2560x216x16, .i32⟩
  | 81 => ⟨S_, .i32⟩
  | 82 => ⟨S2560x216x16, .i32⟩
  | 83 => ⟨S2560x216x16, .i32⟩
  | 84 => ⟨S_, .i32⟩
  | 85 => ⟨S2560x216x16, .i32⟩
  | 86 => ⟨S2560x216x16, .i1⟩
  | 87 => ⟨S_, .i32⟩
  | 88 => ⟨S2560x216x16, .i32⟩
  | 89 => ⟨S2560x216x16, .i32⟩
  | 90 => ⟨S_, .i32⟩
  | 91 => ⟨S2560x216x16, .i32⟩
  | 92 => ⟨S2560x216x16, .i1⟩
  | 93 => ⟨S_, .i32⟩
  | 94 => ⟨S2560x216x16, .i32⟩
  | 95 => ⟨S2560x216x16, .i32⟩
  | 96 => ⟨S_, .i32⟩
  | 97 => ⟨S2560x216x16, .i32⟩
  | 98 => ⟨S2560x216x16, .i1⟩
  | 99 => ⟨S_, .i32⟩
  | 100 => ⟨S2560x216x16, .i32⟩
  | 101 => ⟨S2560x216x16, .i32⟩
  | 102 => ⟨S_, .i32⟩
  | 103 => ⟨S2560x216x16, .i32⟩
  | 104 => ⟨S2560x216x16, .i1⟩
  | 105 => ⟨S_, .f32⟩
  | 106 => ⟨S_, .f32⟩
  | 107 => ⟨S2560x216x16, .f32⟩
  | 108 => ⟨S2560x216x16, .f32⟩
  | 109 => ⟨S2560x216x16, .f32⟩
  | 110 => ⟨S_, .f32⟩
  | 111 => ⟨S_, .f32⟩
  | 112 => ⟨S2560x216x16, .f32⟩
  | 113 => ⟨S2560x216x16, .f32⟩
  | 114 => ⟨S2560x216x16, .f32⟩
  | 115 => ⟨S2560x216x16, .f32⟩
  | 116 => ⟨S_, .f32⟩
  | 117 => ⟨S_, .f32⟩
  | 118 => ⟨S2560x216x16, .f32⟩
  | 119 => ⟨S2560x216x16, .f32⟩
  | 120 => ⟨S2560x216x16, .f32⟩
  | 121 => ⟨S_, .f32⟩
  | 122 => ⟨S_, .f32⟩
  | 123 => ⟨S2560x216x16, .f32⟩
  | 124 => ⟨S2560x216x16, .f32⟩
  | 125 => ⟨S2560x216x16, .f32⟩
  | 126 => ⟨S2560x216x16, .f32⟩
  | 127 => ⟨S2560x216x16, .f32⟩
  | _ => ⟨S2x896x6912, .bf16⟩

abbrev hbmTy0_3 (i : Nat) : BufTy := match i % 128 with
  | 0 => ⟨S2560x216x16, .f32⟩
  | 1 => ⟨S2560x216x16, .f32⟩
  | 2 => ⟨S2560x216x16, .bf16⟩
  | 3 => ⟨S2560x216x16, .bf16⟩
  | 4 => ⟨S2560x216x16, .bf16⟩
  | 5 => ⟨S2560x3456, .bf16⟩
  | 6 => ⟨S_, .i32⟩
  | 7 => ⟨S2560x216x16, .i32⟩
  | 8 => ⟨S2560x216x16, .i32⟩
  | 9 => ⟨S_, .i32⟩
  | 10 => ⟨S2560x216x16, .i32⟩
  | 11 => ⟨S2560x216x16, .i32⟩
  | 12 => ⟨S_, .i32⟩
  | 13 => ⟨S2560x216x16, .i32⟩
  | 14 => ⟨S2560x216x16, .i1⟩
  | 15 => ⟨S_, .i32⟩
  | 16 => ⟨S2560x216x16, .i32⟩
  | 17 => ⟨S2560x216x16, .i32⟩
  | 18 => ⟨S_, .i32⟩
  | 19 => ⟨S2560x216x16, .i32⟩
  | 20 => ⟨S2560x216x16, .i1⟩
  | 21 => ⟨S_, .i32⟩
  | 22 => ⟨S2560x216x16, .i32⟩
  | 23 => ⟨S2560x216x16, .i32⟩
  | 24 => ⟨S_, .i32⟩
  | 25 => ⟨S2560x216x16, .i32⟩
  | 26 => ⟨S2560x216x16, .i1⟩
  | 27 => ⟨S_, .i32⟩
  | 28 => ⟨S2560x216x16, .i32⟩
  | 29 => ⟨S2560x216x16, .i32⟩
  | 30 => ⟨S_, .i32⟩
  | 31 => ⟨S2560x216x16, .i32⟩
  | 32 => ⟨S2560x216x16, .i1⟩
  | 33 => ⟨S_, .f32⟩
  | 34 => ⟨S_, .f32⟩
  | 35 => ⟨S2560x216x16, .f32⟩
  | 36 => ⟨S2560x216x16, .f32⟩
  | 37 => ⟨S2560x216x16, .f32⟩
  | 38 => ⟨S_, .f32⟩
  | 39 => ⟨S_, .f32⟩
  | 40 => ⟨S2560x216x16, .f32⟩
  | 41 => ⟨S2560x216x16, .f32⟩
  | 42 => ⟨S2560x216x16, .f32⟩
  | 43 => ⟨S2560x216x16, .f32⟩
  | 44 => ⟨S_, .f32⟩
  | 45 => ⟨S_, .f32⟩
  | 46 => ⟨S2560x216x16, .f32⟩
  | 47 => ⟨S2560x216x16, .f32⟩
  | 48 => ⟨S2560x216x16, .f32⟩
  | 49 => ⟨S_, .f32⟩
  | 50 => ⟨S_, .f32⟩
  | 51 => ⟨S2560x216x16, .f32⟩
  | 52 => ⟨S2560x216x16, .f32⟩
  | 53 => ⟨S2560x216x16, .f32⟩
  | 54 => ⟨S2560x216x16, .f32⟩
  | 55 => ⟨S2560x216x16, .f32⟩
  | 56 => ⟨S2560x216x16, .f32⟩
  | 57 => ⟨S2560x216x16, .f32⟩
  | 58 => ⟨S2560x216x16, .bf16⟩
  | 59 => ⟨S2560x216x16, .bf16⟩
  | 60 => ⟨S2560x216x16, .bf16⟩
  | 61 => ⟨S2560x3456, .bf16⟩
  | 62 => ⟨S2x896x2560, .f32⟩
  | 63 => ⟨S2x896x2560, .f32⟩
  | 64 => ⟨S2x896x2560, .f32⟩
  | 65 => ⟨S_, .f32⟩
  | 66 => ⟨S2x896x2560, .f32⟩
  | 67 => ⟨S2x896x2560, .f32⟩
  | 68 => ⟨S2x896x2560, .bf16⟩
  | 69 => ⟨S1792x2560, .bf16⟩
  | 70 => ⟨S1792x3456, .i8⟩
  | 71 => ⟨S2x896x216x16, .i8⟩
  | 72 => ⟨S2x896x3456, .i8⟩
  | 73 => ⟨S1792x3456, .i8⟩
  | _ => ⟨S2x896x6912, .bf16⟩

abbrev hbmTy (i : Nat) : BufTy := match i / 128 with
  | 0 => hbmTy0_0 i
  | 1 => hbmTy0_1 i
  | 2 => hbmTy0_2 i
  | 3 => hbmTy0_3 i
  | _ => ⟨S2x896x6912, .bf16⟩

abbrev bufTy : (tb : Table) → Fin (tcTables nBuf tb) → BufTy
  | .hbm, ⟨i, _⟩ => hbmTy i
  | _, _ => ⟨S2x896x6912, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_6 : Ref sig .tc := ⟨.hbm, 39, rfl⟩
abbrev main_v27 : Ref sig .tc := ⟨.hbm, 40, rfl⟩
abbrev main_v28 : Ref sig .tc := ⟨.hbm, 41, rfl⟩
abbrev main_c_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_8 : Ref sig .tc := ⟨.hbm, 46, rfl⟩
abbrev main_v32 : Ref sig .tc := ⟨.hbm, 47, rfl⟩
abbrev main_v33 : Ref sig .tc := ⟨.hbm, 48, rfl⟩
abbrev main_c_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_10 : Ref sig .tc := ⟨.hbm, 53, rfl⟩
abbrev main_call0_v0 : Ref sig .tc := ⟨.hbm, 54, rfl⟩
abbrev main_call0_c : Ref sig .tc := ⟨.hbm, 55, rfl⟩
abbrev main_call0_v1 : Ref sig .tc := ⟨.hbm, 56, rfl⟩
abbrev main_call0_c_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_c_1 : Ref sig .tc := ⟨.hbm, 61, rfl⟩
abbrev main_call0_v5 : Ref sig .tc := ⟨.hbm, 62, rfl⟩
abbrev main_call0_v6 : Ref sig .tc := ⟨.hbm, 63, rfl⟩
abbrev main_call0_c_2 : Ref sig .tc := ⟨.hbm, 64, rfl⟩
abbrev main_call0_v7 : Ref sig .tc := ⟨.hbm, 65, rfl⟩
abbrev main_call0_v8 : Ref sig .tc := ⟨.hbm, 66, rfl⟩
abbrev main_call0_c_3 : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_v12 : Ref sig .tc := ⟨.hbm, 71, rfl⟩
abbrev main_call0_v13 : Ref sig .tc := ⟨.hbm, 72, rfl⟩
abbrev main_call0_v14 : Ref sig .tc := ⟨.hbm, 73, rfl⟩
abbrev main_v37 : Ref sig .tc := ⟨.hbm, 74, rfl⟩
abbrev main_c_11 : Ref sig .tc := ⟨.hbm, 75, rfl⟩
abbrev main_v38 : Ref sig .tc := ⟨.hbm, 76, rfl⟩
abbrev main_v39 : Ref sig .tc := ⟨.hbm, 77, rfl⟩
abbrev main_cst : Ref sig .tc := ⟨.hbm, 78, rfl⟩
abbrev main_cst_12 : Ref sig .tc := ⟨.hbm, 79, rfl⟩
abbrev main_call1_v0 : Ref sig .tc := ⟨.hbm, 80, rfl⟩
abbrev main_call1_v1 : Ref sig .tc := ⟨.hbm, 81, rfl⟩
abbrev main_v40 : Ref sig .tc := ⟨.hbm, 82, rfl⟩
abbrev main_v41 : Ref sig .tc := ⟨.hbm, 83, rfl⟩
abbrev main_cst_13 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_cst_14 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_cst_15 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_cst_16 : Ref sig .tc := ⟨.hbm, 99, rfl⟩
abbrev main_v54 : Ref sig .tc := ⟨.hbm, 100, rfl⟩
abbrev main_v55 : Ref sig .tc := ⟨.hbm, 101, rfl⟩
abbrev main_cst_17 : Ref sig .tc := ⟨.hbm, 102, rfl⟩
abbrev main_v56 : Ref sig .tc := ⟨.hbm, 103, rfl⟩
abbrev main_v57 : Ref sig .tc := ⟨.hbm, 104, rfl⟩
abbrev main_cst_18 : Ref sig .tc := ⟨.hbm, 105, rfl⟩
abbrev main_v58 : Ref sig .tc := ⟨.hbm, 106, rfl⟩
abbrev main_v59 : Ref sig .tc := ⟨.hbm, 107, rfl⟩
abbrev main_cst_19 : Ref sig .tc := ⟨.hbm, 108, rfl⟩
abbrev main_call2_v0 : Ref sig .tc := ⟨.hbm, 109, rfl⟩
abbrev main_call2_v1 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_cst_20 : Ref sig .tc := ⟨.hbm, 115, rfl⟩
abbrev main_v64 : Ref sig .tc := ⟨.hbm, 116, rfl⟩
abbrev main_v65 : Ref sig .tc := ⟨.hbm, 117, rfl⟩
abbrev main_cst_21 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_cst_22 : Ref sig .tc := ⟨.hbm, 124, rfl⟩
abbrev main_v71 : Ref sig .tc := ⟨.hbm, 125, rfl⟩
abbrev main_v72 : Ref sig .tc := ⟨.hbm, 126, rfl⟩
abbrev main_cst_23 : Ref sig .tc := ⟨.hbm, 127, rfl⟩
abbrev main_v73 : Ref sig .tc := ⟨.hbm, 128, rfl⟩
abbrev main_v74 : Ref sig .tc := ⟨.hbm, 129, rfl⟩
abbrev main_cst_24 : Ref sig .tc := ⟨.hbm, 130, rfl⟩
abbrev main_cst_25 : Ref sig .tc := ⟨.hbm, 131, rfl⟩
abbrev main_call3_v0 : Ref sig .tc := ⟨.hbm, 132, rfl⟩
abbrev main_call3_v1 : Ref sig .tc := ⟨.hbm, 133, rfl⟩
abbrev main_v75 : Ref sig .tc := ⟨.hbm, 134, rfl⟩
abbrev main_cst_26 : Ref sig .tc := ⟨.hbm, 135, rfl⟩
abbrev main_call4_v0 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_cst_27 : Ref sig .tc := ⟨.hbm, 145, rfl⟩
abbrev main_v84 : Ref sig .tc := ⟨.hbm, 146, rfl⟩
abbrev main_v85 : Ref sig .tc := ⟨.hbm, 147, rfl⟩
abbrev main_cst_28 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_cst_29 : Ref sig .tc := ⟨.hbm, 155, rfl⟩
abbrev main_v92 : Ref sig .tc := ⟨.hbm, 156, rfl⟩
abbrev main_v93 : Ref sig .tc := ⟨.hbm, 157, rfl⟩
abbrev main_cst_30 : Ref sig .tc := ⟨.hbm, 158, rfl⟩
abbrev main_v94 : Ref sig .tc := ⟨.hbm, 159, rfl⟩
abbrev main_v95 : Ref sig .tc := ⟨.hbm, 160, rfl⟩
abbrev main_cst_31 : Ref sig .tc := ⟨.hbm, 161, rfl⟩
abbrev main_v96 : Ref sig .tc := ⟨.hbm, 162, rfl⟩
abbrev main_v97 : Ref sig .tc := ⟨.hbm, 163, rfl⟩
abbrev main_cst_32 : Ref sig .tc := ⟨.hbm, 164, rfl⟩
abbrev main_v98 : Ref sig .tc := ⟨.hbm, 165, rfl⟩
abbrev main_v99 : Ref sig .tc := ⟨.hbm, 166, rfl⟩
abbrev main_cst_33 : Ref sig .tc := ⟨.hbm, 167, rfl⟩
abbrev main_v100 : Ref sig .tc := ⟨.hbm, 168, rfl⟩
abbrev main_v101 : Ref sig .tc := ⟨.hbm, 169, rfl⟩
abbrev main_cst_34 : Ref sig .tc := ⟨.hbm, 170, rfl⟩
abbrev main_cst_35 : Ref sig .tc := ⟨.hbm, 171, rfl⟩
abbrev main_call5_v0 : Ref sig .tc := ⟨.hbm, 172, rfl⟩
abbrev main_call5_v1 : Ref sig .tc := ⟨.hbm, 173, rfl⟩
abbrev main_v102 : Ref sig .tc := ⟨.hbm, 174, rfl⟩
abbrev main_call6_v0 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_cst_36 : Ref sig .tc := ⟨.hbm, 179, rfl⟩
abbrev main_v106 : Ref sig .tc := ⟨.hbm, 180, rfl⟩
abbrev main_v107 : Ref sig .tc := ⟨.hbm, 181, rfl⟩
abbrev main_c_37 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_c_38 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_c_39 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_cst_40 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_c_41 : Ref sig .tc := ⟨.hbm, 213, rfl⟩
abbrev main_v135 : Ref sig .tc := ⟨.hbm, 214, rfl⟩
abbrev main_v136 : Ref sig .tc := ⟨.hbm, 215, rfl⟩
abbrev main_c_42 : Ref sig .tc := ⟨.hbm, 216, rfl⟩
abbrev main_v137 : Ref sig .tc := ⟨.hbm, 217, rfl⟩
abbrev main_v138 : Ref sig .tc := ⟨.hbm, 218, rfl⟩
abbrev main_c_43 : Ref sig .tc := ⟨.hbm, 219, rfl⟩
abbrev main_v139 : Ref sig .tc := ⟨.hbm, 220, rfl⟩
abbrev main_v140 : Ref sig .tc := ⟨.hbm, 221, rfl⟩
abbrev main_c_44 : Ref sig .tc := ⟨.hbm, 222, rfl⟩
abbrev main_v141 : Ref sig .tc := ⟨.hbm, 223, rfl⟩
abbrev main_v142 : Ref sig .tc := ⟨.hbm, 224, rfl⟩
abbrev main_c_45 : Ref sig .tc := ⟨.hbm, 225, rfl⟩
abbrev main_v143 : Ref sig .tc := ⟨.hbm, 226, rfl⟩
abbrev main_v144 : Ref sig .tc := ⟨.hbm, 227, rfl⟩
abbrev main_c_46 : Ref sig .tc := ⟨.hbm, 228, rfl⟩
abbrev main_v145 : Ref sig .tc := ⟨.hbm, 229, rfl⟩
abbrev main_v146 : Ref sig .tc := ⟨.hbm, 230, rfl⟩
abbrev main_c_47 : Ref sig .tc := ⟨.hbm, 231, rfl⟩
abbrev main_v147 : Ref sig .tc := ⟨.hbm, 232, rfl⟩
abbrev main_v148 : Ref sig .tc := ⟨.hbm, 233, rfl⟩
abbrev main_c_48 : Ref sig .tc := ⟨.hbm, 234, rfl⟩
abbrev main_v149 : Ref sig .tc := ⟨.hbm, 235, rfl⟩
abbrev main_v150 : Ref sig .tc := ⟨.hbm, 236, rfl⟩
abbrev main_c_49 : Ref sig .tc := ⟨.hbm, 237, rfl⟩
abbrev main_v151 : Ref sig .tc := ⟨.hbm, 238, rfl⟩
abbrev main_v152 : Ref sig .tc := ⟨.hbm, 239, rfl⟩
abbrev main_cst_50 : Ref sig .tc := ⟨.hbm, 240, rfl⟩
abbrev main_cst_51 : Ref sig .tc := ⟨.hbm, 241, rfl⟩
abbrev main_call8_v0 : Ref sig .tc := ⟨.hbm, 242, rfl⟩
abbrev main_call8_v1 : Ref sig .tc := ⟨.hbm, 243, rfl⟩
abbrev main_v153 : Ref sig .tc := ⟨.hbm, 244, rfl⟩
abbrev main_cst_52 : Ref sig .tc := ⟨.hbm, 245, rfl⟩
abbrev main_cst_53 : Ref sig .tc := ⟨.hbm, 246, rfl⟩
abbrev main_call9_v0 : Ref sig .tc := ⟨.hbm, 247, rfl⟩
abbrev main_call9_v1 : Ref sig .tc := ⟨.hbm, 248, rfl⟩
abbrev main_v154 : Ref sig .tc := ⟨.hbm, 249, rfl⟩
abbrev main_v155 : Ref sig .tc := ⟨.hbm, 250, rfl⟩
abbrev main_cst_54 : Ref sig .tc := ⟨.hbm, 251, rfl⟩
abbrev main_cst_55 : Ref sig .tc := ⟨.hbm, 252, rfl⟩
abbrev main_call11_v0 : Ref sig .tc := ⟨.hbm, 253, rfl⟩
abbrev main_call11_v1 : Ref sig .tc := ⟨.hbm, 254, rfl⟩
abbrev main_v156 : Ref sig .tc := ⟨.hbm, 255, rfl⟩
abbrev main_cst_56 : Ref sig .tc := ⟨.hbm, 256, rfl⟩
abbrev main_cst_57 : Ref sig .tc := ⟨.hbm, 257, rfl⟩
abbrev main_call12_v0 : Ref sig .tc := ⟨.hbm, 258, rfl⟩
abbrev main_call12_v1 : Ref sig .tc := ⟨.hbm, 259, rfl⟩
abbrev main_v157 : Ref sig .tc := ⟨.hbm, 260, rfl⟩
abbrev main_v158 : Ref sig .tc := ⟨.hbm, 261, rfl⟩
abbrev main_v159 : Ref sig .tc := ⟨.hbm, 262, rfl⟩
abbrev main_v160 : Ref sig .tc := ⟨.hbm, 263, rfl⟩
abbrev main_v161 : Ref sig .tc := ⟨.hbm, 264, rfl⟩
abbrev main_v162 : Ref sig .tc := ⟨.hbm, 265, rfl⟩
abbrev main_v163 : Ref sig .tc := ⟨.hbm, 266, rfl⟩
abbrev main_v164 : Ref sig .tc := ⟨.hbm, 267, rfl⟩
abbrev main_v165 : Ref sig .tc := ⟨.hbm, 268, rfl⟩
abbrev main_c_58 : Ref sig .tc := ⟨.hbm, 269, rfl⟩
abbrev main_v166 : Ref sig .tc := ⟨.hbm, 270, rfl⟩
abbrev main_v167 : Ref sig .tc := ⟨.hbm, 271, rfl⟩
abbrev main_c_59 : Ref sig .tc := ⟨.hbm, 272, rfl⟩
abbrev main_v168 : Ref sig .tc := ⟨.hbm, 273, rfl⟩
abbrev main_v169 : Ref sig .tc := ⟨.hbm, 274, rfl⟩
abbrev main_c_60 : Ref sig .tc := ⟨.hbm, 275, rfl⟩
abbrev main_v170 : Ref sig .tc := ⟨.hbm, 276, rfl⟩
abbrev main_v171 : Ref sig .tc := ⟨.hbm, 277, rfl⟩
abbrev main_c_61 : Ref sig .tc := ⟨.hbm, 278, rfl⟩
abbrev main_v172 : Ref sig .tc := ⟨.hbm, 279, rfl⟩
abbrev main_v173 : Ref sig .tc := ⟨.hbm, 280, rfl⟩
abbrev main_c_62 : Ref sig .tc := ⟨.hbm, 281, rfl⟩
abbrev main_v174 : Ref sig .tc := ⟨.hbm, 282, rfl⟩
abbrev main_v175 : Ref sig .tc := ⟨.hbm, 283, rfl⟩
abbrev main_c_63 : Ref sig .tc := ⟨.hbm, 284, rfl⟩
abbrev main_v176 : Ref sig .tc := ⟨.hbm, 285, rfl⟩
abbrev main_v177 : Ref sig .tc := ⟨.hbm, 286, rfl⟩
abbrev main_c_64 : Ref sig .tc := ⟨.hbm, 287, rfl⟩
abbrev main_v178 : Ref sig .tc := ⟨.hbm, 288, rfl⟩
abbrev main_v179 : Ref sig .tc := ⟨.hbm, 289, rfl⟩
abbrev main_c_65 : Ref sig .tc := ⟨.hbm, 290, rfl⟩
abbrev main_v180 : Ref sig .tc := ⟨.hbm, 291, rfl⟩
abbrev main_v181 : Ref sig .tc := ⟨.hbm, 292, rfl⟩
abbrev main_c_66 : Ref sig .tc := ⟨.hbm, 293, rfl⟩
abbrev main_v182 : Ref sig .tc := ⟨.hbm, 294, rfl⟩
abbrev main_v183 : Ref sig .tc := ⟨.hbm, 295, rfl⟩
abbrev main_cst_67 : Ref sig .tc := ⟨.hbm, 296, rfl⟩
abbrev main_cst_68 : Ref sig .tc := ⟨.hbm, 297, rfl⟩
abbrev main_call16_v0 : Ref sig .tc := ⟨.hbm, 298, rfl⟩
abbrev main_call16_v1 : Ref sig .tc := ⟨.hbm, 299, rfl⟩
abbrev main_v184 : Ref sig .tc := ⟨.hbm, 300, rfl⟩
abbrev main_cst_69 : Ref sig .tc := ⟨.hbm, 301, rfl⟩
abbrev main_cst_70 : Ref sig .tc := ⟨.hbm, 302, rfl⟩
abbrev main_call17_v0 : Ref sig .tc := ⟨.hbm, 303, rfl⟩
abbrev main_call17_v1 : Ref sig .tc := ⟨.hbm, 304, rfl⟩
abbrev main_v185 : Ref sig .tc := ⟨.hbm, 305, rfl⟩
abbrev main_v186 : Ref sig .tc := ⟨.hbm, 306, rfl⟩
abbrev main_cst_71 : Ref sig .tc := ⟨.hbm, 307, rfl⟩
abbrev main_cst_72 : Ref sig .tc := ⟨.hbm, 308, rfl⟩
abbrev main_call19_v0 : Ref sig .tc := ⟨.hbm, 309, rfl⟩
abbrev main_call19_v1 : Ref sig .tc := ⟨.hbm, 310, rfl⟩
abbrev main_v187 : Ref sig .tc := ⟨.hbm, 311, rfl⟩
abbrev main_cst_73 : Ref sig .tc := ⟨.hbm, 312, rfl⟩
abbrev main_cst_74 : Ref sig .tc := ⟨.hbm, 313, rfl⟩
abbrev main_call20_v0 : Ref sig .tc := ⟨.hbm, 314, rfl⟩
abbrev main_call20_v1 : Ref sig .tc := ⟨.hbm, 315, rfl⟩
abbrev main_v188 : Ref sig .tc := ⟨.hbm, 316, rfl⟩
abbrev main_v189 : Ref sig .tc := ⟨.hbm, 317, rfl⟩
abbrev main_v190 : Ref sig .tc := ⟨.hbm, 318, rfl⟩
abbrev main_v191 : Ref sig .tc := ⟨.hbm, 319, rfl⟩
abbrev main_v192 : Ref sig .tc := ⟨.hbm, 320, rfl⟩
abbrev main_v193 : Ref sig .tc := ⟨.hbm, 321, rfl⟩
abbrev main_v194 : Ref sig .tc := ⟨.hbm, 322, rfl⟩
abbrev main_v195 : Ref sig .tc := ⟨.hbm, 323, rfl⟩
abbrev main_v196 : Ref sig .tc := ⟨.hbm, 324, rfl⟩
abbrev main_v197 : Ref sig .tc := ⟨.hbm, 325, rfl⟩
abbrev main_v198 : Ref sig .tc := ⟨.hbm, 326, rfl⟩
abbrev main_cst_75 : Ref sig .tc := ⟨.hbm, 327, rfl⟩
abbrev main_v199 : Ref sig .tc := ⟨.hbm, 328, rfl⟩
abbrev main_v200 : Ref sig .tc := ⟨.hbm, 329, rfl⟩
abbrev main_v201 : Ref sig .tc := ⟨.hbm, 330, rfl⟩
abbrev main_v202 : Ref sig .tc := ⟨.hbm, 331, rfl⟩
abbrev main_v203 : Ref sig .tc := ⟨.hbm, 332, rfl⟩
abbrev main_v204 : Ref sig .tc := ⟨.hbm, 333, rfl⟩
abbrev main_c_76 : Ref sig .tc := ⟨.hbm, 334, rfl⟩
abbrev main_v205 : Ref sig .tc := ⟨.hbm, 335, rfl⟩
abbrev main_v206 : Ref sig .tc := ⟨.hbm, 336, rfl⟩
abbrev main_c_77 : Ref sig .tc := ⟨.hbm, 337, rfl⟩
abbrev main_v207 : Ref sig .tc := ⟨.hbm, 338, rfl⟩
abbrev main_v208 : Ref sig .tc := ⟨.hbm, 339, rfl⟩
abbrev main_c_78 : Ref sig .tc := ⟨.hbm, 340, rfl⟩
abbrev main_v209 : Ref sig .tc := ⟨.hbm, 341, rfl⟩
abbrev main_v210 : Ref sig .tc := ⟨.hbm, 342, rfl⟩
abbrev main_c_79 : Ref sig .tc := ⟨.hbm, 343, rfl⟩
abbrev main_v211 : Ref sig .tc := ⟨.hbm, 344, rfl⟩
abbrev main_v212 : Ref sig .tc := ⟨.hbm, 345, rfl⟩
abbrev main_c_80 : Ref sig .tc := ⟨.hbm, 346, rfl⟩
abbrev main_v213 : Ref sig .tc := ⟨.hbm, 347, rfl⟩
abbrev main_v214 : Ref sig .tc := ⟨.hbm, 348, rfl⟩
abbrev main_c_81 : Ref sig .tc := ⟨.hbm, 349, rfl⟩
abbrev main_v215 : Ref sig .tc := ⟨.hbm, 350, rfl⟩
abbrev main_v216 : Ref sig .tc := ⟨.hbm, 351, rfl⟩
abbrev main_c_82 : Ref sig .tc := ⟨.hbm, 352, rfl⟩
abbrev main_v217 : Ref sig .tc := ⟨.hbm, 353, rfl⟩
abbrev main_v218 : Ref sig .tc := ⟨.hbm, 354, rfl⟩
abbrev main_c_83 : Ref sig .tc := ⟨.hbm, 355, rfl⟩
abbrev main_v219 : Ref sig .tc := ⟨.hbm, 356, rfl⟩
abbrev main_v220 : Ref sig .tc := ⟨.hbm, 357, rfl⟩
abbrev main_c_84 : Ref sig .tc := ⟨.hbm, 358, rfl⟩
abbrev main_v221 : Ref sig .tc := ⟨.hbm, 359, rfl⟩
abbrev main_v222 : Ref sig .tc := ⟨.hbm, 360, rfl⟩
abbrev main_cst_85 : Ref sig .tc := ⟨.hbm, 361, rfl⟩
abbrev main_cst_86 : Ref sig .tc := ⟨.hbm, 362, rfl⟩
abbrev main_call24_v0 : Ref sig .tc := ⟨.hbm, 363, rfl⟩
abbrev main_call24_v1 : Ref sig .tc := ⟨.hbm, 364, rfl⟩
abbrev main_v223 : Ref sig .tc := ⟨.hbm, 365, rfl⟩
abbrev main_cst_87 : Ref sig .tc := ⟨.hbm, 366, rfl⟩
abbrev main_cst_88 : Ref sig .tc := ⟨.hbm, 367, rfl⟩
abbrev main_call25_v0 : Ref sig .tc := ⟨.hbm, 368, rfl⟩
abbrev main_call25_v1 : Ref sig .tc := ⟨.hbm, 369, rfl⟩
abbrev main_v224 : Ref sig .tc := ⟨.hbm, 370, rfl⟩
abbrev main_v225 : Ref sig .tc := ⟨.hbm, 371, rfl⟩
abbrev main_cst_89 : Ref sig .tc := ⟨.hbm, 372, rfl⟩
abbrev main_cst_90 : Ref sig .tc := ⟨.hbm, 373, rfl⟩
abbrev main_call27_v0 : Ref sig .tc := ⟨.hbm, 374, rfl⟩
abbrev main_call27_v1 : Ref sig .tc := ⟨.hbm, 375, rfl⟩
abbrev main_v226 : Ref sig .tc := ⟨.hbm, 376, rfl⟩
abbrev main_cst_91 : Ref sig .tc := ⟨.hbm, 377, rfl⟩
abbrev main_cst_92 : Ref sig .tc := ⟨.hbm, 378, rfl⟩
abbrev main_call28_v0 : Ref sig .tc := ⟨.hbm, 379, rfl⟩
abbrev main_call28_v1 : Ref sig .tc := ⟨.hbm, 380, rfl⟩
abbrev main_v227 : Ref sig .tc := ⟨.hbm, 381, rfl⟩
abbrev main_v228 : Ref sig .tc := ⟨.hbm, 382, rfl⟩
abbrev main_v229 : Ref sig .tc := ⟨.hbm, 383, rfl⟩
abbrev main_v230 : Ref sig .tc := ⟨.hbm, 384, rfl⟩
abbrev main_v231 : Ref sig .tc := ⟨.hbm, 385, rfl⟩
abbrev main_v232 : Ref sig .tc := ⟨.hbm, 386, rfl⟩
abbrev main_v233 : Ref sig .tc := ⟨.hbm, 387, rfl⟩
abbrev main_v234 : Ref sig .tc := ⟨.hbm, 388, rfl⟩
abbrev main_v235 : Ref sig .tc := ⟨.hbm, 389, rfl⟩
abbrev main_c_93 : Ref sig .tc := ⟨.hbm, 390, rfl⟩
abbrev main_v236 : Ref sig .tc := ⟨.hbm, 391, rfl⟩
abbrev main_v237 : Ref sig .tc := ⟨.hbm, 392, rfl⟩
abbrev main_c_94 : Ref sig .tc := ⟨.hbm, 393, rfl⟩
abbrev main_v238 : Ref sig .tc := ⟨.hbm, 394, rfl⟩
abbrev main_v239 : Ref sig .tc := ⟨.hbm, 395, rfl⟩
abbrev main_c_95 : Ref sig .tc := ⟨.hbm, 396, rfl⟩
abbrev main_v240 : Ref sig .tc := ⟨.hbm, 397, rfl⟩
abbrev main_v241 : Ref sig .tc := ⟨.hbm, 398, rfl⟩
abbrev main_c_96 : Ref sig .tc := ⟨.hbm, 399, rfl⟩
abbrev main_v242 : Ref sig .tc := ⟨.hbm, 400, rfl⟩
abbrev main_v243 : Ref sig .tc := ⟨.hbm, 401, rfl⟩
abbrev main_c_97 : Ref sig .tc := ⟨.hbm, 402, rfl⟩
abbrev main_v244 : Ref sig .tc := ⟨.hbm, 403, rfl⟩
abbrev main_v245 : Ref sig .tc := ⟨.hbm, 404, rfl⟩
abbrev main_c_98 : Ref sig .tc := ⟨.hbm, 405, rfl⟩
abbrev main_v246 : Ref sig .tc := ⟨.hbm, 406, rfl⟩
abbrev main_v247 : Ref sig .tc := ⟨.hbm, 407, rfl⟩
abbrev main_c_99 : Ref sig .tc := ⟨.hbm, 408, rfl⟩
abbrev main_v248 : Ref sig .tc := ⟨.hbm, 409, rfl⟩
abbrev main_v249 : Ref sig .tc := ⟨.hbm, 410, rfl⟩
abbrev main_c_100 : Ref sig .tc := ⟨.hbm, 411, rfl⟩
abbrev main_v250 : Ref sig .tc := ⟨.hbm, 412, rfl⟩
abbrev main_v251 : Ref sig .tc := ⟨.hbm, 413, rfl⟩
abbrev main_c_101 : Ref sig .tc := ⟨.hbm, 414, rfl⟩
abbrev main_v252 : Ref sig .tc := ⟨.hbm, 415, rfl⟩
abbrev main_v253 : Ref sig .tc := ⟨.hbm, 416, rfl⟩
abbrev main_cst_102 : Ref sig .tc := ⟨.hbm, 417, rfl⟩
abbrev main_cst_103 : Ref sig .tc := ⟨.hbm, 418, rfl⟩
abbrev main_call32_v0 : Ref sig .tc := ⟨.hbm, 419, rfl⟩
abbrev main_call32_v1 : Ref sig .tc := ⟨.hbm, 420, rfl⟩
abbrev main_v254 : Ref sig .tc := ⟨.hbm, 421, rfl⟩
abbrev main_cst_104 : Ref sig .tc := ⟨.hbm, 422, rfl⟩
abbrev main_cst_105 : Ref sig .tc := ⟨.hbm, 423, rfl⟩
abbrev main_call33_v0 : Ref sig .tc := ⟨.hbm, 424, rfl⟩
abbrev main_call33_v1 : Ref sig .tc := ⟨.hbm, 425, rfl⟩
abbrev main_v255 : Ref sig .tc := ⟨.hbm, 426, rfl⟩
abbrev main_v256 : Ref sig .tc := ⟨.hbm, 427, rfl⟩
abbrev main_cst_106 : Ref sig .tc := ⟨.hbm, 428, rfl⟩
abbrev main_cst_107 : Ref sig .tc := ⟨.hbm, 429, rfl⟩
abbrev main_call35_v0 : Ref sig .tc := ⟨.hbm, 430, rfl⟩
abbrev main_call35_v1 : Ref sig .tc := ⟨.hbm, 431, rfl⟩
abbrev main_v257 : Ref sig .tc := ⟨.hbm, 432, rfl⟩
abbrev main_cst_108 : Ref sig .tc := ⟨.hbm, 433, rfl⟩
abbrev main_cst_109 : Ref sig .tc := ⟨.hbm, 434, rfl⟩
abbrev main_call36_v0 : Ref sig .tc := ⟨.hbm, 435, rfl⟩
abbrev main_call36_v1 : Ref sig .tc := ⟨.hbm, 436, rfl⟩
abbrev main_v258 : Ref sig .tc := ⟨.hbm, 437, rfl⟩
abbrev main_v259 : Ref sig .tc := ⟨.hbm, 438, rfl⟩
abbrev main_v260 : Ref sig .tc := ⟨.hbm, 439, rfl⟩
abbrev main_v261 : Ref sig .tc := ⟨.hbm, 440, rfl⟩
abbrev main_v262 : Ref sig .tc := ⟨.hbm, 441, rfl⟩
abbrev main_v263 : Ref sig .tc := ⟨.hbm, 442, rfl⟩
abbrev main_v264 : Ref sig .tc := ⟨.hbm, 443, rfl⟩
abbrev main_v265 : Ref sig .tc := ⟨.hbm, 444, rfl⟩
abbrev main_v266 : Ref sig .tc := ⟨.hbm, 445, rfl⟩
abbrev main_v267 : Ref sig .tc := ⟨.hbm, 446, rfl⟩
abbrev main_v268 : Ref sig .tc := ⟨.hbm, 447, rfl⟩
abbrev main_v269 : Ref sig .tc := ⟨.hbm, 448, rfl⟩
abbrev main_cst_110 : Ref sig .tc := ⟨.hbm, 449, rfl⟩
abbrev main_v270 : Ref sig .tc := ⟨.hbm, 450, rfl⟩
abbrev main_v271 : Ref sig .tc := ⟨.hbm, 451, rfl⟩
abbrev main_v272 : Ref sig .tc := ⟨.hbm, 452, rfl⟩
abbrev main_v273 : Ref sig .tc := ⟨.hbm, 453, rfl⟩
abbrev main_v274 : Ref sig .tc := ⟨.hbm, 454, rfl⟩
abbrev main_v275 : Ref sig .tc := ⟨.hbm, 455, rfl⟩
abbrev main_v276 : Ref sig .tc := ⟨.hbm, 456, rfl⟩
abbrev main_v277 : Ref sig .tc := ⟨.hbm, 457, rfl⟩

abbrev nD : Nat := 1
abbrev τ : Topo := Topo.v7x

variable {F : FTy → Type} [FloatOps F]
-- ==== KernelDw.lean ====
abbrev S2560x1792 : Shape := ⟨2, ![2560, 1792]⟩
abbrev S2x896x6912 : Shape := ⟨3, ![2, 896, 6912]⟩
abbrev S2x896 : Shape := ⟨2, ![2, 896]⟩
abbrev S1792x6912 : Shape := ⟨2, ![1792, 6912]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S8x8 : Shape := ⟨2, ![8, 8]⟩
abbrev S8x1x8x1 : Shape := ⟨4, ![8, 1, 8, 1]⟩
abbrev S1x32x1x32 : Shape := ⟨4, ![1, 32, 1, 32]⟩
abbrev S8x32x8x32 : Shape := ⟨4, ![8, 32, 8, 32]⟩
abbrev S256x256 : Shape := ⟨2, ![256, 256]⟩
abbrev S1x256x256 : Shape := ⟨3, ![1, 256, 256]⟩
abbrev S7x1x256 : Shape := ⟨3, ![7, 1, 256]⟩
abbrev S7x256x256 : Shape := ⟨3, ![7, 256, 256]⟩
abbrev S2560x6912 : Shape := ⟨2, ![2560, 6912]⟩
abbrev S896x6912 : Shape := ⟨2, ![896, 6912]⟩
abbrev S2x28x6912 : Shape := ⟨3, ![2, 28, 6912]⟩
abbrev S1792x256 : Shape := ⟨2, ![1792, 256]⟩
abbrev S2560x256 : Shape := ⟨2, ![2560, 256]⟩
abbrev S896x256 : Shape := ⟨2, ![896, 256]⟩
abbrev S2x28x256 : Shape := ⟨3, ![2, 28, 256]⟩
abbrev S56x256 : Shape := ⟨2, ![56, 256]⟩
abbrev S8x32x256 : Shape := ⟨3, ![8, 32, 256]⟩
abbrev S8x256 : Shape := ⟨2, ![8, 256]⟩
abbrev S8x1x256 : Shape := ⟨3, ![8, 1, 256]⟩
abbrev S128x2x256 : Shape := ⟨3, ![128, 2, 256]⟩
abbrev S128x1x256 : Shape := ⟨3, ![128, 1, 256]⟩
abbrev S128x256 : Shape := ⟨2, ![128, 256]⟩
abbrev S28x256 : Shape := ⟨2, ![28, 256]⟩
abbrev S1x28x256 : Shape := ⟨3, ![1, 28, 256]⟩

abbrev nBuf : Space → Nat
  | .hbm => 105
  | .vmem => 14
  | .smem => 0
  | _ => 0

abbrev bufTy : (tb : Table) → Fin (tcTables nBuf tb) → BufTy
  | .hbm, ⟨0, _⟩ => ⟨S2560x1792, .bf16⟩
  | .hbm, ⟨1, _⟩ => ⟨S2x896x6912, .bf16⟩
  | .hbm, ⟨2, _⟩ => ⟨S2x896, .f32⟩
  | .hbm, ⟨3, _⟩ => ⟨S2x896x6912, .i8⟩
  | .hbm, ⟨4, _⟩ => ⟨S1792x6912, .bf16⟩
  | .hbm, ⟨5, _⟩ => ⟨S32, .i32⟩
  | .hbm, ⟨6, _⟩ => ⟨S32x1, .i32⟩
  | .hbm, ⟨7, _⟩ => ⟨S1x32, .i32⟩
  | .hbm, ⟨8, _⟩ => ⟨S32x32, .i32⟩
  | .hbm, ⟨9, _⟩ => ⟨S32x32, .i32⟩
  | .hbm, ⟨10, _⟩ => ⟨S32x32, .i32⟩
  | .hbm, ⟨11, _⟩ => ⟨S_, .i32⟩
  | .hbm, ⟨12, _⟩ => ⟨S32x32, .i32⟩
  | .hbm, ⟨13, _⟩ => ⟨S32x32, .i32⟩
  | .hbm, ⟨14, _⟩ => ⟨S_, .i32⟩
  | .hbm, ⟨15, _⟩ => ⟨S32x32, .i32⟩
  | .hbm, ⟨16, _⟩ => ⟨S32x32, .i32⟩
  | .hbm, ⟨17, _⟩ => ⟨S_, .i32⟩
  | .hbm, ⟨18, _⟩ => ⟨S32x32, .i32⟩
  | .hbm, ⟨19, _⟩ => ⟨S32x32, .i32⟩
  | .hbm, ⟨20, _⟩ => ⟨S_, .i32⟩
  | .hbm, ⟨21, _⟩ => ⟨S32x32, .i32⟩
  | .hbm, ⟨22, _⟩ => ⟨S32x32, .i32⟩
  | .hbm, ⟨23, _⟩ => ⟨S_, .i32⟩
  | .hbm, ⟨24, _⟩ => ⟨S32x32, .i32⟩
  | .hbm, ⟨25, _⟩ => ⟨S32x32, .i32⟩
  | .hbm, ⟨26, _⟩ => ⟨S32x32, .i32⟩
  | .hbm, ⟨27, _⟩ => ⟨S_, .i32⟩
  | .hbm, ⟨28, _⟩ => ⟨S32x32, .i32⟩
  | .hbm, ⟨29, _⟩ => ⟨S32x32, .i32⟩
  | .hbm, ⟨30, _⟩ => ⟨S_, .i32⟩
  | .hbm, ⟨31, _⟩ => ⟨S32x32, .i32⟩
  | .hbm, ⟨32, _⟩ => ⟨S32x32, .i32⟩
  | .hbm, ⟨33, _⟩ => ⟨S32x32, .i32⟩
  | .hbm, ⟨34, _⟩ => ⟨S_, .i32⟩
  | .hbm, ⟨35, _⟩ => ⟨S32x32, .i32⟩
  | .hbm, ⟨36, _⟩ => ⟨S32x32, .i32⟩
  | .hbm, ⟨37, _⟩ => ⟨S_, .i32⟩
  | .hbm, ⟨38, _⟩ => ⟨S32x32, .i32⟩
  | .hbm, ⟨39, _⟩ => ⟨S32x32, .i32⟩
  | .hbm, ⟨40, _⟩ => ⟨S32x32, .i32⟩
  | .hbm, ⟨41, _⟩ => ⟨S_, .i32⟩
  | .hbm, ⟨42, _⟩ => ⟨S32x32, .i32⟩
  | .hbm, ⟨43, _⟩ => ⟨S32x32, .i32⟩
  | .hbm, ⟨44, _⟩ => ⟨S_, .i32⟩
  | .hbm, ⟨45, _⟩ => ⟨S32x32, .i32⟩
  | .hbm, ⟨46, _⟩ => ⟨S32x32, .i32⟩
  | .hbm, ⟨47, _⟩ => ⟨S32x32, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S32x32, .i32⟩
  | .hbm, ⟨55, _⟩ => ⟨S32x32, .i32⟩
  | .hbm, ⟨56, _⟩ => ⟨S_, .i32⟩
  | .hbm, ⟨57, _⟩ => ⟨S32x32, .i32⟩
  | .hbm, ⟨58, _⟩ => ⟨S32x32, .i1⟩
  | .hbm, ⟨59, _⟩ => ⟨S_, .i32⟩
  | .hbm, ⟨60, _⟩ => ⟨S32x32, .i32⟩
  | .hbm, ⟨61, _⟩ => ⟨S32x32, .i1⟩
  | .hbm, ⟨62, _⟩ => ⟨S_, .i32⟩
  | .hbm, ⟨63, _⟩ => ⟨S_, .i1⟩
  | .hbm, ⟨64, _⟩ => ⟨S32x32, .i1⟩
  | .hbm, ⟨65, _⟩ => ⟨S32x32, .i1⟩
  | .hbm, ⟨66, _⟩ => ⟨S32x32, .i1⟩
  | .hbm, ⟨67, _⟩ => ⟨S32x32, .i32⟩
  | .hbm, ⟨68, _⟩ => ⟨S32x32, .i32⟩
  | .hbm, ⟨69, _⟩ => ⟨S32x32, .i32⟩
  | .hbm, ⟨70, _⟩ => ⟨S_, .i32⟩
  | .hbm, ⟨71, _⟩ => ⟨S32x32, .i32⟩
  | .hbm, ⟨72, _⟩ => ⟨S32x32, .i1⟩
  | .hbm, ⟨73, _⟩ => ⟨S_, .f32⟩
  | .hbm, ⟨74, _⟩ => ⟨S_, .f32⟩
  | .hbm, ⟨75, _⟩ => ⟨S32x32, .f32⟩
  | .hbm, ⟨76, _⟩ => ⟨S32x32, .f32⟩
  | .hbm, ⟨77, _⟩ => ⟨S32x32, .f32⟩
  | .hbm, ⟨78, _⟩ => ⟨S32x32, .f32⟩
  | .hbm, ⟨79, _⟩ => ⟨S_, .f32⟩
  | .hbm, ⟨80, _⟩ => ⟨S32x32, .f32⟩
  | .hbm, ⟨81, _⟩ => ⟨S32x32, .f32⟩
  | .hbm, ⟨82, _⟩ => ⟨S8x8, .i32⟩
  | .hbm, ⟨83, _⟩ => ⟨S8x8, .i32⟩
  | .hbm, ⟨84, _⟩ => ⟨S_, .i32⟩
  | .hbm, ⟨85, _⟩ => ⟨S8x8, .i32⟩
  | .hbm, ⟨86, _⟩ => ⟨S8x8, .i32⟩
  | .hbm, ⟨87, _⟩ => ⟨S8x8, .i1⟩
  | .hbm, ⟨88, _⟩ => ⟨S8x8, .f32⟩
  | .hbm, ⟨89, _⟩ => ⟨S8x1x8x1, .f32⟩
  | .hbm, ⟨90, _⟩ => ⟨S1x32x1x32, .f32⟩
  | .hbm, ⟨91, _⟩ => ⟨S8x32x8x32, .f32⟩
  | .hbm, ⟨92, _⟩ => ⟨S8x32x8x32, .f32⟩
  | .hbm, ⟨93, _⟩ => ⟨S8x32x8x32, .f32⟩
  | .hbm, ⟨94, _⟩ => ⟨S256x256, .f32⟩
  | .hbm, ⟨95, _⟩ => ⟨S1x256x256, .f32⟩
  | .hbm, ⟨96, _⟩ => ⟨S7x1x256, .f32⟩
  | .hbm, ⟨97, _⟩ => ⟨S7x256x256, .f32⟩
  | .hbm, ⟨98, _⟩ => ⟨S7x256x256, .f32⟩
  | .hbm, ⟨99, _⟩ => ⟨S7x256x256, .f32⟩
  | .hbm, ⟨100, _⟩ => ⟨S7x256x256, .bf16⟩
  | .hbm, ⟨101, _⟩ => ⟨S1792x6912, .i8⟩
  | .hbm, ⟨102, _⟩ => ⟨S2560x6912, .f32⟩
  | .hbm, ⟨103, _⟩ => ⟨S896x6912, .i8⟩
  | .hbm, ⟨104, _⟩ => ⟨S2x28x6912, .i8⟩
  | .local _ .vmem, ⟨0, _⟩ => ⟨S2560x1792, .bf16⟩
  | .local _ .vmem, ⟨1, _⟩ => ⟨S1792x256, .bf16⟩
  | .local _ .vmem, ⟨2, _⟩ => ⟨S1792x256, .bf16⟩
  | .local _ .vmem, ⟨3, _⟩ => ⟨S1792x256, .i8⟩
  | .local _ .vmem, ⟨4, _⟩ => ⟨S1792x256, .i8⟩
  | .local _ .vmem, ⟨5, _⟩ => ⟨S7x256x256, .bf16⟩
  | .local _ .vmem, ⟨6, _⟩ => ⟨S2560x256, .f32⟩
  | .local _ .vmem, ⟨7, _⟩ => ⟨S2560x256, .f32⟩
  | .local _ .vmem, ⟨8, _⟩ => ⟨S896x256, .i8⟩
  | .local _ .vmem, ⟨9, _⟩ => ⟨S896x256, .i8⟩
  | .local _ .vmem, ⟨10, _⟩ => ⟨S2x28x256, .i8⟩
  | .local _ .vmem, ⟨11, _⟩ => ⟨S2x28x256, .i8⟩
  | .local _ .vmem, ⟨12, _⟩ => ⟨S56x256, .i32⟩
  | .local _ .vmem, ⟨13, _⟩ => ⟨S1792x256, .bf16⟩
  | _, _ => ⟨S2560x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_c_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_6 : Ref sig .tc := ⟨.hbm, 34, rfl⟩
abbrev main_v23 : Ref sig .tc := ⟨.hbm, 35, rfl⟩
abbrev main_v24 : Ref sig .tc := ⟨.hbm, 36, rfl⟩
abbrev main_c_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_8 : Ref sig .tc := ⟨.hbm, 41, rfl⟩
abbrev main_v28 : Ref sig .tc := ⟨.hbm, 42, rfl⟩
abbrev main_v29 : Ref sig .tc := ⟨.hbm, 43, rfl⟩
abbrev main_c_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_10 : Ref sig .tc := ⟨.hbm, 48, rfl⟩
abbrev main_call0_v0 : Ref sig .tc := ⟨.hbm, 49, rfl⟩
abbrev main_call0_c : Ref sig .tc := ⟨.hbm, 50, rfl⟩
abbrev main_call0_v1 : Ref sig .tc := ⟨.hbm, 51, rfl⟩
abbrev main_call0_c_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_c_1 : Ref sig .tc := ⟨.hbm, 56, rfl⟩
abbrev main_call0_v5 : Ref sig .tc := ⟨.hbm, 57, rfl⟩
abbrev main_call0_v6 : Ref sig .tc := ⟨.hbm, 58, rfl⟩
abbrev main_call0_c_2 : Ref sig .tc := ⟨.hbm, 59, rfl⟩
abbrev main_call0_v7 : Ref sig .tc := ⟨.hbm, 60, rfl⟩
abbrev main_call0_v8 : Ref sig .tc := ⟨.hbm, 61, rfl⟩
abbrev main_call0_c_3 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_v12 : Ref sig .tc := ⟨.hbm, 66, rfl⟩
abbrev main_call0_v13 : Ref sig .tc := ⟨.hbm, 67, rfl⟩
abbrev main_call0_v14 : Ref sig .tc := ⟨.hbm, 68, rfl⟩
abbrev main_v33 : Ref sig .tc := ⟨.hbm, 69, rfl⟩
abbrev main_c_11 : Ref sig .tc := ⟨.hbm, 70, rfl⟩
abbrev main_v34 : Ref sig .tc := ⟨.hbm, 71, rfl⟩
abbrev main_v35 : Ref sig .tc := ⟨.hbm, 72, rfl⟩
abbrev main_cst : Ref sig .tc := ⟨.hbm, 73, rfl⟩
abbrev main_cst_12 : Ref sig .tc := ⟨.hbm, 74, rfl⟩
abbrev main_call1_v0 : Ref sig .tc := ⟨.hbm, 75, rfl⟩
abbrev main_call1_v1 : Ref sig .tc := ⟨.hbm, 76, rfl⟩
abbrev main_v36 : Ref sig .tc := ⟨.hbm, 77, rfl⟩
abbrev main_v37 : Ref sig .tc := ⟨.hbm, 78, rfl⟩
abbrev main_cst_13 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_c_14 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54_0 : Ref sig .tc := ⟨.hbm, 102, rfl⟩
abbrev main_v54_1 : Ref sig .tc := ⟨.hbm, 103, rfl⟩
abbrev main_v54_2 : Ref sig .tc := ⟨.hbm, 104, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![27], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S2560x1792 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1792x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1792x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S7x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2560x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S896x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x28x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceDwIdeal.lean ====
abbrev S2560x1792 : Shape := ⟨2, ![2560, 1792]⟩
abbrev S2x896x6912 : Shape := ⟨3, ![2, 896, 6912]⟩
abbrev S2x896 : Shape := ⟨2, ![2, 896]⟩
abbrev S2x896x1 : Shape := ⟨3, ![2, 896, 1]⟩
abbrev S2x28x32x6912 : Shape := ⟨4, ![2, 28, 32, 6912]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S32x2x28x6912 : Shape := ⟨4, ![32, 2, 28, 6912]⟩
abbrev S2x28x6912 : Shape := ⟨3, ![2, 28, 6912]⟩
abbrev S2x28x1x6912 : Shape := ⟨4, ![2, 28, 1, 6912]⟩
abbrev S2x28x16x2x6912 : Shape := ⟨5, ![2, 28, 16, 2, 6912]⟩
abbrev S2x28x16x1x6912 : Shape := ⟨5, ![2, 28, 16, 1, 6912]⟩
abbrev S2x28x16x6912 : Shape := ⟨4, ![2, 28, 16, 6912]⟩
abbrev S2x448x6912 : Shape := ⟨3, ![2, 448, 6912]⟩
abbrev S1792x2560 : Shape := ⟨2, ![1792, 2560]⟩
abbrev S896x2x2560 : Shape := ⟨3, ![896, 2, 2560]⟩
abbrev S896x1x2560 : Shape := ⟨3, ![896, 1, 2560]⟩
abbrev S896x2560 : Shape := ⟨2, ![896, 2560]⟩
abbrev S896x6912 : Shape := ⟨2, ![896, 6912]⟩
abbrev S2560x6912 : Shape := ⟨2, ![2560, 6912]⟩

abbrev nBuf : Space → Nat
  | .hbm => 340
  | .vmem => 0
  | .smem => 0
  | _ => 0

abbrev hbmTy0_0 (i : Nat) : BufTy := match i % 128 with
  | 0 => ⟨S2560x1792, .bf16⟩
  | 1 => ⟨S2x896x6912, .bf16⟩
  | 2 => ⟨S2x896, .f32⟩
  | 3 => ⟨S2x896x6912, .i8⟩
  | 4 => ⟨S2x896x6912, .f32⟩
  | 5 => ⟨S2x896x1, .f32⟩
  | 6 => ⟨S2x896x6912, .f32⟩
  | 7 => ⟨S2x896x6912, .f32⟩
  | 8 => ⟨S2x28x32x6912, .f32⟩
  | 9 => ⟨S32, .i32⟩
  | 10 => ⟨S32x1, .i32⟩
  | 11 => ⟨S1x32, .i32⟩
  | 12 => ⟨S32x32, .i32⟩
  | 13 => ⟨S32x32, .i32⟩
  | 14 => ⟨S32x32, .i32⟩
  | 15 => ⟨S_, .i32⟩
  | 16 => ⟨S32x32, .i32⟩
  | 17 => ⟨S32x32, .i32⟩
  | 18 => ⟨S_, .i32⟩
  | 19 => ⟨S32x32, .i32⟩
  | 20 => ⟨S32x32, .i32⟩
  | 21 => ⟨S_, .i32⟩
  | 22 => ⟨S32x32, .i32⟩
  | 23 => ⟨S32x32, .i32⟩
  | 24 => ⟨S_, .i32⟩
  | 25 => ⟨S32x32, .i32⟩
  | 26 => ⟨S32x32, .i32⟩
  | 27 => ⟨S_, .i32⟩
  | 28 => ⟨S32x32, .i32⟩
  | 29 => ⟨S32x32, .i32⟩
  | 30 => ⟨S32x32, .i32⟩
  | 31 => ⟨S_, .i32⟩
  | 32 => ⟨S32x32, .i32⟩
  | 33 => ⟨S32x32, .i32⟩
  | 34 => ⟨S_, .i32⟩
  | 35 => ⟨S32x32, .i32⟩
  | 36 => ⟨S32x32, .i32⟩
  | 37 => ⟨S32x32, .i32⟩
  | 38 => ⟨S_, .i32⟩
  | 39 => ⟨S32x32, .i32⟩
  | 40 => ⟨S32x32, .i32⟩
  | 41 => ⟨S_, .i32⟩
  | 42 => ⟨S32x32, .i32⟩
  | 43 => ⟨S32x32, .i32⟩
  | 44 => ⟨S32x32, .i32⟩
  | 45 => ⟨S_, .i32⟩
  | 46 => ⟨S32x32, .i32⟩
  | 47 => ⟨S32x32, .i32⟩
  | 48 => ⟨S_, .i32⟩
  | 49 => ⟨S32x32, .i32⟩
  | 50 => ⟨S32x32, .i32⟩
  | 51 => ⟨S32x32, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S32x32, .i32⟩
  | 59 => ⟨S32x32, .i32⟩
  | 60 => ⟨S_, .i32⟩
  | 61 => ⟨S32x32, .i32⟩
  | 62 => ⟨S32x32, .i1⟩
  | 63 => ⟨S_, .i32⟩
  | 64 => ⟨S32x32, .i32⟩
  | 65 => ⟨S32x32, .i1⟩
  | 66 => ⟨S_, .i32⟩
  | 67 => ⟨S_, .i1⟩
  | 68 => ⟨S32x32, .i1⟩
  | 69 => ⟨S32x32, .i1⟩
  | 70 => ⟨S32x32, .i1⟩
  | 71 => ⟨S32x32, .i32⟩
  | 72 => ⟨S32x32, .i32⟩
  | 73 => ⟨S32x32, .i32⟩
  | 74 => ⟨S_, .i32⟩
  | 75 => ⟨S32x32, .i32⟩
  | 76 => ⟨S32x32, .i1⟩
  | 77 => ⟨S_, .f32⟩
  | 78 => ⟨S_, .f32⟩
  | 79 => ⟨S32x32, .f32⟩
  | 80 => ⟨S32x32, .f32⟩
  | 81 => ⟨S32x32, .f32⟩
  | 82 => ⟨S32x32, .f32⟩
  | 83 => ⟨S_, .f32⟩
  | 84 => ⟨S32x32, .f32⟩
  | 85 => ⟨S32x32, .f32⟩
  | 86 => ⟨S32x2x28x6912, .f32⟩
  | 87 => ⟨S2x28x32x6912, .f32⟩
  | 88 => ⟨S2x28x32x6912, .i8⟩
  | 89 => ⟨S2x28x32x6912, .f32⟩
  | 90 => ⟨S_, .f32⟩
  | 91 => ⟨S2x28x6912, .f32⟩
  | 92 => ⟨S2x28x1x6912, .f32⟩
  | 93 => ⟨S2x28x1x6912, .f32⟩
  | 94 => ⟨S_, .f32⟩
  | 95 => ⟨S_, .f32⟩
  | 96 => ⟨S2x28x1x6912, .f32⟩
  | 97 => ⟨S2x28x1x6912, .f32⟩
  | 98 => ⟨S2x28x1x6912, .f32⟩
  | 99 => ⟨S_, .f32⟩
  | 100 => ⟨S2x28x1x6912, .f32⟩
  | 101 => ⟨S2x28x1x6912, .f32⟩
  | 102 => ⟨S_, .f32⟩
  | 103 => ⟨S2x28x1x6912, .f32⟩
  | 104 => ⟨S2x28x1x6912, .i1⟩
  | 105 => ⟨S_, .f32⟩
  | 106 => ⟨S2x28x1x6912, .f32⟩
  | 107 => ⟨S2x28x1x6912, .f32⟩
  | 108 => ⟨S_, .f32⟩
  | 109 => ⟨S_, .f32⟩
  | 110 => ⟨S2x28x1x6912, .f32⟩
  | 111 => ⟨S2x28x1x6912, .f32⟩
  | 112 => ⟨S2x28x1x6912, .i32⟩
  | 113 => ⟨S2x28x1x6912, .f32⟩
  | 114 => ⟨S2x28x1x6912, .f32⟩
  | 115 => ⟨S_, .f32⟩
  | 116 => ⟨S2x28x1x6912, .f32⟩
  | 117 => ⟨S2x28x1x6912, .f32⟩
  | 118 => ⟨S_, .f32⟩
  | 119 => ⟨S2x28x1x6912, .f32⟩
  | 120 => ⟨S2x28x1x6912, .f32⟩
  | 121 => ⟨S2x28x32x6912, .f32⟩
  | 122 => ⟨S2x28x32x6912, .f32⟩
  | 123 => ⟨S2x28x32x6912, .f32⟩
  | 124 => ⟨S_, .f32⟩
  | 125 => ⟨S2x28x32x6912, .f32⟩
  | 126 => ⟨S2x28x32x6912, .i1⟩
  | 127 => ⟨S_, .f32⟩
  | _ => ⟨S2560x1792, .bf16⟩

abbrev hbmTy0_1 (i : Nat) : BufTy := match i % 128 with
  | 0 => ⟨S2x28x32x6912, .f32⟩
  | 1 => ⟨S2x28x32x6912, .i1⟩
  | 2 => ⟨S_, .f32⟩
  | 3 => ⟨S_, .f32⟩
  | 4 => ⟨S2x28x32x6912, .f32⟩
  | 5 => ⟨S2x28x32x6912, .f32⟩
  | 6 => ⟨S2x28x32x6912, .f32⟩
  | 7 => ⟨S_, .f32⟩
  | 8 => ⟨S2x28x32x6912, .f32⟩
  | 9 => ⟨S2x28x32x6912, .f32⟩
  | 10 => ⟨S2x28x32x6912, .f32⟩
  | 11 => ⟨S2x28x32x6912, .f32⟩
  | 12 => ⟨S2x28x32x6912, .f32⟩
  | 13 => ⟨S2x28x32x6912, .f32⟩
  | 14 => ⟨S2x28x32x6912, .f32⟩
  | 15 => ⟨S2x28x32x6912, .i32⟩
  | 16 => ⟨S2x28x32x6912, .f32⟩
  | 17 => ⟨S_, .f32⟩
  | 18 => ⟨S2x28x32x6912, .f32⟩
  | 19 => ⟨S2x28x32x6912, .f32⟩
  | 20 => ⟨S_, .f32⟩
  | 21 => ⟨S2x28x32x6912, .f32⟩
  | 22 => ⟨S2x28x32x6912, .f32⟩
  | 23 => ⟨S2x28x32x6912, .i1⟩
  | 24 => ⟨S2x28x32x6912, .f32⟩
  | 25 => ⟨S2x28x32x6912, .f32⟩
  | 26 => ⟨S2x28x32x6912, .f32⟩
  | 27 => ⟨S_, .f32⟩
  | 28 => ⟨S2x28x32x6912, .f32⟩
  | 29 => ⟨S2x28x32x6912, .i1⟩
  | 30 => ⟨S_, .f32⟩
  | 31 => ⟨S2x28x32x6912, .f32⟩
  | 32 => ⟨S2x28x32x6912, .f32⟩
  | 33 => ⟨S_, .f32⟩
  | 34 => ⟨S2x28x32x6912, .f32⟩
  | 35 => ⟨S2x28x32x6912, .i1⟩
  | 36 => ⟨S_, .f32⟩
  | 37 => ⟨S2x28x32x6912, .f32⟩
  | 38 => ⟨S2x28x32x6912, .f32⟩
  | 39 => ⟨S_, .f32⟩
  | 40 => ⟨S2x28x32x6912, .f32⟩
  | 41 => ⟨S2x28x32x6912, .i1⟩
  | 42 => ⟨S_, .f32⟩
  | 43 => ⟨S_, .f32⟩
  | 44 => ⟨S2x28x32x6912, .f32⟩
  | 45 => ⟨S2x28x32x6912, .f32⟩
  | 46 => ⟨S2x28x32x6912, .f32⟩
  | 47 => ⟨S2x28x32x6912, .f32⟩
  | 48 => ⟨S2x28x32x6912, .f32⟩
  | 49 => ⟨S2x28x32x6912, .f32⟩
  | 50 => ⟨S2x28x32x6912, .i32⟩
  | 51 => ⟨S_, .f32⟩
  | 52 => ⟨S2x28x32x6912, .f32⟩
  | 53 => ⟨S2x28x32x6912, .i1⟩
  | 54 => ⟨S_, .i32⟩
  | 55 => ⟨S2x28x32x6912, .i32⟩
  | 56 => ⟨S2x28x32x6912, .i1⟩
  | 57 => ⟨S2x28x32x6912, .i1⟩
  | 58 => ⟨S2x28x32x6912, .i32⟩
  | 59 => ⟨S_, .i32⟩
  | 60 => ⟨S2x28x32x6912, .i32⟩
  | 61 => ⟨S2x28x32x6912, .i32⟩
  | 62 => ⟨S2x28x32x6912, .i32⟩
  | 63 => ⟨S2x28x6912, .i32⟩
  | 64 => ⟨S2x28x6912, .i8⟩
  | 65 => ⟨S2x28x16x2x6912, .i32⟩
  | 66 => ⟨S2x28x16x1x6912, .i32⟩
  | 67 => ⟨S2x28x16x6912, .i32⟩
  | 68 => ⟨S2x28x16x1x6912, .i32⟩
  | 69 => ⟨S2x28x16x6912, .i32⟩
  | 70 => ⟨S_, .i32⟩
  | 71 => ⟨S2x28x16x6912, .i32⟩
  | 72 => ⟨S2x28x16x6912, .i32⟩
  | 73 => ⟨S2x28x16x6912, .i32⟩
  | 74 => ⟨S2x28x16x6912, .i8⟩
  | 75 => ⟨S2x448x6912, .i8⟩
  | 76 => ⟨S2x28x6912, .i32⟩
  | 77 => ⟨S2x28x6912, .f32⟩
  | 78 => ⟨S_, .f32⟩
  | 79 => ⟨S2x28x6912, .f32⟩
  | 80 => ⟨S2x28x6912, .f32⟩
  | 81 => ⟨S2x28x6912, .bf16⟩
  | 82 => ⟨S2x28x1x6912, .bf16⟩
  | 83 => ⟨S2x448x6912, .i32⟩
  | 84 => ⟨S2x28x16x6912, .i32⟩
  | 85 => ⟨S_, .i32⟩
  | 86 => ⟨S2x28x16x6912, .i32⟩
  | 87 => ⟨S2x28x16x6912, .i32⟩
  | 88 => ⟨S_, .i32⟩
  | 89 => ⟨S2x28x16x6912, .i32⟩
  | 90 => ⟨S2x28x16x6912, .i32⟩
  | 91 => ⟨S_, .i32⟩
  | 92 => ⟨S2x28x16x6912, .i32⟩
  | 93 => ⟨S2x28x16x6912, .i1⟩
  | 94 => ⟨S_, .i32⟩
  | 95 => ⟨S2x28x16x6912, .i32⟩
  | 96 => ⟨S2x28x16x6912, .i32⟩
  | 97 => ⟨S_, .i32⟩
  | 98 => ⟨S2x28x16x6912, .i32⟩
  | 99 => ⟨S2x28x16x6912, .i1⟩
  | 100 => ⟨S_, .i32⟩
  | 101 => ⟨S2x28x16x6912, .i32⟩
  | 102 => ⟨S2x28x16x6912, .i32⟩
  | 103 => ⟨S_, .i32⟩
  | 104 => ⟨S2x28x16x6912, .i32⟩
  | 105 => ⟨S2x28x16x6912, .i1⟩
  | 106 => ⟨S_, .i32⟩
  | 107 => ⟨S2x28x16x6912, .i32⟩
  | 108 => ⟨S2x28x16x6912, .i32⟩
  | 109 => ⟨S_, .i32⟩
  | 110 => ⟨S2x28x16x6912, .i32⟩
  | 111 => ⟨S2x28x16x6912, .i1⟩
  | 112 => ⟨S_, .f32⟩
  | 113 => ⟨S_, .f32⟩
  | 114 => ⟨S2x28x16x6912, .f32⟩
  | 115 => ⟨S2x28x16x6912, .f32⟩
  | 116 => ⟨S2x28x16x6912, .f32⟩
  | 117 => ⟨S_, .f32⟩
  | 118 => ⟨S_, .f32⟩
  | 119 => ⟨S2x28x16x6912, .f32⟩
  | 120 => ⟨S2x28x16x6912, .f32⟩
  | 121 => ⟨S2x28x16x6912, .f32⟩
  | 122 => ⟨S2x28x16x6912, .f32⟩
  | 123 => ⟨S_, .f32⟩
  | 124 => ⟨S_, .f32⟩
  | 125 => ⟨S2x28x16x6912, .f32⟩
  | 126 => ⟨S2x28x16x6912, .f32⟩
  | 127 => ⟨S2x28x16x6912, .f32⟩
  | _ => ⟨S2560x1792, .bf16⟩

abbrev hbmTy0_2 (i : Nat) : BufTy := match i % 128 with
  | 0 => ⟨S_, .f32⟩
  | 1 => ⟨S_, .f32⟩
  | 2 => ⟨S2x28x16x6912, .f32⟩
  | 3 => ⟨S2x28x16x6912, .f32⟩
  | 4 => ⟨S2x28x16x6912, .f32⟩
  | 5 => ⟨S2x28x16x6912, .f32⟩
  | 6 => ⟨S2x28x16x6912, .f32⟩
  | 7 => ⟨S2x28x16x6912, .f32⟩
  | 8 => ⟨S2x28x16x6912, .f32⟩
  | 9 => ⟨S2x28x16x6912, .bf16⟩
  | 10 => ⟨S2x28x16x6912, .bf16⟩
  | 11 => ⟨S2x28x16x6912, .bf16⟩
  | 12 => ⟨S2x448x6912, .bf16⟩
  | 13 => ⟨S_, .i32⟩
  | 14 => ⟨S2x28x16x6912, .i32⟩
  | 15 => ⟨S2x28x16x6912, .i32⟩
  | 16 => ⟨S_, .i32⟩
  | 17 => ⟨S2x28x16x6912, .i32⟩
  | 18 => ⟨S2x28x16x6912, .i32⟩
  | 19 => ⟨S_, .i32⟩
  | 20 => ⟨S2x28x16x6912, .i32⟩
  | 21 => ⟨S2x28x16x6912, .i1⟩
  | 22 => ⟨S_, .i32⟩
  | 23 => ⟨S2x28x16x6912, .i32⟩
  | 24 => ⟨S2x28x16x6912, .i32⟩
  | 25 => ⟨S_, .i32⟩
  | 26 => ⟨S2x28x16x6912, .i32⟩
  | 27 => ⟨S2x28x16x6912, .i1⟩
  | 28 => ⟨S_, .i32⟩
  | 29 => ⟨S2x28x16x6912, .i32⟩
  | 30 => ⟨S2x28x16x6912, .i32⟩
  | 31 => ⟨S_, .i32⟩
  | 32 => ⟨S2x28x16x6912, .i32⟩
  | 33 => ⟨S2x28x16x6912, .i1⟩
  | 34 => ⟨S_, .i32⟩
  | 35 => ⟨S2x28x16x6912, .i32⟩
  | 36 => ⟨S2x28x16x6912, .i32⟩
  | 37 => ⟨S_, .i32⟩
  | 38 => ⟨S2x28x16x6912, .i32⟩
  | 39 => ⟨S2x28x16x6912, .i1⟩
  | 40 => ⟨S_, .f32⟩
  | 41 => ⟨S_, .f32⟩
  | 42 => ⟨S2x28x16x6912, .f32⟩
  | 43 => ⟨S2x28x16x6912, .f32⟩
  | 44 => ⟨S2x28x16x6912, .f32⟩
  | 45 => ⟨S_, .f32⟩
  | 46 => ⟨S_, .f32⟩
  | 47 => ⟨S2x28x16x6912, .f32⟩
  | 48 => ⟨S2x28x16x6912, .f32⟩
  | 49 => ⟨S2x28x16x6912, .f32⟩
  | 50 => ⟨S2x28x16x6912, .f32⟩
  | 51 => ⟨S_, .f32⟩
  | 52 => ⟨S_, .f32⟩
  | 53 => ⟨S2x28x16x6912, .f32⟩
  | 54 => ⟨S2x28x16x6912, .f32⟩
  | 55 => ⟨S2x28x16x6912, .f32⟩
  | 56 => ⟨S_, .f32⟩
  | 57 => ⟨S_, .f32⟩
  | 58 => ⟨S2x28x16x6912, .f32⟩
  | 59 => ⟨S2x28x16x6912, .f32⟩
  | 60 => ⟨S2x28x16x6912, .f32⟩
  | 61 => ⟨S2x28x16x6912, .f32⟩
  | 62 => ⟨S2x28x16x6912, .f32⟩
  | 63 => ⟨S2x28x16x6912, .f32⟩
  | 64 => ⟨S2x28x16x6912, .f32⟩
  | 65 => ⟨S2x28x16x6912, .bf16⟩
  | 66 => ⟨S2x28x16x6912, .bf16⟩
  | 67 => ⟨S2x28x16x6912, .bf16⟩
  | 68 => ⟨S2x448x6912, .bf16⟩
  | 69 => ⟨S1792x2560, .bf16⟩
  | 70 => ⟨S896x2x2560, .bf16⟩
  | 71 => ⟨S896x1x2560, .bf16⟩
  | 72 => ⟨S896x2560, .bf16⟩
  | 73 => ⟨S896x6912, .bf16⟩
  | 74 => ⟨S2560x6912, .f32⟩
  | 75 => ⟨S896x1x2560, .bf16⟩
  | 76 => ⟨S896x2560, .bf16⟩
  | 77 => ⟨S896x6912, .bf16⟩
  | 78 => ⟨S2560x6912, .f32⟩
  | 79 => ⟨S2560x6912, .f32⟩
  | 80 => ⟨S_, .f32⟩
  | 81 => ⟨S2560x6912, .f32⟩
  | 82 => ⟨S2560x6912, .f32⟩
  | 83 => ⟨S896x6912, .i8⟩
  | _ => ⟨S2560x1792, .bf16⟩

abbrev hbmTy (i : Nat) : BufTy := match i / 128 with
  | 0 => hbmTy0_0 i
  | 1 => hbmTy0_1 i
  | 2 => hbmTy0_2 i
  | _ => ⟨S2560x1792, .bf16⟩

abbrev bufTy : (tb : Table) → Fin (tcTables nBuf tb) → BufTy
  | .hbm, ⟨i, _⟩ => hbmTy i
  | _, _ => ⟨S2560x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_6 : Ref sig .tc := ⟨.hbm, 38, rfl⟩
abbrev main_v27 : Ref sig .tc := ⟨.hbm, 39, rfl⟩
abbrev main_v28 : Ref sig .tc := ⟨.hbm, 40, rfl⟩
abbrev main_c_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_8 : Ref sig .tc := ⟨.hbm, 45, rfl⟩
abbrev main_v32 : Ref sig .tc := ⟨.hbm, 46, rfl⟩
abbrev main_v33 : Ref sig .tc := ⟨.hbm, 47, rfl⟩
abbrev main_c_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_10 : Ref sig .tc := ⟨.hbm, 52, rfl⟩
abbrev main_call0_v0 : Ref sig .tc := ⟨.hbm, 53, rfl⟩
abbrev main_call0_c : Ref sig .tc := ⟨.hbm, 54, rfl⟩
abbrev main_call0_v1 : Ref sig .tc := ⟨.hbm, 55, rfl⟩
abbrev main_call0_c_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_c_1 : Ref sig .tc := ⟨.hbm, 60, rfl⟩
abbrev main_call0_v5 : Ref sig .tc := ⟨.hbm, 61, rfl⟩
abbrev main_call0_v6 : Ref sig .tc := ⟨.hbm, 62, rfl⟩
abbrev main_call0_c_2 : Ref sig .tc := ⟨.hbm, 63, rfl⟩
abbrev main_call0_v7 : Ref sig .tc := ⟨.hbm, 64, rfl⟩
abbrev main_call0_v8 : Ref sig .tc := ⟨.hbm, 65, rfl⟩
abbrev main_call0_c_3 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_v12 : Ref sig .tc := ⟨.hbm, 70, rfl⟩
abbrev main_call0_v13 : Ref sig .tc := ⟨.hbm, 71, rfl⟩
abbrev main_call0_v14 : Ref sig .tc := ⟨.hbm, 72, rfl⟩
abbrev main_v37 : Ref sig .tc := ⟨.hbm, 73, rfl⟩
abbrev main_c_11 : Ref sig .tc := ⟨.hbm, 74, rfl⟩
abbrev main_v38 : Ref sig .tc := ⟨.hbm, 75, rfl⟩
abbrev main_v39 : Ref sig .tc := ⟨.hbm, 76, rfl⟩
abbrev main_cst : Ref sig .tc := ⟨.hbm, 77, rfl⟩
abbrev main_cst_12 : Ref sig .tc := ⟨.hbm, 78, rfl⟩
abbrev main_call1_v0 : Ref sig .tc := ⟨.hbm, 79, rfl⟩
abbrev main_call1_v1 : Ref sig .tc := ⟨.hbm, 80, rfl⟩
abbrev main_v40 : Ref sig .tc := ⟨.hbm, 81, rfl⟩
abbrev main_v41 : Ref sig .tc := ⟨.hbm, 82, rfl⟩
abbrev main_cst_13 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_cst_14 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_cst_15 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_cst_16 : Ref sig .tc := ⟨.hbm, 99, rfl⟩
abbrev main_v55 : Ref sig .tc := ⟨.hbm, 100, rfl⟩
abbrev main_v56 : Ref sig .tc := ⟨.hbm, 101, rfl⟩
abbrev main_cst_17 : Ref sig .tc := ⟨.hbm, 102, rfl⟩
abbrev main_v57 : Ref sig .tc := ⟨.hbm, 103, rfl⟩
abbrev main_v58 : Ref sig .tc := ⟨.hbm, 104, rfl⟩
abbrev main_cst_18 : Ref sig .tc := ⟨.hbm, 105, rfl⟩
abbrev main_v59 : Ref sig .tc := ⟨.hbm, 106, rfl⟩
abbrev main_v60 : Ref sig .tc := ⟨.hbm, 107, rfl⟩
abbrev main_cst_19 : Ref sig .tc := ⟨.hbm, 108, rfl⟩
abbrev main_call2_v0 : Ref sig .tc := ⟨.hbm, 109, rfl⟩
abbrev main_call2_v1 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_cst_20 : Ref sig .tc := ⟨.hbm, 115, rfl⟩
abbrev main_v65 : Ref sig .tc := ⟨.hbm, 116, rfl⟩
abbrev main_v66 : Ref sig .tc := ⟨.hbm, 117, rfl⟩
abbrev main_cst_21 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_cst_22 : Ref sig .tc := ⟨.hbm, 124, rfl⟩
abbrev main_v72 : Ref sig .tc := ⟨.hbm, 125, rfl⟩
abbrev main_v73 : Ref sig .tc := ⟨.hbm, 126, rfl⟩
abbrev main_cst_23 : Ref sig .tc := ⟨.hbm, 127, rfl⟩
abbrev main_v74 : Ref sig .tc := ⟨.hbm, 128, rfl⟩
abbrev main_v75 : Ref sig .tc := ⟨.hbm, 129, rfl⟩
abbrev main_cst_24 : Ref sig .tc := ⟨.hbm, 130, rfl⟩
abbrev main_cst_25 : Ref sig .tc := ⟨.hbm, 131, rfl⟩
abbrev main_call3_v0 : Ref sig .tc := ⟨.hbm, 132, rfl⟩
abbrev main_call3_v1 : Ref sig .tc := ⟨.hbm, 133, rfl⟩
abbrev main_v76 : Ref sig .tc := ⟨.hbm, 134, rfl⟩
abbrev main_cst_26 : Ref sig .tc := ⟨.hbm, 135, rfl⟩
abbrev main_call4_v0 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_cst_27 : Ref sig .tc := ⟨.hbm, 145, rfl⟩
abbrev main_v85 : Ref sig .tc := ⟨.hbm, 146, rfl⟩
abbrev main_v86 : Ref sig .tc := ⟨.hbm, 147, rfl⟩
abbrev main_cst_28 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_cst_29 : Ref sig .tc := ⟨.hbm, 155, rfl⟩
abbrev main_v93 : Ref sig .tc := ⟨.hbm, 156, rfl⟩
abbrev main_v94 : Ref sig .tc := ⟨.hbm, 157, rfl⟩
abbrev main_cst_30 : Ref sig .tc := ⟨.hbm, 158, rfl⟩
abbrev main_v95 : Ref sig .tc := ⟨.hbm, 159, rfl⟩
abbrev main_v96 : Ref sig .tc := ⟨.hbm, 160, rfl⟩
abbrev main_cst_31 : Ref sig .tc := ⟨.hbm, 161, rfl⟩
abbrev main_v97 : Ref sig .tc := ⟨.hbm, 162, rfl⟩
abbrev main_v98 : Ref sig .tc := ⟨.hbm, 163, rfl⟩
abbrev main_cst_32 : Ref sig .tc := ⟨.hbm, 164, rfl⟩
abbrev main_v99 : Ref sig .tc := ⟨.hbm, 165, rfl⟩
abbrev main_v100 : Ref sig .tc := ⟨.hbm, 166, rfl⟩
abbrev main_cst_33 : Ref sig .tc := ⟨.hbm, 167, rfl⟩
abbrev main_v101 : Ref sig .tc := ⟨.hbm, 168, rfl⟩
abbrev main_v102 : Ref sig .tc := ⟨.hbm, 169, rfl⟩
abbrev main_cst_34 : Ref sig .tc := ⟨.hbm, 170, rfl⟩
abbrev main_cst_35 : Ref sig .tc := ⟨.hbm, 171, rfl⟩
abbrev main_call5_v0 : Ref sig .tc := ⟨.hbm, 172, rfl⟩
abbrev main_call5_v1 : Ref sig .tc := ⟨.hbm, 173, rfl⟩
abbrev main_v103 : Ref sig .tc := ⟨.hbm, 174, rfl⟩
abbrev main_call6_v0 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_cst_36 : Ref sig .tc := ⟨.hbm, 179, rfl⟩
abbrev main_v107 : Ref sig .tc := ⟨.hbm, 180, rfl⟩
abbrev main_v108 : Ref sig .tc := ⟨.hbm, 181, rfl⟩
abbrev main_c_37 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_c_38 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_c_39 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_cst_40 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_c_41 : Ref sig .tc := ⟨.hbm, 213, rfl⟩
abbrev main_v136 : Ref sig .tc := ⟨.hbm, 214, rfl⟩
abbrev main_v137 : Ref sig .tc := ⟨.hbm, 215, rfl⟩
abbrev main_c_42 : Ref sig .tc := ⟨.hbm, 216, rfl⟩
abbrev main_v138 : Ref sig .tc := ⟨.hbm, 217, rfl⟩
abbrev main_v139 : Ref sig .tc := ⟨.hbm, 218, rfl⟩
abbrev main_c_43 : Ref sig .tc := ⟨.hbm, 219, rfl⟩
abbrev main_v140 : Ref sig .tc := ⟨.hbm, 220, rfl⟩
abbrev main_v141 : Ref sig .tc := ⟨.hbm, 221, rfl⟩
abbrev main_c_44 : Ref sig .tc := ⟨.hbm, 222, rfl⟩
abbrev main_v142 : Ref sig .tc := ⟨.hbm, 223, rfl⟩
abbrev main_v143 : Ref sig .tc := ⟨.hbm, 224, rfl⟩
abbrev main_c_45 : Ref sig .tc := ⟨.hbm, 225, rfl⟩
abbrev main_v144 : Ref sig .tc := ⟨.hbm, 226, rfl⟩
abbrev main_v145 : Ref sig .tc := ⟨.hbm, 227, rfl⟩
abbrev main_c_46 : Ref sig .tc := ⟨.hbm, 228, rfl⟩
abbrev main_v146 : Ref sig .tc := ⟨.hbm, 229, rfl⟩
abbrev main_v147 : Ref sig .tc := ⟨.hbm, 230, rfl⟩
abbrev main_c_47 : Ref sig .tc := ⟨.hbm, 231, rfl⟩
abbrev main_v148 : Ref sig .tc := ⟨.hbm, 232, rfl⟩
abbrev main_v149 : Ref sig .tc := ⟨.hbm, 233, rfl⟩
abbrev main_c_48 : Ref sig .tc := ⟨.hbm, 234, rfl⟩
abbrev main_v150 : Ref sig .tc := ⟨.hbm, 235, rfl⟩
abbrev main_v151 : Ref sig .tc := ⟨.hbm, 236, rfl⟩
abbrev main_c_49 : Ref sig .tc := ⟨.hbm, 237, rfl⟩
abbrev main_v152 : Ref sig .tc := ⟨.hbm, 238, rfl⟩
abbrev main_v153 : Ref sig .tc := ⟨.hbm, 239, rfl⟩
abbrev main_cst_50 : Ref sig .tc := ⟨.hbm, 240, rfl⟩
abbrev main_cst_51 : Ref sig .tc := ⟨.hbm, 241, rfl⟩
abbrev main_call8_v0 : Ref sig .tc := ⟨.hbm, 242, rfl⟩
abbrev main_call8_v1 : Ref sig .tc := ⟨.hbm, 243, rfl⟩
abbrev main_v154 : Ref sig .tc := ⟨.hbm, 244, rfl⟩
abbrev main_cst_52 : Ref sig .tc := ⟨.hbm, 245, rfl⟩
abbrev main_cst_53 : Ref sig .tc := ⟨.hbm, 246, rfl⟩
abbrev main_call9_v0 : Ref sig .tc := ⟨.hbm, 247, rfl⟩
abbrev main_call9_v1 : Ref sig .tc := ⟨.hbm, 248, rfl⟩
abbrev main_v155 : Ref sig .tc := ⟨.hbm, 249, rfl⟩
abbrev main_v156 : Ref sig .tc := ⟨.hbm, 250, rfl⟩
abbrev main_cst_54 : Ref sig .tc := ⟨.hbm, 251, rfl⟩
abbrev main_cst_55 : Ref sig .tc := ⟨.hbm, 252, rfl⟩
abbrev main_call11_v0 : Ref sig .tc := ⟨.hbm, 253, rfl⟩
abbrev main_call11_v1 : Ref sig .tc := ⟨.hbm, 254, rfl⟩
abbrev main_v157 : Ref sig .tc := ⟨.hbm, 255, rfl⟩
abbrev main_cst_56 : Ref sig .tc := ⟨.hbm, 256, rfl⟩
abbrev main_cst_57 : Ref sig .tc := ⟨.hbm, 257, rfl⟩
abbrev main_call12_v0 : Ref sig .tc := ⟨.hbm, 258, rfl⟩
abbrev main_call12_v1 : Ref sig .tc := ⟨.hbm, 259, rfl⟩
abbrev main_v158 : Ref sig .tc := ⟨.hbm, 260, rfl⟩
abbrev main_v159 : Ref sig .tc := ⟨.hbm, 261, rfl⟩
abbrev main_v160 : Ref sig .tc := ⟨.hbm, 262, rfl⟩
abbrev main_v161 : Ref sig .tc := ⟨.hbm, 263, rfl⟩
abbrev main_v162 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_v166 : Ref sig .tc := ⟨.hbm, 268, rfl⟩
abbrev main_c_58 : Ref sig .tc := ⟨.hbm, 269, rfl⟩
abbrev main_v167 : Ref sig .tc := ⟨.hbm, 270, rfl⟩
abbrev main_v168 : Ref sig .tc := ⟨.hbm, 271, rfl⟩
abbrev main_c_59 : Ref sig .tc := ⟨.hbm, 272, rfl⟩
abbrev main_v169 : Ref sig .tc := ⟨.hbm, 273, rfl⟩
abbrev main_v170 : Ref sig .tc := ⟨.hbm, 274, rfl⟩
abbrev main_c_60 : Ref sig .tc := ⟨.hbm, 275, rfl⟩
abbrev main_v171 : Ref sig .tc := ⟨.hbm, 276, rfl⟩
abbrev main_v172 : Ref sig .tc := ⟨.hbm, 277, rfl⟩
abbrev main_c_61 : Ref sig .tc := ⟨.hbm, 278, rfl⟩
abbrev main_v173 : Ref sig .tc := ⟨.hbm, 279, rfl⟩
abbrev main_v174 : Ref sig .tc := ⟨.hbm, 280, rfl⟩
abbrev main_c_62 : Ref sig .tc := ⟨.hbm, 281, rfl⟩
abbrev main_v175 : Ref sig .tc := ⟨.hbm, 282, rfl⟩
abbrev main_v176 : Ref sig .tc := ⟨.hbm, 283, rfl⟩
abbrev main_c_63 : Ref sig .tc := ⟨.hbm, 284, rfl⟩
abbrev main_v177 : Ref sig .tc := ⟨.hbm, 285, rfl⟩
abbrev main_v178 : Ref sig .tc := ⟨.hbm, 286, rfl⟩
abbrev main_c_64 : Ref sig .tc := ⟨.hbm, 287, rfl⟩
abbrev main_v179 : Ref sig .tc := ⟨.hbm, 288, rfl⟩
abbrev main_v180 : Ref sig .tc := ⟨.hbm, 289, rfl⟩
abbrev main_c_65 : Ref sig .tc := ⟨.hbm, 290, rfl⟩
abbrev main_v181 : Ref sig .tc := ⟨.hbm, 291, rfl⟩
abbrev main_v182 : Ref sig .tc := ⟨.hbm, 292, rfl⟩
abbrev main_c_66 : Ref sig .tc := ⟨.hbm, 293, rfl⟩
abbrev main_v183 : Ref sig .tc := ⟨.hbm, 294, rfl⟩
abbrev main_v184 : Ref sig .tc := ⟨.hbm, 295, rfl⟩
abbrev main_cst_67 : Ref sig .tc := ⟨.hbm, 296, rfl⟩
abbrev main_cst_68 : Ref sig .tc := ⟨.hbm, 297, rfl⟩
abbrev main_call16_v0 : Ref sig .tc := ⟨.hbm, 298, rfl⟩
abbrev main_call16_v1 : Ref sig .tc := ⟨.hbm, 299, rfl⟩
abbrev main_v185 : Ref sig .tc := ⟨.hbm, 300, rfl⟩
abbrev main_cst_69 : Ref sig .tc := ⟨.hbm, 301, rfl⟩
abbrev main_cst_70 : Ref sig .tc := ⟨.hbm, 302, rfl⟩
abbrev main_call17_v0 : Ref sig .tc := ⟨.hbm, 303, rfl⟩
abbrev main_call17_v1 : Ref sig .tc := ⟨.hbm, 304, rfl⟩
abbrev main_v186 : Ref sig .tc := ⟨.hbm, 305, rfl⟩
abbrev main_v187 : Ref sig .tc := ⟨.hbm, 306, rfl⟩
abbrev main_cst_71 : Ref sig .tc := ⟨.hbm, 307, rfl⟩
abbrev main_cst_72 : Ref sig .tc := ⟨.hbm, 308, rfl⟩
abbrev main_call19_v0 : Ref sig .tc := ⟨.hbm, 309, rfl⟩
abbrev main_call19_v1 : Ref sig .tc := ⟨.hbm, 310, rfl⟩
abbrev main_v188 : Ref sig .tc := ⟨.hbm, 311, rfl⟩
abbrev main_cst_73 : Ref sig .tc := ⟨.hbm, 312, rfl⟩
abbrev main_cst_74 : Ref sig .tc := ⟨.hbm, 313, rfl⟩
abbrev main_call20_v0 : Ref sig .tc := ⟨.hbm, 314, rfl⟩
abbrev main_call20_v1 : Ref sig .tc := ⟨.hbm, 315, rfl⟩
abbrev main_v189 : Ref sig .tc := ⟨.hbm, 316, rfl⟩
abbrev main_v190 : Ref sig .tc := ⟨.hbm, 317, rfl⟩
abbrev main_v191 : Ref sig .tc := ⟨.hbm, 318, rfl⟩
abbrev main_v192 : Ref sig .tc := ⟨.hbm, 319, rfl⟩
abbrev main_v193 : Ref sig .tc := ⟨.hbm, 320, rfl⟩
abbrev main_v194 : Ref sig .tc := ⟨.hbm, 321, rfl⟩
abbrev main_v195 : Ref sig .tc := ⟨.hbm, 322, rfl⟩
abbrev main_v196 : Ref sig .tc := ⟨.hbm, 323, rfl⟩
abbrev main_v197 : Ref sig .tc := ⟨.hbm, 324, rfl⟩
abbrev main_v198 : Ref sig .tc := ⟨.hbm, 325, rfl⟩
abbrev main_v199 : Ref sig .tc := ⟨.hbm, 326, rfl⟩
abbrev main_v200 : Ref sig .tc := ⟨.hbm, 327, rfl⟩
abbrev main_v201 : Ref sig .tc := ⟨.hbm, 328, rfl⟩
abbrev main_v202 : Ref sig .tc := ⟨.hbm, 329, rfl⟩
abbrev main_v203 : Ref sig .tc := ⟨.hbm, 330, rfl⟩
abbrev main_v204 : Ref sig .tc := ⟨.hbm, 331, rfl⟩
abbrev main_v205 : Ref sig .tc := ⟨.hbm, 332, rfl⟩
abbrev main_v206 : Ref sig .tc := ⟨.hbm, 333, rfl⟩
abbrev main_v207 : Ref sig .tc := ⟨.hbm, 334, rfl⟩
abbrev main_v208 : Ref sig .tc := ⟨.hbm, 335, rfl⟩
abbrev main_cst_75 : Ref sig .tc := ⟨.hbm, 336, rfl⟩
abbrev main_v209 : Ref sig .tc := ⟨.hbm, 337, rfl⟩
abbrev main_v210 : Ref sig .tc := ⟨.hbm, 338, rfl⟩
abbrev main_v211 : Ref sig .tc := ⟨.hbm, 339, rfl⟩

abbrev nD : Nat := 1
abbrev τ : Topo := Topo.v7x

variable {F : FTy → Type} [FloatOps F]
-- ==== Proof.Block.lean ====
module

public import proofs.«01_k».proof.Proof.Gen.KernelIdeal.Value

/-! # One row block of the kernel body

The body treats its 1792 rows of `dy` in seven blocks of 256 rows, and the 2560 rows of the weights in ten
blocks of 256 rows. Every block runs the same operations, unrolled. This module names that sequence once, stage by stage, as
functions of the loaded values, so that the payloads of all blocks are instances of the same functions. -/

@[expose] public section

noncomputable section

namespace Cert.KernelIdeal.Block

open Cert.KernelIdeal Cert.KernelIdeal.Gen Idealize.ShloMosaic Idealize.SL.Sem

variable {F : FTy → Type} [FloatOps F]

/-- One step of the search for the exponent field: add `b` to `k` when `x` reaches the power of two with field `k + b`. -/
def expStep (x : FVec F S256x128 .f32) (b : BitVec 32) (k : IVec S256x128 32) : IVec S256x128 32 :=
  select (cmpf .oge x (bitcastToFloat .f32 (shli (addi k (broadcast S256x128 b)) (broadcast S256x128 23#32))))
    (addi k (broadcast S256x128 b)) k

/-- The search: the exponent field of `x` as a number. -/
def expNum (x : FVec F S256x128 .f32) : IVec S256x128 32 :=
  expStep x 1#32 <| expStep x 2#32 <| expStep x 4#32 <| expStep x 8#32 <| expStep x 16#32 <| expStep x 32#32 <|
    expStep x 64#32 <| expStep x 128#32 <| broadcast S256x128 0#32

/-- The exponent field of `x` in place. -/
def expBits (x : FVec F S256x128 .f32) : IVec S256x128 32 := shli (expNum x) (broadcast S256x128 23#32)

/-- The bits of `x`: the exponent field and the mantissa, rounded up to an integer. -/
def bitsOf (x : FVec F S256x128 .f32) : IVec S256x128 32 :=
  addi (expBits x) (fptosi 32 (ceil (mulf (subf (mulf x (bitcastToFloat .f32 (subi (broadcast S256x128 2130706432#32) (expBits x))))
    (broadcast S256x128 (Scalar.ofBits .f32 0x3F800000#32))) (broadcast S256x128 (Scalar.ofBits .f32 0x4B000000#32)))))

/-- The multiplier of a group with exponent field `eb`. -/
def multOf (eb : IVec S256x128 32) : FVec F S256x128 .f32 :=
  mulf (mulf (bitcastToFloat .f32 (subi (broadcast S256x128 2147483648#32) (maxsi eb (broadcast S256x128 16777216#32))))
    (broadcast S256x128 (Scalar.ofBits .f32 0x3FB504F3#32))) (broadcast S256x128 (Scalar.ofBits .f32 0x3F400000#32))

/-- The scale exponent of a group. -/
def expOf (eb : IVec S256x128 32) : IVec S256x128 32 :=
  select (cmpi .eq eb (broadcast S256x128 0#32)) (broadcast S256x128 0#32)
    (subi (shrsi eb (broadcast S256x128 23#32)) (broadcast S256x128 129#32))

/-- The scale of a group. -/
def scaleOf (eb : IVec S256x128 32) : FVec F S256x128 .bf16 :=
  truncf .bf16 (bitcastToFloat .f32 (maxsi (subi eb (broadcast S256x128 16777216#32)) (broadcast S256x128 0#32))) bitsLt_bf16_f32

/-- The value whose bits carry the code: `m + max m 1` for `m = |v * mult|`. -/
def gOf (v mult : FVec F S256x128 .f32) : FVec F S256x128 .f32 :=
  addf (absf (mulf v mult)) (maximumf (absf (mulf v mult)) (broadcast S256x128 (Scalar.ofBits .f32 0x3F800000#32)))

/-- The four-bit codes before minus zero is removed. -/
def rawCode (v mult : FVec F S256x128 .f32) (r : IVec S256x128 32) : IVec S256x128 32 :=
  shrui (subi (addi (bitsOf (gOf v mult)) (select (cmpf .olt v (broadcast S256x128 (Scalar.ofBits .f32 0x00000000#32)))
    (broadcast S256x128 3267354623#32) (broadcast S256x128 3233800191#32))) (shli r (broadcast S256x128 14#32)))
    (broadcast S256x128 22#32)

/-- The four-bit codes. -/
def codeOf (v mult : FVec F S256x128 .f32) (r : IVec S256x128 32) : IVec S256x128 32 :=
  select (cmpi .eq (rawCode v mult r) (broadcast S256x128 8#32)) (broadcast S256x128 0#32) (rawCode v mult r)

/-- The magnitude of a code, doubled, as an integer. -/
def magOf (c : IVec S256x128 32) : IVec S256x128 32 :=
  select (cmpi .slt (andi c (broadcast S256x128 7#32)) (broadcast S256x128 2#32)) (andi c (broadcast S256x128 7#32))
    (shli (addi (broadcast S256x128 2#32) (andi (andi c (broadcast S256x128 7#32)) (broadcast S256x128 1#32)))
      (subi (shrsi (andi c (broadcast S256x128 7#32)) (broadcast S256x128 1#32)) (broadcast S256x128 1#32)))

/-- The value of a code. -/
def decode (c : IVec S256x128 32) : FVec F S256x128 .bf16 :=
  truncf .bf16 (select (cmpi .slt c (broadcast S256x128 8#32))
    (mulf (sitofp .f32 (magOf c)) (broadcast S256x128 (Scalar.ofBits .f32 0x3F000000#32)))
    (subf (broadcast S256x128 (Scalar.ofBits .f32 0x00000000#32))
      (mulf (sitofp .f32 (magOf c)) (broadcast S256x128 (Scalar.ofBits .f32 0x3F000000#32))))) bitsLt_bf16_f32

/-- One step of the maximum over 16 lanes: with the lane whose number differs in one bit. -/
def maxStep (up dn sh : BitVec 32) (a : FVec F S256x128 .f32) : FVec F S256x128 .f32 :=
  maximumf a (select (cmpi .eq (andi (iota .tc S256x128 32 [1] iota_S256x128_d1_w32) (broadcast S256x128 sh)) (broadcast S256x128 0#32))
    (dynamicRotate 1 up none a rotates_S256x128_d1) (dynamicRotate 1 dn none a rotates_S256x128_d1))

/-- The maximum over each group of 16 lanes, in every lane of the group. -/
def laneMax (a : FVec F S256x128 .f32) : FVec F S256x128 .f32 :=
  maxStep 127#32 1#32 1#32 <| maxStep 126#32 2#32 2#32 <| maxStep 124#32 4#32 4#32 <| maxStep 120#32 8#32 8#32 a

/-- The rotated rows. -/
def rotated (x : FVec F S256x256 .bf16) (rot : FVec F S1x256x256 .bf16) : FVec F S256x256 .f32 :=
  matmul dot_S256x256_S256x256_S256x256_1_0_0_1_n_n none (shapeCast S256x256 x shapeCasts_S256x256_S256x256)
    (shapeCast S256x256 rot shapeCasts_S1x256x256_S256x256) (constant S256x256 .f32 0x00000000#32)

/-- The random bytes, brought into the order of the rotated columns. -/
def permuted (r : IVec S256x256 8) (perm : FVec F S256x256 .bf16) : IVec S256x256 32 :=
  fptosi 32 (matmul dot_S256x256_S256x256_S256x256_1_0_0_1_n_n none
    (truncf .bf16 (sitofp (F := F) .f32 (extui 32 (shapeCast S256x256 r shapeCasts_S256x256_S256x256) natLt_8_32)) bitsLt_bf16_f32)
    (shapeCast S256x256 perm shapeCasts_S256x256_S256x256) (constant S256x256 .f32 0x00000000#32))

/-- The left and the right half of the columns. -/
def left {α : Type} (v : (S256x256.Idx → α)) : (S256x128.Idx → α) := extractStridedSlice S256x128 ![0, 0] v slices_S256x256_o0_0_S256x128
@[inherit_doc left]
def right {α : Type} (v : (S256x256.Idx → α)) : (S256x128.Idx → α) := extractStridedSlice S256x128 ![0, 128] v slices_S256x256_o0_128_S256x128

/-- The exponent field of each group's largest magnitude. -/
def groupExp (v : FVec F S256x256 .f32) : IVec S256x128 32 :=
  expBits (laneMax (mulf (maximumf (absf (F := F) (left v)) (absf (right v))) (broadcast S256x128 (Scalar.ofBits .f32 0x3FB504F3#32))))

/-- The codes of the even columns. -/
def codesA (v : FVec F S256x256 .f32) (r : IVec S256x256 32) : IVec S256x128 32 :=
  codeOf (F := F) (left v) (multOf (groupExp v)) (left r)

/-- The codes of the odd columns. -/
def codesB (v : FVec F S256x256 .f32) (r : IVec S256x256 32) : IVec S256x128 32 :=
  codeOf (F := F) (right v) (multOf (groupExp v)) (right r)

/-- What a row block stores as codes: two to the byte. -/
def packed (x : FVec F S256x256 .bf16) (rot : FVec F S1x256x256 .bf16) (r : IVec S256x256 8) (perm : FVec F S256x256 .bf16) : IVec S256x128 8 :=
  trunci 8 (ori (codesA (rotated x rot) (permuted r perm)) (shli (codesB (rotated x rot) (permuted r perm)) (broadcast S256x128 4#32))) natLt_8_32

/-- What a row block stores as scale exponents. -/
def exps (x : FVec F S256x256 .bf16) (rot : FVec F S1x256x256 .bf16) : IVec S256x128 8 :=
  trunci 8 (expOf (groupExp (rotated x rot))) natLt_8_32

/-- What a row block stores as decoded even columns. -/
def decodedA (x : FVec F S256x256 .bf16) (rot : FVec F S1x256x256 .bf16) (r : IVec S256x256 8) (perm : FVec F S256x256 .bf16) : FVec F S256x128 .bf16 :=
  shapeCast S256x128 (mulf (decode (codesA (rotated x rot) (permuted r perm))) (scaleOf (groupExp (rotated x rot)))) shapeCasts_S256x128_S256x128

/-- What a row block stores as decoded odd columns. -/
def decodedB (x : FVec F S256x256 .bf16) (rot : FVec F S1x256x256 .bf16) (r : IVec S256x256 8) (perm : FVec F S256x256 .bf16) : FVec F S256x128 .bf16 :=
  shapeCast S256x128 (mulf (decode (codesB (rotated x rot) (permuted r perm))) (scaleOf (groupExp (rotated x rot)))) shapeCasts_S256x128_S256x128

/-- What a weight block stores as decoded low nibbles. -/
def weightA (c : IVec S256x128 8) (s : FVec F S1x256x128 .bf16) : FVec F S256x128 .bf16 :=
  shapeCast S256x128 (mulf (decode (andi (extui 32 c natLt_8_32) (broadcast S256x128 15#32))) (shapeCast S256x128 s shapeCasts_S1x256x128_S256x128)) shapeCasts_S256x128_S256x128

/-- What a weight block stores as decoded high nibbles. -/
def weightB (c : IVec S256x128 8) (s : FVec F S1x256x128 .bf16) : FVec F S256x128 .bf16 :=
  shapeCast S256x128 (mulf (decode (shrsi (extui 32 c natLt_8_32) (broadcast S256x128 4#32))) (shapeCast S256x128 s shapeCasts_S1x256x128_S256x128)) shapeCasts_S256x128_S256x128

end Cert.KernelIdeal.Block
-- ==== Proof.Spec.lean ====
module

public import Idealize.ShloMosaic.PureOps.Ideal
public import Mathlib.Analysis.SpecialFunctions.Log.Basic

/-! # The quantiser over the reals

What one group of 32 numbers becomes: an exponent `expo`, taken from the largest magnitude, and one four-bit code for each
number by stochastic rounding on the grid `0, ½, 1, 1½, 2, 3, 4, 6`. The grid is straightened by `level`, which
sends the grid points to `0 … 7`; a magnitude is then rounded down or up according to the fractional part of its level. -/

@[expose] public section

noncomputable section

namespace Cert.Spec

/-- The square root of two, as both programs write it: the value of a single-precision word. -/
def root2 : ℝ := 11863283 / 8388608

theorem root2_pos : 0 < root2 := by norm_num [root2]

/-- The position of a magnitude on the grid. -/
def level (m : ℝ) : ℝ := if m < 2 then 2 * m else if m < 4 then m + 2 else m / 2 + 4

/-- The rounded position: up when the random byte's midpoint lies under the fractional part. -/
def mag (m : ℝ) (r : ℕ) : ℤ := ⌊level m⌋ + if ((r : ℝ) + 1 / 2) / 256 < Int.fract (level m) then 1 else 0

/-- The code: the rounded position, and 8 more for a negative number that does not round to zero. -/
def code (y : ℝ) (r : ℕ) : ℤ := mag |y| r + if y < 0 ∧ 0 < mag |y| r then 8 else 0

/-- The integer part of the binary logarithm. -/
def lg (a : ℝ) : ℤ := ⌊Real.log a / Real.log 2⌋

/-- The exponent of a group with largest magnitude `a`. -/
def expo (a : ℝ) : ℤ := if a = 0 then 0 else lg a - 2

/-- Twice the magnitude of a code. -/
def grid2 : ℕ → ℤ
  | 0 => 0 | 1 => 1 | 2 => 2 | 3 => 3 | 4 => 4 | 5 => 6 | 6 => 8 | _ => 12

/-- The number a four-bit code stands for. -/
def e2m1 (n : ℕ) : ℝ := if n < 8 then (grid2 (n % 8) : ℝ) / 2 else -((grid2 (n % 8) : ℝ) / 2)

theorem level_nonneg {m : ℝ} (h : 0 ≤ m) : 0 ≤ level m := by
  unfold level; split_ifs <;> linarith

theorem level_lt {m : ℝ} (h6 : m < 6) : level m < 7 := by
  unfold level; split_ifs <;> linarith

theorem mag_nonneg {m : ℝ} (h : 0 ≤ m) (r : ℕ) : 0 ≤ mag m r := by
  have : 0 ≤ ⌊level m⌋ := Int.floor_nonneg.2 (level_nonneg h)
  unfold mag; split_ifs <;> omega

theorem mag_le {m : ℝ} (h6 : m < 6) (r : ℕ) : mag m r ≤ 7 := by
  have : ⌊level m⌋ < 7 := Int.floor_lt.2 (by exact_mod_cast level_lt h6)
  unfold mag; split_ifs <;> omega

theorem code_nonneg (y : ℝ) (r : ℕ) : 0 ≤ code y r := by
  have := mag_nonneg (abs_nonneg y) r
  unfold code; split_ifs <;> omega

theorem code_lt {y : ℝ} (h6 : |y| < 6) (r : ℕ) : code y r < 16 := by
  have := mag_le h6 r
  unfold code; split_ifs <;> omega

/-- The rounding by an integer sum: the level in units of `2⁻²²`, rounded up, plus the complement of the random byte
    shifted to the top of the fraction, divided by `2²²`. -/
theorem mag_eq_div (m : ℝ) (r : ℕ) (hr : r ≤ 255) :
    (⌈level m * 4194304⌉ + ((255 - r) * 16384 + 8191)) / 4194304 = mag m r := by
  unfold mag
  generalize level m = l
  have hl : l * 4194304 = Int.fract l * 4194304 + ((⌊l⌋ * 4194304 : ℤ) : ℝ) := by
    have := Int.floor_add_fract l
    push_cast; linear_combination -4194304 * this
  have hc : ⌈l * 4194304⌉ = ⌈Int.fract l * 4194304⌉ + ⌊l⌋ * 4194304 := by rw [hl, Int.ceil_add_intCast]
  have h0 : 0 ≤ ⌈Int.fract l * 4194304⌉ := Int.ceil_nonneg (by have := Int.fract_nonneg l; positivity)
  have h1 : ⌈Int.fract l * 4194304⌉ ≤ 4194304 := Int.ceil_le.2 (by have := (Int.fract_lt_one l).le; push_cast; linarith)
  have hr' : (r : ℤ) ≤ 255 := by exact_mod_cast hr
  rw [hc]
  split_ifs with h
  · have : (r : ℤ) * 16384 + 8192 < ⌈Int.fract l * 4194304⌉ := Int.lt_ceil.2 (by push_cast; linarith)
    omega
  · have : ⌈Int.fract l * 4194304⌉ ≤ (r : ℤ) * 16384 + 8192 := Int.ceil_le.2 (by push_cast; linarith)
    omega

/-- A power of two lies under `a` exactly when its exponent does not exceed the binary logarithm's integer part. -/
theorem zpow_le_iff {a : ℝ} (h : 0 < a) (n : ℤ) : (2 : ℝ) ^ n ≤ a ↔ n ≤ lg a := by
  unfold lg
  rw [Int.le_floor, le_div_iff₀ (Real.log_pos one_lt_two), ← Real.log_zpow, Real.log_le_log_iff (by positivity) h]

theorem zpow_lg_le {a : ℝ} (h : 0 < a) : (2 : ℝ) ^ lg a ≤ a := (zpow_le_iff h _).2 le_rfl

theorem lt_zpow_lg {a : ℝ} (h : 0 < a) : a < (2 : ℝ) ^ (lg a + 1) := by
  by_contra h'
  have := (zpow_le_iff h _).1 (not_lt.1 h')
  omega

theorem lg_eq {a : ℝ} (n : ℤ) (h : (2 : ℝ) ^ n ≤ a) (h' : a < (2 : ℝ) ^ (n + 1)) : lg a = n := by
  have h0 : 0 < a := lt_of_lt_of_le (by positivity) h
  have h1 := (zpow_le_iff h0 n).1 h
  have h2 : ¬ (n + 1 ≤ lg a) := fun hc => absurd ((zpow_le_iff h0 _).2 hc) (not_le.2 h')
  omega

/-- The scaled magnitudes of a group stay under six. -/
theorem scaled_lt {a v : ℝ} (hv : |v| ≤ a) : |v * (3 / 4 * (2 : ℝ) ^ (-expo a))| < 6 := by
  have h0 : 0 ≤ a := (abs_nonneg v).trans hv
  unfold expo
  split_ifs with h
  · have : v = 0 := by rw [h] at hv; exact abs_nonpos_iff.1 hv
    simp [this]
  · have ha : 0 < a := lt_of_le_of_ne h0 (Ne.symm h)
    have h1 : a < (2 : ℝ) ^ (lg a + 1) := lt_zpow_lg ha
    have hp : 0 < (2 : ℝ) ^ (-(lg a - 2)) := by positivity
    rw [abs_mul, abs_of_pos (by positivity : 0 < 3 / 4 * (2 : ℝ) ^ (-(lg a - 2)))]
    have h2 : |v| < (2 : ℝ) ^ (lg a + 1) := hv.trans_lt h1
    have h3 : (2 : ℝ) ^ (lg a + 1) * (2 : ℝ) ^ (-(lg a - 2)) = 8 := by
      rw [← zpow_add₀ (by norm_num)]
      have : lg a + 1 + -(lg a - 2) = 3 := by ring
      rw [this]; norm_num
    nlinarith

end Cert.Spec

end
-- ==== Proof.Scalars.lean ====
module

public import proofs.«01_k».proof.Proof.Block
public import proofs.«01_k».proof.Proof.Spec
public import Idealize.ShloMosaic.Lib.ValueIdx

/-! # The kernel's integer and exponent arithmetic over the reals

Each stage of a row block, read at one lane: the search finds the exponent field, the multiplier and the scale are powers
of two, and the code is the quantiser's. -/

@[expose] public section

noncomputable section

namespace Cert.KernelIdeal.Scalars

open Cert.KernelIdeal Cert.KernelIdeal.Block Cert.Spec Idealize.ShloMosaic

/-- The word with exponent field `n` and no mantissa. -/
def word (n : ℕ) : BitVec 32 := BitVec.ofNat 32 n <<< (23 : ℕ)

theorem word_hex : ∀ n : Fin 256, ((word n.val).extractLsb' 23 8).toNat = n.val := by decide +kernel
theorem word_hfr : ∀ n : Fin 256, ((word n.val).extractLsb' 0 23).toNat = 0 := by decide +kernel
theorem word_hsg : ∀ n : Fin 256, (word n.val).extractLsb' 31 1 = 0#1 := by decide +kernel

theorem ieee_pow (w : BitVec 32) (n : ℕ) (h1 : 1 ≤ n) (h2 : n ≤ 254) (hex : (w.extractLsb' 23 8).toNat = n)
    (hfr : (w.extractLsb' 0 23).toNat = 0) (hsg : w.extractLsb' 31 1 = 0#1) :
    Ideal.ofBits .f32 w = (((2 : ℝ) ^ ((n : ℤ) - 127) : ℝ) : EReal) := by
  simp only [Ideal.ofBits, Ideal.ieee, hex, hfr, hsg]
  rw [if_neg (by omega), if_neg (by omega)]
  congr 1
  have e : ((n : ℤ) - 127) = 23 + ((n : ℤ) - (2 ^ (8 - 1) - 1) - (23 : ℕ)) := by norm_num
  rw [e, zpow_add₀ (by norm_num)]
  norm_num

/-- It is a power of two. -/
theorem ofBits_pow (n : ℕ) (h1 : 1 ≤ n) (h2 : n ≤ 254) :
    Ideal.ofBits .f32 (word n) = (((2 : ℝ) ^ ((n : ℤ) - 127) : ℝ) : EReal) :=
  ieee_pow _ n h1 h2 (word_hex ⟨n, by omega⟩) (word_hfr ⟨n, by omega⟩) (word_hsg ⟨n, by omega⟩)

theorem ofBits_zero : Ideal.ofBits .f32 (0#32) = ((0 : ℝ) : EReal) := by simp [Ideal.ofBits, Ideal.ieee]
theorem ofBits_inf : Ideal.ofBits .f32 (word 255) = ⊤ := by simp [word, Ideal.ofBits, Ideal.ieee]
theorem ofBits_one : Ideal.ofBits .f32 0x3F800000#32 = ((1 : ℝ) : EReal) := by simp [Ideal.ofBits, Ideal.ieee, -EReal.coe_mul]; norm_num
theorem ofBits_two : Ideal.ofBits .f32 0x40000000#32 = ((2 : ℝ) : EReal) := by simp [Ideal.ofBits, Ideal.ieee, -EReal.coe_mul]; norm_num
theorem ofBits_half : Ideal.ofBits .f32 0x3F000000#32 = ((1 / 2 : ℝ) : EReal) := by simp [Ideal.ofBits, Ideal.ieee, -EReal.coe_mul]; norm_num
theorem ofBits_eighth : Ideal.ofBits .f32 0x3E000000#32 = ((1 / 8 : ℝ) : EReal) := by simp [Ideal.ofBits, Ideal.ieee, -EReal.coe_mul]; norm_num
theorem ofBits_three_quarters : Ideal.ofBits .f32 0x3F400000#32 = ((3 / 4 : ℝ) : EReal) := by simp [Ideal.ofBits, Ideal.ieee, -EReal.coe_mul]; norm_num
theorem ofBits_three : Ideal.ofBits .f32 0x40400000#32 = ((3 : ℝ) : EReal) := by simp [Ideal.ofBits, Ideal.ieee, -EReal.coe_mul]; norm_num
theorem ofBits_three_halves : Ideal.ofBits .f32 0x3FC00000#32 = ((3 / 2 : ℝ) : EReal) := by simp [Ideal.ofBits, Ideal.ieee, -EReal.coe_mul]; norm_num
theorem ofBits_four : Ideal.ofBits .f32 0x40800000#32 = ((4 : ℝ) : EReal) := by simp [Ideal.ofBits, Ideal.ieee, -EReal.coe_mul]; norm_num
theorem ofBits_six : Ideal.ofBits .f32 0x40C00000#32 = ((6 : ℝ) : EReal) := by simp [Ideal.ofBits, Ideal.ieee, -EReal.coe_mul]; norm_num
theorem ofBits_seven : Ideal.ofBits .f32 0x40E00000#32 = ((7 : ℝ) : EReal) := by simp [Ideal.ofBits, Ideal.ieee, -EReal.coe_mul]; norm_num
theorem ofBits_256th : Ideal.ofBits .f32 0x3B800000#32 = ((1 / 256 : ℝ) : EReal) := by simp [Ideal.ofBits, Ideal.ieee, -EReal.coe_mul]; norm_num
theorem ofBits_root2 : Ideal.ofBits .f32 0x3FB504F3#32 = ((root2 : ℝ) : EReal) := by simp [Ideal.ofBits, Ideal.ieee, -EReal.coe_mul, root2]; norm_num
theorem ofBits_unit : Ideal.ofBits .f32 0x4B000000#32 = ((8388608 : ℝ) : EReal) := by simp [Ideal.ofBits, Ideal.ieee, -EReal.coe_mul]
theorem ofBits_neg_one : Ideal.ofBits .f32 0xBF800000#32 = ((-1 : ℝ) : EReal) := by simp [Ideal.ofBits, Ideal.ieee, -EReal.coe_mul, -EReal.coe_neg]; norm_num

/-- `k` is the exponent field of `t`: the words with a field up to `k` are those that do not exceed `t`. -/
def Field (t : ℝ) (k : ℕ) : Prop :=
  k ≤ 254 ∧ ∀ j : ℕ, 1 ≤ j → j ≤ 255 → (Ideal.ofBits .f32 (word j) ≤ (t : EReal) ↔ j ≤ k)

theorem field_zero : Field 0 0 := by
  refine ⟨by omega, fun j h1 h2 => ?_⟩
  rcases Nat.lt_or_ge j 255 with h | h
  · rw [ofBits_pow j h1 (by omega), EReal.coe_le_coe_iff]
    have : (0 : ℝ) < 2 ^ ((j : ℤ) - 127) := by positivity
    constructor
    · intro h; linarith
    · intro h; omega
  · obtain rfl : j = 255 := by omega
    rw [ofBits_inf]; simp

theorem field_pos {t : ℝ} (ht : 0 < t) (h1 : -126 ≤ lg t) (h2 : lg t ≤ 127) : Field t (lg t + 127).toNat := by
  refine ⟨by omega, fun j h1 h2 => ?_⟩
  rcases Nat.lt_or_ge j 255 with h | h
  · rw [ofBits_pow j h1 (by omega), EReal.coe_le_coe_iff, zpow_le_iff ht]
    omega
  · obtain rfl : j = 255 := by omega
    rw [ofBits_inf]
    constructor
    · intro h; exact absurd h (by simp)
    · intro h; omega

theorem select_ofBool {α : Type} (p : Bool) (a b : α) : Scalar.select (BitVec.ofBool p) a b = if p then a else b := by
  cases p <;> rfl

theorem shl23 (n : ℕ) : IntOp.shli .vector (BitVec.ofNat 32 n) 23#32 = word n := rfl

variable {x v mult : FVec Ideal S256x128 .f32} {i : S256x128.Idx}

theorem expStep_apply (b n k : ℕ) (w : IVec S256x128 32) (t : ℝ) (hx : x i = (t : EReal)) (hk : Field t k)
    (hw : w i = BitVec.ofNat 32 n) (h1 : 1 ≤ n + b) (h2 : n + b ≤ 255) :
    expStep x (BitVec.ofNat 32 b) w i = BitVec.ofNat 32 (if n + b ≤ k then n + b else n) := by
  show Scalar.select (Ideal.cmp .oge (x i) (Ideal.ofBits .f32 (IntOp.shli .vector (w i + BitVec.ofNat 32 b) 23#32)))
    (w i + BitVec.ofNat 32 b) (w i) = _
  rw [hx, hw, ← BitVec.ofNat_add, shl23]
  unfold Ideal.cmp
  rw [select_ofBool]
  simp only [hk.2 (n + b) h1 h2]
  by_cases h : n + b ≤ k <;> simp [h]

theorem expNum_apply (k : ℕ) (t : ℝ) (hx : x i = (t : EReal)) (hk : Field t k) : expNum x i = BitVec.ofNat 32 k := by
  have hk' := hk.1
  have e0 : (broadcast S256x128 0#32 : IVec S256x128 32) i = BitVec.ofNat 32 0 := rfl
  have e1 := expStep_apply 128 _ k _ t hx hk e0 (by omega) (by omega)
  rw [show (if 0 + 128 ≤ k then 0 + 128 else 0) = k / 128 * 128 by split_ifs <;> omega] at e1
  have e2 := expStep_apply 64 _ k _ t hx hk e1 (by omega) (by omega)
  rw [show (if k / 128 * 128 + 64 ≤ k then k / 128 * 128 + 64 else k / 128 * 128) = k / 64 * 64 by split_ifs <;> omega] at e2
  have e3 := expStep_apply 32 _ k _ t hx hk e2 (by omega) (by omega)
  rw [show (if k / 64 * 64 + 32 ≤ k then k / 64 * 64 + 32 else k / 64 * 64) = k / 32 * 32 by split_ifs <;> omega] at e3
  have e4 := expStep_apply 16 _ k _ t hx hk e3 (by omega) (by omega)
  rw [show (if k / 32 * 32 + 16 ≤ k then k / 32 * 32 + 16 else k / 32 * 32) = k / 16 * 16 by split_ifs <;> omega] at e4
  have e5 := expStep_apply 8 _ k _ t hx hk e4 (by omega) (by omega)
  rw [show (if k / 16 * 16 + 8 ≤ k then k / 16 * 16 + 8 else k / 16 * 16) = k / 8 * 8 by split_ifs <;> omega] at e5
  have e6 := expStep_apply 4 _ k _ t hx hk e5 (by omega) (by omega)
  rw [show (if k / 8 * 8 + 4 ≤ k then k / 8 * 8 + 4 else k / 8 * 8) = k / 4 * 4 by split_ifs <;> omega] at e6
  have e7 := expStep_apply 2 _ k _ t hx hk e6 (by omega) (by omega)
  rw [show (if k / 4 * 4 + 2 ≤ k then k / 4 * 4 + 2 else k / 4 * 4) = k / 2 * 2 by split_ifs <;> omega] at e7
  have e8 := expStep_apply 1 _ k _ t hx hk e7 (by omega) (by omega)
  rw [show (if k / 2 * 2 + 1 ≤ k then k / 2 * 2 + 1 else k / 2 * 2) = k by split_ifs <;> omega] at e8
  exact e8

theorem expBits_apply (k : ℕ) (t : ℝ) (hx : x i = (t : EReal)) (hk : Field t k) :
    expBits x i = word k := by
  show IntOp.shli .vector (expNum x i) 23#32 = _
  rw [expNum_apply k t hx hk, shl23]

/-- The multiplier's word before the two constants. -/
def multWord (w : BitVec 32) : BitVec 32 := IntOp.subi 2147483648#32 (IntOp.maxsi w 16777216#32)

theorem multWord_word : ∀ k : Fin 255, multWord (word k.val) = word (256 - max k.val 2) := by decide +kernel

theorem multOf_eq (eb : IVec S256x128 32) : multOf (F := Ideal) eb i = Ideal.ofBits .f32 (multWord (eb i)) * Ideal.ofBits .f32 0x3FB504F3#32
    * Ideal.ofBits .f32 0x3F400000#32 := by
  unfold multOf
  rw [ValueIdx.mulf_apply, ValueIdx.mulf_apply]
  rfl

theorem multOf_apply (k : ℕ) (hk : k ≤ 254) (eb : IVec S256x128 32) (he : eb i = word k) :
    multOf (F := Ideal) eb i = (((2 : ℝ) ^ (129 - ((max k 2 : ℕ) : ℤ)) * root2 * (3 / 4) : ℝ) : EReal) := by
  have hw : multWord (word k) = word (256 - max k 2) := multWord_word ⟨k, by omega⟩
  have hz : ((256 - max k 2 : ℕ) : ℤ) - 127 = 129 - ((max k 2 : ℕ) : ℤ) := by omega
  rw [multOf_eq, he, hw, ofBits_pow _ (by omega) (by omega), ofBits_root2, ofBits_three_quarters,
    ← EReal.coe_mul, ← EReal.coe_mul, hz]

theorem word_exp : ∀ k : Fin 255, Scalar.select (IntOp.cmpi .eq (word k.val) 0#32) 0#32
    (IntOp.shrsi .vector (word k.val) 23#32 - 129#32) = BitVec.ofInt 32 (if k.val = 0 then 0 else (k.val : ℤ) - 129) := by
  decide +kernel

theorem expOf_apply (k : ℕ) (hk : k ≤ 254) (eb : IVec S256x128 32) (he : eb i = word k) :
    expOf eb i = BitVec.ofInt 32 (if k = 0 then 0 else (k : ℤ) - 129) := by
  show Scalar.select (IntOp.cmpi .eq (eb i) 0#32) 0#32 (IntOp.shrsi .vector (eb i) 23#32 - 129#32) = _
  rw [he]
  exact word_exp ⟨k, by omega⟩

theorem word_scale : ∀ k : Fin 255,
    IntOp.maxsi (word k.val - 16777216#32) 0#32 = word (k.val - 2) := by decide +kernel

theorem scaleOf_apply (k : ℕ) (hk : k ≤ 254) (h3 : 3 ≤ k) (eb : IVec S256x128 32) (he : eb i = word k) :
    scaleOf (F := Ideal) eb i = (((2 : ℝ) ^ ((k : ℤ) - 129) : ℝ) : EReal) := by
  show Ideal.ofBits .f32 (IntOp.maxsi (eb i - 16777216#32) 0#32) = _
  have hw : IntOp.maxsi (word k - 16777216#32) 0#32 = word (k - 2) := word_scale ⟨k, by omega⟩
  have hz : ((k - 2 : ℕ) : ℤ) - 127 = (k : ℤ) - 129 := by omega
  rw [he, hw, ofBits_pow _ (by omega) (by omega), hz]

theorem scaleOf_zero (eb : IVec S256x128 32) (he : eb i = word 0) : scaleOf (F := Ideal) eb i = 0 := by
  show Ideal.ofBits .f32 (IntOp.maxsi (eb i - 16777216#32) 0#32) = _
  have hw : IntOp.maxsi (word 0 - 16777216#32) 0#32 = 0#32 := by decide
  rw [he, hw, ofBits_zero, EReal.coe_zero]

theorem coe_max' (a b : ℝ) : ((max a b : ℝ) : EReal) = max (a : EReal) (b : EReal) :=
  EReal.coe_strictMono.monotone.map_max

theorem abs_coe (a : ℝ) : max (a : EReal) (-(a : EReal)) = ((|a| : ℝ) : EReal) := by
  rw [← EReal.coe_neg, ← coe_max']; rfl

theorem gOf_apply (t M : ℝ) (hv : v i = (t : EReal)) (hm : mult i = (M : EReal)) :
    gOf v mult i = ((|t * M| + max |t * M| 1 : ℝ) : EReal) := by
  have h1 : gOf v mult i = max (v i * mult i) (-(v i * mult i)) + max (max (v i * mult i) (-(v i * mult i))) (Ideal.ofBits .f32 0x3F800000#32) := by
    unfold gOf
    rw [ValueIdx.addf_apply, ValueIdx.maximumf_apply]
    rfl
  rw [h1, hv, hm, ← EReal.coe_mul, abs_coe, ofBits_one, ← coe_max', ← EReal.coe_add]

theorem fptosi_int (z : ℤ) (h1 : -2147483648 ≤ z) (h2 : z ≤ 2147483647) :
    Ideal.fptosi 32 (((z : ℝ)) : EReal) = BitVec.ofInt 32 z := by
  unfold Ideal.fptosi
  rw [Ideal.toIntClamped_coe, Int.floor_intCast, Int.ceil_intCast, ite_self]
  congr 1
  have e1 : (-((2 ^ (32 - 1) : ℕ) : ℤ)) = -2147483648 := by norm_num
  have e2 : ((2 ^ (32 - 1) : ℕ) : ℤ) - 1 = 2147483647 := by norm_num
  rw [e1, e2]
  omega

/-- The word that brings a power of two back to one. -/
def backWord (w : BitVec 32) : BitVec 32 := IntOp.subi 2130706432#32 w

theorem backWord_word : ∀ k : Fin 254, backWord (word k.val) = word (254 - k.val) := by decide +kernel

theorem bitsOf_eq : bitsOf x i = IntOp.addi (expBits x i) (Ideal.fptosi 32 (Ideal.liftRound Int.ceil
    ((x i * Ideal.ofBits .f32 (backWord (expBits x i)) - Ideal.ofBits .f32 0x3F800000#32) * Ideal.ofBits .f32 0x4B000000#32))) := by
  unfold bitsOf
  have h (a b : IVec S256x128 32) : addi a b i = IntOp.addi (a i) (b i) := rfl
  have h2 (a : FVec Ideal S256x128 .f32) : fptosi 32 (ceil a) i = Ideal.fptosi 32 (Ideal.liftRound Int.ceil (a i)) := rfl
  rw [h, h2, ValueIdx.mulf_apply, ValueIdx.subf_apply, ValueIdx.mulf_apply]
  rfl

theorem bitsOf_apply (g : ℝ) (d : ℕ) (hd : d ≤ 3) (hx : x i = (g : EReal)) (h1 : (2 : ℝ) ^ (d : ℤ) ≤ g) (h2 : g < (2 : ℝ) ^ ((d : ℤ) + 1)) :
    bitsOf x i = IntOp.addi (word (127 + d)) (BitVec.ofInt 32 ⌈(g * (2 : ℝ) ^ (-(d : ℤ)) - 1) * 8388608⌉) := by
  have h0 : 0 < g := lt_of_lt_of_le (by positivity) h1
  have hl : lg g = d := lg_eq _ h1 h2
  have hf : Field g (127 + d) := by
    have := field_pos h0 (by omega) (by omega)
    rwa [hl, show ((d : ℤ) + 127).toNat = 127 + d by omega] at this
  have hb : backWord (word (127 + d)) = word (127 - d) := by
    have := backWord_word ⟨127 + d, by omega⟩
    rwa [show 254 - (127 + d) = 127 - d by omega] at this
  have hz : ((127 - d : ℕ) : ℤ) - 127 = -(d : ℤ) := by omega
  rw [bitsOf_eq, expBits_apply _ g hx hf, hb, ofBits_pow _ (by omega) (by omega), hx, ofBits_one, ofBits_unit,
    ← EReal.coe_mul, ← EReal.coe_sub, ← EReal.coe_mul, Ideal.liftRound_coe, hz]
  rw [fptosi_int]
  · have : 0 ≤ ⌈(g * (2 : ℝ) ^ (-(d : ℤ)) - 1) * 8388608⌉ := by
      apply Int.ceil_nonneg
      have : (1 : ℝ) ≤ g * (2 : ℝ) ^ (-(d : ℤ)) := by
        rw [zpow_neg, ← div_eq_mul_inv, le_div_iff₀ (by positivity)]; linarith
      nlinarith
    omega
  · apply Int.ceil_le.2
    have : g * (2 : ℝ) ^ (-(d : ℤ)) ≤ 2 := by
      rw [zpow_neg, ← div_eq_mul_inv, div_le_iff₀ (by positivity)]
      rw [zpow_add₀ (by norm_num)] at h2; norm_num at h2 ⊢; linarith
    push_cast; nlinarith

theorem word_int : ∀ d : Fin 4, word (127 + d.val) = BitVec.ofInt 32 (1065353216 + d.val * 8388608) := by decide +kernel
theorem rand_int : ∀ r : Fin 256, IntOp.shli .vector (BitVec.ofNat 32 r.val) 14#32 = BitVec.ofInt 32 (r.val * 16384) := by decide +kernel
theorem round_pos : 3233800191#32 = BitVec.ofInt 32 (4177920 + 8191 - 1065353216) := by decide +kernel
theorem round_neg : 3267354623#32 = BitVec.ofInt 32 (4177920 + 8191 - 1065353216 + 33554432) := by decide +kernel

/-- The bits of `m + max m 1`: the level of `m` in units of `2⁻²²`, rounded up, on top of the exponent of one. -/
theorem bitsOf_level (m : ℝ) (h0 : 0 ≤ m) (h6 : m < 6) (hx : x i = ((m + max m 1 : ℝ) : EReal)) :
    bitsOf x i = BitVec.ofInt 32 (1065353216 + ⌈level m * 4194304⌉) := by
  have key (d : ℕ) (hd : d ≤ 3) (h1 : (2 : ℝ) ^ (d : ℤ) ≤ m + max m 1) (h2 : m + max m 1 < (2 : ℝ) ^ ((d : ℤ) + 1))
      (hl : ((m + max m 1) * (2 : ℝ) ^ (-(d : ℤ)) - 1) * 8388608 + ((d * 8388608 : ℤ) : ℝ) = level m * 4194304) :
      bitsOf x i = BitVec.ofInt 32 (1065353216 + ⌈level m * 4194304⌉) := by
    have hw : word (127 + d) = BitVec.ofInt 32 (1065353216 + d * 8388608) := word_int ⟨d, by omega⟩
    rw [bitsOf_apply _ d hd hx h1 h2, hw, ← hl, Int.ceil_add_intCast]
    show BitVec.ofInt 32 _ + BitVec.ofInt 32 _ = _
    rw [← BitVec.ofInt_add]
    congr 1
    ring
  rcases lt_or_ge m 1 with c1 | c1
  · rw [max_eq_right c1.le] at *
    refine key 0 (by omega) (by norm_num; linarith) (by norm_num; linarith) ?_
    rw [level, if_pos (by linarith)]; norm_num; ring
  · rw [max_eq_left c1] at *
    rcases lt_or_ge m 2 with c2 | c2
    · refine key 1 (by omega) (by norm_num; linarith) (by norm_num; linarith) ?_
      rw [level, if_pos c2]; norm_num; ring
    · rcases lt_or_ge m 4 with c3 | c3
      · refine key 2 (by omega) (by norm_num; linarith) (by norm_num; linarith) ?_
        rw [level, if_neg (by linarith), if_pos c3]; norm_num; ring
      · refine key 3 (by omega) (by norm_num; linarith) (by norm_num; linarith) ?_
        rw [level, if_neg (by linarith), if_neg (by linarith)]; norm_num; ring

theorem shr22 (z : ℤ) (h0 : 0 ≤ z) (h1 : z < 67108864) : IntOp.shrui .vector (BitVec.ofInt 32 z) 22#32 = BitVec.ofInt 32 (z / 4194304) := by
  lift z to ℕ using h0
  have h1' : z < 67108864 := by exact_mod_cast h1
  have e : ((z : ℤ) / 4194304) = ((z / 4194304 : ℕ) : ℤ) := by omega
  rw [e, BitVec.ofInt_natCast, BitVec.ofInt_natCast]
  unfold IntOp.shrui
  rw [if_pos (by decide)]
  apply BitVec.eq_of_toNat_eq
  have e22 : (22#32).toNat = 22 := rfl
  rw [BitVec.ushiftRight_eq', e22, BitVec.toNat_ushiftRight, BitVec.toNat_ofNat, BitVec.toNat_ofNat, Nat.shiftRight_eq_div_pow,
    Nat.mod_eq_of_lt (lt_trans h1' (by norm_num)), Nat.mod_eq_of_lt (lt_of_le_of_lt (Nat.div_le_self _ _) (lt_trans h1' (by norm_num)))]

theorem ofInt_sub' (a b : ℤ) : BitVec.ofInt 32 a - BitVec.ofInt 32 b = BitVec.ofInt 32 (a - b) := by
  have h : BitVec.ofInt 32 a = BitVec.ofInt 32 (a - b) + BitVec.ofInt 32 b := by rw [← BitVec.ofInt_add, Int.sub_add_cancel]
  rw [h, BitVec.add_sub_cancel]

theorem rawCode_eq (r : IVec S256x128 32) : rawCode v mult r i = IntOp.shrui .vector (IntOp.subi (IntOp.addi (bitsOf (gOf v mult) i)
    (Scalar.select (Ideal.cmp .olt (v i) (Ideal.ofBits .f32 0x00000000#32)) 3267354623#32 3233800191#32)) (IntOp.shli .vector (r i) 14#32)) 22#32 := rfl

/-- The code of one number: the quantiser's. -/
theorem codeOf_apply (t M : ℝ) (ρ : ℕ) (r : IVec S256x128 32) (hv : v i = (t : EReal)) (hm : mult i = (M : EReal)) (hM : 0 < M)
    (hr : r i = BitVec.ofNat 32 ρ) (hρ : ρ ≤ 255) (h6 : |t * M| < 6) :
    codeOf v mult r i = BitVec.ofInt 32 (code (t * M) ρ) := by
  have hb := bitsOf_level (x := gOf v mult) (i := i) |t * M| (abs_nonneg _) h6 (gOf_apply t M hv hm)
  have hsh : IntOp.shli .vector (BitVec.ofNat 32 ρ) 14#32 = BitVec.ofInt 32 (ρ * 16384) := rand_int ⟨ρ, by omega⟩
  have hdiv := mag_eq_div |t * M| ρ hρ
  have hm0 := mag_nonneg (abs_nonneg (t * M)) ρ
  have hm7 := mag_le h6 ρ
  have hneg : (t * M < 0) ↔ t < 0 := by
    constructor
    · intro h; by_contra hc; exact absurd h (not_lt.2 (mul_nonneg (not_lt.1 hc) hM.le))
    · intro h; exact mul_neg_of_neg_of_pos h hM
  have hraw : rawCode v mult r i = BitVec.ofInt 32 (mag |t * M| ρ + if t < 0 then 8 else 0) := by
    rw [rawCode_eq, hb, hr, hsh, hv, ofBits_zero, round_pos, round_neg]
    unfold Ideal.cmp
    rw [select_ofBool]
    simp only [EReal.coe_lt_coe_iff, decide_eq_true_eq]
    rw [← apply_ite (BitVec.ofInt 32)]
    show IntOp.shrui .vector (BitVec.ofInt 32 _ + BitVec.ofInt 32 _ - BitVec.ofInt 32 _) 22#32 = _
    rw [← BitVec.ofInt_add, ofInt_sub', shr22]
    · congr 1
      rw [← hdiv]
      split_ifs <;> omega
    · split_ifs <;> omega
    · split_ifs <;> omega
  have hsel : codeOf v mult r i = Scalar.select (IntOp.cmpi .eq (rawCode v mult r i) 8#32) 0#32 (rawCode v mult r i) := rfl
  rw [hsel, hraw]
  unfold code
  simp only [hneg]
  generalize mag |t * M| ρ = q at *
  by_cases hn : t < 0
  · simp only [hn, if_true, true_and]
    interval_cases q <;> rfl
  · simp only [hn, if_false, false_and]
    interval_cases q <;> rfl

/-- The doubled magnitude of a code, one word at a time. -/
def magWord (c : BitVec 32) : BitVec 32 :=
  Scalar.select (IntOp.cmpi .slt (IntOp.andi c 7#32) 2#32) (IntOp.andi c 7#32)
    (IntOp.shli .vector (IntOp.addi 2#32 (IntOp.andi (IntOp.andi c 7#32) 1#32))
      (IntOp.subi (IntOp.shrsi .vector (IntOp.andi c 7#32) 1#32) 1#32))

theorem magWord_int : ∀ n : Fin 16, (magWord (BitVec.ofNat 32 n.val)).toInt = grid2 (n.val % 8) := by decide +kernel
theorem sign_word : ∀ n : Fin 16, IntOp.cmpi .slt (BitVec.ofNat 32 n.val) 8#32 = BitVec.ofBool (decide (n.val < 8)) := by decide +kernel

theorem decode_eq (c : IVec S256x128 32) : decode (F := Ideal) c i = Scalar.select (IntOp.cmpi .slt (c i) 8#32)
    ((((magWord (c i)).toInt : ℝ) : EReal) * Ideal.ofBits .f32 0x3F000000#32)
    (Ideal.ofBits .f32 0x00000000#32 - (((magWord (c i)).toInt : ℝ) : EReal) * Ideal.ofBits .f32 0x3F000000#32) := by
  unfold decode
  rw [ValueIdx.truncf_apply]
  have h (a : IVec S256x128 1) (x y : FVec Ideal S256x128 .f32) : select a x y i = Scalar.select (a i) (x i) (y i) := rfl
  rw [h, ValueIdx.subf_apply, ValueIdx.mulf_apply]
  rfl

/-- The kernel's decoding of a four-bit code. -/
theorem decode_apply (n : ℕ) (hn : n < 16) (c : IVec S256x128 32) (hc : c i = BitVec.ofNat 32 n) :
    decode (F := Ideal) c i = ((e2m1 n : ℝ) : EReal) := by
  have h1 := magWord_int ⟨n, hn⟩
  have h2 := sign_word ⟨n, hn⟩
  simp only at h1 h2
  rw [decode_eq, hc, h1, h2, select_ofBool, ofBits_half, ofBits_zero, ← EReal.coe_mul, ← EReal.coe_sub]
  unfold e2m1
  simp only [decide_eq_true_eq]
  split_ifs with h
  · congr 1; push_cast; ring
  · congr 1; push_cast; ring

end Cert.KernelIdeal.Scalars

end
-- ==== Proof.RefScalars.lean ====
module

public import proofs.«01_k».proof.Proof.Scalars

/-! # The reference's quantiser over the reals

The reference states the exponent by logarithms, the grid by its three steps, and the rounding by a quotient and a floor. Read
at one number, they are the exponent and the code of the quantiser. -/

@[expose] public section

noncomputable section

namespace Cert.RefScalars

open Cert.Spec Cert.KernelIdeal.Scalars Idealize.ShloMosaic

/-- The exponent of a group with largest magnitude `a`. -/
def refExp (a : EReal) : BitVec 32 :=
  Ideal.fptosi 32 (Scalar.select (Ideal.cmp .oeq a (Ideal.ofBits .f32 0x00000000#32)) (Ideal.ofBits .f32 0x00000000#32)
    ((Ideal.liftRound Int.floor (Ideal.div (Ideal.log a) (Ideal.log (Ideal.ofBits .f32 0x40000000#32))) + Ideal.ofBits .f32 0x3F800000#32)
      - Ideal.ofBits .f32 0x40400000#32))

theorem div_coe' (x y : ℝ) (h : y ≠ 0) : Ideal.div (x : EReal) (y : EReal) = ((x / y : ℝ) : EReal) := by
  rw [Ideal.div_coe h, ← EReal.coe_mul]; congr 1; ring

/-- Exponents of this size are those of the groups considered. -/
def Moderate (a : ℝ) : Prop := a = 0 ∨ (0 < a ∧ -104 ≤ lg a ∧ lg a ≤ 104)

theorem refExp_apply (a : ℝ) (ha : Moderate a) : refExp (a : EReal) = BitVec.ofInt 32 (expo a) := by
  unfold refExp
  rw [ofBits_zero, ofBits_two, ofBits_one, ofBits_three]
  unfold Ideal.cmp
  rw [select_ofBool]
  simp only [EReal.coe_eq_coe_iff, decide_eq_true_eq]
  unfold expo
  rcases ha with h | ⟨h, h1, h2⟩
  · rw [if_pos h, if_pos h]
    have := fptosi_int 0 (by norm_num) (by norm_num)
    rwa [Int.cast_zero] at this
  · rw [if_neg h.ne', if_neg h.ne', Ideal.log_coe, Ideal.log_coe, if_neg (not_le.2 h), if_neg (by norm_num),
      div_coe' _ _ (Real.log_pos one_lt_two).ne', Ideal.liftRound_coe, ← EReal.coe_add, ← EReal.coe_sub]
    have e : ((⌊Real.log a / Real.log 2⌋ : ℝ) + 1 - 3) = ((lg a - 2 : ℤ) : ℝ) := by unfold lg; push_cast; ring
    rw [e, fptosi_int _ (by omega) (by omega)]

/-- The multiplier of a group with exponent `e`. -/
def refMult (e : BitVec 32) : EReal :=
  Ideal.ofBits .f32 0x3F400000#32 * Ideal.pow (Ideal.ofBits .f32 0x40000000#32) (-((e.toInt : ℝ) : EReal))

theorem toInt_ofInt_small (z : ℤ) (h1 : -2147483648 ≤ z) (h2 : z ≤ 2147483647) : (BitVec.ofInt 32 z).toInt = z := by
  rw [BitVec.toInt_ofInt]
  unfold Int.bmod
  norm_num
  split_ifs <;> omega

theorem pow_two_int (z : ℤ) : Ideal.pow (((2 : ℝ)) : EReal) ((z : ℝ) : EReal) = (((2 : ℝ) ^ z : ℝ) : EReal) := by
  rw [Ideal.pow_coe_coe]
  congr 1
  exact Real.rpow_intCast 2 z

theorem refMult_apply (z : ℤ) (h1 : -2147483648 ≤ z) (h2 : z ≤ 2147483647) :
    refMult (BitVec.ofInt 32 z) = ((3 / 4 * (2 : ℝ) ^ (-z) : ℝ) : EReal) := by
  unfold refMult
  rw [toInt_ofInt_small z h1 h2, ofBits_three_quarters, ofBits_two, ← EReal.coe_neg, ← Int.cast_neg, pow_two_int, ← EReal.coe_mul]

/-- The width of the grid at a magnitude. -/
def refStep (m : EReal) : EReal :=
  Scalar.select (Ideal.cmp .olt m (Ideal.ofBits .f32 0x40000000#32)) (Ideal.ofBits .f32 0x3F000000#32)
    (Scalar.select (Ideal.cmp .olt m (Ideal.ofBits .f32 0x40800000#32)) (Ideal.ofBits .f32 0x3F800000#32) (Ideal.ofBits .f32 0x40000000#32))

/-- The grid point below. -/
def refLo (m : EReal) : EReal := Ideal.liftRound Int.floor (Ideal.div m (refStep m)) * refStep m

/-- The grid point a magnitude is rounded to, for the random number `u`. -/
def refQ (m u : EReal) : EReal :=
  refLo m + refStep m * (((Ideal.cmp .olt u (Ideal.div (m - refLo m) (refStep m))).toNat : ℝ) : EReal)

/-- The position of a grid point. -/
def refIdx (q : EReal) : BitVec 32 :=
  Ideal.fptosi 32 (Scalar.select (Ideal.cmp .olt q (Ideal.ofBits .f32 0x40000000#32)) (Ideal.ofBits .f32 0x40000000#32 * q)
    (Scalar.select (Ideal.cmp .olt q (Ideal.ofBits .f32 0x40800000#32)) (q + Ideal.ofBits .f32 0x40000000#32)
      (Scalar.select (Ideal.cmp .oeq q (Ideal.ofBits .f32 0x40800000#32)) (Ideal.ofBits .f32 0x40C00000#32) (Ideal.ofBits .f32 0x40E00000#32))))

/-- The code, from the scaled number and the random number. -/
def refCode (y u : EReal) : BitVec 32 :=
  IntOp.addi (refIdx (refQ (max y (-y)) u)) (IntOp.muli ((IntOp.andi (Ideal.cmp .olt y (Ideal.ofBits .f32 0x00000000#32))
    (IntOp.cmpi .sgt (refIdx (refQ (max y (-y)) u)) 0#32)).setWidth 32) 8#32)

theorem refStep_apply (m : ℝ) : refStep (m : EReal) = ((if m < 2 then 1 / 2 else if m < 4 then 1 else 2 : ℝ) : EReal) := by
  unfold refStep Ideal.cmp
  rw [select_ofBool, select_ofBool, ofBits_two, ofBits_half, ofBits_four, ofBits_one]
  simp only [EReal.coe_lt_coe_iff, decide_eq_true_eq]
  split_ifs <;> rfl

theorem refIdx_apply (q : ℝ) : refIdx (q : EReal) = Ideal.fptosi 32
    ((if q < 2 then 2 * q else if q < 4 then q + 2 else if q = 4 then 6 else 7 : ℝ) : EReal) := by
  unfold refIdx Ideal.cmp
  rw [select_ofBool, select_ofBool, select_ofBool, ofBits_two, ofBits_four, ofBits_six, ofBits_seven, ← EReal.coe_mul, ← EReal.coe_add]
  simp only [EReal.coe_lt_coe_iff, EReal.coe_eq_coe_iff, decide_eq_true_eq]
  split_ifs <;> rfl

theorem fract_sub (x : ℝ) (k : ℤ) : Int.fract (x - k) = Int.fract x := Int.fract_sub_intCast x k

/-- The rounded grid point's position is the quantiser's. -/
theorem refIdx_refQ (m : ℝ) (r : ℕ) (h0 : 0 ≤ m) (h6 : m < 6) :
    refIdx (refQ (m : EReal) ((((r : ℝ) + 1 / 2) / 256 : ℝ) : EReal)) = BitVec.ofInt 32 (mag m r) := by
  have key (s : ℝ) (hs : 0 < s) (k : ℤ) (hl : m / s = level m - k) (hst : refStep (m : EReal) = (s : EReal)) :
      refQ (m : EReal) ((((r : ℝ) + 1 / 2) / 256 : ℝ) : EReal) = ((s * ((mag m r - k : ℤ) : ℝ) : ℝ) : EReal) := by
    unfold refQ refLo
    rw [hst, div_coe' _ _ hs.ne', Ideal.liftRound_coe, ← EReal.coe_mul, ← EReal.coe_sub, div_coe' _ _ hs.ne']
    have hp : (m - (⌊m / s⌋ : ℝ) * s) / s = Int.fract (level m) := by
      rw [← Int.fract_sub_intCast (level m) k, ← hl, Int.fract]
      field_simp
    have hf : ⌊m / s⌋ = ⌊level m⌋ - k := by rw [hl, Int.floor_sub_intCast]
    rw [hp, hf]
    unfold Ideal.cmp mag
    simp only [EReal.coe_lt_coe_iff]
    by_cases hc : ((r : ℝ) + 1 / 2) / 256 < Int.fract (level m)
    · simp only [hc, decide_true, if_true, BitVec.toNat_ofBool, Bool.toNat_true, Nat.cast_one]
      rw [← EReal.coe_mul, ← EReal.coe_add]
      congr 1; push_cast; ring
    · simp only [hc, decide_false, if_false, BitVec.toNat_ofBool, Bool.toNat_false, Nat.cast_zero]
      rw [← EReal.coe_mul, ← EReal.coe_add]
      congr 1; push_cast; ring
  have hm0 := mag_nonneg h0 r
  have hfl : ⌊level m⌋ ≤ mag m r ∧ mag m r ≤ ⌊level m⌋ + 1 := by unfold mag; split_ifs <;> omega
  have hst := refStep_apply m
  have fin (v : ℝ) (z : ℤ) (hv : v = z) (h1 : 0 ≤ z) (h2 : z ≤ 7) : Ideal.fptosi 32 (v : EReal) = BitVec.ofInt 32 z := by
    rw [hv, fptosi_int z (by omega) (by omega)]
  rcases lt_or_ge m 2 with c | c
  · rw [if_pos c] at hst
    have hl : level m = 2 * m := by rw [level, if_pos c]
    rw [key (1 / 2) (by norm_num) 0 (by rw [hl]; push_cast; ring) hst, refIdx_apply]
    have f0 : ⌊level m⌋ < 4 := Int.floor_lt.2 (by rw [hl]; push_cast; linarith)
    generalize mag m r = q at *
    have hq : q ≤ 4 := by omega
    interval_cases q <;> refine fin _ _ ?_ (by omega) (by omega) <;> norm_num
  · rcases lt_or_ge m 4 with c' | c'
    · rw [if_neg (not_lt.2 c), if_pos c'] at hst
      have hl : level m = m + 2 := by rw [level, if_neg (not_lt.2 c), if_pos c']
      rw [key 1 (by norm_num) 2 (by rw [hl]; push_cast; ring) hst, refIdx_apply]
      have f0 : ⌊level m⌋ < 6 := Int.floor_lt.2 (by rw [hl]; push_cast; linarith)
      have f1 : 4 ≤ ⌊level m⌋ := Int.le_floor.2 (by rw [hl]; push_cast; linarith)
      generalize mag m r = q at *
      have hq : q ≤ 6 := by omega
      have hq' : 4 ≤ q := by omega
      interval_cases q <;> refine fin _ _ ?_ (by omega) (by omega) <;> norm_num
    · rw [if_neg (not_lt.2 c), if_neg (not_lt.2 c')] at hst
      have hl : level m = m / 2 + 4 := by rw [level, if_neg (not_lt.2 c), if_neg (not_lt.2 c')]
      rw [key 2 (by norm_num) 4 (by rw [hl]; push_cast; ring) hst, refIdx_apply]
      have f0 : ⌊level m⌋ < 7 := Int.floor_lt.2 (by rw [hl]; push_cast; linarith)
      have f1 : 6 ≤ ⌊level m⌋ := Int.le_floor.2 (by rw [hl]; push_cast; linarith)
      generalize mag m r = q at *
      have hq : q ≤ 7 := by omega
      have hq' : 6 ≤ q := by omega
      interval_cases q <;> refine fin _ _ ?_ (by omega) (by omega) <;> norm_num

/-- The reference's code of one number: the quantiser's. -/
theorem refCode_apply (y : ℝ) (r : ℕ) (h6 : |y| < 6) :
    refCode (y : EReal) ((((r : ℝ) + 1 / 2) / 256 : ℝ) : EReal) = BitVec.ofInt 32 (code y r) := by
  unfold refCode
  rw [abs_coe, refIdx_refQ _ r (abs_nonneg y) h6, ofBits_zero]
  have hm0 := mag_nonneg (abs_nonneg y) r
  have hm7 := mag_le h6 r
  unfold code Ideal.cmp
  simp only [EReal.coe_lt_coe_iff]
  generalize mag |y| r = q at *
  by_cases hn : y < 0
  · simp only [hn, decide_true, true_and]
    interval_cases q <;> rfl
  · simp only [hn, decide_false, false_and]
    interval_cases q <;> rfl

/-- The random number from a random byte. -/
def refU (r : BitVec 8) : EReal :=
  ((((r.setWidth 32).toInt : ℝ) : EReal) + Ideal.ofBits .f32 0x3F000000#32) * Ideal.ofBits .f32 0x3B800000#32

theorem byte_int : ∀ r : Fin 256, ((BitVec.ofNat 8 r.val).setWidth 32).toInt = r.val := by decide +kernel

theorem refU_apply (r : BitVec 8) : refU r = ((((r.toNat : ℝ) + 1 / 2) / 256 : ℝ) : EReal) := by
  have h := byte_int ⟨r.toNat, r.isLt⟩
  simp only [BitVec.ofNat_toNat, BitVec.setWidth_eq] at h
  unfold refU
  rw [h, ofBits_half, ofBits_256th, ← EReal.coe_add, ← EReal.coe_mul]
  congr 1
  push_cast
  ring

end Cert.RefScalars

end
-- ==== Proof.Pieces.lean ====
module

public import proofs.«01_k».proof.Proof.Block
public import Idealize.ShloMosaic.Lib.ValueIdx
public import Idealize.ShloMosaic.Lib.Pipeline.ValueKit.Tiles

/-! # What one grid point leaves behind

One grid point covers 256 columns of `dy`. Its stores into each buffer are tiles of one function of the point's input blocks, so the
buffer holds that function afterwards. The functions are `codesBlk` (the packed codes), `expsBlk` (the scale exponents), `dBlk` and
`wBlk` (the two decoded operands of the product). -/

@[expose] public section

noncomputable section

namespace Cert.KernelIdeal.Block

open Cert.KernelIdeal Cert.KernelIdeal.Gen Idealize.ShloMosaic Idealize.ShloMosaic.TcCoe Idealize.SL.Sem Idealize.ShloMosaic.ValueIdx

variable {F : FTy → Type} [FloatOps F]

/-- Row block `b` of an array of 1792 rows. -/
def rowsAt {α : Type} (b : Fin 7) (x : S1792x256.Idx → α) : S256x256.Idx → α :=
  fun j => x (ix2 ⟨256 * b.val + (j 0).val, by have := b.isLt; have : (j 0).val < 256 := (j 0).isLt; omega⟩ (j 1))

/-- Row block `b` of the packed weights. -/
def wRowsAt {α : Type} (b : Fin 10) (x : S2560x128.Idx → α) : S256x128.Idx → α :=
  fun j => x (ix2 ⟨256 * b.val + (j 0).val, by have := b.isLt; have : (j 0).val < 256 := (j 0).isLt; omega⟩ (j 1))

/-- Row block `b` of the weight scales. -/
def sRowsAt {α : Type} (b : Fin 10) (x : S1x2560x128.Idx → α) : S1x256x128.Idx → α :=
  fun j => x (ix3 (0 : Fin 1) ⟨256 * b.val + (j 1).val, by have := b.isLt; have : (j 1).val < 256 := (j 1).isLt; omega⟩ (j 2))

/-- The row block a row lies in, and its row there. -/
def blkOf (t : Fin 1792) : Fin 7 := ⟨t.val / 256, by have := t.isLt; omega⟩
@[inherit_doc blkOf]
def rowOf (t : Fin 1792) : Fin 256 := ⟨t.val % 256, Nat.mod_lt _ (by decide)⟩
/-- The row block of a weight row, and its row there. -/
def wblkOf (t : Fin 2560) : Fin 10 := ⟨t.val / 256, by have := t.isLt; omega⟩
@[inherit_doc wblkOf]
def wrowOf (t : Fin 2560) : Fin 256 := ⟨t.val % 256, Nat.mod_lt _ (by decide)⟩

/-- The packed codes of a grid point. -/
def codesBlk (x0 : Vec F S1792x256 .bf16) (x1 : Vec F S1792x256 .i8) (x2 : Vec F S1x256x256 .bf16) (x3 : Vec F S256x256 .bf16) :
    Vec F S1792x128 .i8 :=
  fun y => packed (rowsAt (blkOf (y 0)) x0) x2 (rowsAt (blkOf (y 0)) x1) x3 (ix2 (rowOf (y 0)) (y 1))

/-- The scale exponents of a grid point. -/
def expsBlk (x0 : Vec F S1792x256 .bf16) (x2 : Vec F S1x256x256 .bf16) : Vec F S1792x128 .i8 :=
  fun y => exps (rowsAt (blkOf (y 0)) x0) x2 (ix2 (rowOf (y 0)) (y 1))

/-- The decoded rows of `dy` of a grid point: the even columns left, the odd columns right. -/
def dBlk (x0 : Vec F S1792x256 .bf16) (x1 : Vec F S1792x256 .i8) (x2 : Vec F S1x256x256 .bf16) (x3 : Vec F S256x256 .bf16) :
    Vec F S1792x256 .bf16 :=
  fun y => if h : (y 1).val < 128
    then decodedA (rowsAt (blkOf (y 0)) x0) x2 (rowsAt (blkOf (y 0)) x1) x3 (ix2 (rowOf (y 0)) (⟨(y 1).val, h⟩ : Fin 128))
    else decodedB (rowsAt (blkOf (y 0)) x0) x2 (rowsAt (blkOf (y 0)) x1) x3
      (ix2 (rowOf (y 0)) (⟨(y 1).val - 128, by have : (y 1).val < 256 := (y 1).isLt; omega⟩ : Fin 128))

/-- The decoded weights of a grid point: the low nibbles left, the high nibbles right. -/
def wBlk (x4 : Vec F S2560x128 .i8) (x5 : Vec F S1x2560x128 .bf16) : Vec F S2560x256 .bf16 :=
  fun y => if h : (y 1).val < 128
    then weightA (wRowsAt (wblkOf (y 0)) x4) (sRowsAt (wblkOf (y 0)) x5) (ix2 (wrowOf (y 0)) (⟨(y 1).val, h⟩ : Fin 128))
    else weightB (wRowsAt (wblkOf (y 0)) x4) (sRowsAt (wblkOf (y 0)) x5)
      (ix2 (wrowOf (y 0)) (⟨(y 1).val - 128, by have : (y 1).val < 256 := (y 1).isLt; omega⟩ : Fin 128))

theorem inb7 (b : Fin 7) : ∀ a : Fin 2, (![256 * b.val, 0] : Fin 2 → Nat) a + S256x256.size a ≤ S1792x256.size a := by revert b; decide
theorem inb7' (b : Fin 7) : ∀ a : Fin 2, (![256 * b.val, 0] : Fin 2 → Nat) a + S256x128.size a ≤ S1792x128.size a := by revert b; decide
theorem inb7h (b : Fin 7) (h : Fin 2) : ∀ a : Fin 2, (![256 * b.val, 128 * h.val] : Fin 2 → Nat) a + S256x128.size a ≤ S1792x256.size a := by revert b h; decide
theorem inb10 (b : Fin 10) : ∀ a : Fin 2, (![256 * b.val, 0] : Fin 2 → Nat) a + S256x128.size a ≤ S2560x128.size a := by revert b; decide
theorem inb10s (b : Fin 10) : ∀ a : Fin 3, (![0, 256 * b.val, 0] : Fin 3 → Nat) a + S1x256x128.size a ≤ S1x2560x128.size a := by revert b; decide
theorem inb10h (b : Fin 10) (h : Fin 2) : ∀ a : Fin 2, (![256 * b.val, 128 * h.val] : Fin 2 → Nat) a + S256x128.size a ≤ S2560x256.size a := by revert b h; decide

section Loads

variable (arg1 : Memref sig .tc .vmem S1792x256 .bf16) (harg1 : arg1.IsWhole) (arg2 : Memref sig .tc .vmem S1792x256 .i8) (harg2 : arg2.IsWhole)
  (arg3 : Memref sig .tc .vmem S1x256x256 .bf16) (harg3 : arg3.IsWhole) (arg4 : Memref sig .tc .vmem S256x256 .bf16) (harg4 : arg4.IsWhole)
  (arg5 : Memref sig .tc .vmem S2560x128 .i8) (harg5 : arg5.IsWhole) (arg6 : Memref sig .tc .vmem S1x2560x128 .bf16) (harg6 : arg6.IsWhole)
  (x0 : Vec F S1792x256 .bf16) (x1 : Vec F S1792x256 .i8) (x2 : Vec F S1x256x256 .bf16) (x3 : Vec F S256x256 .bf16)
  (x4 : Vec F S2560x128 .i8) (x5 : Vec F S1x2560x128 .bf16)

/-- The load of row block `b` of `dy`, … -/
def ld1 (b : Fin 7) : Vec F S256x256 .bf16 :=
  View.readAt (Elt F) arg1.view (Rect.unit (s := S1792x256) ![256 * b.val, 0] S256x256.size (inb7 b)).toLoadRect (harg1.unread x0)
/-- … of the random bytes, … -/
def ld2 (b : Fin 7) : Vec F S256x256 .i8 :=
  View.readAt (Elt F) arg2.view (Rect.unit (s := S1792x256) ![256 * b.val, 0] S256x256.size (inb7 b)).toLoadRect (harg2.unread x1)
/-- … of the rotation, … -/
def ld3 : Vec F S1x256x256 .bf16 :=
  View.readAt (Elt F) arg3.view (Rect.unit (s := S1x256x256) ![0, 0, 0] S1x256x256.size (by decide)).toLoadRect (harg3.unread x2)
/-- … of the permutation, … -/
def ld4 : Vec F S256x256 .bf16 :=
  View.readAt (Elt F) arg4.view (Rect.unit (s := S256x256) ![0, 0] S256x256.size (by decide)).toLoadRect (harg4.unread x3)
/-- … of row block `b` of the packed weights … -/
def ld5 (b : Fin 10) : Vec F S256x128 .i8 :=
  View.readAt (Elt F) arg5.view (Rect.unit (s := S2560x128) ![256 * b.val, 0] S256x128.size (inb10 b)).toLoadRect (harg5.unread x4)
/-- … and of their scales. -/
def ld6 (b : Fin 10) : Vec F S1x256x128 .bf16 :=
  View.readAt (Elt F) arg6.view (Rect.unit (s := S1x2560x128) ![0, 256 * b.val, 0] S1x256x128.size (inb10s b)).toLoadRect (harg6.unread x5)

theorem ld1_eq (b : Fin 7) : ld1 arg1 harg1 x0 b = rowsAt b x0 := by
  funext j
  unfold ld1
  rw [View.readAt_eq_ld, harg1.read_unread]
  exact View.ld_unit_apply_of x0 _ _ _ j _ (by intro a; fin_cases a <;> simp [ix2])
theorem ld2_eq (b : Fin 7) : ld2 arg2 harg2 x1 b = rowsAt b x1 := by
  funext j
  unfold ld2
  rw [View.readAt_eq_ld, harg2.read_unread]
  exact View.ld_unit_apply_of x1 _ _ _ j _ (by intro a; fin_cases a <;> simp [ix2])
theorem ld3_eq : ld3 arg3 harg3 x2 = x2 := by
  unfold ld3
  rw [View.readAt_eq_ld, harg3.read_unread]
  exact View.ld_unit_zero (by funext a; fin_cases a <;> rfl) _ _
theorem ld4_eq : ld4 arg4 harg4 x3 = x3 := by
  unfold ld4
  rw [View.readAt_eq_ld, harg4.read_unread]
  exact View.ld_unit_zero (by funext a; fin_cases a <;> rfl) _ _
theorem ld5_eq (b : Fin 10) : ld5 arg5 harg5 x4 b = wRowsAt b x4 := by
  funext j
  unfold ld5
  rw [View.readAt_eq_ld, harg5.read_unread]
  exact View.ld_unit_apply_of x4 _ _ _ j _ (by intro a; fin_cases a <;> simp [ix2])
theorem ld6_eq (b : Fin 10) : ld6 arg6 harg6 x5 b = sRowsAt b x5 := by
  funext j
  unfold ld6
  rw [View.readAt_eq_ld, harg6.read_unread]
  exact View.ld_unit_apply_of x5 _ _ _ j _ (by
    intro a
    have h0 : (j 0).val = 0 := by have : (j 0).val < 1 := (j 0).isLt; omega
    fin_cases a <;> simp [ix3, h0])

/-- The stores of the codes, … -/
def codePc (b : Fin 7) : View.Piece (Elt F) S1792x128 .i8 :=
  ⟨Rect.unit (s := S1792x128) ![256 * b.val, 0] S256x128.size (inb7' b),
    packed (ld1 arg1 harg1 x0 b) (ld3 arg3 harg3 x2) (ld2 arg2 harg2 x1 b) (ld4 arg4 harg4 x3)⟩
/-- … of the exponents, … -/
def expPc (b : Fin 7) : View.Piece (Elt F) S1792x128 .i8 :=
  ⟨Rect.unit (s := S1792x128) ![256 * b.val, 0] S256x128.size (inb7' b), exps (ld1 arg1 harg1 x0 b) (ld3 arg3 harg3 x2)⟩
/-- … of the decoded rows … -/
def dPc (b : Fin 7) : Fin 2 → View.Piece (Elt F) S1792x256 .bf16
  | 0 => ⟨Rect.unit (s := S1792x256) ![256 * b.val, 0] S256x128.size (inb7h b 0),
    decodedA (ld1 arg1 harg1 x0 b) (ld3 arg3 harg3 x2) (ld2 arg2 harg2 x1 b) (ld4 arg4 harg4 x3)⟩
  | 1 => ⟨Rect.unit (s := S1792x256) ![256 * b.val, 128] S256x128.size (inb7h b 1),
    decodedB (ld1 arg1 harg1 x0 b) (ld3 arg3 harg3 x2) (ld2 arg2 harg2 x1 b) (ld4 arg4 harg4 x3)⟩
/-- … and of the decoded weights. -/
def wPc (b : Fin 10) : Fin 2 → View.Piece (Elt F) S2560x256 .bf16
  | 0 => ⟨Rect.unit (s := S2560x256) ![256 * b.val, 0] S256x128.size (inb10h b 0), weightA (ld5 arg5 harg5 x4 b) (ld6 arg6 harg6 x5 b)⟩
  | 1 => ⟨Rect.unit (s := S2560x256) ![256 * b.val, 128] S256x128.size (inb10h b 1), weightB (ld5 arg5 harg5 x4 b) (ld6 arg6 harg6 x5 b)⟩

/-- The store list of the codes, last store first, … -/
def codeL : List (View.Piece (Elt F) S1792x128 .i8) := [6, 5, 4, 3, 2, 1, 0].map (codePc arg1 harg1 arg2 harg2 arg3 harg3 arg4 harg4 x0 x1 x2 x3)
/-- … of the exponents, … -/
def expL : List (View.Piece (Elt F) S1792x128 .i8) := [6, 5, 4, 3, 2, 1, 0].map (expPc arg1 harg1 arg3 harg3 x0 x2)
/-- … of the decoded rows … -/
def dL : List (View.Piece (Elt F) S1792x256 .bf16) :=
  [(6, 1), (6, 0), (5, 1), (5, 0), (4, 1), (4, 0), (3, 1), (3, 0), (2, 1), (2, 0), (1, 1), (1, 0), (0, 1), (0, 0)].map
    fun p => dPc arg1 harg1 arg2 harg2 arg3 harg3 arg4 harg4 x0 x1 x2 x3 p.1 p.2
/-- … and of the decoded weights. -/
def wL : List (View.Piece (Elt F) S2560x256 .bf16) :=
  [(9, 1), (9, 0), (8, 1), (8, 0), (7, 1), (7, 0), (6, 1), (6, 0), (5, 1), (5, 0), (4, 1), (4, 0), (3, 1), (3, 0), (2, 1), (2, 0),
    (1, 1), (1, 0), (0, 1), (0, 0)].map fun p => wPc arg5 harg5 arg6 harg6 x4 x5 p.1 p.2

/-- The row block and the row of a row given by both. -/
theorem blkOf_eq (b : Fin 7) (r : Fin 256) (t : Fin 1792) (h : t.val = 256 * b.val + r.val) : blkOf t = b ∧ rowOf t = r := by
  constructor <;> apply Fin.ext <;> simp only [blkOf, rowOf] <;> omega
theorem wblkOf_eq (b : Fin 10) (r : Fin 256) (t : Fin 2560) (h : t.val = 256 * b.val + r.val) : wblkOf t = b ∧ wrowOf t = r := by
  constructor <;> apply Fin.ext <;> simp only [wblkOf, wrowOf] <;> omega

theorem codeL_tile : ∀ p ∈ codeL arg1 harg1 arg2 harg2 arg3 harg3 arg4 harg4 x0 x1 x2 x3, ∀ x : p.1.shape.Idx, p.2 x = codesBlk x0 x1 x2 x3 (p.1.emb x) := by
  intro p hp x
  obtain ⟨b, -, rfl⟩ := List.mem_map.mp hp
  change S256x128.Idx at x
  obtain ⟨h1, h2⟩ := blkOf_eq b (x 0) ((codePc arg1 harg1 arg2 harg2 arg3 harg3 arg4 harg4 x0 x1 x2 x3 b).1.emb x 0) (Rect.idx_unit_val (s := S1792x128) ![256 * b.val, 0] S256x128.size (inb7' b) x 0)
  have h3 : (codePc arg1 harg1 arg2 harg2 arg3 harg3 arg4 harg4 x0 x1 x2 x3 b).1.emb x 1 = x 1 :=
    Fin.ext ((Rect.idx_unit_val (s := S1792x128) ![256 * b.val, 0] S256x128.size (inb7' b) x 1).trans (Nat.zero_add _))
  unfold codesBlk
  rw [h1, h2, h3]
  unfold codePc
  rw [ld1_eq, ld2_eq, ld3_eq, ld4_eq]
  exact congrArg _ (eq_ix2 x)

theorem expL_tile : ∀ p ∈ expL arg1 harg1 arg3 harg3 x0 x2, ∀ x : p.1.shape.Idx, p.2 x = expsBlk x0 x2 (p.1.emb x) := by
  intro p hp x
  obtain ⟨b, -, rfl⟩ := List.mem_map.mp hp
  change S256x128.Idx at x
  obtain ⟨h1, h2⟩ := blkOf_eq b (x 0) ((expPc arg1 harg1 arg3 harg3 x0 x2 b).1.emb x 0) (Rect.idx_unit_val (s := S1792x128) ![256 * b.val, 0] S256x128.size (inb7' b) x 0)
  have h3 : (expPc arg1 harg1 arg3 harg3 x0 x2 b).1.emb x 1 = x 1 :=
    Fin.ext ((Rect.idx_unit_val (s := S1792x128) ![256 * b.val, 0] S256x128.size (inb7' b) x 1).trans (Nat.zero_add _))
  unfold expsBlk
  rw [h1, h2, h3]
  unfold expPc
  rw [ld1_eq, ld3_eq]
  exact congrArg _ (eq_ix2 x)

theorem dL_tile : ∀ p ∈ dL arg1 harg1 arg2 harg2 arg3 harg3 arg4 harg4 x0 x1 x2 x3, ∀ x : p.1.shape.Idx, p.2 x = dBlk x0 x1 x2 x3 (p.1.emb x) := by
  intro p hp x
  obtain ⟨⟨b, h⟩, -, rfl⟩ := List.mem_map.mp hp
  match h with
  | 0 =>
    change S256x128.Idx at x
    have hx : (x 1).val < 128 := (x 1).isLt
    obtain ⟨h1, h2⟩ := blkOf_eq b (x 0) ((dPc arg1 harg1 arg2 harg2 arg3 harg3 arg4 harg4 x0 x1 x2 x3 b 0).1.emb x 0) (Rect.idx_unit_val (s := S1792x256) ![256 * b.val, 0] S256x128.size (inb7h b 0) x 0)
    have h3 : ((dPc arg1 harg1 arg2 harg2 arg3 harg3 arg4 harg4 x0 x1 x2 x3 b 0).1.emb x 1).val = (x 1).val :=
      (Rect.idx_unit_val (s := S1792x256) ![256 * b.val, 0] S256x128.size (inb7h b 0) x 1).trans (Nat.zero_add _)
    unfold dBlk
    rw [h1, h2, dif_pos (h3.trans_lt hx)]
    simp only [h3]
    unfold dPc
    rw [ld1_eq, ld2_eq, ld3_eq, ld4_eq]
    exact congrArg _ (eq_ix2 x)
  | 1 =>
    change S256x128.Idx at x
    have hx : (x 1).val < 128 := (x 1).isLt
    obtain ⟨h1, h2⟩ := blkOf_eq b (x 0) ((dPc arg1 harg1 arg2 harg2 arg3 harg3 arg4 harg4 x0 x1 x2 x3 b 1).1.emb x 0) (Rect.idx_unit_val (s := S1792x256) ![256 * b.val, 128] S256x128.size (inb7h b 1) x 0)
    have h3 : ((dPc arg1 harg1 arg2 harg2 arg3 harg3 arg4 harg4 x0 x1 x2 x3 b 1).1.emb x 1).val = 128 + (x 1).val :=
      Rect.idx_unit_val (s := S1792x256) ![256 * b.val, 128] S256x128.size (inb7h b 1) x 1
    unfold dBlk
    rw [h1, h2, dif_neg (by rw [h3]; omega)]
    simp only [h3, Nat.add_sub_cancel_left]
    unfold dPc
    rw [ld1_eq, ld2_eq, ld3_eq, ld4_eq]
    exact congrArg _ (eq_ix2 x)

theorem wL_tile : ∀ p ∈ wL arg5 harg5 arg6 harg6 x4 x5, ∀ x : p.1.shape.Idx, p.2 x = wBlk x4 x5 (p.1.emb x) := by
  intro p hp x
  obtain ⟨⟨b, h⟩, -, rfl⟩ := List.mem_map.mp hp
  match h with
  | 0 =>
    change S256x128.Idx at x
    have hx : (x 1).val < 128 := (x 1).isLt
    obtain ⟨h1, h2⟩ := wblkOf_eq b (x 0) ((wPc arg5 harg5 arg6 harg6 x4 x5 b 0).1.emb x 0) (Rect.idx_unit_val (s := S2560x256) ![256 * b.val, 0] S256x128.size (inb10h b 0) x 0)
    have h3 : ((wPc arg5 harg5 arg6 harg6 x4 x5 b 0).1.emb x 1).val = (x 1).val :=
      (Rect.idx_unit_val (s := S2560x256) ![256 * b.val, 0] S256x128.size (inb10h b 0) x 1).trans (Nat.zero_add _)
    unfold wBlk
    rw [h1, h2, dif_pos (h3.trans_lt hx)]
    simp only [h3]
    unfold wPc
    rw [ld5_eq, ld6_eq]
    exact congrArg _ (eq_ix2 x)
  | 1 =>
    change S256x128.Idx at x
    have hx : (x 1).val < 128 := (x 1).isLt
    obtain ⟨h1, h2⟩ := wblkOf_eq b (x 0) ((wPc arg5 harg5 arg6 harg6 x4 x5 b 1).1.emb x 0) (Rect.idx_unit_val (s := S2560x256) ![256 * b.val, 128] S256x128.size (inb10h b 1) x 0)
    have h3 : ((wPc arg5 harg5 arg6 harg6 x4 x5 b 1).1.emb x 1).val = 128 + (x 1).val :=
      Rect.idx_unit_val (s := S2560x256) ![256 * b.val, 128] S256x128.size (inb10h b 1) x 1
    unfold wBlk
    rw [h1, h2, dif_neg (by rw [h3]; omega)]
    simp only [h3, Nat.add_sub_cancel_left]
    unfold wPc
    rw [ld5_eq, ld6_eq]
    exact congrArg _ (eq_ix2 x)

theorem codeL_cover (y : S1792x128.Idx) : ∃ p ∈ codeL arg1 harg1 arg2 harg2 arg3 harg3 arg4 harg4 x0 x1 x2 x3, y ∈ p.1.set :=
  View.cover_of_tiledL (codeL arg1 harg1 arg2 harg2 arg3 harg3 arg4 harg4 x0 x1 x2 x3) S256x128.size (by sl_kernel_rfl) y
theorem expL_cover (y : S1792x128.Idx) : ∃ p ∈ expL arg1 harg1 arg3 harg3 x0 x2, y ∈ p.1.set :=
  View.cover_of_tiledL (expL arg1 harg1 arg3 harg3 x0 x2) S256x128.size (by sl_kernel_rfl) y
theorem dL_cover (y : S1792x256.Idx) : ∃ p ∈ dL arg1 harg1 arg2 harg2 arg3 harg3 arg4 harg4 x0 x1 x2 x3, y ∈ p.1.set :=
  View.cover_of_tiledL (dL arg1 harg1 arg2 harg2 arg3 harg3 arg4 harg4 x0 x1 x2 x3) S256x128.size (by sl_kernel_rfl) y
theorem wL_cover (y : S2560x256.Idx) : ∃ p ∈ wL arg5 harg5 arg6 harg6 x4 x5, y ∈ p.1.set :=
  View.cover_of_tiledL (wL arg5 harg5 arg6 harg6 x4 x5) S256x128.size (by sl_kernel_rfl) y

/-- Read back, the stores are the functions. -/
theorem codeL_canon : View.canon (codeL arg1 harg1 arg2 harg2 arg3 harg3 arg4 harg4 x0 x1 x2 x3) = codesBlk x0 x1 x2 x3 :=
  funext fun y => View.canon_apply_of_pieces _ _ (codeL_tile arg1 harg1 arg2 harg2 arg3 harg3 arg4 harg4 x0 x1 x2 x3) y (codeL_cover ..)
theorem expL_canon : View.canon (expL arg1 harg1 arg3 harg3 x0 x2) = expsBlk x0 x2 :=
  funext fun y => View.canon_apply_of_pieces _ _ (expL_tile arg1 harg1 arg3 harg3 x0 x2) y (expL_cover ..)
theorem dL_canon : View.canon (dL arg1 harg1 arg2 harg2 arg3 harg3 arg4 harg4 x0 x1 x2 x3) = dBlk x0 x1 x2 x3 :=
  funext fun y => View.canon_apply_of_pieces _ _ (dL_tile arg1 harg1 arg2 harg2 arg3 harg3 arg4 harg4 x0 x1 x2 x3) y (dL_cover ..)
theorem wL_canon : View.canon (wL arg5 harg5 arg6 harg6 x4 x5) = wBlk x4 x5 :=
  funext fun y => View.canon_apply_of_pieces _ _ (wL_tile arg5 harg5 arg6 harg6 x4 x5) y (wL_cover ..)

/-- The loads of the whole operands after those stores. -/
def ldD (v : View sig .tc .vmem S1792x256 .bf16) : Vec F S1792x256 .bf16 :=
  v.readCov (dL arg1 harg1 arg2 harg2 arg3 harg3 arg4 harg4 x0 x1 x2 x3) (Rect.unit (s := S1792x256) ![0, 0] S1792x256.size (by decide)).toLoadRect
@[inherit_doc ldD]
def ldW (v : View sig .tc .vmem S2560x256 .bf16) : Vec F S2560x256 .bf16 :=
  v.readCov (wL arg5 harg5 arg6 harg6 x4 x5) (Rect.unit (s := S2560x256) ![0, 0] S2560x256.size (by decide)).toLoadRect

theorem ldD_eq (v) : ldD arg1 harg1 arg2 harg2 arg3 harg3 arg4 harg4 x0 x1 x2 x3 v = dBlk x0 x1 x2 x3 := by
  unfold ldD
  rw [View.readCov_eq_canon_ld _ _ _ (dL_cover arg1 harg1 arg2 harg2 arg3 harg3 arg4 harg4 x0 x1 x2 x3), dL_canon]
  exact View.ld_unit_zero (by funext a; fin_cases a <;> rfl) _ _
theorem ldW_eq (v) : ldW arg5 harg5 arg6 harg6 x4 x5 v = wBlk x4 x5 := by
  unfold ldW
  rw [View.readCov_eq_canon_ld _ _ _ (wL_cover arg5 harg5 arg6 harg6 x4 x5), wL_canon]
  exact View.ld_unit_zero (by funext a; fin_cases a <;> rfl) _ _

end Loads

end Cert.KernelIdeal.Block
-- ==== Proof.Host.lean ====
module

public import proofs.«01_k».proof.Proof.Pieces
public import Idealize.ShloMosaic.Lib.StableHlo.RunRead

/-! # What the host hands to the kernel

The arrays the kernel's windows read, as functions of the arguments. -/

@[expose] public section

noncomputable section

namespace Cert.KernelIdeal.Block

open Cert.KernelIdeal Cert.KernelIdeal.Gen Idealize.ShloMosaic Idealize.ShloMosaic.TcCoe Idealize.SL.Sem Idealize.ShloMosaic.ValueIdx

variable {F : FTy → Type} [FloatOps F]

/-- The parity of the number of common set bits of row and column. -/
def both : IVec S32x32 32 :=
  andi (broadcastInDim S32x32 ![0, 1] bcast_S32x1_S32x32_0_1 (broadcastInDim S32x1 ![0] bcast_S32_S32x1_0 (iotaInDim S32 32 0)))
    (broadcastInDim S32x32 ![0, 1] bcast_S1x32_S32x32_0_1 (broadcastInDim S1x32 ![1] bcast_S32_S1x32_1 (iotaInDim S32 32 0)))

def full (n : BitVec 32) : IVec S32x32 32 := broadcastInDim S32x32 ![] bcast_S_S32x32 (constantI S_ 32 n)

def bitAt (n : BitVec 32) : IVec S32x32 32 := andi (Host.shrsi both (full n)) (full 1#32)

def popcount : IVec S32x32 32 :=
  addi (addi (addi (addi (addi (full 0#32) (bitAt 0#32)) (bitAt 1#32)) (bitAt 2#32)) (bitAt 3#32)) (bitAt 4#32)

def divisor : IVec S_ 32 := select (cmpi .eq (constantI S_ 32 2#32) (constantI S_ 32 0#32)) (constantI S_ 32 1#32) (constantI S_ 32 2#32)

def rest : IVec S32x32 32 := Host.remsi popcount (broadcastInDim S32x32 ![] bcast_S_S32x32 divisor)

def parity : IVec S32x32 32 :=
  select (andi (cmpi .ne (cmpi .slt rest (full 0#32)) (broadcastInDim S32x32 ![] bcast_S_S32x32 (cmpi .slt divisor (constantI S_ 32 0#32))))
    (cmpi .ne rest (full 0#32))) (addi rest (broadcastInDim S32x32 ![] bcast_S_S32x32 divisor)) rest

/-- The signs of the Hadamard matrix. -/
def signs : FVec F S32x32 .f32 :=
  select (cmpi .eq parity (full 0#32)) (broadcastInDim S32x32 ![] bcast_S_S32x32 (constant S_ .f32 0x3F800000#32))
    (broadcastInDim S32x32 ![] bcast_S_S32x32 (constant S_ .f32 0xBF800000#32))

def eighths : FVec F S32x32 .f32 := mulf signs (broadcastInDim S32x32 ![] bcast_S_S32x32 (constant S_ .f32 0x3E000000#32))

def unit8 : FVec F S8x8 .f32 :=
  uitofp .f32 (cmpi .eq (addi (iotaInDim S8x8 32 0) (broadcastInDim S8x8 ![] bcast_S_S8x8 (constantI S_ 32 0#32))) (iotaInDim S8x8 32 1))

/-- Eight copies of the matrix along the diagonal. -/
def diagonal : FVec F S256x256 .f32 :=
  shapeCast S256x256 (mulf (broadcastInDim S8x32x8x32 ![0, 1, 2, 3] bcast_S8x1x8x1_S8x32x8x32_0_1_2_3 (broadcastInDim S8x1x8x1 ![0, 2] bcast_S8x8_S8x1x8x1_0_2 unit8))
    (broadcastInDim S8x32x8x32 ![0, 1, 2, 3] bcast_S1x32x1x32_S8x32x8x32_0_1_2_3 (broadcastInDim S1x32x1x32 ![1, 3] bcast_S32x32_S1x32x1x32_1_3 eighths)))
    shapeCasts_S8x32x8x32_S256x256

def half (n : BitVec 32) : IVec S128 32 :=
  addi (broadcastInDim S128 ![] bcast_S_S128 (constantI S_ 32 n)) (muli (broadcastInDim S128 ![] bcast_S_S128 (constantI S_ 32 2#32)) (iotaInDim S128 32 0))

/-- Even columns first, odd columns after. -/
def order : IVec S256 32 := concatenate S256 0 [⟨S128, half 0#32⟩, ⟨S128, half 1#32⟩] concatenates_S128_S128_S256_d0

def picks : IVec S256x1 32 :=
  broadcastInDim S256x1 ![0] bcast_S256_S256x1_0
    (select (cmpi .slt order (broadcastInDim S256 ![] bcast_S_S256 (constantI S_ 32 0#32))) (addi order (broadcastInDim S256 ![] bcast_S_S256 (constantI S_ 32 256#32))) order)

def gathered : FVec F S256x256 .f32 :=
  Host.gather gather_S256x256_S256x1_S256x256_0_1_n_n_1_1_2561 (transpose S256x256 [1, 0] diagonal transposes_S256x256_S256x256_1_0) picks

def rotArr (sg : FVec F S6912 .f32) : FVec F S27x256x256 .bf16 :=
  truncf .bf16 (mulf (broadcastInDim S27x256x256 ![0, 1, 2] bcast_S1x256x256_S27x256x256_0_1_2 (broadcastInDim S1x256x256 ![1, 2] bcast_S256x256_S1x256x256_1_2 gathered))
    (broadcastInDim S27x256x256 ![0, 1, 2] bcast_S27x256x1_S27x256x256_0_1_2 (shapeCast S27x256x1 sg shapeCasts_S6912_S27x256x1))) bitsLt_bf16_f32

def permArr : FVec F S256x256 .bf16 :=
  uitofp .bf16 (cmpi .eq (broadcastInDim S256x256 ![0, 1] bcast_S256x1_S256x256_0_1 (broadcastInDim S256x1 ![0] bcast_S256_S256x1_0 (iotaInDim S256 32 0)))
    (broadcastInDim S256x256 ![0, 1] bcast_S1x256_S256x256_0_1 (broadcastInDim S1x256 ![1] bcast_S256_S1x256_1 order)))

def powArr (e : IVec S2560x216 8) : FVec F S2560x216 .bf16 :=
  truncf .bf16 (Host.powf (broadcastInDim S2560x216 ![] bcast_S_S2560x216 (constant S_ .f32 0x40000000#32)) (sitofp .f32 (extsi 32 e natLt_8_32)) ) bitsLt_bf16_f32

def scaleArr (e : IVec S2560x216 8) : FVec F S27x2560x128 .bf16 :=
  shapeCast S27x2560x128 (broadcastInDim S27x2560x8x16 ![0, 1, 2] bcast_S27x2560x8_S27x2560x8x16_0_1_2
    (transpose S27x2560x8 [1, 0, 2] (shapeCast S2560x27x8 (powArr e) shapeCasts_S2560x216_S2560x27x8) transposes_S2560x27x8_S27x2560x8_1_0_2))
    shapeCasts_S27x2560x8x16_S27x2560x128

variable (m : (ℓ : Loc nD τ sig) → Buf (Elt F) ℓ) (c : Dev nD)

theorem V_dy : V m c main_v0 = shapeCast S1792x6912 (m (c, main_arg0)) shapeCasts_S2x896x6912_S1792x6912 := by
  dsimp only [V]
  after_reads_simp
  rfl

theorem V_rand : V m c main_v88 = shapeCast S1792x6912 (m (c, main_arg3)) shapeCasts_S2x896x6912_S1792x6912 := by
  dsimp only [V]
  after_reads_simp
  rfl

set_option maxHeartbeats 4000000 in
theorem V_rot : V m c main_v71 = rotArr (m (c, main_arg2)) := by
  dsimp only [V]
  after_reads_simp
  rfl

theorem V_perm : V m c main_v78 = permArr := by
  dsimp only [V]
  after_reads_simp
  rfl

theorem V_scale : V m c main_v87 = scaleArr (m (c, main_arg4)) := by
  dsimp only [V]
  after_reads_simp
  rfl

end Cert.KernelIdeal.Block
-- ==== Proof.HostElems.lean ====
module

public import proofs.«01_k».proof.Proof.Host
public import proofs.«01_k».proof.Proof.Scalars

/-! # The host's arrays, element by element -/

@[expose] public section

noncomputable section

namespace Cert.Spec

/-- Whether row and column of the Hadamard matrix share an even number of bits. -/
def evenBits (n : ℕ) : Bool := (n % 2 + n / 2 % 2 + n / 4 % 2 + n / 8 % 2 + n / 16 % 2) % 2 == 0

/-- The signs of the Hadamard matrix. -/
def had (i j : Fin 32) : ℤ := if evenBits (Nat.land i.val j.val) then 1 else -1

theorem had_comm : ∀ i j : Fin 32, had i j = had j i := by decide +kernel

theorem had_abs (i j : Fin 32) : had i j = 1 ∨ had i j = -1 := by unfold had; split <;> simp

theorem had_orth : ∀ j k : Fin 32, ∑ i, had i j * had i k = if j = k then 32 else 0 := by decide +kernel

/-- The column a rotated column stands for: even columns first. -/
def ord (l : Fin 256) : Fin 256 := if h : l.val < 128 then ⟨2 * l.val, by omega⟩ else ⟨2 * (l.val - 128) + 1, by have := l.isLt; omega⟩

end Cert.Spec

namespace Cert.KernelIdeal.Block

open Cert.KernelIdeal Cert.KernelIdeal.Gen Idealize.ShloMosaic Idealize.ShloMosaic.TcCoe Idealize.SL.Sem Idealize.ShloMosaic.ValueIdx
open Cert.KernelIdeal.Scalars Cert.Spec

theorem even_eq : ∀ i j : Fin 32, cmpi .eq parity (full 0#32) (ix2 i j) = BitVec.ofBool (evenBits (Nat.land i.val j.val)) := by decide +kernel

theorem signs_apply (i j : Fin 32) : (signs (F := Ideal) (ix2 i j) : EReal) = ((had i j : ℝ) : EReal) := by
  unfold signs select
  show Scalar.select (cmpi .eq parity (full 0#32) (ix2 i j)) (Ideal.ofBits .f32 0x3F800000#32) (Ideal.ofBits .f32 0xBF800000#32) = _
  rw [even_eq, ofBits_one, ofBits_neg_one]
  unfold had
  cases evenBits (Nat.land i.val j.val) <;> simp [Scalar.select]

theorem eighths_apply (i j : Fin 32) : (eighths (F := Ideal) (ix2 i j) : EReal) = (((had i j : ℝ) * (1 / 8) : ℝ) : EReal) := by
  unfold eighths
  rw [mulf_apply, signs_apply]
  show _ * Ideal.ofBits .f32 0x3E000000#32 = _
  rw [ofBits_eighth, ← EReal.coe_mul]

theorem unit8_bit : ∀ a b : Fin 8, cmpi .eq (addi (iotaInDim S8x8 32 0) (broadcastInDim S8x8 ![] bcast_S_S8x8 (constantI S_ 32 0#32))) (iotaInDim S8x8 32 1) (ix2 a b)
    = BitVec.ofBool (decide (a = b)) := by decide +kernel

theorem unit8_apply (a b : Fin 8) : (unit8 (F := Ideal) (ix2 a b) : EReal) = if a = b then 1 else 0 := by
  unfold unit8
  show ((((cmpi .eq _ _ (ix2 a b) : BitVec 1).toNat : ℝ)) : EReal) = _
  rw [unit8_bit]
  by_cases h : a = b <;> simp [h]

theorem diagonal_apply (a b : Fin 8) (i j : Fin 32) (p q : Fin 256) (hp : p.val = 32 * a.val + i.val) (hq : q.val = 32 * b.val + j.val) :
    (diagonal (F := Ideal) (ix2 p q) : EReal) = if a = b then (((had i j : ℝ) * (1 / 8) : ℝ) : EReal) else 0 := by
  unfold diagonal
  rw [shapeCast_apply _ shapeCasts_S8x32x8x32_S256x256 (ix2 p q) (ix4 a i b j) (by
    rw [Shape.rowMajor_val_two, Shape.rowMajor_val_four]
    have := a.isLt; have := b.isLt; have := i.isLt; have := j.isLt
    show ((a.val * 32 + i.val) * 8 + b.val) * 32 + j.val = p.val * 256 + q.val
    omega)]
  rw [mulf_apply]
  rw [broadcastInDim_apply _ bcast_S8x1x8x1_S8x32x8x32_0_1_2_3 _ (ix4 a i b j) (ix4 a (0 : Fin 1) b (0 : Fin 1)) (fun x => by fin_cases x <;> rfl),
    broadcastInDim_apply _ bcast_S8x8_S8x1x8x1_0_2 _ (ix4 a (0 : Fin 1) b (0 : Fin 1)) (ix2 a b) (fun x => by fin_cases x <;> rfl),
    broadcastInDim_apply _ bcast_S1x32x1x32_S8x32x8x32_0_1_2_3 _ (ix4 a i b j) (ix4 (0 : Fin 1) i (0 : Fin 1) j) (fun x => by fin_cases x <;> rfl),
    broadcastInDim_apply _ bcast_S32x32_S1x32x1x32_1_3 _ (ix4 (0 : Fin 1) i (0 : Fin 1) j) (ix2 i j) (fun x => by fin_cases x <;> rfl)]
  rw [unit8_apply, eighths_apply]
  split
  · rw [one_mul]
  · rw [zero_mul]

theorem order_apply : ∀ l : Fin 256, order (ix1 l) = BitVec.ofNat 32 (ord l).val := by decide +kernel

theorem picks_apply : ∀ l : Fin 256, (picks (ix2 l (0 : Fin 1))).toInt.toNat = (ord l).val := by decide +kernel

theorem gathered_apply (q l : Fin 256) : (gathered (F := Ideal) (ix2 q l) : EReal) = diagonal (F := Ideal) (ix2 (ord l) q) := by
  have key : Host.gather gather_S256x256_S256x1_S256x256_0_1_n_n_1_1_2561 (transpose S256x256 [1, 0] (diagonal (F := Ideal)) transposes_S256x256_S256x256_1_0) picks (ix2 q l)
      = transpose S256x256 [1, 0] (diagonal (F := Ideal)) transposes_S256x256_S256x256_1_0 (ix2 q (ord l)) := by
    unfold Host.gather
    congr 1
    funext a
    refine Fin.ext ?_
    let d := gather_S256x256_S256x1_S256x256_0_1_n_n_1_1_2561
    show d.start (ix2 q l) picks a + d.batchCoord (ix2 q l) a + d.offCoord (ix2 q l) a = _
    rw [GatherDims.batchCoord_eq_zero _ _ _ List.not_mem_nil]
    have h01 : a = 0 ∨ a = 1 := by
      match a with
      | ⟨0, _⟩ => exact Or.inl rfl
      | ⟨1, _⟩ => exact Or.inr rfl
    rcases h01 with rfl | rfl
    · have h0 : d.start (ix2 q l) picks 0 = 0 := by
        unfold GatherDims.start
        rw [dif_neg (by decide)]
      rw [h0]
      simp only [Nat.zero_add, Nat.add_zero]
      rfl
    · rw [GatherDims.offCoord_eq_zero _ _ _ (fun h => ((GatherDims.mem_sKept _ _).mp h).1 (List.mem_singleton.mpr rfl))]
      simp only [Nat.add_zero]
      unfold GatherDims.start
      rw [dif_pos (show (1 : Fin 2) ∈ d.startIndexMap from List.mem_singleton.mpr rfl)]
      have hsi : d.siIdx (ix2 q l) ⟨List.idxOf (1 : Fin 2) d.startIndexMap, List.idxOf_lt_length_iff.2 (List.mem_singleton.mpr rfl)⟩ = ix2 l (0 : Fin 1) := by
        funext b; refine Fin.ext ?_
        match b with
        | ⟨0, _⟩ => rfl
        | ⟨1, _⟩ => rfl
      rw [hsi]
      show min (picks (ix2 l (0 : Fin 1))).toInt.toNat 255 = (ord l).val
      rw [picks_apply]
      have := (ord l).isLt
      omega
  unfold gathered
  rw [key]
  exact transpose_apply _ _ _ _ _ (fun x => by fin_cases x <;> rfl)

theorem rotArr_apply (sg : FVec Ideal S6912 .f32) (j : Fin 27) (q l : Fin 256) (p : Fin 6912) (hp : p.val = 256 * j.val + q.val) :
    (rotArr sg (ix3 j q l) : EReal) = diagonal (F := Ideal) (ix2 (ord l) q) * sg (ix1 p) := by
  unfold rotArr
  rw [truncf_apply, mulf_apply]
  rw [broadcastInDim_apply _ bcast_S1x256x256_S27x256x256_0_1_2 _ (ix3 j q l) (ix3 (0 : Fin 1) q l) (fun x => by fin_cases x <;> rfl),
    broadcastInDim_apply _ bcast_S256x256_S1x256x256_1_2 _ (ix3 (0 : Fin 1) q l) (ix2 q l) (fun x => by fin_cases x <;> rfl),
    broadcastInDim_apply _ bcast_S27x256x1_S27x256x256_0_1_2 _ (ix3 j q l) (ix3 j q (0 : Fin 1)) (fun x => by fin_cases x <;> rfl),
    gathered_apply]
  rw [shapeCast_apply sg shapeCasts_S6912_S27x256x1 (ix3 j q (0 : Fin 1)) (ix1 p) (by
    rw [Shape.rowMajor_val_one, Shape.rowMajor_val_three]
    show p.val = (j.val * 256 + q.val) * 1 + 0
    omega)]

theorem permArr_bit (q l : Fin 256) : cmpi .eq (broadcastInDim S256x256 ![0, 1] bcast_S256x1_S256x256_0_1 (broadcastInDim S256x1 ![0] bcast_S256_S256x1_0 (iotaInDim S256 32 0)))
    (broadcastInDim S256x256 ![0, 1] bcast_S1x256_S256x256_0_1 (broadcastInDim S1x256 ![1] bcast_S256_S1x256_1 order)) (ix2 q l)
    = BitVec.ofBool (decide (q = ord l)) := by
  show Scalar.cmpi .eq (BitVec.ofNat 32 q.val) (broadcastInDim S256x256 ![0, 1] bcast_S1x256_S256x256_0_1 (broadcastInDim S1x256 ![1] bcast_S256_S1x256_1 order) (ix2 q l)) = _
  rw [broadcastInDim_apply _ bcast_S1x256_S256x256_0_1 _ (ix2 q l) (ix2 (0 : Fin 1) l) (fun x => by fin_cases x <;> rfl),
    broadcastInDim_apply _ bcast_S256_S1x256_1 _ (ix2 (0 : Fin 1) l) (ix1 l) (fun x => by fin_cases x <;> rfl), order_apply]
  generalize ord l = o
  show BitVec.ofBool (decide (BitVec.ofNat 32 q.val = BitVec.ofNat 32 o.val)) = _
  congr 1
  rw [decide_eq_decide]
  constructor
  · intro h
    have := congrArg BitVec.toNat h
    simp only [BitVec.toNat_ofNat] at this
    have := q.isLt; have := o.isLt
    exact Fin.ext (by omega)
  · intro h; rw [h]

theorem permArr_apply (q l : Fin 256) : (permArr (F := Ideal) (ix2 q l) : EReal) = if q = ord l then 1 else 0 := by
  unfold permArr
  show ((((cmpi .eq _ _ (ix2 q l) : BitVec 1).toNat : ℝ)) : EReal) = _
  rw [permArr_bit]
  by_cases h : q = ord l <;> simp [h]

theorem scaleArr_apply (e : IVec S2560x216 8) (j : Fin 27) (k : Fin 2560) (l : Fin 128) (g : Fin 216) (hg : g.val = 8 * j.val + l.val / 16) :
    scaleArr (F := Ideal) e (ix3 j k l) = powArr (F := Ideal) e (ix2 k g) := by
  unfold scaleArr
  have hl := l.isLt
  have hj := j.isLt
  have hk := k.isLt
  rw [shapeCast_apply _ shapeCasts_S27x2560x8x16_S27x2560x128 (ix3 j k l) (ix4 j k (⟨l.val / 16, by omega⟩ : Fin 8) (⟨l.val % 16, by omega⟩ : Fin 16)) (by
    rw [Shape.rowMajor_val_four, Shape.rowMajor_val_three]
    show ((j.val * 2560 + k.val) * 8 + l.val / 16) * 16 + l.val % 16 = (j.val * 2560 + k.val) * 128 + l.val
    omega)]
  rw [broadcastInDim_apply _ bcast_S27x2560x8_S27x2560x8x16_0_1_2 _ _ (ix3 j k (⟨l.val / 16, by omega⟩ : Fin 8)) (fun x => by fin_cases x <;> rfl)]
  rw [transpose_apply _ _ transposes_S2560x27x8_S27x2560x8_1_0_2 _ (ix3 k j (⟨l.val / 16, by omega⟩ : Fin 8)) (fun x => by fin_cases x <;> rfl)]
  rw [shapeCast_apply _ shapeCasts_S2560x216_S2560x27x8 _ (ix2 k g) (by
    rw [Shape.rowMajor_val_two, Shape.rowMajor_val_three]
    show k.val * 216 + g.val = (k.val * 27 + j.val) * 8 + l.val / 16
    omega)]

end Cert.KernelIdeal.Block
-- ==== Proof.Groups.lean ====
module

public import proofs.«01_k».proof.Proof.HostElems

/-! # One group of 32 columns

A group is rotated by the Hadamard matrix, scaled by a power of two taken from its largest magnitude, and coded. -/

@[expose] public section

noncomputable section

namespace Cert.Spec

/-- The rotated group. -/
def V (x : Fin 32 → ℝ) (i : Fin 32) : ℝ := ∑ j, x j * ((had i j : ℝ) * (1 / 8))

/-- The largest magnitude of the rotated group, in the units of the normalised matrix. -/
def A (x : Fin 32 → ℝ) : ℝ := (Finset.univ.sup' ⟨0, Finset.mem_univ 0⟩ fun i => |V x i|) * root2

/-- The scaled element. -/
def Y (x : Fin 32 → ℝ) (i : Fin 32) : ℝ := V x i * root2 * (3 / 4 * (2 : ℝ) ^ (-expo (A x)))

/-- The code of an element. -/
def cd (x : Fin 32 → ℝ) (i : Fin 32) (ρ : ℕ) : ℕ := (code (Y x i) ρ).toNat

/-- The decoded element. -/
def dec (x : Fin 32 → ℝ) (i : Fin 32) (ρ : ℕ) : ℝ := e2m1 (cd x i ρ) * (2 : ℝ) ^ expo (A x)

theorem V_le_A (x : Fin 32 → ℝ) (i : Fin 32) : |V x i * root2| ≤ A x := by
  rw [abs_mul, abs_of_pos root2_pos]
  exact mul_le_mul_of_nonneg_right (Finset.le_sup' (fun i => |V x i|) (Finset.mem_univ i)) root2_pos.le

theorem A_mem (x : Fin 32 → ℝ) : ∃ i, A x = |V x i * root2| := by
  obtain ⟨i, -, h⟩ := Finset.exists_mem_eq_sup' ⟨0, Finset.mem_univ 0⟩ (fun i => |V x i|)
  refine ⟨i, ?_⟩
  rw [abs_mul, abs_of_pos root2_pos]
  unfold A
  rw [h]

theorem A_nonneg (x : Fin 32 → ℝ) : 0 ≤ A x := (abs_nonneg _).trans (V_le_A x 0)

/-- The largest magnitude, from any description of it. -/
theorem eq_A (x : Fin 32 → ℝ) (B : EReal) (h1 : ∀ i, ((|V x i * root2| : ℝ) : EReal) ≤ B) (h2 : ∃ i, B = ((|V x i * root2| : ℝ) : EReal)) :
    B = ((A x : ℝ) : EReal) := by
  obtain ⟨i, hi⟩ := h2
  obtain ⟨j, hj⟩ := A_mem x
  apply le_antisymm
  · rw [hi]; exact EReal.coe_le_coe_iff.mpr (V_le_A x i)
  · rw [hj]; exact h1 j

theorem V_eq_zero (x : Fin 32 → ℝ) (h : A x = 0) (i : Fin 32) : V x i = 0 := by
  have h1 := V_le_A x i
  rw [h] at h1
  have h2 : V x i * root2 = 0 := abs_nonpos_iff.mp h1
  exact (mul_eq_zero.mp h2).resolve_right root2_pos.ne'

theorem Y_eq_zero (x : Fin 32 → ℝ) (h : A x = 0) (i : Fin 32) : Y x i = 0 := by
  unfold Y; rw [V_eq_zero x h, zero_mul, zero_mul]

theorem Y_lt (x : Fin 32 → ℝ) (i : Fin 32) : |Y x i| < 6 := scaled_lt (V_le_A x i)

theorem code_zero (r : ℕ) : code 0 r = 0 := by
  unfold code mag level
  norm_num
  try positivity

theorem cd_lt (x : Fin 32 → ℝ) (i : Fin 32) (ρ : ℕ) : cd x i ρ < 16 := by
  have h := code_lt (Y_lt x i) ρ
  have h' := code_nonneg (Y x i) ρ
  unfold cd; omega

theorem cd_cast (x : Fin 32 → ℝ) (i : Fin 32) (ρ : ℕ) : (code (Y x i) ρ : ℤ) = (cd x i ρ : ℤ) := by
  have h' := code_nonneg (Y x i) ρ
  unfold cd; omega

theorem cd_zero (x : Fin 32 → ℝ) (h : A x = 0) (i : Fin 32) (ρ : ℕ) : cd x i ρ = 0 := by
  unfold cd; rw [Y_eq_zero x h, code_zero]; rfl

theorem dec_zero (x : Fin 32 → ℝ) (h : A x = 0) (i : Fin 32) (ρ : ℕ) : dec x i ρ = 0 := by
  unfold dec; rw [cd_zero x h]; simp [e2m1, grid2]

/-- The rotation undone. -/
theorem unrotate (x : Fin 32 → ℝ) (k : Fin 32) : ∑ i, V x i * (had i k : ℝ) = 4 * x k := by
  have h : ∀ j, ∑ i, (had i j : ℝ) * (had i k : ℝ) = if j = k then 32 else 0 := by
    intro j
    have := had_orth j k
    have h2 := congrArg (fun z : ℤ => (z : ℝ)) this
    push_cast at h2
    rw [h2]
  calc ∑ i, V x i * (had i k : ℝ) = ∑ i, ∑ j, x j * (1 / 8) * ((had i j : ℝ) * (had i k : ℝ)) := by
        refine Finset.sum_congr rfl fun i _ => ?_
        unfold V
        rw [Finset.sum_mul]
        exact Finset.sum_congr rfl fun j _ => by ring
    _ = ∑ j, x j * (1 / 8) * ∑ i, (had i j : ℝ) * (had i k : ℝ) := by
        rw [Finset.sum_comm]
        exact Finset.sum_congr rfl fun j _ => by rw [Finset.mul_sum]
    _ = 4 * x k := by
        simp only [h]
        rw [Finset.sum_eq_single k]
        · rw [if_pos rfl]; ring
        · intro j _ hj; rw [if_neg hj]; ring
        · intro h; exact absurd (Finset.mem_univ k) h

theorem had_cast_abs (i j : Fin 32) : |(had i j : ℝ)| = 1 := by
  rcases had_abs i j with h | h <;> rw [h] <;> simp

/-- What the precondition says of one element. -/
def Fair (v : ℝ) : Prop := v = 0 ∨ ((2 : ℝ) ^ (-100 : ℤ) ≤ |v| ∧ |v| ≤ (2 : ℝ) ^ (100 : ℤ))

theorem root2_ge : (1 : ℝ) ≤ root2 := by unfold root2; norm_num
theorem root2_lt : root2 < 2 := by unfold root2; norm_num

theorem A_le (x : Fin 32 → ℝ) (hx : ∀ j, Fair (x j)) : A x < (2 : ℝ) ^ (103 : ℤ) := by
  obtain ⟨i, hi⟩ := A_mem x
  have hb : ∀ j, |x j| ≤ (2 : ℝ) ^ (100 : ℤ) := fun j => by
    rcases hx j with h | h
    · rw [h, abs_zero]; positivity
    · exact h.2
  have hV : |V x i| ≤ 4 * (2 : ℝ) ^ (100 : ℤ) := by
    unfold V
    calc |∑ j, x j * ((had i j : ℝ) * (1 / 8))| ≤ ∑ j, |x j * ((had i j : ℝ) * (1 / 8))| := Finset.abs_sum_le_sum_abs _ _
      _ ≤ ∑ j : Fin 32, (2 : ℝ) ^ (100 : ℤ) * (1 / 8) := Finset.sum_le_sum fun j _ => by
          rw [abs_mul, abs_mul, had_cast_abs, one_mul, abs_of_pos (by norm_num : (0 : ℝ) < 1 / 8)]
          exact mul_le_mul_of_nonneg_right (hb j) (by norm_num)
      _ = 4 * (2 : ℝ) ^ (100 : ℤ) := by
          rw [Finset.sum_const, Finset.card_univ, Fintype.card_fin, nsmul_eq_mul]; push_cast; ring
  have h3 : (2 : ℝ) ^ (103 : ℤ) = 4 * (2 : ℝ) ^ (100 : ℤ) * 2 := by norm_num
  rw [hi, abs_mul, abs_of_pos root2_pos, h3]
  exact mul_lt_mul' hV root2_lt root2_pos.le (by positivity)

theorem le_A (x : Fin 32 → ℝ) (hx : ∀ j, Fair (x j)) (h0 : A x ≠ 0) : (2 : ℝ) ^ (-103 : ℤ) ≤ A x := by
  have hex : ∃ k, x k ≠ 0 := by
    by_contra hno
    push Not at hno
    obtain ⟨i, hi⟩ := A_mem x
    apply h0
    rw [hi]
    have : V x i = 0 := by unfold V; exact Finset.sum_eq_zero fun j _ => by rw [hno j, zero_mul]
    rw [this, zero_mul, abs_zero]
  obtain ⟨k, hk⟩ := hex
  have hk' : (2 : ℝ) ^ (-100 : ℤ) ≤ |x k| := by
    rcases hx k with h | h
    · exact absurd h hk
    · exact h.1
  have hs : 4 * |x k| ≤ 32 * A x := by
    rw [show 4 * |x k| = |4 * x k| by rw [abs_mul, abs_of_pos (by norm_num : (0 : ℝ) < 4)], ← unrotate x k]
    calc |∑ i, V x i * (had i k : ℝ)| ≤ ∑ i, |V x i * (had i k : ℝ)| := Finset.abs_sum_le_sum_abs _ _
      _ ≤ ∑ i : Fin 32, A x := Finset.sum_le_sum fun i _ => by
          rw [abs_mul, had_cast_abs, mul_one]
          refine le_trans ?_ (V_le_A x i)
          rw [abs_mul, abs_of_pos root2_pos]
          exact le_mul_of_one_le_right (abs_nonneg _) root2_ge
      _ = 32 * A x := by
          rw [Finset.sum_const, Finset.card_univ, Fintype.card_fin, nsmul_eq_mul]; push_cast; ring
  have h3 : (2 : ℝ) ^ (-100 : ℤ) = 8 * (2 : ℝ) ^ (-103 : ℤ) := by norm_num
  rw [h3] at hk'
  linarith

/-- The largest magnitude is zero or of moderate size. -/
theorem A_moderate (x : Fin 32 → ℝ) (hx : ∀ j, Fair (x j)) : A x = 0 ∨ (0 < A x ∧ -104 ≤ lg (A x) ∧ lg (A x) ≤ 104) := by
  by_cases h0 : A x = 0
  · exact Or.inl h0
  · have hp : 0 < A x := lt_of_le_of_ne (A_nonneg x) (Ne.symm h0)
    refine Or.inr ⟨hp, ?_, ?_⟩
    · have := (zpow_le_iff hp (-103)).mp (le_A x hx h0)
      omega
    · by_contra h
      push Not at h
      have := (zpow_le_iff hp 103).mpr (by omega)
      exact absurd (A_le x hx) (not_lt.mpr this)

theorem expo_bounds (x : Fin 32 → ℝ) (hx : ∀ j, Fair (x j)) : -106 ≤ expo (A x) ∧ expo (A x) ≤ 102 := by
  unfold expo
  rcases A_moderate x hx with h | ⟨h, h1, h2⟩
  · rw [if_pos h]; omega
  · rw [if_neg h.ne']; omega

end Cert.Spec
-- ==== Proof.RefGroups.lean ====
module

public import proofs.«01_k».proof.Proof.Gen.ReferenceIdeal.Read
public import proofs.«01_k».proof.Proof.RefScalars
public import proofs.«01_k».proof.Proof.Groups

/-! # What the reference's quantiser holds, group by group -/

@[expose] public section

noncomputable section

namespace Cert.RefGroups

open Cert.ReferenceIdeal Cert.ReferenceIdeal.Gen Cert.ReferenceIdeal.Read Idealize.ShloMosaic Idealize.ShloMosaic.TcCoe Idealize.ShloMosaic.ValueIdx
open Cert.Spec Cert.RefScalars Cert.KernelIdeal.Scalars

/-- Column `i` of group `g`. -/
def pcol (g : Fin 216) (i : Fin 32) : Fin 6912 := ⟨32 * g.val + i.val, by omega⟩

/-- A group of the operand, with its signs. -/
def grp (X : Fin 2 → Fin 896 → Fin 6912 → ℝ) (σ : Fin 6912 → ℝ) (b : Fin 2) (s : Fin 896) (g : Fin 216) (i : Fin 32) : ℝ :=
  X b s (pcol g i) * σ (pcol g i)

theorem root2_eighth : Ideal.ofBits .f32 0x3E3504F3#32 = ((root2 * (1 / 8) : ℝ) : EReal) := by
  simp [Ideal.ofBits, Ideal.ieee, -EReal.coe_mul, root2]; norm_num

theorem neg_inf : Ideal.ofBits .f32 0xFF800000#32 = ⊥ := by
  simp [Ideal.ofBits, Ideal.ieee]

theorem v40_eq : val_main_v40 (F := Ideal) = Cert.KernelIdeal.Block.signs (F := Ideal) := rfl

theorem v43_apply (i j : Fin 32) : (val_main_v43 (F := Ideal) (ix2 i j) : EReal) = (((had i j : ℝ) * (root2 * (1 / 8)) : ℝ) : EReal) := by
  rw [val_main_v43_apply, val_main_v41_apply, v40_eq, Cert.KernelIdeal.Block.signs_apply, val_main_v42_apply, val_main_cst_13_apply]
  show _ * Ideal.ofBits .f32 0x3E3504F3#32 = _
  rw [root2_eighth, ← EReal.coe_mul]

variable (x0 : (⟨S2x896x6912, .bf16⟩ : BufTy).Contents (Elt Ideal)) (x2 : (⟨S6912, .f32⟩ : BufTy).Contents (Elt Ideal)) (x3 : (⟨S2x896x6912, .i8⟩ : BufTy).Contents (Elt Ideal))
variable (X : Fin 2 → Fin 896 → Fin 6912 → ℝ) (σ : Fin 6912 → ℝ)

theorem idx_v4 (b : Fin 2) (s : Fin 896) (g : Fin 216) (i : Fin 32) : idx_main_v4 (ix4 b s g i) = ix3 b s (pcol g i) := by
  funext a
  fin_cases a
  · exact Fin.ext (show (((b.val * 896 + s.val) * 216 + g.val) * 32 + i.val) / 6193152 = b.val by omega)
  · exact Fin.ext (show (((b.val * 896 + s.val) * 216 + g.val) * 32 + i.val) / 6912 % 896 = s.val by omega)
  · exact Fin.ext (show (((b.val * 896 + s.val) * 216 + g.val) * 32 + i.val) % 6912 = 32 * g.val + i.val by omega)

theorem idx_v45 (b : Fin 2) (s : Fin 896) (g : Fin 216) (i : Fin 32) : idx_main_v45 (ix4 b s g i) = ix3 b s (pcol g i) := idx_v4 b s g i

variable (hx : ∀ b s p, (x0 (ix3 b s p) : EReal) = ((X b s p : ℝ) : EReal)) (hs : ∀ p, (x2 (ix1 p) : EReal) = ((σ p : ℝ) : EReal))

include hx hs in
theorem v4_apply (b : Fin 2) (s : Fin 896) (g : Fin 216) (i : Fin 32) :
    (val_main_v4 (F := Ideal) x0 x2 (ix4 b s g i) : EReal) = ((grp X σ b s g i : ℝ) : EReal) := by
  rw [val_main_v4_apply, idx_v4, val_main_v3_apply, val_main_v0_apply, val_main_v2_apply, val_main_v1_apply]
  have e : idx_main_v1 (idx_main_v2 (ix3 b s (pcol g i))) = ix1 (pcol g i) := by
    funext a; fin_cases a; rfl
  rw [e]
  show (x0 (ix3 b s (pcol g i)) : EReal) * x2 (ix1 (pcol g i)) = _
  rw [hx, hs, ← EReal.coe_mul]
  rfl

theorem coe_sum {ι : Type} (S : Finset ι) (f : ι → ℝ) : (∑ k ∈ S, ((f k : ℝ) : EReal)) = ((∑ k ∈ S, f k : ℝ) : EReal) := by
  classical
  induction S using Finset.induction_on with
  | empty => simp
  | insert a S ha ih => rw [Finset.sum_insert ha, Finset.sum_insert ha, ih, ← EReal.coe_add]

include hx hs in
theorem v44_apply (b : Fin 2) (s : Fin 896) (g : Fin 216) (i : Fin 32) :
    (val_main_v44 (F := Ideal) x0 x2 (ix4 b s g i) : EReal) = ((V (grp X σ b s g) i * root2 : ℝ) : EReal) := by
  rw [val_main_v44_apply]
  have e (k : Fin 32) : (val_main_v4 (F := Ideal) x0 x2) (lidx_main_v44 (ix4 b s g i) k) * (val_main_v43 (F := Ideal)) (ridx_main_v44 (ix4 b s g i) k)
      = ((grp X σ b s g k * ((had i k : ℝ) * (root2 * (1 / 8))) : ℝ) : EReal) := by
    have e1 : lidx_main_v44 (ix4 b s g i) k = ix4 b s g k := by funext a; fin_cases a <;> rfl
    have e2 : ridx_main_v44 (ix4 b s g i) k = ix2 i k := by funext a; fin_cases a <;> rfl
    rw [e1, e2, v4_apply x0 x2 X σ hx hs, v43_apply, ← EReal.coe_mul]
  rw [Finset.sum_congr rfl fun k _ => e k, coe_sum]
  congr 1
  unfold V
  rw [Finset.sum_mul]
  exact Finset.sum_congr rfl fun k _ => by ring

instance : Std.Commutative (FloatOps.maximumf (F := Ideal) (φ := .f32)) := ⟨fun a b => max_comm (a : EReal) b⟩
instance : Std.Associative (FloatOps.maximumf (F := Ideal) (φ := .f32)) := ⟨fun a b c => max_assoc (a : EReal) b c⟩

theorem drop_ix (b : Fin 2) (s : Fin 896) (g : Fin 216) (i : S2x896x216x32.Idx) :
    reducesTo_S2x896x216x32_S2x896x216_d3.drop i = ix3 b s g ↔ i = ix4 b s g (i 3) := by
  have h0 : (reducesTo_S2x896x216x32_S2x896x216_d3.drop i 0 : ℕ) = i 0 := Shape.ReducesTo.drop_apply_val _ i 0
  have h1 : (reducesTo_S2x896x216x32_S2x896x216_d3.drop i 1 : ℕ) = i 1 := Shape.ReducesTo.drop_apply_val _ i 1
  have h2 : (reducesTo_S2x896x216x32_S2x896x216_d3.drop i 2 : ℕ) = i 2 := Shape.ReducesTo.drop_apply_val _ i 2
  constructor
  · intro h
    rw [h] at h0 h1 h2
    funext a
    fin_cases a
    · exact Fin.ext h0.symm
    · exact Fin.ext h1.symm
    · exact Fin.ext h2.symm
    · rfl
  · intro h
    funext a
    fin_cases a
    · exact Fin.ext (h0.trans (by rw [h]))
    · exact Fin.ext (h1.trans (by rw [h]))
    · exact Fin.ext (h2.trans (by rw [h]))

include hx hs in
theorem v46_apply (b : Fin 2) (s : Fin 896) (g : Fin 216) (i : Fin 32) :
    (val_main_v46 (F := Ideal) x0 x2 (ix4 b s g i) : EReal) = ((|V (grp X σ b s g) i * root2| : ℝ) : EReal) := by
  rw [val_main_v46_apply]
  show max (val_main_v44 (F := Ideal) x0 x2 (ix4 b s g i) : EReal) (-(val_main_v44 (F := Ideal) x0 x2 (ix4 b s g i) : EReal)) = _
  rw [v44_apply x0 x2 X σ hx hs, abs_coe]

theorem fold_max {ι : Type} (S : Finset ι) (f : ι → EReal) : S.fold max ⊥ f = S.sup f := rfl

include hx hs in
theorem v47_apply (b : Fin 2) (s : Fin 896) (g : Fin 216) :
    (val_main_v47 (F := Ideal) x0 x2 (ix3 b s g) : EReal) = ((A (grp X σ b s g) : ℝ) : EReal) := by
  have e : (val_main_v47 (F := Ideal) x0 x2 (ix3 b s g) : EReal)
      = (Finset.univ.filter fun i => reducesTo_S2x896x216x32_S2x896x216_d3.drop i = ix3 b s g).sup (fun i => (val_main_v46 (F := Ideal) x0 x2 i : EReal)) := by
    unfold val_main_v47
    rw [Host.reduce_eq_fold, val_main_cst_14_apply]
    show Finset.fold max (Ideal.ofBits .f32 0xFF800000#32) _ _ = _
    rw [neg_inf]
    rfl
  have m (i : Fin 32) : ix4 b s g i ∈ (Finset.univ.filter fun i => reducesTo_S2x896x216x32_S2x896x216_d3.drop i = ix3 b s g) :=
    Finset.mem_filter.mpr ⟨Finset.mem_univ _, (drop_ix b s g _).mpr rfl⟩
  rw [e]
  refine eq_A _ _ (fun i => ?_) ?_
  · rw [← v46_apply x0 x2 X σ hx hs]
    exact Finset.le_sup (f := fun i => (val_main_v46 (F := Ideal) x0 x2 i : EReal)) (m i)
  · obtain ⟨i, hi, h⟩ := Finset.exists_mem_eq_sup _ ⟨_, m 0⟩ (fun i => (val_main_v46 (F := Ideal) x0 x2 i : EReal))
    have hi' := (drop_ix b s g i).mp (Finset.mem_filter.mp hi).2
    exact ⟨i 3, h.trans ((congrArg _ hi').trans (v46_apply x0 x2 X σ hx hs b s g (i 3)))⟩

theorem idx_v48 (b : Fin 2) (s : Fin 896) (g : Fin 216) : idx_main_v48 (ix4 b s g 0) = ix3 b s g := by
  funext a; fin_cases a <;> rfl

theorem v51_eq (i : S2x896x216x1.Idx) : (val_main_v51 (F := Ideal) i : EReal) = Ideal.log (Ideal.ofBits .f32 0x40000000#32) := by
  rw [val_main_v51_apply, val_main_v50_apply, val_main_cst_15_apply]
  rfl

theorem v60_eq (i : S2x896x216x1.Idx) : (val_main_v60 (F := Ideal) x0 x2 i : EReal)
    = Scalar.select (Ideal.cmp .oeq (val_main_v48 (F := Ideal) x0 x2 i) (Ideal.ofBits .f32 0x00000000#32)) (Ideal.ofBits .f32 0x00000000#32)
      ((Ideal.liftRound Int.floor (Ideal.div (Ideal.log (val_main_v48 (F := Ideal) x0 x2 i)) (Ideal.log (Ideal.ofBits .f32 0x40000000#32)))
        + Ideal.ofBits .f32 0x3F800000#32) - Ideal.ofBits .f32 0x40400000#32) := by
  rw [val_main_v60_apply, val_main_v57_apply, val_main_v59_apply, val_main_v55_apply, val_main_v53_apply, val_main_v52_apply, val_main_v49_apply, v51_eq,
    val_main_v54_apply, val_main_cst_16_apply, val_main_v58_apply, val_main_cst_18_apply, val_main_v56_apply, val_main_cst_17_apply,
    val_main_call2_v1_apply, val_main_call2_v0_apply, val_main_cst_19_apply]
  generalize (val_main_v48 (F := Ideal) x0 x2 i : EReal) = a
  have hb (w : BitVec 32) : FloatOps.ofBits (F := Ideal) .f32 w = Ideal.ofBits .f32 w := rfl
  rw [hb, hb, hb]
  generalize Ideal.ofBits .f32 0x00000000#32 = c0
  generalize Ideal.ofBits .f32 0x40000000#32 = c1
  generalize Ideal.ofBits .f32 0x3F800000#32 = c2
  generalize Ideal.ofBits .f32 0x40400000#32 = c3
  rfl

theorem v61_eq (i : S2x896x216x1.Idx) : (val_main_v61 (F := Ideal) x0 x2 i : BitVec 32) = refExp (val_main_v48 (F := Ideal) x0 x2 i) := by
  unfold refExp
  rw [val_main_v61_apply, ← v60_eq]
  rfl

theorem v67_eq (i : S2x896x216x1.Idx) : (val_main_v67 (F := Ideal) x0 x2 i : EReal) = refMult (val_main_v61 (F := Ideal) x0 x2 i) := by
  simp only [val_main_v62_apply, val_main_v63_apply, val_main_cst_20_apply, val_main_v64_apply, val_main_v65_apply, val_main_cst_21_apply,
    val_main_v66_apply, val_main_v67_apply]
  rfl

theorem v87_eq (i : S2x896x216x32.Idx) : (val_main_v87 (F := Ideal) x3 i : EReal) = refU (val_main_v45 (F := Ideal) x3 i) := by
  simp only [val_main_v82_apply, val_main_v83_apply, val_main_cst_27_apply, val_main_v84_apply, val_main_v85_apply, val_main_cst_28_apply,
    val_main_v86_apply, val_main_v87_apply]
  rfl

theorem v114_eq (i : S2x896x216x32.Idx) :
    (val_main_v114 (F := Ideal) x0 x2 x3 i : BitVec 32) = refCode (val_main_v69 (F := Ideal) x0 x2 i) (val_main_v87 (F := Ideal) x3 i) := by
  simp only [val_main_v70_apply, val_main_cst_22_apply, val_main_v71_apply, val_main_v72_apply, val_main_cst_23_apply, val_main_v73_apply,
    val_main_v74_apply, val_main_cst_24_apply, val_main_cst_25_apply, val_main_call3_v0_apply, val_main_call3_v1_apply, val_main_v75_apply,
    val_main_cst_26_apply, val_main_call4_v0_apply, val_main_v76_apply, val_main_v77_apply, val_main_v78_apply, val_main_v79_apply, val_main_v80_apply,
    val_main_v81_apply,
    val_main_v88_apply, val_main_v89_apply, val_main_v90_apply, val_main_v91_apply, val_main_cst_29_apply,
    val_main_v92_apply, val_main_v93_apply, val_main_cst_30_apply, val_main_v94_apply, val_main_v95_apply, val_main_cst_31_apply, val_main_v96_apply,
    val_main_v97_apply, val_main_cst_32_apply, val_main_v98_apply, val_main_v99_apply, val_main_cst_33_apply, val_main_v100_apply, val_main_v101_apply,
    val_main_cst_34_apply, val_main_cst_35_apply, val_main_call5_v0_apply, val_main_call5_v1_apply, val_main_v102_apply, val_main_call6_v0_apply,
    val_main_v103_apply, val_main_v104_apply, val_main_v105_apply, val_main_cst_36_apply, val_main_v106_apply, val_main_v107_apply,
    val_main_c_37_apply, val_main_v108_apply, val_main_v109_apply, val_main_v110_apply, val_main_v111_apply, val_main_c_38_apply, val_main_v112_apply,
    val_main_v113_apply, val_main_v114_apply]
  rfl

variable (hf : ∀ b s g i, Fair (grp X σ b s g i))

include hx hs hf in
theorem v61_apply (b : Fin 2) (s : Fin 896) (g : Fin 216) :
    (val_main_v61 (F := Ideal) x0 x2 (ix4 b s g 0) : BitVec 32) = BitVec.ofInt 32 (expo (A (grp X σ b s g))) := by
  rw [v61_eq, val_main_v48_apply, idx_v48, v47_apply x0 x2 X σ hx hs]
  exact refExp_apply _ (A_moderate _ (hf b s g))

include hx hs hf in
theorem v69_apply (b : Fin 2) (s : Fin 896) (g : Fin 216) (i : Fin 32) :
    (val_main_v69 (F := Ideal) x0 x2 (ix4 b s g i) : EReal) = ((Y (grp X σ b s g) i : ℝ) : EReal) := by
  rw [val_main_v69_apply, val_main_v68_apply]
  have e : idx_main_v68 (ix4 b s g i) = ix4 b s g 0 := by funext a; fin_cases a <;> rfl
  have hb := expo_bounds _ (hf b s g)
  show (val_main_v44 (F := Ideal) x0 x2 (ix4 b s g i) : EReal) * _ = _
  rw [e, v44_apply x0 x2 X σ hx hs, v67_eq, v61_apply x0 x2 X σ hx hs hf, refMult_apply _ (by omega) (by omega), ← EReal.coe_mul]
  rfl

include hx hs hf in
theorem v114_apply (b : Fin 2) (s : Fin 896) (g : Fin 216) (i : Fin 32) :
    (val_main_v114 (F := Ideal) x0 x2 x3 (ix4 b s g i) : BitVec 32)
      = BitVec.ofNat 32 (cd (grp X σ b s g) i (x3 (ix3 b s (pcol g i)) : BitVec 8).toNat) := by
  rw [v114_eq, v69_apply x0 x2 X σ hx hs hf, v87_eq, val_main_v45_apply, idx_v45, refU_apply,
    refCode_apply _ _ (Y_lt _ i), cd_cast, BitVec.ofInt_natCast]

end Cert.RefGroups
-- ==== Proof.Lanes.lean ====
module

public import proofs.«01_k».proof.Proof.Groups
public import Idealize.ShloMosaic.Lib.MatmulPlain
public import Idealize.ShloMosaic.Lib.KernelVsHost

/-! # One row of a row block

A row of 256 columns holds eight groups of 32 columns. After the rotation the even columns lie in the left half and the odd columns in
the right half, so lane `l` of either half belongs to group `l / 16`. -/

@[expose] public section

noncomputable section

namespace Cert.KernelIdeal.Lanes

open Cert.KernelIdeal Cert.KernelIdeal.Gen Cert.KernelIdeal.Block Cert.KernelIdeal.Scalars Cert.Spec
open Idealize.ShloMosaic Idealize.ShloMosaic.ValueIdx

/-! ## The maximum over 16 lanes -/

/-- The lane whose number differs in the bits of `u`. -/
def flip (u s : Fin 16) : Fin 16 := ⟨(s.val ^^^ u.val) % 16, Nat.mod_lt _ (by decide)⟩

def stp (u : Fin 16) (g : Fin 16 → EReal) (s : Fin 16) : EReal := max (g s) (g (flip u s))

def fix (u s j : Fin 16) : Fin 16 := if (s.val ^^^ j.val) &&& u.val = 0 then j else flip u j

theorem flip_flip : ∀ u j : Fin 16, flip u (flip u j) = j := by decide +kernel
theorem fix_fix : ∀ s j : Fin 16, fix 1 s (fix 2 s (fix 4 s (fix 8 s j))) = s := by decide +kernel

theorem le_stp (u s j : Fin 16) (g : Fin 16 → EReal) : g j ≤ stp u g (fix u s j) := by
  unfold fix
  split
  · exact le_max_left _ _
  · unfold stp; rw [flip_flip]; exact le_max_right _ _

theorem stp_mem (u s : Fin 16) (g : Fin 16 → EReal) : ∃ j, stp u g s = g j := by
  unfold stp
  rcases max_choice (g s) (g (flip u s)) with h | h
  · exact ⟨s, h⟩
  · exact ⟨_, h⟩

def all (g : Fin 16 → EReal) : Fin 16 → EReal := stp 1 (stp 2 (stp 4 (stp 8 g)))

theorem le_all (g : Fin 16 → EReal) (s j : Fin 16) : g j ≤ all g s := by
  have h := le_stp 1 s (fix 2 s (fix 4 s (fix 8 s j))) (stp 2 (stp 4 (stp 8 g)))
  rw [fix_fix] at h
  exact (le_stp 8 s j g).trans ((le_stp 4 s _ _).trans ((le_stp 2 s _ _).trans h))

theorem all_mem (g : Fin 16 → EReal) (s : Fin 16) : ∃ j, all g s = g j := by
  obtain ⟨a, ha⟩ := stp_mem 1 s (stp 2 (stp 4 (stp 8 g)))
  obtain ⟨b, hb⟩ := stp_mem 2 a (stp 4 (stp 8 g))
  obtain ⟨d, hd⟩ := stp_mem 4 b (stp 8 g)
  obtain ⟨e, he⟩ := stp_mem 8 d g
  exact ⟨e, ha.trans (hb.trans (hd.trans he))⟩

/-- Lane `s` of group `b`. -/
def lane (b : Fin 8) (s : Fin 16) : Fin 128 := ⟨16 * b.val + s.val, by omega⟩

theorem lane_low : ∀ (l : Fin 128), IntOp.cmpi .eq (IntOp.andi (BitVec.ofNat 32 l.val) 1#32) 0#32 = BitVec.ofBool (decide (l.val % 2 = 0))
    ∧ IntOp.cmpi .eq (IntOp.andi (BitVec.ofNat 32 l.val) 2#32) 0#32 = BitVec.ofBool (decide (l.val / 2 % 2 = 0))
    ∧ IntOp.cmpi .eq (IntOp.andi (BitVec.ofNat 32 l.val) 4#32) 0#32 = BitVec.ofBool (decide (l.val / 4 % 2 = 0))
    ∧ IntOp.cmpi .eq (IntOp.andi (BitVec.ofNat 32 l.val) 8#32) 0#32 = BitVec.ofBool (decide (l.val / 8 % 2 = 0)) := by decide +kernel

theorem rotate_apply (n : BitVec 32) (a : FVec Ideal S256x128 .f32) (r : Fin 256) (l k : Fin 128)
    (h : k.val = (l.val + 128 - n.toNat % 128) % 128) : dynamicRotate 1 n none a rotates_S256x128_d1 (ix2 r l) = a (ix2 r k) :=
  dynamicRotate_apply 1 n a rotates_S256x128_d1 (ix2 r l) (ix2 r k) (fun b => by
    match b with
    | ⟨0, _⟩ => rfl
    | ⟨1, _⟩ => exact h)

theorem maxStep_apply (u : Fin 16) (up dn sh : BitVec 32) (a : FVec Ideal S256x128 .f32) (r : Fin 256) (b : Fin 8) (g : Fin 16 → EReal)
    (hbit : ∀ s : Fin 16, IntOp.cmpi .eq (IntOp.andi (BitVec.ofNat 32 (lane b s).val) sh) 0#32 = BitVec.ofBool (decide (s.val / u.val % 2 = 0)))
    (hup : ∀ s : Fin 16, s.val / u.val % 2 = 0 → (lane b (flip u s)).val = ((lane b s).val + 128 - up.toNat % 128) % 128)
    (hdn : ∀ s : Fin 16, ¬ s.val / u.val % 2 = 0 → (lane b (flip u s)).val = ((lane b s).val + 128 - dn.toNat % 128) % 128)
    (ha : ∀ s, a (ix2 r (lane b s)) = g s) (s : Fin 16) : maxStep up dn sh a (ix2 r (lane b s)) = stp u g s := by
  have e : maxStep up dn sh a (ix2 r (lane b s)) = max (a (ix2 r (lane b s)))
      (Scalar.select (IntOp.cmpi .eq (IntOp.andi (BitVec.ofNat 32 (lane b s).val) sh) 0#32)
        (dynamicRotate 1 up none a rotates_S256x128_d1 (ix2 r (lane b s))) (dynamicRotate 1 dn none a rotates_S256x128_d1 (ix2 r (lane b s)))) := by
    unfold maxStep
    rw [maximumf_apply]
    congr 1
    unfold select
    congr 1
    show IntOp.cmpi .eq (IntOp.andi (iota .tc S256x128 32 [1] iota_S256x128_d1_w32 (ix2 r (lane b s))) sh) 0#32 = _
    rw [iota_single_apply]
  rw [e, hbit, select_ofBool, ha]
  unfold stp
  by_cases h : s.val / u.val % 2 = 0
  · rw [decide_eq_true h, if_pos rfl, rotate_apply up a r _ _ (hup s h), ha]
  · rw [decide_eq_false h, if_neg (by decide), rotate_apply dn a r _ _ (hdn s h), ha]

theorem laneMax_apply (a : FVec Ideal S256x128 .f32) (r : Fin 256) (b : Fin 8) (g : Fin 16 → EReal) (ha : ∀ s, a (ix2 r (lane b s)) = g s) (s : Fin 16) :
    laneMax a (ix2 r (lane b s)) = all g s := by
  have f8 : (∀ (b : Fin 8) (s : Fin 16), IntOp.cmpi .eq (IntOp.andi (BitVec.ofNat 32 (lane b s).val) 8#32) 0#32 = BitVec.ofBool (decide (s.val / (8 : Fin 16).val % 2 = 0)))
      ∧ (∀ (b : Fin 8) (s : Fin 16), s.val / (8 : Fin 16).val % 2 = 0 → (lane b (flip 8 s)).val = ((lane b s).val + 128 - (120#32).toNat % 128) % 128)
      ∧ (∀ (b : Fin 8) (s : Fin 16), ¬ s.val / (8 : Fin 16).val % 2 = 0 → (lane b (flip 8 s)).val = ((lane b s).val + 128 - (8#32).toNat % 128) % 128) := by decide +kernel
  have f4 : (∀ (b : Fin 8) (s : Fin 16), IntOp.cmpi .eq (IntOp.andi (BitVec.ofNat 32 (lane b s).val) 4#32) 0#32 = BitVec.ofBool (decide (s.val / (4 : Fin 16).val % 2 = 0)))
      ∧ (∀ (b : Fin 8) (s : Fin 16), s.val / (4 : Fin 16).val % 2 = 0 → (lane b (flip 4 s)).val = ((lane b s).val + 128 - (124#32).toNat % 128) % 128)
      ∧ (∀ (b : Fin 8) (s : Fin 16), ¬ s.val / (4 : Fin 16).val % 2 = 0 → (lane b (flip 4 s)).val = ((lane b s).val + 128 - (4#32).toNat % 128) % 128) := by decide +kernel
  have f2 : (∀ (b : Fin 8) (s : Fin 16), IntOp.cmpi .eq (IntOp.andi (BitVec.ofNat 32 (lane b s).val) 2#32) 0#32 = BitVec.ofBool (decide (s.val / (2 : Fin 16).val % 2 = 0)))
      ∧ (∀ (b : Fin 8) (s : Fin 16), s.val / (2 : Fin 16).val % 2 = 0 → (lane b (flip 2 s)).val = ((lane b s).val + 128 - (126#32).toNat % 128) % 128)
      ∧ (∀ (b : Fin 8) (s : Fin 16), ¬ s.val / (2 : Fin 16).val % 2 = 0 → (lane b (flip 2 s)).val = ((lane b s).val + 128 - (2#32).toNat % 128) % 128) := by decide +kernel
  have f1 : (∀ (b : Fin 8) (s : Fin 16), IntOp.cmpi .eq (IntOp.andi (BitVec.ofNat 32 (lane b s).val) 1#32) 0#32 = BitVec.ofBool (decide (s.val / (1 : Fin 16).val % 2 = 0)))
      ∧ (∀ (b : Fin 8) (s : Fin 16), s.val / (1 : Fin 16).val % 2 = 0 → (lane b (flip 1 s)).val = ((lane b s).val + 128 - (127#32).toNat % 128) % 128)
      ∧ (∀ (b : Fin 8) (s : Fin 16), ¬ s.val / (1 : Fin 16).val % 2 = 0 → (lane b (flip 1 s)).val = ((lane b s).val + 128 - (1#32).toNat % 128) % 128) := by decide +kernel
  have s8 := maxStep_apply 8 120#32 8#32 8#32 a r b g (f8.1 b) (f8.2.1 b) (f8.2.2 b) ha
  have s4 := maxStep_apply 4 124#32 4#32 4#32 _ r b _ (f4.1 b) (f4.2.1 b) (f4.2.2 b) s8
  have s2 := maxStep_apply 2 126#32 2#32 2#32 _ r b _ (f2.1 b) (f2.2.1 b) (f2.2.2 b) s4
  exact maxStep_apply 1 127#32 1#32 1#32 _ r b _ (f1.1 b) (f1.2.1 b) (f1.2.2 b) s2 s

/-! ## The rotation -/

/-- Column `i` of group `b`. -/
def col (b : Fin 8) (i : Fin 32) : Fin 256 := ⟨32 * b.val + i.val, by omega⟩

/-- The even and the odd column of a lane. -/
def even (s : Fin 16) : Fin 32 := ⟨2 * s.val, by omega⟩
@[inherit_doc even]
def odd (s : Fin 16) : Fin 32 := ⟨2 * s.val + 1, by omega⟩

/-- The lane in the left and the right half. -/
def lft (l : Fin 128) : Fin 256 := ⟨l.val, by omega⟩
@[inherit_doc lft]
def rgt (l : Fin 128) : Fin 256 := ⟨128 + l.val, by omega⟩

theorem ord_lft (b : Fin 8) (s : Fin 16) : ord (lft (lane b s)) = col b (even s) := by
  apply Fin.ext; unfold ord lft lane col even; rw [dif_pos (by show 16 * b.val + s.val < 128; omega)]; show 2 * (16 * b.val + s.val) = 32 * b.val + 2 * s.val; omega
theorem ord_rgt (b : Fin 8) (s : Fin 16) : ord (rgt (lane b s)) = col b (odd s) := by
  apply Fin.ext; unfold ord rgt lane col odd; rw [dif_neg (by show ¬ 128 + (16 * b.val + s.val) < 128; omega)]
  show 2 * (128 + (16 * b.val + s.val) - 128) + 1 = 32 * b.val + (2 * s.val + 1); omega

theorem sum_cols (f : Fin 256 → EReal) : ∑ q, f q = ∑ b : Fin 8, ∑ i : Fin 32, f (col b i) := by
  rw [← Equiv.sum_comp (finProdFinEquiv (m := 8) (n := 32)) f, Fintype.sum_prod_type]
  refine Finset.sum_congr rfl fun b _ => Finset.sum_congr rfl fun i _ => congrArg f (Fin.ext ?_)
  show i.val + 32 * b.val = 32 * b.val + i.val
  omega

/-- A sum of reals, as a sum of reals. -/
theorem coe_sum' {ι : Type} (s : Finset ι) (f : ι → ℝ) : ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

variable (x : FVec Ideal S256x256 .bf16) (rot : FVec Ideal S1x256x256 .bf16) (r : Fin 256) (X : Fin 8 → Fin 32 → ℝ) (σ : Fin 8 → Fin 32 → ℝ)

/-- The signed groups of a row. -/
def grp (X σ : Fin 8 → Fin 32 → ℝ) (b : Fin 8) (i : Fin 32) : ℝ := X b i * σ b i

/-- What row `r` of `dy` and the rotation hold. -/
structure Row : Prop where
  hx : ∀ b i, x (ix2 r (col b i)) = ((X b i : ℝ) : EReal)
  hr : ∀ b i l, rot (ix3 (0 : Fin 1) (col b i) l) = diagonal (F := Ideal) (ix2 (ord l) (col b i)) * ((σ b i : ℝ) : EReal)

variable {x rot r X σ}

theorem rotated_apply (h : Row x rot r X σ) (l : Fin 256) (b : Fin 8) (i : Fin 32) (hl : ord l = col b i) :
    rotated x rot (ix2 r l) = ((V (grp X σ b) i : ℝ) : EReal) := by
  have e : rotated x rot (ix2 r l) = Ideal.ofBits .f32 0x00000000#32 + ∑ q : Fin 256, shapeCast S256x256 x shapeCasts_S256x256_S256x256 (ix2 r q) *
      shapeCast S256x256 rot shapeCasts_S1x256x256_S256x256 (ix2 q l) :=
    Ideal.matmul_plain_apply (M := 256) (K := 256) (N := 256) none (shapeCast S256x256 x shapeCasts_S256x256_S256x256)
      (shapeCast S256x256 rot shapeCasts_S1x256x256_S256x256) (constant S256x256 .f32 0x00000000#32) r l
  rw [e, ofBits_zero, EReal.coe_zero, zero_add, sum_cols]
  have hsc : ∀ q, shapeCast S256x256 rot shapeCasts_S1x256x256_S256x256 (ix2 q l) = rot (ix3 (0 : Fin 1) q l) := fun q =>
    shapeCast_apply _ _ _ _ (by
      rw [Shape.rowMajor_val_two, Shape.rowMajor_val_three]
      show (0 * 256 + q.val) * 256 + l.val = q.val * 256 + l.val
      omega)
  have hterm : ∀ b' i', shapeCast S256x256 x shapeCasts_S256x256_S256x256 (ix2 r (col b' i')) * shapeCast S256x256 rot shapeCasts_S1x256x256_S256x256 (ix2 (col b' i') l)
      = if b = b' then ((grp X σ b' i' * ((had i i' : ℝ) * (1 / 8)) : ℝ) : EReal) else 0 := fun b' i' => by
    rw [shapeCast_self, hsc, h.hx, h.hr, hl, diagonal_apply b b' i i' _ _ rfl rfl]
    split
    · rw [← EReal.coe_mul, ← EReal.coe_mul]
      congr 1
      unfold grp; ring
    · rw [zero_mul, mul_zero]
  simp only [hterm]
  rw [Finset.sum_eq_single b]
  · simp only [if_true]
    rw [← coe_sum']
    rfl
  · intro b' _ hb
    simp only [if_neg (Ne.symm hb), Finset.sum_const_zero]
  · intro hb; exact absurd (Finset.mem_univ b) hb

theorem left_apply {α : Type} (v : S256x256.Idx → α) (l : Fin 128) : left v (ix2 r l) = v (ix2 r (lft l)) :=
  extractStridedSlice_apply _ _ _ _ _ (fun a => by
    match a with
    | ⟨0, _⟩ => show r.val = 0 + r.val; omega
    | ⟨1, _⟩ => show l.val = 0 + l.val; omega)
theorem right_apply {α : Type} (v : S256x256.Idx → α) (l : Fin 128) : right v (ix2 r l) = v (ix2 r (rgt l)) :=
  extractStridedSlice_apply _ _ _ _ _ (fun a => by
    match a with
    | ⟨0, _⟩ => show r.val = 0 + r.val; omega
    | ⟨1, _⟩ => show 128 + l.val = 128 + l.val; rfl)

theorem rotated_left (h : Row x rot r X σ) (b : Fin 8) (s : Fin 16) : left (rotated x rot) (ix2 r (lane b s)) = ((V (grp X σ b) (even s) : ℝ) : EReal) := by
  rw [left_apply, rotated_apply h _ b (even s) (ord_lft b s)]
theorem rotated_right (h : Row x rot r X σ) (b : Fin 8) (s : Fin 16) : right (rotated x rot) (ix2 r (lane b s)) = ((V (grp X σ b) (odd s) : ℝ) : EReal) := by
  rw [right_apply, rotated_apply h _ b (odd s) (ord_rgt b s)]

/-- The largest magnitude of the group, in every lane of the group. -/
theorem groupMax_apply (h : Row x rot r X σ) (b : Fin 8) (s : Fin 16) :
    laneMax (mulf (maximumf (absf (F := Ideal) (left (rotated x rot))) (absf (right (rotated x rot)))) (broadcast S256x128 (Scalar.ofBits .f32 0x3FB504F3#32))) (ix2 r (lane b s))
      = ((A (grp X σ b) : ℝ) : EReal) := by
  let g : Fin 16 → EReal := fun s => ((max |V (grp X σ b) (even s) * root2| |V (grp X σ b) (odd s) * root2| : ℝ) : EReal)
  have hg : ∀ s, (mulf (maximumf (absf (F := Ideal) (left (rotated x rot))) (absf (right (rotated x rot)))) (broadcast S256x128 (Scalar.ofBits .f32 0x3FB504F3#32)) :
      FVec Ideal S256x128 .f32) (ix2 r (lane b s)) = g s := fun s => by
    rw [mulf_apply, maximumf_apply]
    show max (max (left (rotated x rot) (ix2 r (lane b s))) (-(left (rotated x rot) (ix2 r (lane b s)))))
      (max (right (rotated x rot) (ix2 r (lane b s))) (-(right (rotated x rot) (ix2 r (lane b s))))) * Ideal.ofBits .f32 0x3FB504F3#32 = g s
    rw [rotated_left h, rotated_right h, abs_coe, abs_coe, ofBits_root2, ← coe_max', ← EReal.coe_mul]
    show _ = ((max |V (grp X σ b) (even s) * root2| |V (grp X σ b) (odd s) * root2| : ℝ) : EReal)
    rw [abs_mul, abs_mul, abs_of_pos root2_pos, max_mul_of_nonneg _ _ root2_pos.le]
  rw [laneMax_apply _ r b g hg s]
  apply eq_A
  · intro i
    rcases Nat.mod_two_eq_zero_or_one i.val with hi | hi
    · have hi' : i = even ⟨i.val / 2, by omega⟩ := Fin.ext (by show i.val = 2 * (i.val / 2); omega)
      refine le_trans ?_ (le_all g s ⟨i.val / 2, by omega⟩)
      conv_lhs => rw [hi']
      exact EReal.coe_le_coe_iff.mpr (le_max_left _ _)
    · have hi' : i = odd ⟨i.val / 2, by omega⟩ := Fin.ext (by show i.val = 2 * (i.val / 2) + 1; omega)
      refine le_trans ?_ (le_all g s ⟨i.val / 2, by omega⟩)
      conv_lhs => rw [hi']
      exact EReal.coe_le_coe_iff.mpr (le_max_right _ _)
  · obtain ⟨j, hj⟩ := all_mem g s
    rw [hj]
    rcases max_choice |V (grp X σ b) (even j) * root2| |V (grp X σ b) (odd j) * root2| with hm | hm
    · exact ⟨even j, congrArg (fun t : ℝ => (t : EReal)) hm⟩
    · exact ⟨odd j, congrArg (fun t : ℝ => (t : EReal)) hm⟩

/-! ## The codes, the exponents and the decoded values -/

/-- The exponent field of a group. -/
def fieldOf (a : ℝ) : ℕ := if a = 0 then 0 else (lg a + 127).toNat

theorem fieldOf_field (y : Fin 32 → ℝ) (hy : ∀ j, Fair (y j)) : Field (A y) (fieldOf (A y)) := by
  unfold fieldOf
  rcases A_moderate y hy with h | ⟨h, h1, h2⟩
  · rw [if_pos h, h]; exact field_zero
  · rw [if_neg h.ne']; exact field_pos h (by omega) (by omega)

variable (hf : ∀ b i, Fair (grp X σ b i))

include hf in
theorem groupExp_apply (h : Row x rot r X σ) (b : Fin 8) (s : Fin 16) :
    groupExp (rotated x rot) (ix2 r (lane b s)) = word (fieldOf (A (grp X σ b))) :=
  expBits_apply _ _ (groupMax_apply h b s) (fieldOf_field _ (hf b))

/-- The multiplier against the reference's two factors. -/
theorem mult_eq (y : Fin 32 → ℝ) (hy : ∀ j, Fair (y j)) (i : Fin 32) :
    V y i * ((2 : ℝ) ^ (129 - ((max (fieldOf (A y)) 2 : ℕ) : ℤ)) * root2 * (3 / 4)) = Y y i := by
  unfold fieldOf
  rcases A_moderate y hy with h | ⟨h, h1, h2⟩
  · rw [V_eq_zero y h, Y_eq_zero y h, zero_mul]
  · rw [if_neg h.ne']
    unfold Y expo
    rw [if_neg h.ne']
    have e : 129 - ((max (lg (A y) + 127).toNat 2 : ℕ) : ℤ) = -(lg (A y) - 2) := by omega
    rw [e]
    ring

theorem expOf_eq (y : Fin 32 → ℝ) (hy : ∀ j, Fair (y j)) :
    (if fieldOf (A y) = 0 then 0 else (fieldOf (A y) : ℤ) - 129) = expo (A y) := by
  unfold fieldOf expo
  rcases A_moderate y hy with h | ⟨h, h1, h2⟩
  · rw [if_pos h, if_pos h, if_pos rfl]
  · rw [if_neg h.ne', if_neg h.ne', if_neg (by omega)]; omega

include hf in
theorem exps_apply (h : Row x rot r X σ) (b : Fin 8) (s : Fin 16) :
    exps x rot (ix2 r (lane b s)) = (BitVec.ofInt 32 (expo (A (grp X σ b)))).setWidth 8 := by
  have e := expOf_apply (i := ix2 r (lane b s)) (fieldOf (A (grp X σ b))) (fieldOf_field _ (hf b)).1 _ (groupExp_apply hf h b s)
  rw [expOf_eq _ (hf b)] at e
  rw [← e]
  rfl

/-- The random byte of a column, in its rotated place. -/
theorem permuted_apply (ρ : IVec S256x256 8) (perm : FVec Ideal S256x256 .bf16) (hp : ∀ q l, perm (ix2 q l) = if q = ord l then 1 else 0) (l : Fin 256) :
    permuted ρ perm (ix2 r l) = BitVec.ofNat 32 (ρ (ix2 r (ord l))).toNat := by
  have hint : ∀ w : BitVec 8, (w.setWidth 32).toInt = (w.toNat : ℤ) := by decide +kernel
  have e : (matmul dot_S256x256_S256x256_S256x256_1_0_0_1_n_n none
    (truncf .bf16 (sitofp (F := Ideal) .f32 (extui 32 (shapeCast S256x256 ρ shapeCasts_S256x256_S256x256) natLt_8_32)) bitsLt_bf16_f32)
    (shapeCast S256x256 perm shapeCasts_S256x256_S256x256) (constant S256x256 .f32 0x00000000#32) : FVec Ideal S256x256 .f32) (ix2 r l)
      = Ideal.ofBits .f32 0x00000000#32 + ∑ q : Fin 256, (truncf .bf16 (sitofp (F := Ideal) .f32 (extui 32 (shapeCast S256x256 ρ shapeCasts_S256x256_S256x256) natLt_8_32)) bitsLt_bf16_f32) (ix2 r q) *
      shapeCast S256x256 perm shapeCasts_S256x256_S256x256 (ix2 q l) :=
    Ideal.matmul_plain_apply (M := 256) (K := 256) (N := 256) none _ _ (constant S256x256 .f32 0x00000000#32) r l
  have ht : ∀ q, (truncf .bf16 (sitofp (F := Ideal) .f32 (extui 32 (shapeCast S256x256 ρ shapeCasts_S256x256_S256x256) natLt_8_32)) bitsLt_bf16_f32 : FVec Ideal S256x256 .bf16) (ix2 r q)
      = ((((ρ (ix2 r q)).toNat : ℤ) : ℝ) : EReal) := fun q => by
    rw [← hint, shapeCast_self]; rfl
  unfold permuted
  show Ideal.fptosi 32 _ = _
  rw [e, ofBits_zero, EReal.coe_zero, zero_add, Finset.sum_eq_single (ord l)]
  · rw [shapeCast_self perm, hp, if_pos rfl, mul_one, ht]
    have := (ρ (ix2 r (ord l))).isLt
    rw [fptosi_int _ (by omega) (by omega)]
    rfl
  · intro q _ hq
    rw [shapeCast_self perm, hp, if_neg hq, mul_zero]
  · intro hq; exact absurd (Finset.mem_univ _) hq

variable {ρ : IVec S256x256 8} {perm : FVec Ideal S256x256 .bf16} (hp : ∀ q l, perm (ix2 q l) = if q = ord l then 1 else 0)

include hf in
theorem mult_apply (h : Row x rot r X σ) (b : Fin 8) (s : Fin 16) :
    multOf (F := Ideal) (groupExp (rotated x rot)) (ix2 r (lane b s))
      = (((2 : ℝ) ^ (129 - ((max (fieldOf (A (grp X σ b))) 2 : ℕ) : ℤ)) * root2 * (3 / 4) : ℝ) : EReal) :=
  multOf_apply _ (fieldOf_field _ (hf b)).1 _ (groupExp_apply hf h b s)

theorem mult_pos (z : ℤ) : (0 : ℝ) < (2 : ℝ) ^ z * root2 * (3 / 4) :=
  mul_pos (mul_pos (by positivity) root2_pos) (by norm_num)

include hf hp in
theorem codesA_apply (h : Row x rot r X σ) (b : Fin 8) (s : Fin 16) :
    codesA (rotated x rot) (permuted ρ perm) (ix2 r (lane b s)) = BitVec.ofNat 32 (cd (grp X σ b) (even s) (ρ (ix2 r (col b (even s)))).toNat) := by
  have e := codeOf_apply (i := ix2 r (lane b s)) (V (grp X σ b) (even s)) _ (ρ (ix2 r (col b (even s)))).toNat (left (permuted ρ perm)) (rotated_left h b s)
    (mult_apply hf h b s) (mult_pos _) (by rw [left_apply, permuted_apply ρ perm hp, ord_lft]) (by have := (ρ (ix2 r (col b (even s)))).isLt; omega)
    (by rw [mult_eq _ (hf b)]; exact Y_lt _ _)
  rw [mult_eq _ (hf b), cd_cast, BitVec.ofInt_natCast] at e
  exact e

include hf hp in
theorem codesB_apply (h : Row x rot r X σ) (b : Fin 8) (s : Fin 16) :
    codesB (rotated x rot) (permuted ρ perm) (ix2 r (lane b s)) = BitVec.ofNat 32 (cd (grp X σ b) (odd s) (ρ (ix2 r (col b (odd s)))).toNat) := by
  have e := codeOf_apply (i := ix2 r (lane b s)) (V (grp X σ b) (odd s)) _ (ρ (ix2 r (col b (odd s)))).toNat (right (permuted ρ perm)) (rotated_right h b s)
    (mult_apply hf h b s) (mult_pos _) (by rw [right_apply, permuted_apply ρ perm hp, ord_rgt]) (by have := (ρ (ix2 r (col b (odd s)))).isLt; omega)
    (by rw [mult_eq _ (hf b)]; exact Y_lt _ _)
  rw [mult_eq _ (hf b), cd_cast, BitVec.ofInt_natCast] at e
  exact e

include hf in
/-- A decoded code times its scale. -/
theorem scaled_dec (h : Row x rot r X σ) (b : Fin 8) (s : Fin 16) (i : Fin 32) (k : ℕ) :
    ((e2m1 (cd (grp X σ b) i k) : ℝ) : EReal) * scaleOf (F := Ideal) (groupExp (rotated x rot)) (ix2 r (lane b s)) = ((dec (grp X σ b) i k : ℝ) : EReal) := by
  have hw := groupExp_apply hf h b s
  have hE := expOf_eq _ (hf b)
  rcases A_moderate _ (hf b) with h0 | ⟨h0, h1, h2⟩
  · have hz : fieldOf (A (grp X σ b)) = 0 := by unfold fieldOf; rw [if_pos h0]
    rw [hz] at hw
    rw [scaleOf_zero _ hw, mul_zero, dec_zero _ h0, EReal.coe_zero]
  · have hz : 3 ≤ fieldOf (A (grp X σ b)) := by unfold fieldOf; rw [if_neg h0.ne']; omega
    rw [scaleOf_apply _ (fieldOf_field _ (hf b)).1 hz _ hw, ← EReal.coe_mul]
    rw [if_neg (by omega)] at hE
    unfold dec
    rw [hE]

include hf hp in
theorem decodedA_apply (h : Row x rot r X σ) (b : Fin 8) (s : Fin 16) :
    decodedA x rot ρ perm (ix2 r (lane b s)) = ((dec (grp X σ b) (even s) (ρ (ix2 r (col b (even s)))).toNat : ℝ) : EReal) := by
  unfold decodedA
  rw [shapeCast_self, mulf_apply, decode_apply _ (cd_lt _ _ _) _ (codesA_apply hf hp h b s), scaled_dec hf h]

include hf hp in
theorem decodedB_apply (h : Row x rot r X σ) (b : Fin 8) (s : Fin 16) :
    decodedB x rot ρ perm (ix2 r (lane b s)) = ((dec (grp X σ b) (odd s) (ρ (ix2 r (col b (odd s)))).toNat : ℝ) : EReal) := by
  unfold decodedB
  rw [shapeCast_self, mulf_apply, decode_apply _ (cd_lt _ _ _) _ (codesB_apply hf hp h b s), scaled_dec hf h]

include hf hp in
theorem packed_apply (h : Row x rot r X σ) (b : Fin 8) (s : Fin 16) :
    packed x rot ρ perm (ix2 r (lane b s)) = (BitVec.ofNat 32 (cd (grp X σ b) (even s) (ρ (ix2 r (col b (even s)))).toNat)
      ||| IntOp.shli .vector (BitVec.ofNat 32 (cd (grp X σ b) (odd s) (ρ (ix2 r (col b (odd s)))).toNat)) 4#32).setWidth 8 := by
  rw [← codesA_apply hf hp h, ← codesB_apply hf hp h]
  rfl

end Cert.KernelIdeal.Lanes
-- ==== Proof.RefResults.lean ====
module

public import proofs.«01_k».proof.Proof.RefGroups
public import proofs.«01_k».proof.Proof.Lanes

/-! # What the reference computes, element by element -/

@[expose] public section

noncomputable section

namespace Cert.RefGroups

open Cert.ReferenceIdeal Cert.ReferenceIdeal.Gen Cert.ReferenceIdeal.Read Idealize.ShloMosaic Idealize.ShloMosaic.TcCoe Idealize.ShloMosaic.ValueIdx
open Cert.Spec Cert.RefScalars Cert.KernelIdeal.Scalars
open Cert.KernelIdeal.Lanes (even odd)

/-- Column `j` of the 16 packed columns of group `g`. -/
def bcol (g : Fin 216) (j : Fin 16) : Fin 3456 := ⟨16 * g.val + j.val, by omega⟩

theorem sum_bcols (f : Fin 3456 → EReal) : ∑ p, f p = ∑ g : Fin 216, ∑ j : Fin 16, f (bcol g j) := by
  rw [← Equiv.sum_comp (finProdFinEquiv (m := 216) (n := 16)) f, Fintype.sum_prod_type]
  refine Finset.sum_congr rfl fun g _ => Finset.sum_congr rfl fun j _ => congrArg f (Fin.ext ?_)
  show j.val + 16 * g.val = 16 * g.val + j.val
  omega

/-- Is a bit of the code set? -/
def bit (c w : BitVec 32) : BitVec 1 := IntOp.cmpi .ne (IntOp.andi c w) 0#32

/-- The magnitude of a code. -/
def refMag (c : BitVec 32) : EReal :=
  Scalar.select (bit c 4#32)
    (Scalar.select (bit c 2#32) (Scalar.select (bit c 1#32) (Ideal.ofBits .f32 0x40C00000#32) (Ideal.ofBits .f32 0x40800000#32))
      (Scalar.select (bit c 1#32) (Ideal.ofBits .f32 0x40400000#32) (Ideal.ofBits .f32 0x40000000#32)))
    (Scalar.select (bit c 2#32) (Scalar.select (bit c 1#32) (Ideal.ofBits .f32 0x3FC00000#32) (Ideal.ofBits .f32 0x3F800000#32))
      (Scalar.select (bit c 1#32) (Ideal.ofBits .f32 0x3F000000#32) (Ideal.ofBits .f32 0x00000000#32)))

/-- The number of a code. -/
def refDecode (c : BitVec 32) : EReal := Scalar.select (bit c 8#32) (-refMag c) (refMag c)

theorem ofBits_three_halves : Ideal.ofBits .f32 0x3FC00000#32 = ((3 / 2 : ℝ) : EReal) := by simp [Ideal.ofBits, Ideal.ieee, -EReal.coe_mul]; norm_num

theorem bits : ∀ n : Fin 16, bit (BitVec.ofNat 32 n.val) 1#32 = BitVec.ofBool (n.val % 2 = 1) ∧ bit (BitVec.ofNat 32 n.val) 2#32 = BitVec.ofBool (n.val / 2 % 2 = 1)
    ∧ bit (BitVec.ofNat 32 n.val) 4#32 = BitVec.ofBool (n.val / 4 % 2 = 1) ∧ bit (BitVec.ofNat 32 n.val) 8#32 = BitVec.ofBool (n.val / 8 % 2 = 1) := by
  decide +kernel

theorem refDecode_apply (n : ℕ) (hn : n < 16) : refDecode (BitVec.ofNat 32 n) = ((e2m1 n : ℝ) : EReal) := by
  obtain ⟨h1, h2, h3, h4⟩ := bits ⟨n, hn⟩
  simp only at h1 h2 h3 h4
  unfold refDecode refMag
  rw [h1, h2, h3, h4, ofBits_six, ofBits_four, ofBits_three, ofBits_two, ofBits_three_halves, ofBits_one, ofBits_half, ofBits_zero]
  simp only [select_ofBool, decide_eq_true_eq]
  unfold e2m1
  interval_cases n <;> norm_num [grid2, ← EReal.coe_neg]
  simp [EReal.coe_neg]

theorem byte_lo : ∀ n : Fin 256, IntOp.andi ((BitVec.ofNat 8 n.val).setWidth 32) 15#32 = BitVec.ofNat 32 (n.val % 16) := by decide +kernel
theorem byte_hi : ∀ n : Fin 256, IntOp.shrsi .host ((BitVec.ofNat 8 n.val).setWidth 32) 4#32 = BitVec.ofNat 32 (n.val / 16) := by decide +kernel
theorem pack : ∀ a b : Fin 16, (IntOp.ori (BitVec.ofNat 32 a.val) (IntOp.shli .host (BitVec.ofNat 32 b.val) 4#32)).setWidth 8 = BitVec.ofNat 8 (a.val + 16 * b.val) := by
  decide +kernel

theorem exp_byte : ∀ n : Fin 209, ((BitVec.ofInt 32 ((n.val : ℤ) - 106)).setWidth 8).signExtend 32 = BitVec.ofInt 32 ((n.val : ℤ) - 106) := by decide +kernel
theorem exp_sext : ∀ n : Fin 256, ((BitVec.ofNat 8 n.val).signExtend 32).toInt = (BitVec.ofNat 8 n.val).toInt := by decide +kernel

variable (x0 : (⟨S2x896x6912, .bf16⟩ : BufTy).Contents (Elt Ideal)) (x1 : (⟨S2560x3456, .i8⟩ : BufTy).Contents (Elt Ideal)) (x2 : (⟨S6912, .f32⟩ : BufTy).Contents (Elt Ideal)) (x3 : (⟨S2x896x6912, .i8⟩ : BufTy).Contents (Elt Ideal)) (x4 : (⟨S2560x216, .i8⟩ : BufTy).Contents (Elt Ideal))
variable (X : Fin 2 → Fin 896 → Fin 6912 → ℝ) (σ : Fin 6912 → ℝ)

/-- The code of a packed column's even element, and of its odd one. -/
def cdLo (b : Fin 2) (s : Fin 896) (g : Fin 216) (j : Fin 16) : ℕ := cd (grp X σ b s g) (even j) (x3 (ix3 b s (pcol g (even j))) : BitVec 8).toNat
@[inherit_doc cdLo]
def cdHi (b : Fin 2) (s : Fin 896) (g : Fin 216) (j : Fin 16) : ℕ := cd (grp X σ b s g) (odd j) (x3 (ix3 b s (pcol g (odd j))) : BitVec 8).toNat
/-- The operand after coding and decoding, in a packed column's even element and in its odd one. -/
def dLo (b : Fin 2) (s : Fin 896) (g : Fin 216) (j : Fin 16) : ℝ := dec (grp X σ b s g) (even j) (x3 (ix3 b s (pcol g (even j))) : BitVec 8).toNat
@[inherit_doc dLo]
def dHi (b : Fin 2) (s : Fin 896) (g : Fin 216) (j : Fin 16) : ℝ := dec (grp X σ b s g) (odd j) (x3 (ix3 b s (pcol g (odd j))) : BitVec 8).toNat
/-- The decoded weight in a packed column's even element and in its odd one. -/
def wLo (k : Fin 2560) (g : Fin 216) (j : Fin 16) : ℝ := e2m1 ((x1 (ix2 k (bcol g j)) : BitVec 8).toNat % 16) * (2 : ℝ) ^ (x4 (ix2 k g) : BitVec 8).toInt
@[inherit_doc wLo]
def wHi (k : Fin 2560) (g : Fin 216) (j : Fin 16) : ℝ := e2m1 ((x1 (ix2 k (bcol g j)) : BitVec 8).toNat / 16) * (2 : ℝ) ^ (x4 (ix2 k g) : BitVec 8).toInt

theorem v162_eq (i : S2x896x216x16.Idx) : (val_main_v162 (F := Ideal) x0 x2 x3 i : EReal) = refDecode (val_main_v136 (F := Ideal) x0 x2 x3 i) := by
  simp only [val_main_v138_apply, val_main_c_43_apply, val_main_v139_apply, val_main_v140_apply, val_main_c_44_apply, val_main_v141_apply,
    val_main_v142_apply, val_main_c_45_apply, val_main_v143_apply, val_main_v144_apply, val_main_c_46_apply, val_main_v145_apply, val_main_v146_apply,
    val_main_c_47_apply, val_main_v147_apply, val_main_v148_apply, val_main_c_48_apply, val_main_v149_apply, val_main_v150_apply, val_main_c_49_apply,
    val_main_v151_apply, val_main_v152_apply, val_main_cst_50_apply, val_main_cst_51_apply, val_main_call8_v0_apply, val_main_call8_v1_apply,
    val_main_v153_apply, val_main_cst_52_apply, val_main_cst_53_apply, val_main_call9_v0_apply, val_main_call9_v1_apply, val_main_v154_apply,
    val_main_v155_apply, val_main_cst_54_apply, val_main_cst_55_apply, val_main_call11_v0_apply, val_main_call11_v1_apply, val_main_v156_apply,
    val_main_cst_56_apply, val_main_cst_57_apply, val_main_call12_v0_apply, val_main_call12_v1_apply, val_main_v157_apply, val_main_v158_apply,
    val_main_v159_apply, val_main_v160_apply, val_main_v161_apply, val_main_v162_apply]
  rfl

theorem v193_eq (i : S2x896x216x16.Idx) : (val_main_v193 (F := Ideal) x0 x2 x3 i : EReal) = refDecode (val_main_v167 (F := Ideal) x0 x2 x3 i) := by
  simp only [val_main_c_59_apply, val_main_v168_apply, val_main_v169_apply, val_main_c_60_apply, val_main_v170_apply, val_main_v171_apply,
    val_main_c_61_apply, val_main_v172_apply, val_main_v173_apply, val_main_c_62_apply, val_main_v174_apply, val_main_v175_apply, val_main_c_63_apply,
    val_main_v176_apply, val_main_v177_apply, val_main_c_64_apply, val_main_v178_apply, val_main_v179_apply, val_main_c_65_apply, val_main_v180_apply,
    val_main_v181_apply, val_main_c_66_apply, val_main_v182_apply, val_main_v183_apply, val_main_cst_67_apply, val_main_cst_68_apply,
    val_main_call16_v0_apply, val_main_call16_v1_apply, val_main_v184_apply, val_main_cst_69_apply, val_main_cst_70_apply, val_main_call17_v0_apply,
    val_main_call17_v1_apply, val_main_v185_apply, val_main_v186_apply, val_main_cst_71_apply, val_main_cst_72_apply, val_main_call19_v0_apply,
    val_main_call19_v1_apply, val_main_v187_apply, val_main_cst_73_apply, val_main_cst_74_apply, val_main_call20_v0_apply, val_main_call20_v1_apply,
    val_main_v188_apply, val_main_v189_apply, val_main_v190_apply, val_main_v191_apply, val_main_v192_apply, val_main_v193_apply]
  rfl

theorem v232_eq (i : S2560x216x16.Idx) : (val_main_v232 (F := Ideal) x1 i : EReal) = refDecode (val_main_v206 (F := Ideal) x1 i) := by
  simp only [val_main_c_77_apply, val_main_v207_apply, val_main_v208_apply, val_main_c_78_apply, val_main_v209_apply, val_main_v210_apply,
    val_main_c_79_apply, val_main_v211_apply, val_main_v212_apply, val_main_c_80_apply, val_main_v213_apply, val_main_v214_apply, val_main_c_81_apply,
    val_main_v215_apply, val_main_v216_apply, val_main_c_82_apply, val_main_v217_apply, val_main_v218_apply, val_main_c_83_apply, val_main_v219_apply,
    val_main_v220_apply, val_main_c_84_apply, val_main_v221_apply, val_main_v222_apply, val_main_cst_85_apply, val_main_cst_86_apply,
    val_main_call24_v0_apply, val_main_call24_v1_apply, val_main_v223_apply, val_main_cst_87_apply, val_main_cst_88_apply, val_main_call25_v0_apply,
    val_main_call25_v1_apply, val_main_v224_apply, val_main_v225_apply, val_main_cst_89_apply, val_main_cst_90_apply, val_main_call27_v0_apply,
    val_main_call27_v1_apply, val_main_v226_apply, val_main_cst_91_apply, val_main_cst_92_apply, val_main_call28_v0_apply, val_main_call28_v1_apply,
    val_main_v227_apply, val_main_v228_apply, val_main_v229_apply, val_main_v230_apply, val_main_v231_apply, val_main_v232_apply]
  rfl

theorem v263_eq (i : S2560x216x16.Idx) : (val_main_v263 (F := Ideal) x1 i : EReal) = refDecode (val_main_v237 (F := Ideal) x1 i) := by
  simp only [val_main_c_94_apply, val_main_v238_apply, val_main_v239_apply, val_main_c_95_apply, val_main_v240_apply, val_main_v241_apply,
    val_main_c_96_apply, val_main_v242_apply, val_main_v243_apply, val_main_c_97_apply, val_main_v244_apply, val_main_v245_apply, val_main_c_98_apply,
    val_main_v246_apply, val_main_v247_apply, val_main_c_99_apply, val_main_v248_apply, val_main_v249_apply, val_main_c_100_apply, val_main_v250_apply,
    val_main_v251_apply, val_main_c_101_apply, val_main_v252_apply, val_main_v253_apply, val_main_cst_102_apply, val_main_cst_103_apply,
    val_main_call32_v0_apply, val_main_call32_v1_apply, val_main_v254_apply, val_main_cst_104_apply, val_main_cst_105_apply, val_main_call33_v0_apply,
    val_main_call33_v1_apply, val_main_v255_apply, val_main_v256_apply, val_main_cst_106_apply, val_main_cst_107_apply, val_main_call35_v0_apply,
    val_main_call35_v1_apply, val_main_v257_apply, val_main_cst_108_apply, val_main_cst_109_apply, val_main_call36_v0_apply, val_main_call36_v1_apply,
    val_main_v258_apply, val_main_v259_apply, val_main_v260_apply, val_main_v261_apply, val_main_v262_apply, val_main_v263_apply]
  rfl

theorem idx4_ext {n0 n1 n2 n3 : ℕ} (i : (⟨4, ![n0, n1, n2, n3]⟩ : Shape).Idx) (a : Fin n0) (b : Fin n1) (c : Fin n2) (d : Fin n3)
    (h0 : (i 0).val = a.val) (h1 : (i 1).val = b.val) (h2 : (i 2).val = c.val) (h3 : (i 3).val = d.val) : i = ix4 a b c d := by
  funext x; fin_cases x
  exacts [Fin.ext h0, Fin.ext h1, Fin.ext h2, Fin.ext h3]

theorem idx3_ext {n0 n1 n2 : ℕ} (i : (⟨3, ![n0, n1, n2]⟩ : Shape).Idx) (a : Fin n0) (b : Fin n1) (c : Fin n2)
    (h0 : (i 0).val = a.val) (h1 : (i 1).val = b.val) (h2 : (i 2).val = c.val) : i = ix3 a b c := by
  funext x; fin_cases x
  exacts [Fin.ext h0, Fin.ext h1, Fin.ext h2]

theorem idx2_ext {n0 n1 : ℕ} (i : (⟨2, ![n0, n1]⟩ : Shape).Idx) (a : Fin n0) (b : Fin n1)
    (h0 : (i 0).val = a.val) (h1 : (i 1).val = b.val) : i = ix2 a b := by
  funext x; fin_cases x
  exacts [Fin.ext h0, Fin.ext h1]

theorem idx_v126 (b : Fin 2) (s : Fin 896) (g : Fin 216) (j : Fin 16) : idx_main_v126 (ix3 b s (bcol g j)) = ix4 b s g j :=
  idx4_ext _ _ _ _ _ (show ((b.val * 896 + s.val) * 3456 + (16 * g.val + j.val)) / 3096576 = b.val by omega)
    (show ((b.val * 896 + s.val) * 3456 + (16 * g.val + j.val)) / 3456 % 896 = s.val by omega)
    (show ((b.val * 896 + s.val) * 3456 + (16 * g.val + j.val)) / 16 % 216 = g.val by omega)
    (show ((b.val * 896 + s.val) * 3456 + (16 * g.val + j.val)) % 16 = j.val by omega)

theorem idx_v134 (b : Fin 2) (s : Fin 896) (g : Fin 216) (j : Fin 16) : idx_main_v134 (ix4 b s g j) = ix3 b s (bcol g j) :=
  idx3_ext _ _ _ _ (show (((b.val * 896 + s.val) * 216 + g.val) * 16 + j.val) / 3096576 = b.val by omega)
    (show (((b.val * 896 + s.val) * 216 + g.val) * 16 + j.val) / 3456 % 896 = s.val by omega)
    (show (((b.val * 896 + s.val) * 216 + g.val) * 16 + j.val) % 3456 = 16 * g.val + j.val by omega)

theorem idx_v235 (k : Fin 2560) (g : Fin 216) (j : Fin 16) : idx_main_v235 (ix2 k (bcol g j)) = ix3 k g j :=
  idx3_ext _ _ _ _ (show (k.val * 3456 + (16 * g.val + j.val)) / 3456 = k.val by omega)
    (show (k.val * 3456 + (16 * g.val + j.val)) / 16 % 216 = g.val by omega)
    (show (k.val * 3456 + (16 * g.val + j.val)) % 16 = j.val by omega)

theorem idx_v204 (k : Fin 2560) (g : Fin 216) (j : Fin 16) : idx_main_v204 (ix3 k g j) = ix2 k (bcol g j) :=
  idx2_ext _ _ _ (show ((k.val * 216 + g.val) * 16 + j.val) / 3456 = k.val by omega)
    (show ((k.val * 216 + g.val) * 16 + j.val) % 3456 = 16 * g.val + j.val by omega)

theorem idx_v119 (b : Fin 2) (s : Fin 896) (g : Fin 216) (j : Fin 16) :
    idx_main_v117 (idx_main_v118 (idx_main_v119 (ix4 b s g j))) = ix4 b s g (even j) := by
  have e : idx_main_v118 (idx_main_v119 (ix4 b s g j)) = ix5 b s g j 0 := by
    funext x; fin_cases x
    · exact Fin.ext (show (((b.val * 896 + s.val) * 216 + g.val) * 16 + j.val) / 3096576 = b.val by omega)
    · exact Fin.ext (show (((b.val * 896 + s.val) * 216 + g.val) * 16 + j.val) / 3456 % 896 = s.val by omega)
    · exact Fin.ext (show (((b.val * 896 + s.val) * 216 + g.val) * 16 + j.val) / 16 % 216 = g.val by omega)
    · exact Fin.ext (show (((b.val * 896 + s.val) * 216 + g.val) * 16 + j.val) / 1 % 16 = j.val by omega)
    · rfl
  rw [e]
  exact idx4_ext _ _ _ _ _ (show ((((b.val * 896 + s.val) * 216 + g.val) * 16 + j.val) * 2 + 0) / 6193152 = b.val by omega)
    (show ((((b.val * 896 + s.val) * 216 + g.val) * 16 + j.val) * 2 + 0) / 6912 % 896 = s.val by omega)
    (show ((((b.val * 896 + s.val) * 216 + g.val) * 16 + j.val) * 2 + 0) / 32 % 216 = g.val by omega)
    (show ((((b.val * 896 + s.val) * 216 + g.val) * 16 + j.val) * 2 + 0) % 32 = 2 * j.val by omega)

theorem idx_v121 (b : Fin 2) (s : Fin 896) (g : Fin 216) (j : Fin 16) :
    idx_main_v117 (idx_main_v120 (idx_main_v121 (ix4 b s g j))) = ix4 b s g (odd j) := by
  have e : idx_main_v120 (idx_main_v121 (ix4 b s g j)) = ix5 b s g j 1 := by
    funext x; fin_cases x
    · exact Fin.ext (show (((b.val * 896 + s.val) * 216 + g.val) * 16 + j.val) / 3096576 = b.val by omega)
    · exact Fin.ext (show (((b.val * 896 + s.val) * 216 + g.val) * 16 + j.val) / 3456 % 896 = s.val by omega)
    · exact Fin.ext (show (((b.val * 896 + s.val) * 216 + g.val) * 16 + j.val) / 16 % 216 = g.val by omega)
    · exact Fin.ext (show (((b.val * 896 + s.val) * 216 + g.val) * 16 + j.val) / 1 % 16 = j.val by omega)
    · rfl
  rw [e]
  exact idx4_ext _ _ _ _ _ (show ((((b.val * 896 + s.val) * 216 + g.val) * 16 + j.val) * 2 + 1) / 6193152 = b.val by omega)
    (show ((((b.val * 896 + s.val) * 216 + g.val) * 16 + j.val) * 2 + 1) / 6912 % 896 = s.val by omega)
    (show ((((b.val * 896 + s.val) * 216 + g.val) * 16 + j.val) * 2 + 1) / 32 % 216 = g.val by omega)
    (show ((((b.val * 896 + s.val) * 216 + g.val) * 16 + j.val) * 2 + 1) % 32 = 2 * j.val + 1 by omega)

variable (hx : ∀ b s p, (x0 (ix3 b s p) : EReal) = ((X b s p : ℝ) : EReal)) (hs : ∀ p, (x2 (ix1 p) : EReal) = ((σ p : ℝ) : EReal))
variable (hf : ∀ b s g i, Fair (grp X σ b s g i))

theorem cdLo_lt (b : Fin 2) (s : Fin 896) (g : Fin 216) (j : Fin 16) : cdLo x3 X σ b s g j < 16 := cd_lt _ _ _
theorem cdHi_lt (b : Fin 2) (s : Fin 896) (g : Fin 216) (j : Fin 16) : cdHi x3 X σ b s g j < 16 := cd_lt _ _ _

include hx hs hf in
theorem v126_apply (b : Fin 2) (s : Fin 896) (g : Fin 216) (j : Fin 16) :
    (val_main_v126 (F := Ideal) x0 x2 x3 (ix3 b s (bcol g j)) : BitVec 8) = BitVec.ofNat 8 (cdLo x3 X σ b s g j + 16 * cdHi x3 X σ b s g j) := by
  rw [val_main_v126_apply, idx_v126, val_main_v125_apply, val_main_v124_apply, val_main_v123_apply, val_main_v121_apply, val_main_v120_apply,
    val_main_v119_apply, val_main_v118_apply, val_main_v117_apply, val_main_v117_apply, idx_v119, idx_v121,
    v114_apply x0 x2 x3 X σ hx hs hf, v114_apply x0 x2 x3 X σ hx hs hf]
  exact pack ⟨_, cdLo_lt x3 X σ b s g j⟩ ⟨_, cdHi_lt x3 X σ b s g j⟩

include hx hs hf in
theorem v116_apply (b : Fin 2) (s : Fin 896) (g : Fin 216) :
    (val_main_v116 (F := Ideal) x0 x2 (ix3 b s g) : BitVec 8) = (BitVec.ofInt 32 (expo (A (grp X σ b s g)))).setWidth 8 := by
  rw [val_main_v116_apply, val_main_v115_apply]
  have e : idx_main_v115 (ix3 b s g) = ix4 b s g 0 :=
    idx4_ext _ _ _ _ _ (show ((b.val * 896 + s.val) * 216 + g.val) / 193536 = b.val by omega)
      (show ((b.val * 896 + s.val) * 216 + g.val) / 216 % 896 = s.val by omega) (show ((b.val * 896 + s.val) * 216 + g.val) / 1 % 216 = g.val by omega) rfl
  rw [e, v61_apply x0 x2 X σ hx hs hf]

include hx hs hf in
theorem v131_apply (b : Fin 2) (s : Fin 896) (g : Fin 216) :
    (val_main_v131 (F := Ideal) x0 x2 (ix3 b s g) : EReal) = (((2 : ℝ) ^ expo (A (grp X σ b s g)) : ℝ) : EReal) := by
  obtain ⟨h1, h2⟩ := expo_bounds _ (hf b s g)
  have hz := exp_byte ⟨(expo (A (grp X σ b s g)) + 106).toNat, by omega⟩
  have hn : (((expo (A (grp X σ b s g)) + 106).toNat : ℕ) : ℤ) - 106 = expo (A (grp X σ b s g)) := by omega
  simp only [hn] at hz
  rw [val_main_v131_apply, val_main_v130_apply, val_main_v128_apply, val_main_v127_apply, v116_apply x0 x2 X σ hx hs hf, hz]
  show Ideal.pow (Ideal.ofBits .f32 0x40000000#32) ((((BitVec.ofInt 32 (expo (A (grp X σ b s g)))).toInt : ℝ)) : EReal) = _
  rw [toInt_ofInt_small _ (by omega) (by omega), ofBits_two, pow_two_int]

theorem v201_apply (k : Fin 2560) (g : Fin 216) :
    (val_main_v201 (F := Ideal) x4 (ix2 k g) : EReal) = (((2 : ℝ) ^ (x4 (ix2 k g) : BitVec 8).toInt : ℝ) : EReal) := by
  have hz := exp_sext ⟨(x4 (ix2 k g) : BitVec 8).toNat, (x4 (ix2 k g) : BitVec 8).isLt⟩
  simp only [BitVec.ofNat_toNat, BitVec.setWidth_eq] at hz
  rw [val_main_v201_apply, val_main_v200_apply, val_main_v198_apply, val_main_v197_apply]
  show Ideal.pow (Ideal.ofBits .f32 0x40000000#32) ((((BitVec.signExtend 32 (x4 (ix2 k g) : BitVec 8)).toInt : ℝ)) : EReal) = _
  rw [hz, ofBits_two, pow_two_int]

include hx hs hf in
theorem v132_apply (b : Fin 2) (s : Fin 896) (g : Fin 216) :
    (val_main_v132 (F := Ideal) x0 x2 (ix4 b s g 0) : EReal) = (((2 : ℝ) ^ expo (A (grp X σ b s g)) : ℝ) : EReal) := by
  rw [val_main_v132_apply, show idx_main_v132 (ix4 b s g 0) = ix3 b s g from idx3_ext _ _ _ _ rfl rfl rfl, v131_apply x0 x2 X σ hx hs hf]

include hx hs hf in
theorem v134_apply (b : Fin 2) (s : Fin 896) (g : Fin 216) (j : Fin 16) :
    (val_main_v134 (F := Ideal) x0 x2 x3 (ix4 b s g j) : BitVec 32)
      = (BitVec.ofNat 8 (cdLo x3 X σ b s g j + 16 * cdHi x3 X σ b s g j)).setWidth 32 := by
  rw [val_main_v134_apply, idx_v134, val_main_v133_apply, v126_apply x0 x2 x3 X σ hx hs hf]

include hx hs hf in
theorem v165_apply (b : Fin 2) (s : Fin 896) (g : Fin 216) (j : Fin 16) :
    (val_main_v165 (F := Ideal) x0 x2 x3 (ix3 b s (bcol g j)) : EReal) = ((dLo x3 X σ b s g j : ℝ) : EReal) := by
  have h1 := cdLo_lt x3 X σ b s g j
  have h2 := cdHi_lt x3 X σ b s g j
  have hb := byte_lo ⟨cdLo x3 X σ b s g j + 16 * cdHi x3 X σ b s g j, by omega⟩
  have hm : (cdLo x3 X σ b s g j + 16 * cdHi x3 X σ b s g j) % 16 = cdLo x3 X σ b s g j := by omega
  simp only [hm] at hb
  rw [val_main_v165_apply, show idx_main_v165 (ix3 b s (bcol g j)) = ix4 b s g j from idx_v126 b s g j, val_main_v164_apply, v162_eq, val_main_v136_apply,
    v134_apply x0 x2 x3 X σ hx hs hf, val_main_v163_apply, show idx_main_v163 (ix4 b s g j) = ix4 b s g 0 from idx4_ext _ _ _ _ _ rfl rfl rfl rfl,
    v132_apply x0 x2 X σ hx hs hf]
  show refDecode (IntOp.andi _ 15#32) * _ = _
  rw [hb, refDecode_apply _ h1, ← EReal.coe_mul]
  rfl

include hx hs hf in
theorem v196_apply (b : Fin 2) (s : Fin 896) (g : Fin 216) (j : Fin 16) :
    (val_main_v196 (F := Ideal) x0 x2 x3 (ix3 b s (bcol g j)) : EReal) = ((dHi x3 X σ b s g j : ℝ) : EReal) := by
  have h1 := cdLo_lt x3 X σ b s g j
  have h2 := cdHi_lt x3 X σ b s g j
  have hb := byte_hi ⟨cdLo x3 X σ b s g j + 16 * cdHi x3 X σ b s g j, by omega⟩
  have hm : (cdLo x3 X σ b s g j + 16 * cdHi x3 X σ b s g j) / 16 = cdHi x3 X σ b s g j := by omega
  simp only [hm] at hb
  rw [val_main_v196_apply, show idx_main_v196 (ix3 b s (bcol g j)) = ix4 b s g j from idx_v126 b s g j, val_main_v195_apply, v193_eq, val_main_v167_apply,
    v134_apply x0 x2 x3 X σ hx hs hf, val_main_v194_apply, show idx_main_v194 (ix4 b s g j) = ix4 b s g 0 from idx4_ext _ _ _ _ _ rfl rfl rfl rfl,
    v132_apply x0 x2 X σ hx hs hf]
  show refDecode (IntOp.shrsi .host _ 4#32) * _ = _
  rw [hb, refDecode_apply _ h2, ← EReal.coe_mul]
  rfl

theorem v202_apply (k : Fin 2560) (g : Fin 216) :
    (val_main_v202 (F := Ideal) x4 (ix3 k g 0) : EReal) = (((2 : ℝ) ^ (x4 (ix2 k g) : BitVec 8).toInt : ℝ) : EReal) := by
  rw [val_main_v202_apply, show idx_main_v202 (ix3 k g 0) = ix2 k g from idx2_ext _ _ _ rfl rfl, v201_apply]

theorem v235_apply (k : Fin 2560) (g : Fin 216) (j : Fin 16) :
    (val_main_v235 (F := Ideal) x1 x4 (ix2 k (bcol g j)) : EReal) = ((wLo x1 x4 k g j : ℝ) : EReal) := by
  have h := (x1 (ix2 k (bcol g j)) : BitVec 8).isLt
  have hb := byte_lo ⟨(x1 (ix2 k (bcol g j)) : BitVec 8).toNat, h⟩
  simp only [BitVec.ofNat_toNat, BitVec.setWidth_eq] at hb
  rw [val_main_v235_apply, idx_v235, val_main_v234_apply, v232_eq, val_main_v206_apply, val_main_v204_apply, idx_v204, val_main_v203_apply,
    val_main_v233_apply, show idx_main_v233 (ix3 k g j) = ix3 k g 0 from idx3_ext _ _ _ _ rfl rfl rfl, v202_apply]
  show refDecode (IntOp.andi _ 15#32) * _ = _
  rw [hb, refDecode_apply _ (by omega), ← EReal.coe_mul]
  rfl

theorem v266_apply (k : Fin 2560) (g : Fin 216) (j : Fin 16) :
    (val_main_v266 (F := Ideal) x1 x4 (ix2 k (bcol g j)) : EReal) = ((wHi x1 x4 k g j : ℝ) : EReal) := by
  have h := (x1 (ix2 k (bcol g j)) : BitVec 8).isLt
  have hb := byte_hi ⟨(x1 (ix2 k (bcol g j)) : BitVec 8).toNat, h⟩
  simp only [BitVec.ofNat_toNat, BitVec.setWidth_eq] at hb
  rw [val_main_v266_apply, show idx_main_v266 (ix2 k (bcol g j)) = ix3 k g j from idx_v235 k g j, val_main_v265_apply, v263_eq, val_main_v237_apply,
    val_main_v204_apply, idx_v204, val_main_v203_apply,
    val_main_v264_apply, show idx_main_v264 (ix3 k g j) = ix3 k g 0 from idx3_ext _ _ _ _ rfl rfl rfl, v202_apply]
  show refDecode (IntOp.shrsi .host _ 4#32) * _ = _
  rw [hb, refDecode_apply _ (by omega), ← EReal.coe_mul]
  rfl

include hx hs hf in
theorem v267_apply (b : Fin 2) (s : Fin 896) (k : Fin 2560) :
    (val_main_v267 (F := Ideal) x0 x1 x2 x3 x4 (ix3 b s k) : EReal)
      = ((∑ g : Fin 216, ∑ j : Fin 16, dLo x3 X σ b s g j * wLo x1 x4 k g j : ℝ) : EReal) := by
  rw [val_main_v267_apply, sum_bcols]
  simp only [Cert.KernelIdeal.Lanes.coe_sum']
  refine Finset.sum_congr rfl fun g _ => Finset.sum_congr rfl fun j _ => ?_
  rw [show lidx_main_v267 (ix3 b s k) (bcol g j) = ix3 b s (bcol g j) from idx3_ext _ _ _ _ rfl rfl rfl,
    show ridx_main_v267 (ix3 b s k) (bcol g j) = ix2 k (bcol g j) from idx2_ext _ _ _ rfl rfl,
    v165_apply x0 x2 x3 X σ hx hs hf, v235_apply, ← EReal.coe_mul]

include hx hs hf in
theorem v268_apply (b : Fin 2) (s : Fin 896) (k : Fin 2560) :
    (val_main_v268 (F := Ideal) x0 x1 x2 x3 x4 (ix3 b s k) : EReal)
      = ((∑ g : Fin 216, ∑ j : Fin 16, dHi x3 X σ b s g j * wHi x1 x4 k g j : ℝ) : EReal) := by
  rw [val_main_v268_apply, sum_bcols]
  simp only [Cert.KernelIdeal.Lanes.coe_sum']
  refine Finset.sum_congr rfl fun g _ => Finset.sum_congr rfl fun j _ => ?_
  rw [show lidx_main_v268 (ix3 b s k) (bcol g j) = ix3 b s (bcol g j) from idx3_ext _ _ _ _ rfl rfl rfl,
    show ridx_main_v268 (ix3 b s k) (bcol g j) = ix2 k (bcol g j) from idx2_ext _ _ _ rfl rfl,
    v196_apply x0 x2 x3 X σ hx hs hf, v266_apply, ← EReal.coe_mul]

/-- An element of the product. -/
def total (b : Fin 2) (s : Fin 896) (k : Fin 2560) : ℝ :=
  ∑ g : Fin 216, ∑ j : Fin 16, (dLo x3 X σ b s g j * wLo x1 x4 k g j + dHi x3 X σ b s g j * wHi x1 x4 k g j)

/-- Row `s` of batch `b` among all rows. -/
def row (b : Fin 2) (s : Fin 896) : Fin 1792 := ⟨896 * b.val + s.val, by omega⟩

include hx hs hf in
theorem v273_apply (b : Fin 2) (s : Fin 896) (k : Fin 2560) :
    (val_main_v273 (F := Ideal) x0 x1 x2 x3 x4 (ix2 (row b s) k) : EReal)
      = ((total x1 x3 x4 X σ b s k : ℝ) : EReal) * Ideal.ofBits .f32 0x3FE38E39#32 := by
  rw [val_main_v273_apply, show idx_main_v273 (ix2 (row b s) k) = ix3 b s k from
    idx3_ext _ _ _ _ (show ((896 * b.val + s.val) * 2560 + k.val) / 2293760 = b.val by omega)
      (show ((896 * b.val + s.val) * 2560 + k.val) / 2560 % 896 = s.val by omega) (show ((896 * b.val + s.val) * 2560 + k.val) % 2560 = k.val by omega),
    val_main_v272_apply, val_main_v271_apply, val_main_v269_apply, v267_apply x0 x1 x2 x3 x4 X σ hx hs hf, v268_apply x0 x1 x2 x3 x4 X σ hx hs hf]
  show Ideal.ofBits .f32 0x3FE38E39#32 * (_ + _) = _
  rw [← EReal.coe_add, mul_comm]
  congr 2
  unfold total
  rw [← Finset.sum_add_distrib]
  exact Finset.sum_congr rfl fun g _ => Finset.sum_add_distrib.symm

include hx hs hf in
theorem v274_apply (b : Fin 2) (s : Fin 896) (g : Fin 216) (j : Fin 16) :
    (val_main_v274 (F := Ideal) x0 x2 x3 (ix2 (row b s) (bcol g j)) : BitVec 8) = BitVec.ofNat 8 (cdLo x3 X σ b s g j + 16 * cdHi x3 X σ b s g j) := by
  rw [val_main_v274_apply, show idx_main_v274 (ix2 (row b s) (bcol g j)) = ix3 b s (bcol g j) from
    idx3_ext _ _ _ _ (show ((896 * b.val + s.val) * 3456 + (16 * g.val + j.val)) / 3096576 = b.val by omega)
      (show ((896 * b.val + s.val) * 3456 + (16 * g.val + j.val)) / 3456 % 896 = s.val by omega)
      (show ((896 * b.val + s.val) * 3456 + (16 * g.val + j.val)) % 3456 = 16 * g.val + j.val by omega), v126_apply x0 x2 x3 X σ hx hs hf]

include hx hs hf in
theorem v277_apply (b : Fin 2) (s : Fin 896) (g : Fin 216) (j : Fin 16) :
    (val_main_v277 (F := Ideal) x0 x2 (ix2 (row b s) (bcol g j)) : BitVec 8) = (BitVec.ofInt 32 (expo (A (grp X σ b s g)))).setWidth 8 := by
  rw [val_main_v277_apply, show idx_main_v277 (ix2 (row b s) (bcol g j)) = ix3 b s (bcol g j) from
    idx3_ext _ _ _ _ (show ((896 * b.val + s.val) * 3456 + (16 * g.val + j.val)) / 3096576 = b.val by omega)
      (show ((896 * b.val + s.val) * 3456 + (16 * g.val + j.val)) / 3456 % 896 = s.val by omega)
      (show ((896 * b.val + s.val) * 3456 + (16 * g.val + j.val)) % 3456 = 16 * g.val + j.val by omega),
    val_main_v276_apply, show idx_main_v276 (ix3 b s (bcol g j)) = ix4 b s g j from idx_v126 b s g j, val_main_v275_apply,
    show idx_main_v275 (ix4 b s g j) = ix3 b s g from idx3_ext _ _ _ _ rfl rfl rfl, v116_apply x0 x2 X σ hx hs hf]

end Cert.RefGroups
-- ==== Proof.Range.lean ====
module

public import proofs.«01_k».proof.Pre_in_range
public import proofs.«01_k».proof.Proof.Gen.Pre_in_range
public import proofs.«01_k».proof.Proof.RefResults

/-! # What the precondition says of the operands

Every gradient is real, and zero or of a magnitude between `2^-100` and `2^100`; every sign is `1` or `-1`. -/

@[expose] public section

noncomputable section

namespace Cert.Range

open Idealize.ShloMosaic Idealize.ShloMosaic.TcCoe Idealize.SL.Sem Idealize.ShloMosaic.ValueIdx
open Cert.KernelIdeal.Scalars Cert.Spec Cert.Pre_in_range

theorem ofBits_low : Ideal.ofBits .f32 0x0D800000#32 = (((2 : ℝ) ^ (-100 : ℤ) : ℝ) : EReal) := by
  have h := ofBits_pow 27 (by decide) (by decide)
  have hw : word 27 = 0x0D800000#32 := by decide +kernel
  rw [hw] at h
  rw [h]
  norm_num

theorem ofBits_high : Ideal.ofBits .f32 0x71800000#32 = (((2 : ℝ) ^ (100 : ℤ) : ℝ) : EReal) := by
  have h := ofBits_pow 227 (by decide) (by decide)
  have hw : word 227 = 0x71800000#32 := by decide +kernel
  rw [hw] at h
  rw [h]
  norm_num

theorem or_one : ∀ x y z : Bool, BitVec.ofBool x ||| (BitVec.ofBool y &&& BitVec.ofBool z) = 1#1 → x = true ∨ (y = true ∧ z = true) := by decide

theorem one : ∀ x : Bool, BitVec.ofBool x = 1#1 → x = true := by decide

/-- A number that is not infinite. -/
theorem real_of_abs_lt (v : EReal) (r : ℝ) (h : max v (-v) ≤ (r : EReal)) : ∃ x : ℝ, v = (x : EReal) := by
  induction v with
  | bot => simp at h
  | top => simp at h
  | coe x => exact ⟨x, rfl⟩

theorem fair_of (v lo hi : EReal) (hlo : lo = (((2 : ℝ) ^ (-100 : ℤ) : ℝ) : EReal)) (hhi : hi = (((2 : ℝ) ^ (100 : ℤ) : ℝ) : EReal))
    (h : BitVec.ofBool (decide (max v (-v) = ((0 : ℝ) : EReal))) ||| (BitVec.ofBool (decide (lo ≤ max v (-v))) &&& BitVec.ofBool (decide (max v (-v) ≤ hi))) = 1#1) :
    ∃ x : ℝ, v = (x : EReal) ∧ Fair x := by
  subst hlo hhi
  rcases or_one _ _ _ h with h0 | ⟨h1, h2⟩
  · have h0 := of_decide_eq_true h0
    obtain ⟨x, rfl⟩ := real_of_abs_lt v 0 h0.le
    rw [abs_coe, EReal.coe_eq_coe_iff] at h0
    exact ⟨x, rfl, Or.inl (abs_eq_zero.1 h0)⟩
  · have h1 := of_decide_eq_true h1
    have h2 := of_decide_eq_true h2
    obtain ⟨x, rfl⟩ := real_of_abs_lt v _ h2
    rw [abs_coe, EReal.coe_le_coe_iff] at h1 h2
    exact ⟨x, rfl, Or.inr ⟨h1, h2⟩⟩

theorem sign_of (v : EReal) (h : BitVec.ofBool (decide (max v (-v) = ((1 : ℝ) : EReal))) = 1#1) : ∃ x : ℝ, v = (x : EReal) ∧ |x| = 1 := by
  have h0 := of_decide_eq_true (one _ h)
  obtain ⟨x, rfl⟩ := real_of_abs_lt v 1 h0.le
  rw [abs_coe, EReal.coe_eq_coe_iff] at h0
  exact ⟨x, rfl, h0⟩

theorem fair_mul (x s : ℝ) (hx : Fair x) (hs : |s| = 1) : Fair (x * s) := by
  rcases hx with h | h
  · exact Or.inl (by rw [h, zero_mul])
  · exact Or.inr (by rwa [abs_mul, hs, mul_one])

theorem grads (x0 : FVec Ideal S2x896x6912 .bf16) (x1 : IVec S2560x3456 8) (x2 : FVec Ideal S6912 .f32) (x3 : IVec S2x896x6912 8) (x4 : IVec S2560x216 8)
    (h : (fn (F := Ideal) x0 x1 x2 x3 x4).1 = fun _ => 1#1) (b : Fin 2) (s : Fin 896) (p : Fin 6912) :
    ∃ x : ℝ, (x0 (ix3 b s p) : EReal) = (x : EReal) ∧ Fair x := by
  refine fair_of _ (Ideal.ofBits .f32 0x0D800000#32) (Ideal.ofBits .f32 0x71800000#32) ofBits_low ofBits_high ?_
  rw [← ofBits_zero]
  have h' := congrFun h (ix3 b s p)
  unfold fn at h'
  exact h'

theorem signs (x0 : FVec Ideal S2x896x6912 .bf16) (x1 : IVec S2560x3456 8) (x2 : FVec Ideal S6912 .f32) (x3 : IVec S2x896x6912 8) (x4 : IVec S2560x216 8)
    (h : (fn (F := Ideal) x0 x1 x2 x3 x4).2 = fun _ => 1#1) (p : Fin 6912) :
    ∃ x : ℝ, (x2 (ix1 p) : EReal) = (x : EReal) ∧ |x| = 1 := by
  refine sign_of _ ?_
  rw [← ofBits_one]
  have h' := congrFun h (ix1 p)
  unfold fn at h'
  exact h'

/-- The operands as reals, each group of the rotated gradients fair. -/
theorem reals (x0 : FVec Ideal S2x896x6912 .bf16) (x1 : IVec S2560x3456 8) (x2 : FVec Ideal S6912 .f32) (x3 : IVec S2x896x6912 8) (x4 : IVec S2560x216 8)
    (h1 : (fn (F := Ideal) x0 x1 x2 x3 x4).1 = fun _ => 1#1) (h2 : (fn (F := Ideal) x0 x1 x2 x3 x4).2 = fun _ => 1#1) :
    ∃ (X : Fin 2 → Fin 896 → Fin 6912 → ℝ) (σ : Fin 6912 → ℝ), (∀ b s p, (x0 (ix3 b s p) : EReal) = ((X b s p : ℝ) : EReal))
      ∧ (∀ p, (x2 (ix1 p) : EReal) = ((σ p : ℝ) : EReal)) ∧ ∀ b s g i, Fair (Cert.RefGroups.grp X σ b s g i) := by
  choose X hX using grads x0 x1 x2 x3 x4 h1
  choose σ hσ using signs x0 x1 x2 x3 x4 h2
  exact ⟨X, σ, fun b s p => (hX b s p).1, fun p => (hσ p).1, fun b s g i => fair_mul _ _ (hX b s _).2 (hσ _).2⟩

end Cert.Range
-- ==== Proof.Points.lean ====
module

public import proofs.«01_k».proof.Proof.Pieces

/-! # The three kinds of grid points

The first point starts the sum, the points between add to it, the last also scales it and writes the result. All three write the codes
and the exponents of their columns. -/

@[expose] public section

noncomputable section

namespace Cert.KernelIdeal.Block

open Cert.KernelIdeal Cert.KernelIdeal.Gen Idealize.ShloMosaic Idealize.ShloMosaic.TcCoe Idealize.SL.Sem Idealize.ShloMosaic.ValueIdx

variable {F : FTy → Type} [FloatOps F]

variable (c : Dev nD) (i : grid0.Coords) (arg1 : Memref sig .tc .vmem S1792x256 .bf16) (harg1 : arg1.IsWhole) (arg2 : Memref sig .tc .vmem S1792x256 .i8) (harg2 : arg2.IsWhole) (arg3 : Memref sig .tc .vmem S1x256x256 .bf16) (harg3 : arg3.IsWhole) (arg4 : Memref sig .tc .vmem S256x256 .bf16) (harg4 : arg4.IsWhole) (arg5 : Memref sig .tc .vmem S2560x128 .i8) (harg5 : arg5.IsWhole) (arg6 : Memref sig .tc .vmem S1x2560x128 .bf16) (harg6 : arg6.IsWhole) (arg7 : Memref sig .tc .vmem S1792x2560 .bf16) (harg7 : arg7.IsWhole) (arg8 : Memref sig .tc .vmem S1792x128 .i8) (harg8 : arg8.IsWhole) (arg9 : Memref sig .tc .vmem S1792x128 .i8) (harg9 : arg9.IsWhole) (arg10 : Memref sig .tc .vmem S1792x2560 .f32) (harg10 : arg10.IsWhole) (arg11 : Memref sig .tc .vmem S1792x256 .bf16) (harg11 : arg11.IsWhole) (arg12 : Memref sig .tc .vmem S2560x256 .bf16) (harg12 : arg12.IsWhole)
  (x0 : Vec F S1792x256 .bf16) (x1 : Vec F S1792x256 .i8) (x2 : Vec F S1x256x256 .bf16) (x3 : Vec F S256x256 .bf16) (x4 : Vec F S2560x128 .i8) (x5 : Vec F S1x2560x128 .bf16)

theorem out0_A_7_eq (hc0 : cond0_0 i) (hc1 : ¬cond0_1 i) (hc2 : ¬cond0_2 i) :
    out0_A_7 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 = codesBlk x0 x1 x2 x3 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5)]
  unfold kernelRun0_A
  dsimp only
  sl_unfold_words
  exact codeL_canon arg1 harg1 arg2 harg2 arg3 harg3 arg4 harg4 x0 x1 x2 x3

theorem out0_A_8_eq (hc0 : cond0_0 i) (hc1 : ¬cond0_1 i) (hc2 : ¬cond0_2 i) :
    out0_A_8 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 = expsBlk x0 x2 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5)]
  unfold kernelRun0_A
  dsimp only
  sl_unfold_words
  exact expL_canon arg1 harg1 arg3 harg3 x0 x2

theorem sout0_A_0_eq (hc0 : cond0_0 i) (hc1 : ¬cond0_1 i) (hc2 : ¬cond0_2 i) :
    sout0_A_0 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 = k0_pay3 (dBlk x0 x1 x2 x3) (wBlk x4 x5) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5)]
  unfold kernelRun0_A
  dsimp only
  sl_unfold_words
  trans k0_pay3 (ldD arg1 harg1 arg2 harg2 arg3 harg3 arg4 harg4 x0 x1 x2 x3 arg11.view) (ldW arg5 harg5 arg6 harg6 x4 x5 arg12.view)
  · exact View.canon_unit_zero (by funext a; fin_cases a <;> rfl) _ _
  · rw [ldD_eq, ldW_eq]

theorem out0_B_7_eq (hc0 : ¬cond0_0 i) (hc1 : cond0_1 i) (hc2 : ¬cond0_2 i) (xs0 : Vec F S1792x2560 .f32) :
    out0_B_7 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xs0 = codesBlk x0 x1 x2 x3 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xs0)]
  unfold kernelRun0_B
  dsimp only
  sl_unfold_words
  exact codeL_canon arg1 harg1 arg2 harg2 arg3 harg3 arg4 harg4 x0 x1 x2 x3

theorem out0_B_8_eq (hc0 : ¬cond0_0 i) (hc1 : cond0_1 i) (hc2 : ¬cond0_2 i) (xs0 : Vec F S1792x2560 .f32) :
    out0_B_8 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xs0 = expsBlk x0 x2 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xs0)]
  unfold kernelRun0_B
  dsimp only
  sl_unfold_words
  exact expL_canon arg1 harg1 arg3 harg3 x0 x2

theorem sout0_B_0_eq (hc0 : ¬cond0_0 i) (hc1 : cond0_1 i) (hc2 : ¬cond0_2 i) (xs0 : Vec F S1792x2560 .f32) :
    sout0_B_0 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xs0 = k0_pay4 (dBlk x0 x1 x2 x3) (wBlk x4 x5) xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xs0)]
  unfold kernelRun0_B
  dsimp only
  sl_unfold_words
  trans k0_pay4 (ldD arg1 harg1 arg2 harg2 arg3 harg3 arg4 harg4 x0 x1 x2 x3 arg11.view) (ldW arg5 harg5 arg6 harg6 x4 x5 arg12.view) (View.readAt (Elt F) arg10.view (Rect.unit (s := S1792x2560) ![0, 0] S1792x2560.size (by decide)).toLoadRect (harg10.unread xs0))
  · exact View.canon_unit_zero (by funext a; fin_cases a <;> rfl) _ _
  · rw [ldD_eq, ldW_eq, View.readAt_eq_ld, harg10.read_unread]
    exact congrArg _ (View.ld_unit_zero (by funext a; fin_cases a <;> rfl) _ _)

theorem out0_C_7_eq (hc0 : ¬cond0_0 i) (hc1 : cond0_1 i) (hc2 : cond0_2 i) (xs0 : Vec F S1792x2560 .f32) :
    out0_C_7 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xs0 = codesBlk x0 x1 x2 x3 := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xs0)]
  unfold kernelRun0_C
  dsimp only
  sl_unfold_words
  exact codeL_canon arg1 harg1 arg2 harg2 arg3 harg3 arg4 harg4 x0 x1 x2 x3

theorem out0_C_8_eq (hc0 : ¬cond0_0 i) (hc1 : cond0_1 i) (hc2 : cond0_2 i) (xs0 : Vec F S1792x2560 .f32) :
    out0_C_8 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xs0 = expsBlk x0 x2 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xs0)]
  unfold kernelRun0_C
  dsimp only
  sl_unfold_words
  exact expL_canon arg1 harg1 arg3 harg3 x0 x2

theorem sout0_C_0_eq (hc0 : ¬cond0_0 i) (hc1 : cond0_1 i) (hc2 : cond0_2 i) (xs0 : Vec F S1792x2560 .f32) :
    sout0_C_0 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xs0 = k0_pay4 (dBlk x0 x1 x2 x3) (wBlk x4 x5) xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xs0)]
  unfold kernelRun0_C
  dsimp only
  sl_unfold_words
  trans k0_pay4 (ldD arg1 harg1 arg2 harg2 arg3 harg3 arg4 harg4 x0 x1 x2 x3 arg11.view) (ldW arg5 harg5 arg6 harg6 x4 x5 arg12.view) (View.readAt (Elt F) arg10.view (Rect.unit (s := S1792x2560) ![0, 0] S1792x2560.size (by decide)).toLoadRect (harg10.unread xs0))
  · exact View.canon_unit_zero (by funext a; fin_cases a <;> rfl) _ _
  · rw [ldD_eq, ldW_eq, View.readAt_eq_ld, harg10.read_unread]
    exact congrArg _ (View.ld_unit_zero (by funext a; fin_cases a <;> rfl) _ _)

theorem out0_C_6_eq (hc0 : ¬cond0_0 i) (hc1 : cond0_1 i) (hc2 : cond0_2 i) (xs0 : Vec F S1792x2560 .f32) :
    out0_C_6 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xs0 = k0_pay5 (k0_pay4 (dBlk x0 x1 x2 x3) (wBlk x4 x5) xs0) := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xs0)]
  unfold kernelRun0_C
  dsimp only
  sl_unfold_words
  trans k0_pay5 (arg10.view.readCov [⟨Rect.unit (s := S1792x2560) ![0, 0] S1792x2560.size (by decide), k0_pay4 (ldD arg1 harg1 arg2 harg2 arg3 harg3 arg4 harg4 x0 x1 x2 x3 arg11.view) (ldW arg5 harg5 arg6 harg6 x4 x5 arg12.view) (View.readAt (Elt F) arg10.view (Rect.unit (s := S1792x2560) ![0, 0] S1792x2560.size (by decide)).toLoadRect (harg10.unread xs0))⟩]
    (Rect.unit (s := S1792x2560) ![0, 0] S1792x2560.size (by decide)).toLoadRect)
  · exact View.canon_unit_zero (by funext a; fin_cases a <;> rfl) _ _
  · rw [View.readCov_unit_zero _ (by funext a; fin_cases a <;> rfl), ldD_eq, ldW_eq, View.readAt_eq_ld, harg10.read_unread]
    exact congrArg (fun z => k0_pay5 (k0_pay4 _ _ z)) (View.ld_unit_zero (by funext a; fin_cases a <;> rfl) _ _)

end Cert.KernelIdeal.Block
-- ==== Proof.KernelValue.lean ====
module

public import proofs.«01_k».proof.Proof.Host
public import proofs.«01_k».proof.Proof.Points

/-! # What the kernel leaves in its results -/

@[expose] public section

noncomputable section

namespace Cert.KernelIdeal.Block

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ) (c : Dev nD)

/-- The two decoded operands of point `t`. -/
def dAt (t : Fin cfg0.N) : Vec F S1792x256 .bf16 := dBlk (iblk m c 0 t) (iblk m c 1 t) (iblk m c 2 t) (iblk m c 3 t)
@[inherit_doc dAt]
def wAt (t : Fin cfg0.N) : Vec F S2560x256 .bf16 := wBlk (iblk m c 4 t) (iblk m c 5 t)

theorem outs_codes (t : Fin cfg0.N) : (outsAt0 m c t.val t.isLt).2.1 = codesBlk (iblk m c 0 t) (iblk m c 1 t) (iblk m c 2 t) (iblk m c 3 t) := by
  have hN : t.val < 27 := lt_of_lt_of_eq t.isLt (show cfg0.N = 27 from N_0)
  by_cases h0 : t.val % 27 = 0
  · rw [outsAt0_A m c t h0 (by omega) (by omega)]
    dsimp only
    rw [out0_A_7_eq (F := F)]
  · by_cases h2 : t.val % 27 = 26
    · rw [outsAt0_C m c t h0 (by omega) h2]
      dsimp only
      rw [out0_C_7_eq (F := F)]
    · rw [outsAt0_B m c t h0 (by omega) h2]
      dsimp only
      rw [out0_B_7_eq (F := F)]

theorem outs_exps (t : Fin cfg0.N) : (outsAt0 m c t.val t.isLt).2.2.1 = expsBlk (iblk m c 0 t) (iblk m c 2 t) := by
  have hN : t.val < 27 := lt_of_lt_of_eq t.isLt (show cfg0.N = 27 from N_0)
  by_cases h0 : t.val % 27 = 0
  · rw [outsAt0_A m c t h0 (by omega) (by omega)]
    dsimp only
    rw [out0_A_8_eq (F := F)]
  · by_cases h2 : t.val % 27 = 26
    · rw [outsAt0_C m c t h0 (by omega) h2]
      dsimp only
      rw [out0_C_8_eq (F := F)]
    · rw [outsAt0_B m c t h0 (by omega) h2]
      dsimp only
      rw [out0_B_8_eq (F := F)]

theorem outs_first (t : Fin cfg0.N) (h : t.val = 0) : (outsAt0 m c t.val t.isLt).2.2.2 = k0_pay3 (dAt m c t) (wAt m c t) := by
  unfold dAt wAt
  rw [outsAt0_A m c t (by omega) (by omega) (by omega)]
  dsimp only
  rw [sout0_A_0_eq (F := F)]

theorem outs_next (t : Fin cfg0.N) (h : 1 ≤ t.val) :
    (outsAt0 m c t.val t.isLt).2.2.2 = k0_pay4 (dAt m c t) (wAt m c t) (outsAt0 m c (t.val - 1) (by have := t.isLt; omega)).2.2.2 := by
  unfold dAt wAt
  have hN : t.val < 27 := lt_of_lt_of_eq t.isLt (show cfg0.N = 27 from N_0)
  by_cases h2 : t.val % 27 = 26
  · rw [outsAt0_C m c t (by omega) h h2]
    dsimp only
    rw [sout0_C_0_eq (F := F)]
  · rw [outsAt0_B m c t (by omega) h h2]
    dsimp only
    rw [sout0_B_0_eq (F := F)]

theorem outs_last (t : Fin cfg0.N) (h : t.val = 26) :
    (outsAt0 m c t.val t.isLt).1 = k0_pay5 (outsAt0 m c t.val t.isLt).2.2.2 := by
  rw [outs_next m c t (by omega)]
  unfold dAt wAt
  rw [outsAt0_C m c t (by omega) (by omega) (by omega)]
  dsimp only
  rw [out0_C_6_eq (F := F)]

/-- The blocks the windows read at point `t`. -/
theorem idx_in : ∀ t : Fin cfg0.N, win0_0.index t = ![0, t.val] ∧ win0_1.index t = ![0, t.val] ∧ win0_2.index t = ![t.val, 0, 0]
    ∧ win0_3.index t = ![0, 0] ∧ win0_4.index t = ![0, t.val] ∧ win0_5.index t = ![t.val, 0, 0] :=
  (by decide +kernel : ∀ t : Fin grid0.N, _)

theorem iblk0_apply (t : Fin cfg0.N) (r : Fin 1792) (q : Fin 256) (p : Fin 6912) (hp : p.val = 256 * t.val + q.val) :
    (iblk m c 0 t : Vec F S1792x256 .bf16) (ix2 r q) = (V m c main_v0 : Vec F S1792x6912 .bf16) (ix2 r p) := by
  refine congrArg (V m c main_v0 : Vec F S1792x6912 .bf16) (funext fun a => Fin.ext ?_)
  have e := (idx_in t).1
  match a with
  | ⟨0, _⟩ => show win0_0.index t (0 : Fin 2) * 1792 + 1 * r.val = r.val; rw [e]; show 0 * 1792 + 1 * r.val = r.val; omega
  | ⟨1, _⟩ => show win0_0.index t (1 : Fin 2) * 256 + 1 * q.val = p.val; rw [e]; show t.val * 256 + 1 * q.val = p.val; omega

theorem iblk1_apply (t : Fin cfg0.N) (r : Fin 1792) (q : Fin 256) (p : Fin 6912) (hp : p.val = 256 * t.val + q.val) :
    (iblk m c 1 t : Vec F S1792x256 .i8) (ix2 r q) = (V m c main_v88 : Vec F S1792x6912 .i8) (ix2 r p) := by
  refine congrArg (V m c main_v88 : Vec F S1792x6912 .i8) (funext fun a => Fin.ext ?_)
  have e := (idx_in t).2.1
  match a with
  | ⟨0, _⟩ => show win0_1.index t (0 : Fin 2) * 1792 + 1 * r.val = r.val; rw [e]; show 0 * 1792 + 1 * r.val = r.val; omega
  | ⟨1, _⟩ => show win0_1.index t (1 : Fin 2) * 256 + 1 * q.val = p.val; rw [e]; show t.val * 256 + 1 * q.val = p.val; omega

theorem iblk2_apply (t : Fin cfg0.N) (q l : Fin 256) (j : Fin 27) (hj : j.val = t.val) :
    (iblk m c 2 t : Vec F S1x256x256 .bf16) (ix3 (0 : Fin 1) q l) = (V m c main_v71 : Vec F S27x256x256 .bf16) (ix3 j q l) := by
  refine congrArg (V m c main_v71 : Vec F S27x256x256 .bf16) (funext fun a => Fin.ext ?_)
  have e := (idx_in t).2.2.1
  match a with
  | ⟨0, _⟩ => show win0_2.index t (0 : Fin 3) * 1 + 1 * 0 = j.val; rw [e]; show t.val * 1 + 1 * 0 = j.val; omega
  | ⟨1, _⟩ => show win0_2.index t (1 : Fin 3) * 256 + 1 * q.val = q.val; rw [e]; show 0 * 256 + 1 * q.val = q.val; omega
  | ⟨2, _⟩ => show win0_2.index t (2 : Fin 3) * 256 + 1 * l.val = l.val; rw [e]; show 0 * 256 + 1 * l.val = l.val; omega

theorem iblk3_apply (t : Fin cfg0.N) (q l : Fin 256) :
    (iblk m c 3 t : Vec F S256x256 .bf16) (ix2 q l) = (V m c main_v78 : Vec F S256x256 .bf16) (ix2 q l) := by
  refine congrArg (V m c main_v78 : Vec F S256x256 .bf16) (funext fun a => Fin.ext ?_)
  have e := (idx_in t).2.2.2.1
  match a with
  | ⟨0, _⟩ => show win0_3.index t (0 : Fin 2) * 256 + 1 * q.val = q.val; rw [e]; show 0 * 256 + 1 * q.val = q.val; omega
  | ⟨1, _⟩ => show win0_3.index t (1 : Fin 2) * 256 + 1 * l.val = l.val; rw [e]; show 0 * 256 + 1 * l.val = l.val; omega

theorem iblk4_apply (t : Fin cfg0.N) (k : Fin 2560) (l : Fin 128) (p : Fin 3456) (hp : p.val = 128 * t.val + l.val) :
    (iblk m c 4 t : Vec F S2560x128 .i8) (ix2 k l) = (m (c, main_arg1) : Vec F S2560x3456 .i8) (ix2 k p) := by
  have e1 : (iblk m c 4 t : Vec F S2560x128 .i8) (ix2 k l) = (V m c main_arg1 : Vec F S2560x3456 .i8) (ix2 k p) := by
    refine congrArg (V m c main_arg1 : Vec F S2560x3456 .i8) (funext fun a => Fin.ext ?_)
    have e := (idx_in t).2.2.2.2.1
    match a with
    | ⟨0, _⟩ => show win0_4.index t (0 : Fin 2) * 2560 + 1 * k.val = k.val; rw [e]; show 0 * 2560 + 1 * k.val = k.val; omega
    | ⟨1, _⟩ => show win0_4.index t (1 : Fin 2) * 128 + 1 * l.val = p.val; rw [e]; show t.val * 128 + 1 * l.val = p.val; omega
  rw [e1, V_main_arg1]

theorem iblk5_apply (t : Fin cfg0.N) (k : Fin 2560) (l : Fin 128) (j : Fin 27) (hj : j.val = t.val) :
    (iblk m c 5 t : Vec F S1x2560x128 .bf16) (ix3 (0 : Fin 1) k l) = (V m c main_v87 : Vec F S27x2560x128 .bf16) (ix3 j k l) := by
  refine congrArg (V m c main_v87 : Vec F S27x2560x128 .bf16) (funext fun a => Fin.ext ?_)
  have e := (idx_in t).2.2.2.2.2
  match a with
  | ⟨0, _⟩ => show win0_5.index t (0 : Fin 3) * 1 + 1 * 0 = j.val; rw [e]; show t.val * 1 + 1 * 0 = j.val; omega
  | ⟨1, _⟩ => show win0_5.index t (1 : Fin 3) * 2560 + 1 * k.val = k.val; rw [e]; show 0 * 2560 + 1 * k.val = k.val; omega
  | ⟨2, _⟩ => show win0_5.index t (2 : Fin 3) * 128 + 1 * l.val = l.val; rw [e]; show 0 * 128 + 1 * l.val = l.val; omega

open Cert.KernelIdeal.Value in
theorem G7_apply (t : Fin cfg0.N) (r : Fin 1792) (l : Fin 128) (p : Fin 3456) (hp : p.val = 128 * t.val + l.val) :
    (G7 m c : Vec F S1792x3456 .i8) (ix2 r p) = codesBlk (iblk m c 0 t) (iblk m c 1 t) (iblk m c 2 t) (iblk m c 3 t) (ix2 r l) := by
  have hN : t.val < 27 := lt_of_lt_of_eq t.isLt (show cfg0.N = 27 from N_0)
  have hr := r.isLt
  have hl := l.isLt
  have e : pt7Of (ix2 r p) = t.val := by
    show 27 * (r.val / 1792 - 0) + 1 * (p.val / 128 - 0) = t.val
    omega
  have e' : loc7Of (ix2 r p) = ix2 r l := by
    funext a; apply Fin.ext
    match a with
    | ⟨0, _⟩ => show r.val % 1792 = r.val; omega
    | ⟨1, _⟩ => show p.val % 128 = l.val; omega
  unfold G7
  rw [dif_pos (by rw [e]; exact t.isLt), e', fold0_congr m c _ _ t.val (by rw [Nat.zero_add]; exact t.isLt) e, ← outsAt0_sweep m c t.val t.isLt, outs_codes]

open Cert.KernelIdeal.Value in
theorem G8_apply (t : Fin cfg0.N) (r : Fin 1792) (l : Fin 128) (p : Fin 3456) (hp : p.val = 128 * t.val + l.val) :
    (G8 m c : Vec F S1792x3456 .i8) (ix2 r p) = expsBlk (iblk m c 0 t) (iblk m c 2 t) (ix2 r l) := by
  have hN : t.val < 27 := lt_of_lt_of_eq t.isLt (show cfg0.N = 27 from N_0)
  have hr := r.isLt
  have hl := l.isLt
  have e : pt8Of (ix2 r p) = t.val := by
    show 27 * (r.val / 1792 - 0) + 1 * (p.val / 128 - 0) = t.val
    omega
  have e' : loc8Of (ix2 r p) = ix2 r l := by
    funext a; apply Fin.ext
    match a with
    | ⟨0, _⟩ => show r.val % 1792 = r.val; omega
    | ⟨1, _⟩ => show p.val % 128 = l.val; omega
  unfold G8
  rw [dif_pos (by rw [e]; exact t.isLt), e', fold0_congr m c _ _ t.val (by rw [Nat.zero_add]; exact t.isLt) e, ← outsAt0_sweep m c t.val t.isLt, outs_exps]

theorem lastLt : 26 < cfg0.N := lt_of_lt_of_eq (by decide) N_0.symm

theorem outs_last' (n : ℕ) (hn : n < cfg0.N) (h : n = 26) : (outsAt0 m c n hn).1 = k0_pay5 (outsAt0 m c n hn).2.2.2 :=
  outs_last m c ⟨n, hn⟩ h

open Cert.KernelIdeal.Value in
theorem G6_eq : G6 m c = k0_pay5 (outsAt0 m c 26 lastLt).2.2.2 := by
  rw [G6_last, ← outsAt0_sweep m c 26 lastLt]
  exact outs_last' m c 26 lastLt rfl

end Cert.KernelIdeal.Block
-- ==== Proof.KernelResults.lean ====
module

public import proofs.«01_k».proof.Proof.KernelValue
public import proofs.«01_k».proof.Proof.RefResults

/-! # What the kernel's results are, element by element

The elements are stated with the numbers the reference's are stated with: the codes, the exponents and the decoded operands of the groups. -/

@[expose] public section

noncomputable section

namespace Cert.KernelResults

open Cert.KernelIdeal Cert.KernelIdeal.Gen Cert.KernelIdeal.Block Cert.KernelIdeal.Value Cert.KernelIdeal.Scalars Cert.Spec
open Idealize.ShloMosaic Idealize.ShloMosaic.TcCoe Idealize.SL.Sem Idealize.ShloMosaic.ValueIdx
open Cert.KernelIdeal.Lanes (lane col even odd lft rgt coe_sum')
open Cert.RefGroups (pcol bcol row dLo dHi wLo wHi cdLo cdHi total)

theorem rowsAt_apply {α : Type} (r : Fin 1792) (x : S1792x256.Idx → α) (q : Fin 256) : rowsAt (blkOf r) x (ix2 (rowOf r) q) = x (ix2 r q) := by
  unfold rowsAt
  refine congrArg x (Cert.RefGroups.idx2_ext _ _ _ ?_ rfl)
  show 256 * (r.val / 256) + r.val % 256 = r.val
  omega

theorem wRowsAt_apply {α : Type} (k : Fin 2560) (x : S2560x128.Idx → α) (l : Fin 128) : wRowsAt (wblkOf k) x (ix2 (wrowOf k) l) = x (ix2 k l) := by
  unfold wRowsAt
  refine congrArg x (Cert.RefGroups.idx2_ext _ _ _ ?_ rfl)
  show 256 * (k.val / 256) + k.val % 256 = k.val
  omega

theorem sRowsAt_apply {α : Type} (k : Fin 2560) (x : S1x2560x128.Idx → α) (l : Fin 128) :
    sRowsAt (wblkOf k) x (ix3 (0 : Fin 1) (wrowOf k) l) = x (ix3 (0 : Fin 1) k l) := by
  unfold sRowsAt
  refine congrArg x (Cert.RefGroups.idx3_ext _ _ _ _ rfl ?_ rfl)
  show 256 * (k.val / 256) + k.val % 256 = k.val
  omega

/-! The rows of all points, by the blocks of 256 rows that they are computed in. -/

section Blocks

variable (x0 : FVec Ideal S1792x256 .bf16) (x1 : IVec S1792x256 8) (x2 : FVec Ideal S1x256x256 .bf16) (x3 : FVec Ideal S256x256 .bf16) (r : Fin 1792) (l : Fin 128)

theorem codesBlk_apply : codesBlk (F := Ideal) x0 x1 x2 x3 (ix2 r l) = packed (rowsAt (blkOf r) x0) x2 (rowsAt (blkOf r) x1) x3 (ix2 (rowOf r) l) := by
  unfold codesBlk
  rfl

theorem expsBlk_apply : expsBlk (F := Ideal) x0 x2 (ix2 r l) = exps (rowsAt (blkOf r) x0) x2 (ix2 (rowOf r) l) := by
  unfold expsBlk
  rfl

theorem dBlk_lft : dBlk (F := Ideal) x0 x1 x2 x3 (ix2 r (lft l)) = decodedA (rowsAt (blkOf r) x0) x2 (rowsAt (blkOf r) x1) x3 (ix2 (rowOf r) l) := by
  unfold dBlk
  rw [dif_pos (show ((ix2 r (lft l) : S1792x256.Idx) 1).val < 128 from l.isLt)]
  rfl

theorem dBlk_rgt : dBlk (F := Ideal) x0 x1 x2 x3 (ix2 r (rgt l)) = decodedB (rowsAt (blkOf r) x0) x2 (rowsAt (blkOf r) x1) x3 (ix2 (rowOf r) l) := by
  unfold dBlk
  rw [dif_neg (show ¬ ((ix2 r (rgt l) : S1792x256.Idx) 1).val < 128 from by show ¬ 128 + l.val < 128; omega)]
  refine congrArg _ (Cert.RefGroups.idx2_ext _ _ _ rfl ?_)
  show 128 + l.val - 128 = l.val
  omega

end Blocks

variable (m : (ℓ : Loc nD τ sig) → Buf (Elt Ideal) ℓ) (c : Dev nD)

/-- The operands. -/
def a0 : FVec Ideal S2x896x6912 .bf16 := m (c, main_arg0)
@[inherit_doc a0]
def a1 : IVec S2560x3456 8 := m (c, main_arg1)
@[inherit_doc a0]
def a2 : FVec Ideal S6912 .f32 := m (c, main_arg2)
@[inherit_doc a0]
def a3 : IVec S2x896x6912 8 := m (c, main_arg3)
@[inherit_doc a0]
def a4 : IVec S2560x216 8 := m (c, main_arg4)

theorem point_lt (t : Fin cfg0.N) : t.val < 27 := lt_of_lt_of_eq t.isLt (show cfg0.N = 27 from N_0)

/-- Group `b` of the eight of point `t`. -/
def gAt (t : Fin cfg0.N) (b : Fin 8) : Fin 216 := ⟨8 * t.val + b.val, by have := point_lt t; omega⟩

variable (X : Fin 2 → Fin 896 → Fin 6912 → ℝ) (σ : Fin 6912 → ℝ)
variable (hx : ∀ b s p, (a0 m c (ix3 b s p) : EReal) = ((X b s p : ℝ) : EReal)) (hs : ∀ p, (a2 m c (ix1 p) : EReal) = ((σ p : ℝ) : EReal))
variable (hf : ∀ b s g i, Fair (Cert.RefGroups.grp X σ b s g i))

theorem flat_apply {α : Type} (x : S2x896x6912.Idx → α) (b : Fin 2) (s : Fin 896) (p : Fin 6912) :
    shapeCast S1792x6912 x shapeCasts_S2x896x6912_S1792x6912 (ix2 (row b s) p) = x (ix3 b s p) :=
  shapeCast_apply x _ _ _ (by
    rw [Shape.rowMajor_val_three, Shape.rowMajor_val_two]
    show (b.val * 896 + s.val) * 6912 + p.val = (896 * b.val + s.val) * 6912 + p.val
    omega)

theorem col_pcol (t : Fin cfg0.N) (b : Fin 8) (i : Fin 32) : (pcol (gAt t b) i).val = 256 * t.val + (col b i).val := by
  show 32 * (8 * t.val + b.val) + i.val = 256 * t.val + (32 * b.val + i.val)
  omega

theorem lane_bcol (t : Fin cfg0.N) (b : Fin 8) (j : Fin 16) : (bcol (gAt t b) j).val = 128 * t.val + (lane b j).val := by
  show 16 * (8 * t.val + b.val) + j.val = 128 * t.val + (16 * b.val + j.val)
  omega

/-- The random bytes of a row of a point. -/
theorem rand_apply (t : Fin cfg0.N) (b : Fin 2) (s : Fin 896) (e : Fin 8) (i : Fin 32) :
    rowsAt (blkOf (row b s)) (iblk m c 1 t : Vec Ideal S1792x256 .i8) (ix2 (rowOf (row b s)) (col e i)) = a3 m c (ix3 b s (pcol (gAt t e) i)) := by
  rw [rowsAt_apply, iblk1_apply m c t (row b s) (col e i) (pcol (gAt t e) i) (col_pcol t e i), V_rand, flat_apply]
  rfl

theorem perm_apply (t : Fin cfg0.N) (q l : Fin 256) : (show EReal from (iblk m c 3 t : Vec Ideal S256x256 .bf16) (ix2 q l)) = if q = ord l then 1 else 0 := by
  dsimp only
  rw [iblk3_apply, V_perm]
  exact permArr_apply q l

include hx hs in
theorem row_apply (t : Fin cfg0.N) (b : Fin 2) (s : Fin 896) :
    Lanes.Row (rowsAt (blkOf (row b s)) (iblk m c 0 t : Vec Ideal S1792x256 .bf16)) (iblk m c 2 t : Vec Ideal S1x256x256 .bf16) (rowOf (row b s))
      (fun e i => X b s (pcol (gAt t e) i)) (fun e i => σ (pcol (gAt t e) i)) where
  hx e i := by
    rw [rowsAt_apply, iblk0_apply m c t (row b s) (col e i) (pcol (gAt t e) i) (col_pcol t e i), V_dy, flat_apply]
    exact hx b s (pcol (gAt t e) i)
  hr e i l := by
    rw [iblk2_apply m c t (col e i) l ⟨t.val, point_lt t⟩ rfl, V_rot,
      rotArr_apply _ ⟨t.val, point_lt t⟩ (col e i) l (pcol (gAt t e) i) (col_pcol t e i)]
    exact congrArg _ (hs (pcol (gAt t e) i))

theorem pack_lanes : ∀ x y : Fin 16, ((BitVec.ofNat 32 x.val) ||| (IntOp.shli .vector (BitVec.ofNat 32 y.val) 4#32)).setWidth 8 = BitVec.ofNat 8 (x.val + 16 * y.val) := by
  decide +kernel

include hx hs hf in
theorem codes_apply (t : Fin cfg0.N) (b : Fin 2) (s : Fin 896) (e : Fin 8) (j : Fin 16) :
    (G7 m c : Vec Ideal S1792x3456 .i8) (ix2 (row b s) (bcol (gAt t e) j))
      = BitVec.ofNat 8 (cdLo (a3 m c) X σ b s (gAt t e) j + 16 * cdHi (a3 m c) X σ b s (gAt t e) j) := by
  rw [G7_apply m c t (row b s) (lane e j) (bcol (gAt t e) j) (lane_bcol t e j)]
  rw [codesBlk_apply, Lanes.packed_apply (fun e i => hf b s (gAt t e) i) (perm_apply m c t) (row_apply m c X σ hx hs t b s) e j, rand_apply, rand_apply]
  exact pack_lanes ⟨_, Cert.RefGroups.cdLo_lt (a3 m c) X σ b s (gAt t e) j⟩ ⟨_, Cert.RefGroups.cdHi_lt (a3 m c) X σ b s (gAt t e) j⟩

include hx hs hf in
theorem exps_apply (t : Fin cfg0.N) (b : Fin 2) (s : Fin 896) (e : Fin 8) (j : Fin 16) :
    (G8 m c : Vec Ideal S1792x3456 .i8) (ix2 (row b s) (bcol (gAt t e) j))
      = (BitVec.ofInt 32 (expo (A (Cert.RefGroups.grp X σ b s (gAt t e))))).setWidth 8 := by
  rw [G8_apply m c t (row b s) (lane e j) (bcol (gAt t e) j) (lane_bcol t e j)]
  rw [expsBlk_apply, Lanes.exps_apply (fun e i => hf b s (gAt t e) i) (row_apply m c X σ hx hs t b s) e j]
  rfl

include hx hs hf in
theorem dAt_lft (t : Fin cfg0.N) (b : Fin 2) (s : Fin 896) (e : Fin 8) (j : Fin 16) :
    (dAt m c t (ix2 (row b s) (lft (lane e j))) : EReal) = ((dLo (a3 m c) X σ b s (gAt t e) j : ℝ) : EReal) := by
  unfold dAt
  rw [dBlk_lft, Lanes.decodedA_apply (fun e i => hf b s (gAt t e) i) (perm_apply m c t) (row_apply m c X σ hx hs t b s) e j, rand_apply]
  rfl

include hx hs hf in
theorem dAt_rgt (t : Fin cfg0.N) (b : Fin 2) (s : Fin 896) (e : Fin 8) (j : Fin 16) :
    (dAt m c t (ix2 (row b s) (rgt (lane e j))) : EReal) = ((dHi (a3 m c) X σ b s (gAt t e) j : ℝ) : EReal) := by
  unfold dAt
  rw [dBlk_rgt, Lanes.decodedB_apply (fun e i => hf b s (gAt t e) i) (perm_apply m c t) (row_apply m c X σ hx hs t b s) e j, rand_apply]
  rfl

theorem pow_apply (k : Fin 2560) (g : Fin 216) :
    (powArr (F := Ideal) (a4 m c) (ix2 k g) : EReal) = (((2 : ℝ) ^ (a4 m c (ix2 k g)).toInt : ℝ) : EReal) := by
  have hz := Cert.RefGroups.exp_sext ⟨(a4 m c (ix2 k g)).toNat, (a4 m c (ix2 k g)).isLt⟩
  simp only [BitVec.ofNat_toNat, BitVec.setWidth_eq] at hz
  show Ideal.pow (Ideal.ofBits .f32 0x40000000#32) ((((BitVec.signExtend 32 (a4 m c (ix2 k g))).toInt : ℝ)) : EReal) = _
  rw [hz, ofBits_two, Cert.RefScalars.pow_two_int]

theorem scale_apply (t : Fin cfg0.N) (k : Fin 2560) (e : Fin 8) (j : Fin 16) :
    (shapeCast S256x128 (sRowsAt (wblkOf k) (iblk m c 5 t : Vec Ideal S1x2560x128 .bf16)) shapeCasts_S1x256x128_S256x128 (ix2 (wrowOf k) (lane e j)) : EReal)
      = (((2 : ℝ) ^ (a4 m c (ix2 k (gAt t e))).toInt : ℝ) : EReal) := by
  rw [shapeCast_apply _ _ (ix2 (wrowOf k) (lane e j)) (ix3 (0 : Fin 1) (wrowOf k) (lane e j)) (by
    rw [Shape.rowMajor_val_two, Shape.rowMajor_val_three]
    show (0 * 256 + (wrowOf k).val) * 128 + (lane e j).val = (wrowOf k).val * 128 + (lane e j).val
    omega), sRowsAt_apply, iblk5_apply m c t k (lane e j) ⟨t.val, point_lt t⟩ rfl, V_scale,
    scaleArr_apply _ ⟨t.val, point_lt t⟩ k (lane e j) (gAt t e) (by
      show 8 * t.val + e.val = 8 * t.val + (16 * e.val + j.val) / 16
      omega)]
  exact pow_apply m c k (gAt t e)

theorem byte_lane (t : Fin cfg0.N) (k : Fin 2560) (e : Fin 8) (j : Fin 16) :
    wRowsAt (wblkOf k) (iblk m c 4 t : Vec Ideal S2560x128 .i8) (ix2 (wrowOf k) (lane e j)) = a1 m c (ix2 k (bcol (gAt t e) j)) := by
  rw [wRowsAt_apply, iblk4_apply m c t k (lane e j) (bcol (gAt t e) j) (lane_bcol t e j)]
  rfl

theorem byte_hi_lane : ∀ n : Fin 256, IntOp.shrsi .vector ((BitVec.ofNat 8 n.val).setWidth 32) 4#32 = BitVec.ofNat 32 (n.val / 16) := by decide +kernel

theorem wAt_lft (t : Fin cfg0.N) (k : Fin 2560) (e : Fin 8) (j : Fin 16) :
    (wAt m c t (ix2 k (lft (lane e j))) : EReal) = ((wLo (a1 m c) (a4 m c) k (gAt t e) j : ℝ) : EReal) := by
  unfold wAt wBlk
  rw [dif_pos (show (lft (lane e j)).val < 128 from (lane e j).isLt)]
  show weightA (F := Ideal) (wRowsAt (wblkOf k) (iblk m c 4 t : Vec Ideal S2560x128 .i8)) (sRowsAt (wblkOf k) (iblk m c 5 t : Vec Ideal S1x2560x128 .bf16))
    (ix2 (wrowOf k) (lane e j)) = _
  have hb := Cert.RefGroups.byte_lo ⟨(a1 m c (ix2 k (bcol (gAt t e) j))).toNat, (a1 m c (ix2 k (bcol (gAt t e) j))).isLt⟩
  simp only [BitVec.ofNat_toNat, BitVec.setWidth_eq] at hb
  unfold weightA
  rw [shapeCast_self (mulf _ _), mulf_apply, scale_apply, decode_apply ((a1 m c (ix2 k (bcol (gAt t e) j))).toNat % 16) (Nat.mod_lt _ (by decide)) _ (by
    show IntOp.andi ((wRowsAt (wblkOf k) (iblk m c 4 t : Vec Ideal S2560x128 .i8) (ix2 (wrowOf k) (lane e j))).setWidth 32) 15#32 = _
    rw [byte_lane, hb]), ← EReal.coe_mul]
  rfl

theorem wAt_rgt (t : Fin cfg0.N) (k : Fin 2560) (e : Fin 8) (j : Fin 16) :
    (wAt m c t (ix2 k (rgt (lane e j))) : EReal) = ((wHi (a1 m c) (a4 m c) k (gAt t e) j : ℝ) : EReal) := by
  unfold wAt wBlk
  rw [dif_neg (show ¬ (rgt (lane e j)).val < 128 from by show ¬ 128 + (lane e j).val < 128; omega)]
  have hl : (⟨(rgt (lane e j)).val - 128, by have := (lane e j).isLt; show 128 + (lane e j).val - 128 < 128; omega⟩ : Fin 128) = lane e j :=
    Fin.ext (by show 128 + (lane e j).val - 128 = (lane e j).val; omega)
  show weightB (F := Ideal) (wRowsAt (wblkOf k) (iblk m c 4 t : Vec Ideal S2560x128 .i8)) (sRowsAt (wblkOf k) (iblk m c 5 t : Vec Ideal S1x2560x128 .bf16))
    (ix2 (wrowOf k) (⟨(rgt (lane e j)).val - 128, _⟩ : Fin 128)) = _
  have hn := (a1 m c (ix2 k (bcol (gAt t e) j))).isLt
  have hb := byte_hi_lane ⟨(a1 m c (ix2 k (bcol (gAt t e) j))).toNat, hn⟩
  simp only [BitVec.ofNat_toNat, BitVec.setWidth_eq] at hb
  unfold weightB
  rw [hl, shapeCast_self (mulf _ _), mulf_apply, scale_apply, decode_apply ((a1 m c (ix2 k (bcol (gAt t e) j))).toNat / 16) (by omega) _ (by
    show IntOp.shrsi .vector ((wRowsAt (wblkOf k) (iblk m c 4 t : Vec Ideal S2560x128 .i8) (ix2 (wrowOf k) (lane e j))).setWidth 32) 4#32 = _
    rw [byte_lane, hb]), ← EReal.coe_mul]
  rfl

/-! ## The product -/

theorem sum_halves (f : Fin 256 → EReal) : ∑ q, f q = ∑ l : Fin 128, (f (lft l) + f (rgt l)) := by
  rw [Fin.sum_univ_add (a := 128) (b := 128) f, ← Finset.sum_add_distrib]
  rfl

theorem sum_lanes (f : Fin 128 → EReal) : ∑ l, f l = ∑ e : Fin 8, ∑ j : Fin 16, f (lane e j) := by
  rw [← Equiv.sum_comp (finProdFinEquiv (m := 8) (n := 16)) f, Fintype.sum_prod_type]
  refine Finset.sum_congr rfl fun b _ => Finset.sum_congr rfl fun i _ => congrArg f (Fin.ext ?_)
  show i.val + 16 * b.val = 16 * b.val + i.val
  omega

/-- What a group adds to an element of the product. -/
def part (b : Fin 2) (s : Fin 896) (k : Fin 2560) (n : ℕ) : ℝ :=
  if h : n < 216 then ∑ j : Fin 16, (dLo (a3 m c) X σ b s ⟨n, h⟩ j * wLo (a1 m c) (a4 m c) k ⟨n, h⟩ j
    + dHi (a3 m c) X σ b s ⟨n, h⟩ j * wHi (a1 m c) (a4 m c) k ⟨n, h⟩ j) else 0

theorem part_apply (b : Fin 2) (s : Fin 896) (k : Fin 2560) (g : Fin 216) :
    part m c X σ b s k g.val = ∑ j : Fin 16, (dLo (a3 m c) X σ b s g j * wLo (a1 m c) (a4 m c) k g j + dHi (a3 m c) X σ b s g j * wHi (a1 m c) (a4 m c) k g j) :=
  dif_pos g.isLt

include hx hs hf in
theorem pay2_apply (t : Fin cfg0.N) (b : Fin 2) (s : Fin 896) (k : Fin 2560) :
    (k0_pay2 (dAt m c t) (wAt m c t) (ix2 (row b s) k) : EReal) = ((∑ e : Fin 8, part m c X σ b s k (8 * t.val + e.val) : ℝ) : EReal) := by
  have e : (k0_pay2 (dAt m c t) (wAt m c t) (ix2 (row b s) k) : EReal)
      = Ideal.ofBits .f32 0x00000000#32 + ∑ q : Fin 256, (dAt m c t (ix2 (row b s) q) : EReal) * wAt m c t (ix2 k q) :=
    Ideal.matmul_transposedRhs_apply (M := 1792) (K := 256) (N := 2560) none (dAt m c t) (wAt m c t) (constant S1792x2560 .f32 0x00000000#32) (row b s) k
  rw [e, ofBits_zero, EReal.coe_zero, zero_add, sum_halves, sum_lanes]
  simp only [dAt_lft m c X σ hx hs hf, dAt_rgt m c X σ hx hs hf, wAt_lft, wAt_rgt]
  simp only [← EReal.coe_mul, ← EReal.coe_add, ← coe_sum']
  congr 1
  refine Finset.sum_congr rfl fun e _ => ?_
  exact (part_apply m c X σ b s k (gAt t e)).symm

include hx hs hf in
theorem acc_apply (b : Fin 2) (s : Fin 896) (k : Fin 2560) : ∀ (n : ℕ) (hn : n < cfg0.N),
    ((outsAt0 m c n hn).2.2.2 (ix2 (row b s) k) : EReal)
      = ((∑ t ∈ Finset.range (n + 1), ∑ e : Fin 8, part m c X σ b s k (8 * t + e.val) : ℝ) : EReal) := by
  intro n
  induction n with
  | zero =>
    intro hn
    have h := outs_first m c ⟨0, hn⟩ rfl
    simp only at h
    rw [h]
    unfold k0_pay3
    rw [shapeCast_self (k0_pay2 _ _), pay2_apply m c X σ hx hs hf, Finset.sum_range_one]
  | succ n ih =>
    intro hn
    have h := outs_next m c ⟨n + 1, hn⟩ (by show 1 ≤ n + 1; omega)
    simp only [Nat.add_sub_cancel] at h
    rw [h]
    unfold k0_pay4
    rw [shapeCast_self (addf _ _), addf_apply, pay2_apply m c X σ hx hs hf, ih, ← EReal.coe_add, Finset.sum_range_succ _ (n + 1)]

theorem sum_parts (f : ℕ → ℝ) : ∑ t ∈ Finset.range 27, ∑ e : Fin 8, f (8 * t + e.val) = ∑ g : Fin 216, f g.val := by
  rw [Finset.sum_range, ← Equiv.sum_comp (finProdFinEquiv (m := 27) (n := 8)) (fun g : Fin 216 => f g.val), Fintype.sum_prod_type]
  refine Finset.sum_congr rfl fun b _ => Finset.sum_congr rfl fun i _ => congrArg f ?_
  show 8 * b.val + i.val = i.val + 8 * b.val
  omega

include hx hs hf in
theorem product_apply (b : Fin 2) (s : Fin 896) (k : Fin 2560) :
    ((G6 m c : Vec Ideal S1792x2560 .bf16) (ix2 (row b s) k) : EReal)
      = ((total (a1 m c) (a3 m c) (a4 m c) X σ b s k : ℝ) : EReal) * Ideal.ofBits .f32 0x3FE38E39#32 := by
  rw [G6_eq]
  show ((outsAt0 m c 26 lastLt).2.2.2 (ix2 (row b s) k) : EReal) * Ideal.ofBits .f32 0x3FE38E39#32 = _
  rw [acc_apply m c X σ hx hs hf b s k 26 lastLt, sum_parts (part m c X σ b s k)]
  exact congrArg (fun z : ℝ => (z : EReal) * Ideal.ofBits .f32 0x3FE38E39#32) (Finset.sum_congr rfl fun g _ => part_apply m c X σ b s k g)

end Cert.KernelResults
-- ==== Proof.Equation.lean ====
module

public import proofs.«01_k».proof.Proof.KernelResults

/-! # The kernel's results are the reference's -/

@[expose] public section

noncomputable section

namespace Cert.Equation

open Cert.KernelIdeal Cert.KernelIdeal.Gen Cert.KernelIdeal.Value Cert.Spec Cert.KernelResults
open Idealize.ShloMosaic Idealize.ShloMosaic.TcCoe Idealize.SL.Sem Idealize.ShloMosaic.ValueIdx
open Cert.RefGroups (bcol row)

theorem row_surj (r : Fin 1792) : ∃ (b : Fin 2) (s : Fin 896), r = row b s :=
  ⟨⟨r.val / 896, by omega⟩, ⟨r.val % 896, Nat.mod_lt _ (by decide)⟩, Fin.ext (by show r.val = 896 * (r.val / 896) + r.val % 896; omega)⟩

theorem bcol_surj (p : Fin 3456) : ∃ (t : Fin cfg0.N) (e : Fin 8) (j : Fin 16), p = bcol (gAt t e) j := by
  have hN : cfg0.N = 27 := N_0
  refine ⟨⟨p.val / 128, by rw [hN]; omega⟩, ⟨p.val / 16 % 8, Nat.mod_lt _ (by decide)⟩, ⟨p.val % 16, Nat.mod_lt _ (by decide)⟩, Fin.ext ?_⟩
  show p.val = 16 * (8 * (p.val / 128) + p.val / 16 % 8) + p.val % 16
  omega

variable (m : (ℓ : Loc nD τ sig) → Buf (Elt Ideal) ℓ) (c : Dev nD)
variable (X : Fin 2 → Fin 896 → Fin 6912 → ℝ) (σ : Fin 6912 → ℝ)
variable (hx : ∀ b s p, (a0 m c (ix3 b s p) : EReal) = ((X b s p : ℝ) : EReal)) (hs : ∀ p, (a2 m c (ix1 p) : EReal) = ((σ p : ℝ) : EReal))
variable (hf : ∀ b s g i, Fair (Cert.RefGroups.grp X σ b s g i))

include hx hs hf in
theorem product : Cert.ReferenceIdeal.Read.val_main_v273 (F := Ideal) (a0 m c) (a1 m c) (a2 m c) (a3 m c) (a4 m c) = G6 m c := by
  funext i
  obtain ⟨r, p, rfl⟩ : ∃ (r : Fin 1792) (p : Fin 2560), i = ix2 r p := ⟨i 0, i 1, eq_ix2 i⟩
  obtain ⟨b, s, rfl⟩ := row_surj r
  exact (Cert.RefGroups.v273_apply (a0 m c) (a1 m c) (a2 m c) (a3 m c) (a4 m c) X σ hx hs hf b s p).trans (product_apply m c X σ hx hs hf b s p).symm

include hx hs hf in
theorem codes : Cert.ReferenceIdeal.Read.val_main_v274 (F := Ideal) (a0 m c) (a2 m c) (a3 m c) = G7 m c := by
  funext i
  obtain ⟨r, p, rfl⟩ : ∃ (r : Fin 1792) (p : Fin 3456), i = ix2 r p := ⟨i 0, i 1, eq_ix2 i⟩
  obtain ⟨b, s, rfl⟩ := row_surj r
  obtain ⟨t, e, j, rfl⟩ := bcol_surj p
  exact (Cert.RefGroups.v274_apply (a0 m c) (a2 m c) (a3 m c) X σ hx hs hf b s (gAt t e) j).trans (codes_apply m c X σ hx hs hf t b s e j).symm

include hx hs hf in
theorem exponents : Cert.ReferenceIdeal.Read.val_main_v277 (F := Ideal) (a0 m c) (a2 m c) = G8 m c := by
  funext i
  obtain ⟨r, p, rfl⟩ : ∃ (r : Fin 1792) (p : Fin 3456), i = ix2 r p := ⟨i 0, i 1, eq_ix2 i⟩
  obtain ⟨b, s, rfl⟩ := row_surj r
  obtain ⟨t, e, j, rfl⟩ := bcol_surj p
  exact (Cert.RefGroups.v277_apply (a0 m c) (a2 m c) X σ hx hs hf b s (gAt t e) j).trans (exps_apply m c X σ hx hs hf t b s e j).symm

end Cert.Equation
-- ==== Proof.DwRef.lean ====
module

public import proofs.«01_k».proof.Proof.Gen.ReferenceDwIdeal.Read
public import proofs.«01_k».proof.Proof.RefResults

/-! # What the reference of the second product holds, group by group -/

@[expose] public section

noncomputable section

namespace Cert.RefDw

open Cert.ReferenceDwIdeal Cert.ReferenceDwIdeal.Gen Cert.ReferenceDwIdeal.Read Idealize.ShloMosaic Idealize.ShloMosaic.TcCoe Idealize.ShloMosaic.ValueIdx
open Cert.Spec Cert.RefScalars Cert.KernelIdeal.Scalars
open Cert.KernelIdeal.Lanes (even odd)
open Cert.RefGroups (neg_inf fold_max coe_sum refDecode refDecode_apply byte_lo byte_hi pack exp_byte idx2_ext idx3_ext idx4_ext root2_eighth)

/-- Token `i` of group `g`. -/
def tok (g : Fin 28) (i : Fin 32) : Fin 896 := ⟨32 * g.val + i.val, by omega⟩

/-- Row `j` of the 16 packed rows of group `g`. -/
def btok (g : Fin 28) (j : Fin 16) : Fin 448 := ⟨16 * g.val + j.val, by omega⟩

/-- Row `j` of the 16 packed rows of group `g` of batch `b`, the batches one after the other. -/
def brow (b : Fin 2) (g : Fin 28) (j : Fin 16) : Fin 896 := ⟨448 * b.val + 16 * g.val + j.val, by omega⟩

/-- Token `i` of group `g` of batch `b`, the batches one after the other. -/
def row (b : Fin 2) (g : Fin 28) (i : Fin 32) : Fin 1792 := ⟨896 * b.val + 32 * g.val + i.val, by omega⟩

theorem sum_brows (f : Fin 896 → EReal) : ∑ t, f t = ∑ b : Fin 2, ∑ g : Fin 28, ∑ j : Fin 16, f (brow b g j) := by
  rw [← Equiv.sum_comp (finProdFinEquiv (m := 2) (n := 448)) f, Fintype.sum_prod_type]
  refine Finset.sum_congr rfl fun b _ => ?_
  rw [← Equiv.sum_comp (finProdFinEquiv (m := 28) (n := 16)), Fintype.sum_prod_type]
  refine Finset.sum_congr rfl fun g _ => Finset.sum_congr rfl fun j _ => congrArg f (Fin.ext ?_)
  show (j.val + 16 * g.val) + 448 * b.val = 448 * b.val + 16 * g.val + j.val
  omega

/-- A group of the operand, with its signs. -/
def grp (X : Fin 2 → Fin 896 → Fin 6912 → ℝ) (σ : Fin 2 → Fin 896 → ℝ) (b : Fin 2) (g : Fin 28) (p : Fin 6912) (i : Fin 32) : ℝ :=
  X b (tok g i) p * σ b (tok g i)

theorem v40_eq : val_main_v40 (F := Ideal) = Cert.KernelIdeal.Block.signs (F := Ideal) := rfl

theorem v43_apply (i j : Fin 32) : (val_main_v43 (F := Ideal) (ix2 i j) : EReal) = (((had i j : ℝ) * (root2 * (1 / 8)) : ℝ) : EReal) := by
  rw [val_main_v43_apply, val_main_v41_apply, v40_eq, Cert.KernelIdeal.Block.signs_apply, val_main_v42_apply, val_main_cst_13_apply]
  show _ * Ideal.ofBits .f32 0x3E3504F3#32 = _
  rw [root2_eighth, ← EReal.coe_mul]

variable (x0 : (⟨S2560x1792, .bf16⟩ : BufTy).Contents (Elt Ideal)) (x1 : (⟨S2x896x6912, .bf16⟩ : BufTy).Contents (Elt Ideal)) (x2 : (⟨S2x896, .f32⟩ : BufTy).Contents (Elt Ideal)) (x3 : (⟨S2x896x6912, .i8⟩ : BufTy).Contents (Elt Ideal))
variable (X : Fin 2 → Fin 896 → Fin 6912 → ℝ) (σ : Fin 2 → Fin 896 → ℝ)

/-- The codes in a packed row's low half and in its high half. -/
def cdLo (b : Fin 2) (g : Fin 28) (p : Fin 6912) (j : Fin 16) : ℕ := cd (grp X σ b g p) (even j) (x3 (ix3 b (tok g (even j)) p) : BitVec 8).toNat
@[inherit_doc cdLo]
def cdHi (b : Fin 2) (g : Fin 28) (p : Fin 6912) (j : Fin 16) : ℕ := cd (grp X σ b g p) (odd j) (x3 (ix3 b (tok g (odd j)) p) : BitVec 8).toNat
/-- The operand after coding and decoding, in a packed row's even token and in its odd one. -/
def dLo (b : Fin 2) (g : Fin 28) (p : Fin 6912) (j : Fin 16) : ℝ := dec (grp X σ b g p) (even j) (x3 (ix3 b (tok g (even j)) p) : BitVec 8).toNat
@[inherit_doc dLo]
def dHi (b : Fin 2) (g : Fin 28) (p : Fin 6912) (j : Fin 16) : ℝ := dec (grp X σ b g p) (odd j) (x3 (ix3 b (tok g (odd j)) p) : BitVec 8).toNat

theorem cdLo_lt (b : Fin 2) (g : Fin 28) (p : Fin 6912) (j : Fin 16) : cdLo x3 X σ b g p j < 16 := cd_lt _ _ _
theorem cdHi_lt (b : Fin 2) (g : Fin 28) (p : Fin 6912) (j : Fin 16) : cdHi x3 X σ b g p j < 16 := cd_lt _ _ _

theorem idx_v4 (b : Fin 2) (g : Fin 28) (p : Fin 6912) (i : Fin 32) : idx_main_v4 (ix4 b g i p) = ix3 b (tok g i) p :=
  idx3_ext _ _ _ _ (show (((b.val * 28 + g.val) * 32 + i.val) * 6912 + p.val) / 6193152 = b.val by omega)
    (show (((b.val * 28 + g.val) * 32 + i.val) * 6912 + p.val) / 6912 % 896 = 32 * g.val + i.val by omega)
    (show (((b.val * 28 + g.val) * 32 + i.val) * 6912 + p.val) % 6912 = p.val by omega)

theorem idx_v46 (b : Fin 2) (g : Fin 28) (p : Fin 6912) (i : Fin 32) : idx_main_v46 (ix4 b g i p) = ix3 b (tok g i) p := idx_v4 b g p i

theorem idx_v49 (b : Fin 2) (g : Fin 28) (p : Fin 6912) : idx_main_v49 (ix4 b g 0 p) = ix3 b g p := idx3_ext _ _ _ _ rfl rfl rfl

theorem idx_v127 (b : Fin 2) (g : Fin 28) (p : Fin 6912) (j : Fin 16) : idx_main_v127 (ix3 b (btok g j) p) = ix4 b g j p :=
  idx4_ext _ _ _ _ _ (show ((b.val * 448 + (16 * g.val + j.val)) * 6912 + p.val) / 3096576 = b.val by omega)
    (show ((b.val * 448 + (16 * g.val + j.val)) * 6912 + p.val) / 110592 % 28 = g.val by omega)
    (show ((b.val * 448 + (16 * g.val + j.val)) * 6912 + p.val) / 6912 % 16 = j.val by omega)
    (show ((b.val * 448 + (16 * g.val + j.val)) * 6912 + p.val) % 6912 = p.val by omega)

theorem idx_v135 (b : Fin 2) (g : Fin 28) (p : Fin 6912) (j : Fin 16) : idx_main_v135 (ix4 b g j p) = ix3 b (btok g j) p :=
  idx3_ext _ _ _ _ (show (((b.val * 28 + g.val) * 16 + j.val) * 6912 + p.val) / 3096576 = b.val by omega)
    (show (((b.val * 28 + g.val) * 16 + j.val) * 6912 + p.val) / 6912 % 448 = 16 * g.val + j.val by omega)
    (show (((b.val * 28 + g.val) * 16 + j.val) * 6912 + p.val) % 6912 = p.val by omega)

theorem idx_v120 (b : Fin 2) (g : Fin 28) (p : Fin 6912) (j : Fin 16) :
    idx_main_v118 (idx_main_v119 (idx_main_v120 (ix4 b g j p))) = ix4 b g (even j) p := by
  have e : idx_main_v119 (idx_main_v120 (ix4 b g j p)) = ix5 b g j 0 p := by
    funext x; fin_cases x
    · exact Fin.ext (show (((b.val * 28 + g.val) * 16 + j.val) * 6912 + p.val) / 3096576 = b.val by omega)
    · exact Fin.ext (show (((b.val * 28 + g.val) * 16 + j.val) * 6912 + p.val) / 110592 % 28 = g.val by omega)
    · exact Fin.ext (show (((b.val * 28 + g.val) * 16 + j.val) * 6912 + p.val) / 6912 % 16 = j.val by omega)
    · rfl
    · exact Fin.ext (show (((b.val * 28 + g.val) * 16 + j.val) * 6912 + p.val) % 6912 = p.val by omega)
  rw [e]
  exact idx4_ext _ _ _ _ _ (show ((((b.val * 28 + g.val) * 16 + j.val) * 2 + 0) * 6912 + p.val) / 6193152 = b.val by omega)
    (show ((((b.val * 28 + g.val) * 16 + j.val) * 2 + 0) * 6912 + p.val) / 221184 % 28 = g.val by omega)
    (show ((((b.val * 28 + g.val) * 16 + j.val) * 2 + 0) * 6912 + p.val) / 6912 % 32 = 2 * j.val by omega)
    (show ((((b.val * 28 + g.val) * 16 + j.val) * 2 + 0) * 6912 + p.val) % 6912 = p.val by omega)

theorem idx_v122 (b : Fin 2) (g : Fin 28) (p : Fin 6912) (j : Fin 16) :
    idx_main_v118 (idx_main_v121 (idx_main_v122 (ix4 b g j p))) = ix4 b g (odd j) p := by
  have e : idx_main_v121 (idx_main_v122 (ix4 b g j p)) = ix5 b g j 1 p := by
    funext x; fin_cases x
    · exact Fin.ext (show (((b.val * 28 + g.val) * 16 + j.val) * 6912 + p.val) / 3096576 = b.val by omega)
    · exact Fin.ext (show (((b.val * 28 + g.val) * 16 + j.val) * 6912 + p.val) / 110592 % 28 = g.val by omega)
    · exact Fin.ext (show (((b.val * 28 + g.val) * 16 + j.val) * 6912 + p.val) / 6912 % 16 = j.val by omega)
    · rfl
    · exact Fin.ext (show (((b.val * 28 + g.val) * 16 + j.val) * 6912 + p.val) % 6912 = p.val by omega)
  rw [e]
  exact idx4_ext _ _ _ _ _ (show ((((b.val * 28 + g.val) * 16 + j.val) * 2 + 1) * 6912 + p.val) / 6193152 = b.val by omega)
    (show ((((b.val * 28 + g.val) * 16 + j.val) * 2 + 1) * 6912 + p.val) / 221184 % 28 = g.val by omega)
    (show ((((b.val * 28 + g.val) * 16 + j.val) * 2 + 1) * 6912 + p.val) / 6912 % 32 = 2 * j.val + 1 by omega)
    (show ((((b.val * 28 + g.val) * 16 + j.val) * 2 + 1) * 6912 + p.val) % 6912 = p.val by omega)

theorem drop_ix (b : Fin 2) (g : Fin 28) (p : Fin 6912) (i : S2x28x32x6912.Idx) :
    reducesTo_S2x28x32x6912_S2x28x6912_d2.drop i = ix3 b g p ↔ i = ix4 b g (i 2) p := by
  have h0 : (reducesTo_S2x28x32x6912_S2x28x6912_d2.drop i 0 : ℕ) = i 0 := Shape.ReducesTo.drop_apply_val _ i 0
  have h1 : (reducesTo_S2x28x32x6912_S2x28x6912_d2.drop i 1 : ℕ) = i 1 := Shape.ReducesTo.drop_apply_val _ i 1
  have h2 : (reducesTo_S2x28x32x6912_S2x28x6912_d2.drop i 2 : ℕ) = i 3 := Shape.ReducesTo.drop_apply_val _ i 2
  constructor
  · intro h
    rw [h] at h0 h1 h2
    funext a
    fin_cases a
    · exact Fin.ext h0.symm
    · exact Fin.ext h1.symm
    · rfl
    · exact Fin.ext h2.symm
  · intro h
    funext a
    fin_cases a
    · exact Fin.ext (h0.trans (by rw [h]))
    · exact Fin.ext (h1.trans (by rw [h]))
    · exact Fin.ext (h2.trans (by rw [h]))

variable (hx : ∀ b s p, (x1 (ix3 b s p) : EReal) = ((X b s p : ℝ) : EReal)) (hs : ∀ b s, (x2 (ix2 b s) : EReal) = ((σ b s : ℝ) : EReal))

include hx hs in
theorem v4_apply (b : Fin 2) (g : Fin 28) (p : Fin 6912) (i : Fin 32) :
    (val_main_v4 (F := Ideal) x1 x2 (ix4 b g i p) : EReal) = ((grp X σ b g p i : ℝ) : EReal) := by
  rw [val_main_v4_apply, idx_v4, val_main_v3_apply, val_main_v0_apply, val_main_v2_apply, val_main_v1_apply]
  have e : idx_main_v1 (idx_main_v2 (ix3 b (tok g i) p)) = ix2 b (tok g i) := idx2_ext _ _ _ rfl rfl
  rw [e]
  show (x1 (ix3 b (tok g i) p) : EReal) * x2 (ix2 b (tok g i)) = _
  rw [hx, hs, ← EReal.coe_mul]
  rfl

include hx hs in
theorem v44_apply (b : Fin 2) (g : Fin 28) (p : Fin 6912) (i : Fin 32) :
    (val_main_v44 (F := Ideal) x1 x2 (ix4 i b g p) : EReal) = ((V (grp X σ b g p) i * root2 : ℝ) : EReal) := by
  rw [val_main_v44_apply]
  have e (k : Fin 32) : (val_main_v43 (F := Ideal)) (lidx_main_v44 (ix4 i b g p) k) * (val_main_v4 (F := Ideal) x1 x2) (ridx_main_v44 (ix4 i b g p) k)
      = (((had i k : ℝ) * (root2 * (1 / 8)) * grp X σ b g p k : ℝ) : EReal) := by
    have e1 : ridx_main_v44 (ix4 i b g p) k = ix4 b g k p := idx4_ext _ _ _ _ _ rfl rfl rfl rfl
    have e2 : lidx_main_v44 (ix4 i b g p) k = ix2 i k := idx2_ext _ _ _ rfl rfl
    rw [e1, e2, v4_apply x1 x2 X σ hx hs, v43_apply, ← EReal.coe_mul]
  rw [Finset.sum_congr rfl fun k _ => e k, coe_sum]
  congr 1
  unfold V
  rw [Finset.sum_mul]
  exact Finset.sum_congr rfl fun k _ => by ring

include hx hs in
theorem v45_apply (b : Fin 2) (g : Fin 28) (p : Fin 6912) (i : Fin 32) :
    (val_main_v45 (F := Ideal) x1 x2 (ix4 b g i p) : EReal) = ((V (grp X σ b g p) i * root2 : ℝ) : EReal) := by
  rw [val_main_v45_apply, show idx_main_v45 (ix4 b g i p) = ix4 i b g p from idx4_ext _ _ _ _ _ rfl rfl rfl rfl, v44_apply x1 x2 X σ hx hs]

include hx hs in
theorem v47_apply (b : Fin 2) (g : Fin 28) (p : Fin 6912) (i : Fin 32) :
    (val_main_v47 (F := Ideal) x1 x2 (ix4 b g i p) : EReal) = ((|V (grp X σ b g p) i * root2| : ℝ) : EReal) := by
  rw [val_main_v47_apply]
  show max (val_main_v45 (F := Ideal) x1 x2 (ix4 b g i p) : EReal) (-(val_main_v45 (F := Ideal) x1 x2 (ix4 b g i p) : EReal)) = _
  rw [v45_apply x1 x2 X σ hx hs, abs_coe]

include hx hs in
theorem v48_apply (b : Fin 2) (g : Fin 28) (p : Fin 6912) :
    (val_main_v48 (F := Ideal) x1 x2 (ix3 b g p) : EReal) = ((A (grp X σ b g p) : ℝ) : EReal) := by
  have e : (val_main_v48 (F := Ideal) x1 x2 (ix3 b g p) : EReal)
      = (Finset.univ.filter fun i => reducesTo_S2x28x32x6912_S2x28x6912_d2.drop i = ix3 b g p).sup (fun i => (val_main_v47 (F := Ideal) x1 x2 i : EReal)) := by
    unfold val_main_v48
    rw [Host.reduce_eq_fold, val_main_cst_14_apply]
    show Finset.fold max (Ideal.ofBits .f32 0xFF800000#32) _ _ = _
    rw [neg_inf]
    rfl
  have m (i : Fin 32) : ix4 b g i p ∈ (Finset.univ.filter fun i => reducesTo_S2x28x32x6912_S2x28x6912_d2.drop i = ix3 b g p) :=
    Finset.mem_filter.mpr ⟨Finset.mem_univ _, (drop_ix b g p _).mpr rfl⟩
  rw [e]
  refine eq_A _ _ (fun i => ?_) ?_
  · rw [← v47_apply x1 x2 X σ hx hs]
    exact Finset.le_sup (f := fun i => (val_main_v47 (F := Ideal) x1 x2 i : EReal)) (m i)
  · obtain ⟨i, hi, h⟩ := Finset.exists_mem_eq_sup _ ⟨_, m 0⟩ (fun i => (val_main_v47 (F := Ideal) x1 x2 i : EReal))
    have hi' := (drop_ix b g p i).mp (Finset.mem_filter.mp hi).2
    exact ⟨i 2, h.trans ((congrArg _ hi').trans (v47_apply x1 x2 X σ hx hs b g p (i 2)))⟩

theorem v52_eq (i : S2x28x1x6912.Idx) : (val_main_v52 (F := Ideal) i : EReal) = Ideal.log (Ideal.ofBits .f32 0x40000000#32) := by
  rw [val_main_v52_apply, val_main_v51_apply, val_main_cst_15_apply]
  rfl

theorem v61_eq (i : S2x28x1x6912.Idx) : (val_main_v61 (F := Ideal) x1 x2 i : EReal)
    = Scalar.select (Ideal.cmp .oeq (val_main_v49 (F := Ideal) x1 x2 i) (Ideal.ofBits .f32 0x00000000#32)) (Ideal.ofBits .f32 0x00000000#32)
      ((Ideal.liftRound Int.floor (Ideal.div (Ideal.log (val_main_v49 (F := Ideal) x1 x2 i)) (Ideal.log (Ideal.ofBits .f32 0x40000000#32)))
        + Ideal.ofBits .f32 0x3F800000#32) - Ideal.ofBits .f32 0x40400000#32) := by
  rw [val_main_v61_apply, val_main_v58_apply, val_main_v60_apply, val_main_v56_apply, val_main_v54_apply, val_main_v53_apply, val_main_v50_apply, v52_eq,
    val_main_v55_apply, val_main_cst_16_apply, val_main_v59_apply, val_main_cst_18_apply, val_main_v57_apply, val_main_cst_17_apply,
    val_main_call2_v1_apply, val_main_call2_v0_apply, val_main_cst_19_apply]
  generalize (val_main_v49 (F := Ideal) x1 x2 i : EReal) = a
  have hb (w : BitVec 32) : FloatOps.ofBits (F := Ideal) .f32 w = Ideal.ofBits .f32 w := rfl
  rw [hb, hb, hb]
  generalize Ideal.ofBits .f32 0x00000000#32 = c0
  generalize Ideal.ofBits .f32 0x40000000#32 = c1
  generalize Ideal.ofBits .f32 0x3F800000#32 = c2
  generalize Ideal.ofBits .f32 0x40400000#32 = c3
  rfl

theorem v62_eq (i : S2x28x1x6912.Idx) : (val_main_v62 (F := Ideal) x1 x2 i : BitVec 32) = refExp (val_main_v49 (F := Ideal) x1 x2 i) := by
  unfold refExp
  rw [val_main_v62_apply, ← v61_eq]
  rfl

theorem v68_eq (i : S2x28x1x6912.Idx) : (val_main_v68 (F := Ideal) x1 x2 i : EReal) = refMult (val_main_v62 (F := Ideal) x1 x2 i) := by
  simp only [val_main_v63_apply, val_main_v64_apply, val_main_cst_20_apply, val_main_v65_apply, val_main_v66_apply, val_main_cst_21_apply,
    val_main_v67_apply, val_main_v68_apply]
  rfl

theorem v88_eq (i : S2x28x32x6912.Idx) : (val_main_v88 (F := Ideal) x3 i : EReal) = refU (val_main_v46 (F := Ideal) x3 i) := by
  simp only [val_main_v83_apply, val_main_v84_apply, val_main_cst_27_apply, val_main_v85_apply, val_main_v86_apply, val_main_cst_28_apply,
    val_main_v87_apply, val_main_v88_apply]
  rfl

theorem v115_eq (i : S2x28x32x6912.Idx) :
    (val_main_v115 (F := Ideal) x1 x2 x3 i : BitVec 32) = refCode (val_main_v70 (F := Ideal) x1 x2 i) (val_main_v88 (F := Ideal) x3 i) := by
  simp only [val_main_v71_apply, val_main_cst_22_apply, val_main_v72_apply, val_main_v73_apply, val_main_cst_23_apply, val_main_v74_apply,
    val_main_v75_apply, val_main_cst_24_apply, val_main_cst_25_apply, val_main_call3_v0_apply, val_main_call3_v1_apply, val_main_v76_apply,
    val_main_cst_26_apply, val_main_call4_v0_apply, val_main_v77_apply, val_main_v78_apply, val_main_v79_apply, val_main_v80_apply, val_main_v81_apply,
    val_main_v82_apply,
    val_main_v89_apply, val_main_v90_apply, val_main_v91_apply, val_main_v92_apply, val_main_cst_29_apply,
    val_main_v93_apply, val_main_v94_apply, val_main_cst_30_apply, val_main_v95_apply, val_main_v96_apply, val_main_cst_31_apply, val_main_v97_apply,
    val_main_v98_apply, val_main_cst_32_apply, val_main_v99_apply, val_main_v100_apply, val_main_cst_33_apply, val_main_v101_apply, val_main_v102_apply,
    val_main_cst_34_apply, val_main_cst_35_apply, val_main_call5_v0_apply, val_main_call5_v1_apply, val_main_v103_apply, val_main_call6_v0_apply,
    val_main_v104_apply, val_main_v105_apply, val_main_v106_apply, val_main_cst_36_apply, val_main_v107_apply, val_main_v108_apply,
    val_main_c_37_apply, val_main_v109_apply, val_main_v110_apply, val_main_v111_apply, val_main_v112_apply, val_main_c_38_apply, val_main_v113_apply,
    val_main_v114_apply, val_main_v115_apply]
  rfl

variable (hf : ∀ b g p i, Fair (grp X σ b g p i))

include hx hs hf in
theorem v62_apply (b : Fin 2) (g : Fin 28) (p : Fin 6912) :
    (val_main_v62 (F := Ideal) x1 x2 (ix4 b g 0 p) : BitVec 32) = BitVec.ofInt 32 (expo (A (grp X σ b g p))) := by
  rw [v62_eq, val_main_v49_apply, idx_v49, v48_apply x1 x2 X σ hx hs]
  exact refExp_apply _ (A_moderate _ (hf b g p))

include hx hs hf in
theorem v70_apply (b : Fin 2) (g : Fin 28) (p : Fin 6912) (i : Fin 32) :
    (val_main_v70 (F := Ideal) x1 x2 (ix4 b g i p) : EReal) = ((Y (grp X σ b g p) i : ℝ) : EReal) := by
  rw [val_main_v70_apply, val_main_v69_apply]
  have e : idx_main_v69 (ix4 b g i p) = ix4 b g 0 p := by funext a; fin_cases a <;> rfl
  have hb := expo_bounds _ (hf b g p)
  show (val_main_v45 (F := Ideal) x1 x2 (ix4 b g i p) : EReal) * _ = _
  rw [e, v45_apply x1 x2 X σ hx hs, v68_eq, v62_apply x1 x2 X σ hx hs hf, refMult_apply _ (by omega) (by omega), ← EReal.coe_mul]
  rfl

include hx hs hf in
theorem v115_apply (b : Fin 2) (g : Fin 28) (p : Fin 6912) (i : Fin 32) :
    (val_main_v115 (F := Ideal) x1 x2 x3 (ix4 b g i p) : BitVec 32)
      = BitVec.ofNat 32 (cd (grp X σ b g p) i (x3 (ix3 b (tok g i) p) : BitVec 8).toNat) := by
  rw [v115_eq, v70_apply x1 x2 X σ hx hs hf, v88_eq, val_main_v46_apply, idx_v46, refU_apply,
    refCode_apply _ _ (Y_lt _ i), cd_cast, BitVec.ofInt_natCast]

theorem v141_bit (i : S2x28x16x6912.Idx) : val_main_v141 (F := Ideal) x1 x2 x3 i = Cert.RefGroups.bit (val_main_v137 (F := Ideal) x1 x2 x3 i) 1#32 := by
  rw [val_main_v141_apply, val_main_v139_apply, val_main_v138_apply, val_main_c_42_apply, val_main_v140_apply, val_main_c_43_apply]
  rfl

theorem v145_bit (i : S2x28x16x6912.Idx) : val_main_v145 (F := Ideal) x1 x2 x3 i = Cert.RefGroups.bit (val_main_v137 (F := Ideal) x1 x2 x3 i) 2#32 := by
  rw [val_main_v145_apply, val_main_v143_apply, val_main_v142_apply, val_main_c_44_apply, val_main_v144_apply, val_main_c_45_apply]
  rfl

theorem v149_bit (i : S2x28x16x6912.Idx) : val_main_v149 (F := Ideal) x1 x2 x3 i = Cert.RefGroups.bit (val_main_v137 (F := Ideal) x1 x2 x3 i) 4#32 := by
  rw [val_main_v149_apply, val_main_v147_apply, val_main_v146_apply, val_main_c_46_apply, val_main_v148_apply, val_main_c_47_apply]
  rfl

theorem v153_bit (i : S2x28x16x6912.Idx) : val_main_v153 (F := Ideal) x1 x2 x3 i = Cert.RefGroups.bit (val_main_v137 (F := Ideal) x1 x2 x3 i) 8#32 := by
  rw [val_main_v153_apply, val_main_v151_apply, val_main_v150_apply, val_main_c_48_apply, val_main_v152_apply, val_main_c_49_apply]
  rfl

theorem v154_mag (i : S2x28x16x6912.Idx) : (val_main_v154 (F := Ideal) x1 x2 x3 i : EReal) = Scalar.select (Cert.RefGroups.bit (val_main_v137 (F := Ideal) x1 x2 x3 i) 1#32) (Ideal.ofBits .f32 0x3FC00000#32) (Ideal.ofBits .f32 0x3F800000#32) := by
  rw [val_main_v154_apply, v141_bit, val_main_call8_v0_apply, val_main_call8_v1_apply, val_main_cst_50_apply, val_main_cst_51_apply]
  rfl

theorem v155_mag (i : S2x28x16x6912.Idx) : (val_main_v155 (F := Ideal) x1 x2 x3 i : EReal) = Scalar.select (Cert.RefGroups.bit (val_main_v137 (F := Ideal) x1 x2 x3 i) 1#32) (Ideal.ofBits .f32 0x3F000000#32) (Ideal.ofBits .f32 0x00000000#32) := by
  rw [val_main_v155_apply, v141_bit, val_main_call9_v0_apply, val_main_call9_v1_apply, val_main_cst_52_apply, val_main_cst_53_apply]
  rfl

theorem v157_mag (i : S2x28x16x6912.Idx) : (val_main_v157 (F := Ideal) x1 x2 x3 i : EReal) = Scalar.select (Cert.RefGroups.bit (val_main_v137 (F := Ideal) x1 x2 x3 i) 1#32) (Ideal.ofBits .f32 0x40C00000#32) (Ideal.ofBits .f32 0x40800000#32) := by
  rw [val_main_v157_apply, v141_bit, val_main_call11_v0_apply, val_main_call11_v1_apply, val_main_cst_54_apply, val_main_cst_55_apply]
  rfl

theorem v158_mag (i : S2x28x16x6912.Idx) : (val_main_v158 (F := Ideal) x1 x2 x3 i : EReal) = Scalar.select (Cert.RefGroups.bit (val_main_v137 (F := Ideal) x1 x2 x3 i) 1#32) (Ideal.ofBits .f32 0x40400000#32) (Ideal.ofBits .f32 0x40000000#32) := by
  rw [val_main_v158_apply, v141_bit, val_main_call12_v0_apply, val_main_call12_v1_apply, val_main_cst_56_apply, val_main_cst_57_apply]
  rfl

theorem v160_mag (i : S2x28x16x6912.Idx) : (val_main_v160 (F := Ideal) x1 x2 x3 i : EReal) = Cert.RefGroups.refMag (val_main_v137 (F := Ideal) x1 x2 x3 i) := by
  rw [val_main_v160_apply, val_main_v159_apply, val_main_v156_apply, v145_bit, v149_bit]
  unfold Cert.RefGroups.refMag
  rw [← v154_mag, ← v155_mag, ← v157_mag, ← v158_mag]

theorem v163_eq (i : S2x28x16x6912.Idx) : (val_main_v163 (F := Ideal) x1 x2 x3 i : EReal) = refDecode (val_main_v137 (F := Ideal) x1 x2 x3 i) := by
  rw [val_main_v163_apply, val_main_v162_apply, val_main_v161_apply, v153_bit]
  unfold refDecode
  rw [← v160_mag]
  rfl

theorem v172_bit (i : S2x28x16x6912.Idx) : val_main_v172 (F := Ideal) x1 x2 x3 i = Cert.RefGroups.bit (val_main_v168 (F := Ideal) x1 x2 x3 i) 1#32 := by
  rw [val_main_v172_apply, val_main_v170_apply, val_main_v169_apply, val_main_c_59_apply, val_main_v171_apply, val_main_c_60_apply]
  rfl

theorem v176_bit (i : S2x28x16x6912.Idx) : val_main_v176 (F := Ideal) x1 x2 x3 i = Cert.RefGroups.bit (val_main_v168 (F := Ideal) x1 x2 x3 i) 2#32 := by
  rw [val_main_v176_apply, val_main_v174_apply, val_main_v173_apply, val_main_c_61_apply, val_main_v175_apply, val_main_c_62_apply]
  rfl

theorem v180_bit (i : S2x28x16x6912.Idx) : val_main_v180 (F := Ideal) x1 x2 x3 i = Cert.RefGroups.bit (val_main_v168 (F := Ideal) x1 x2 x3 i) 4#32 := by
  rw [val_main_v180_apply, val_main_v178_apply, val_main_v177_apply, val_main_c_63_apply, val_main_v179_apply, val_main_c_64_apply]
  rfl

theorem v184_bit (i : S2x28x16x6912.Idx) : val_main_v184 (F := Ideal) x1 x2 x3 i = Cert.RefGroups.bit (val_main_v168 (F := Ideal) x1 x2 x3 i) 8#32 := by
  rw [val_main_v184_apply, val_main_v182_apply, val_main_v181_apply, val_main_c_65_apply, val_main_v183_apply, val_main_c_66_apply]
  rfl

theorem v185_mag (i : S2x28x16x6912.Idx) : (val_main_v185 (F := Ideal) x1 x2 x3 i : EReal) = Scalar.select (Cert.RefGroups.bit (val_main_v168 (F := Ideal) x1 x2 x3 i) 1#32) (Ideal.ofBits .f32 0x3FC00000#32) (Ideal.ofBits .f32 0x3F800000#32) := by
  rw [val_main_v185_apply, v172_bit, val_main_call16_v0_apply, val_main_call16_v1_apply, val_main_cst_67_apply, val_main_cst_68_apply]
  rfl

theorem v186_mag (i : S2x28x16x6912.Idx) : (val_main_v186 (F := Ideal) x1 x2 x3 i : EReal) = Scalar.select (Cert.RefGroups.bit (val_main_v168 (F := Ideal) x1 x2 x3 i) 1#32) (Ideal.ofBits .f32 0x3F000000#32) (Ideal.ofBits .f32 0x00000000#32) := by
  rw [val_main_v186_apply, v172_bit, val_main_call17_v0_apply, val_main_call17_v1_apply, val_main_cst_69_apply, val_main_cst_70_apply]
  rfl

theorem v188_mag (i : S2x28x16x6912.Idx) : (val_main_v188 (F := Ideal) x1 x2 x3 i : EReal) = Scalar.select (Cert.RefGroups.bit (val_main_v168 (F := Ideal) x1 x2 x3 i) 1#32) (Ideal.ofBits .f32 0x40C00000#32) (Ideal.ofBits .f32 0x40800000#32) := by
  rw [val_main_v188_apply, v172_bit, val_main_call19_v0_apply, val_main_call19_v1_apply, val_main_cst_71_apply, val_main_cst_72_apply]
  rfl

theorem v189_mag (i : S2x28x16x6912.Idx) : (val_main_v189 (F := Ideal) x1 x2 x3 i : EReal) = Scalar.select (Cert.RefGroups.bit (val_main_v168 (F := Ideal) x1 x2 x3 i) 1#32) (Ideal.ofBits .f32 0x40400000#32) (Ideal.ofBits .f32 0x40000000#32) := by
  rw [val_main_v189_apply, v172_bit, val_main_call20_v0_apply, val_main_call20_v1_apply, val_main_cst_73_apply, val_main_cst_74_apply]
  rfl

theorem v191_mag (i : S2x28x16x6912.Idx) : (val_main_v191 (F := Ideal) x1 x2 x3 i : EReal) = Cert.RefGroups.refMag (val_main_v168 (F := Ideal) x1 x2 x3 i) := by
  rw [val_main_v191_apply, val_main_v190_apply, val_main_v187_apply, v176_bit, v180_bit]
  unfold Cert.RefGroups.refMag
  rw [← v185_mag, ← v186_mag, ← v188_mag, ← v189_mag]

theorem v194_eq (i : S2x28x16x6912.Idx) : (val_main_v194 (F := Ideal) x1 x2 x3 i : EReal) = refDecode (val_main_v168 (F := Ideal) x1 x2 x3 i) := by
  rw [val_main_v194_apply, val_main_v193_apply, val_main_v192_apply, v184_bit]
  unfold refDecode
  rw [← v191_mag]
  rfl

include hx hs hf in
theorem v127_apply (b : Fin 2) (g : Fin 28) (p : Fin 6912) (j : Fin 16) :
    (val_main_v127 (F := Ideal) x1 x2 x3 (ix3 b (btok g j) p) : BitVec 8) = BitVec.ofNat 8 (cdLo x3 X σ b g p j + 16 * cdHi x3 X σ b g p j) := by
  rw [val_main_v127_apply, idx_v127, val_main_v126_apply, val_main_v125_apply, val_main_v124_apply, val_main_v122_apply, val_main_v121_apply,
    val_main_v120_apply, val_main_v119_apply, val_main_v118_apply, val_main_v118_apply, idx_v120, idx_v122,
    v115_apply x1 x2 x3 X σ hx hs hf, v115_apply x1 x2 x3 X σ hx hs hf]
  exact pack ⟨_, cdLo_lt x3 X σ b g p j⟩ ⟨_, cdHi_lt x3 X σ b g p j⟩

include hx hs hf in
theorem v117_apply (b : Fin 2) (g : Fin 28) (p : Fin 6912) :
    (val_main_v117 (F := Ideal) x1 x2 (ix3 b g p) : BitVec 8) = (BitVec.ofInt 32 (expo (A (grp X σ b g p)))).setWidth 8 := by
  rw [val_main_v117_apply, val_main_v116_apply]
  have e : idx_main_v116 (ix3 b g p) = ix4 b g 0 p :=
    idx4_ext _ _ _ _ _ (show ((b.val * 28 + g.val) * 6912 + p.val) / 193536 = b.val by omega)
      (show ((b.val * 28 + g.val) * 6912 + p.val) / 6912 % 28 = g.val by omega) rfl (show ((b.val * 28 + g.val) * 6912 + p.val) % 6912 = p.val by omega)
  rw [e, v62_apply x1 x2 X σ hx hs hf]

include hx hs hf in
theorem v132_apply (b : Fin 2) (g : Fin 28) (p : Fin 6912) :
    (val_main_v132 (F := Ideal) x1 x2 (ix3 b g p) : EReal) = (((2 : ℝ) ^ expo (A (grp X σ b g p)) : ℝ) : EReal) := by
  obtain ⟨h1, h2⟩ := expo_bounds _ (hf b g p)
  have hz := exp_byte ⟨(expo (A (grp X σ b g p)) + 106).toNat, by omega⟩
  have hn : (((expo (A (grp X σ b g p)) + 106).toNat : ℕ) : ℤ) - 106 = expo (A (grp X σ b g p)) := by omega
  simp only [hn] at hz
  rw [val_main_v132_apply, val_main_v131_apply, val_main_v129_apply, val_main_v128_apply, v117_apply x1 x2 X σ hx hs hf, hz]
  show Ideal.pow (Ideal.ofBits .f32 0x40000000#32) ((((BitVec.ofInt 32 (expo (A (grp X σ b g p)))).toInt : ℝ)) : EReal) = _
  rw [toInt_ofInt_small _ (by omega) (by omega), ofBits_two, pow_two_int]

include hx hs hf in
theorem v133_apply (b : Fin 2) (g : Fin 28) (p : Fin 6912) :
    (val_main_v133 (F := Ideal) x1 x2 (ix4 b g 0 p) : EReal) = (((2 : ℝ) ^ expo (A (grp X σ b g p)) : ℝ) : EReal) := by
  rw [val_main_v133_apply, show idx_main_v133 (ix4 b g 0 p) = ix3 b g p from idx3_ext _ _ _ _ rfl rfl rfl, v132_apply x1 x2 X σ hx hs hf]

include hx hs hf in
theorem v135_apply (b : Fin 2) (g : Fin 28) (p : Fin 6912) (j : Fin 16) :
    (val_main_v135 (F := Ideal) x1 x2 x3 (ix4 b g j p) : BitVec 32)
      = (BitVec.ofNat 8 (cdLo x3 X σ b g p j + 16 * cdHi x3 X σ b g p j)).setWidth 32 := by
  rw [val_main_v135_apply, idx_v135, val_main_v134_apply, v127_apply x1 x2 x3 X σ hx hs hf]

include hx hs hf in
theorem v166_apply (b : Fin 2) (g : Fin 28) (p : Fin 6912) (j : Fin 16) :
    (val_main_v166 (F := Ideal) x1 x2 x3 (ix3 b (btok g j) p) : EReal) = ((dLo x3 X σ b g p j : ℝ) : EReal) := by
  have h1 := cdLo_lt x3 X σ b g p j
  have h2 := cdHi_lt x3 X σ b g p j
  have hb := byte_lo ⟨cdLo x3 X σ b g p j + 16 * cdHi x3 X σ b g p j, by omega⟩
  have hm : (cdLo x3 X σ b g p j + 16 * cdHi x3 X σ b g p j) % 16 = cdLo x3 X σ b g p j := by omega
  simp only [hm] at hb
  rw [val_main_v166_apply, show idx_main_v166 (ix3 b (btok g j) p) = ix4 b g j p from idx_v127 b g p j, val_main_v165_apply, v163_eq, val_main_v137_apply,
    v135_apply x1 x2 x3 X σ hx hs hf, val_main_v164_apply, show idx_main_v164 (ix4 b g j p) = ix4 b g 0 p from idx4_ext _ _ _ _ _ rfl rfl rfl rfl,
    v133_apply x1 x2 X σ hx hs hf]
  show refDecode (IntOp.andi _ 15#32) * _ = _
  rw [hb, refDecode_apply _ h1, ← EReal.coe_mul]
  rfl

include hx hs hf in
theorem v197_apply (b : Fin 2) (g : Fin 28) (p : Fin 6912) (j : Fin 16) :
    (val_main_v197 (F := Ideal) x1 x2 x3 (ix3 b (btok g j) p) : EReal) = ((dHi x3 X σ b g p j : ℝ) : EReal) := by
  have h1 := cdLo_lt x3 X σ b g p j
  have h2 := cdHi_lt x3 X σ b g p j
  have hb := byte_hi ⟨cdLo x3 X σ b g p j + 16 * cdHi x3 X σ b g p j, by omega⟩
  have hm : (cdLo x3 X σ b g p j + 16 * cdHi x3 X σ b g p j) / 16 = cdHi x3 X σ b g p j := by omega
  simp only [hm] at hb
  rw [val_main_v197_apply, show idx_main_v197 (ix3 b (btok g j) p) = ix4 b g j p from idx_v127 b g p j, val_main_v196_apply, v194_eq, val_main_v168_apply,
    v135_apply x1 x2 x3 X σ hx hs hf, val_main_v195_apply, show idx_main_v195 (ix4 b g j p) = ix4 b g 0 p from idx4_ext _ _ _ _ _ rfl rfl rfl rfl,
    v133_apply x1 x2 X σ hx hs hf]
  show refDecode (IntOp.shrsi .host _ 4#32) * _ = _
  rw [hb, refDecode_apply _ h2, ← EReal.coe_mul]
  rfl

theorem idx_v211 (b : Fin 2) (g : Fin 28) (p : Fin 6912) (j : Fin 16) : idx_main_v211 (ix2 (brow b g j) p) = ix3 b (btok g j) p :=
  idx3_ext _ _ _ _ (show ((448 * b.val + 16 * g.val + j.val) * 6912 + p.val) / 3096576 = b.val by omega)
    (show ((448 * b.val + 16 * g.val + j.val) * 6912 + p.val) / 6912 % 448 = 16 * g.val + j.val by omega)
    (show ((448 * b.val + 16 * g.val + j.val) * 6912 + p.val) % 6912 = p.val by omega)

include hx hs hf in
theorem v211_apply (b : Fin 2) (g : Fin 28) (p : Fin 6912) (j : Fin 16) :
    (val_main_v211 (F := Ideal) x1 x2 x3 (ix2 (brow b g j) p) : BitVec 8) = BitVec.ofNat 8 (cdLo x3 X σ b g p j + 16 * cdHi x3 X σ b g p j) := by
  rw [val_main_v211_apply, idx_v211, v127_apply x1 x2 x3 X σ hx hs hf]

theorem v201_apply (b : Fin 2) (g : Fin 28) (j : Fin 16) (k : Fin 2560) :
    val_main_v201 (F := Ideal) x0 (ix2 (brow b g j) k) = x0 (ix2 k (row b g (even j))) := by
  rw [val_main_v201_apply, val_main_v200_apply, val_main_v199_apply, val_main_v198_apply]
  have e1 : idx_main_v201 (ix2 (brow b g j) k) = ix3 (brow b g j) 0 k :=
    idx3_ext _ _ _ _ (show ((448 * b.val + 16 * g.val + j.val) * 2560 + k.val) / 2560 = 448 * b.val + 16 * g.val + j.val by omega) rfl
      (show ((448 * b.val + 16 * g.val + j.val) * 2560 + k.val) % 2560 = k.val by omega)
  have e2 : idx_main_v200 (ix3 (brow b g j) 0 k) = ix3 (brow b g j) 0 k := idx3_ext _ _ _ _ rfl rfl rfl
  have e3 : idx_main_v199 (ix3 (brow b g j) 0 k) = ix2 (row b g (even j)) k :=
    idx2_ext _ _ _ (show (((448 * b.val + 16 * g.val + j.val) * 2 + 0) * 2560 + k.val) / 2560 = 896 * b.val + 32 * g.val + 2 * j.val by omega)
      (show (((448 * b.val + 16 * g.val + j.val) * 2 + 0) * 2560 + k.val) % 2560 = k.val by omega)
  rw [e1, e2, e3]
  exact congrArg x0 (idx2_ext _ _ _ rfl rfl)

theorem v205_apply (b : Fin 2) (g : Fin 28) (j : Fin 16) (k : Fin 2560) :
    val_main_v205 (F := Ideal) x0 (ix2 (brow b g j) k) = x0 (ix2 k (row b g (odd j))) := by
  rw [val_main_v205_apply, val_main_v204_apply, val_main_v199_apply, val_main_v198_apply]
  have e1 : idx_main_v205 (ix2 (brow b g j) k) = ix3 (brow b g j) 0 k :=
    idx3_ext _ _ _ _ (show ((448 * b.val + 16 * g.val + j.val) * 2560 + k.val) / 2560 = 448 * b.val + 16 * g.val + j.val by omega) rfl
      (show ((448 * b.val + 16 * g.val + j.val) * 2560 + k.val) % 2560 = k.val by omega)
  have e2 : idx_main_v204 (ix3 (brow b g j) 0 k) = ix3 (brow b g j) 1 k := idx3_ext _ _ _ _ rfl rfl rfl
  have e3 : idx_main_v199 (ix3 (brow b g j) 1 k) = ix2 (row b g (odd j)) k :=
    idx2_ext _ _ _ (show (((448 * b.val + 16 * g.val + j.val) * 2 + 1) * 2560 + k.val) / 2560 = 896 * b.val + 32 * g.val + (2 * j.val + 1) by omega)
      (show (((448 * b.val + 16 * g.val + j.val) * 2 + 1) * 2560 + k.val) % 2560 = k.val by omega)
  rw [e1, e2, e3]
  exact congrArg x0 (idx2_ext _ _ _ rfl rfl)

include hx hs hf in
theorem v202_apply (b : Fin 2) (g : Fin 28) (p : Fin 6912) (j : Fin 16) :
    (val_main_v202 (F := Ideal) x1 x2 x3 (ix2 (brow b g j) p) : EReal) = ((dLo x3 X σ b g p j : ℝ) : EReal) := by
  rw [val_main_v202_apply, show idx_main_v202 (ix2 (brow b g j) p) = ix3 b (btok g j) p from idx_v211 b g p j, v166_apply x1 x2 x3 X σ hx hs hf]

include hx hs hf in
theorem v206_apply (b : Fin 2) (g : Fin 28) (p : Fin 6912) (j : Fin 16) :
    (val_main_v206 (F := Ideal) x1 x2 x3 (ix2 (brow b g j) p) : EReal) = ((dHi x3 X σ b g p j : ℝ) : EReal) := by
  rw [val_main_v206_apply, show idx_main_v206 (ix2 (brow b g j) p) = ix3 b (btok g j) p from idx_v211 b g p j, v197_apply x1 x2 x3 X σ hx hs hf]

include hx hs hf in
/-- The product: over the packed rows, the even token's term and the odd token's. -/
theorem v210_apply (k : Fin 2560) (p : Fin 6912) :
    (val_main_v210 (F := Ideal) x0 x1 x2 x3 (ix2 k p) : EReal)
      = Ideal.ofBits .f32 0x3FE38E39#32 * ((∑ b : Fin 2, ∑ g : Fin 28, ∑ j : Fin 16, (x0 (ix2 k (row b g (even j))) : EReal) * ((dLo x3 X σ b g p j : ℝ) : EReal))
        + ∑ b : Fin 2, ∑ g : Fin 28, ∑ j : Fin 16, (x0 (ix2 k (row b g (odd j))) : EReal) * ((dHi x3 X σ b g p j : ℝ) : EReal)) := by
  rw [val_main_v210_apply, val_main_v209_apply, val_main_cst_75_apply, val_main_v208_apply, val_main_v203_apply, val_main_v207_apply, sum_brows, sum_brows]
  have e1 (b : Fin 2) (g : Fin 28) (j : Fin 16) : (val_main_v201 (F := Ideal) x0) (lidx_main_v203 (ix2 k p) (brow b g j)) * (val_main_v202 (F := Ideal) x1 x2 x3) (ridx_main_v203 (ix2 k p) (brow b g j))
      = (x0 (ix2 k (row b g (even j))) : EReal) * ((dLo x3 X σ b g p j : ℝ) : EReal) := by
    rw [show lidx_main_v203 (ix2 k p) (brow b g j) = ix2 (brow b g j) k from idx2_ext _ _ _ rfl rfl,
      show ridx_main_v203 (ix2 k p) (brow b g j) = ix2 (brow b g j) p from idx2_ext _ _ _ rfl rfl, v201_apply, v202_apply x1 x2 x3 X σ hx hs hf]
  have e2 (b : Fin 2) (g : Fin 28) (j : Fin 16) : (val_main_v205 (F := Ideal) x0) (lidx_main_v207 (ix2 k p) (brow b g j)) * (val_main_v206 (F := Ideal) x1 x2 x3) (ridx_main_v207 (ix2 k p) (brow b g j))
      = (x0 (ix2 k (row b g (odd j))) : EReal) * ((dHi x3 X σ b g p j : ℝ) : EReal) := by
    rw [show lidx_main_v207 (ix2 k p) (brow b g j) = ix2 (brow b g j) k from idx2_ext _ _ _ rfl rfl,
      show ridx_main_v207 (ix2 k p) (brow b g j) = ix2 (brow b g j) p from idx2_ext _ _ _ rfl rfl, v205_apply, v206_apply x1 x2 x3 X σ hx hs hf]
  simp only [e1, e2]
  rfl

end Cert.RefDw
-- ==== Proof.DwRange.lean ====
module

public import proofs.«01_k».proof.Pre_in_range_dw
public import proofs.«01_k».proof.Proof.Gen.Pre_in_range_dw
public import proofs.«01_k».proof.Proof.Range
public import proofs.«01_k».proof.Proof.DwRef

/-! # What the precondition says of the second product's operands -/

@[expose] public section

noncomputable section

namespace Cert.DwRange

open Idealize.ShloMosaic Idealize.ShloMosaic.TcCoe Idealize.SL.Sem Idealize.ShloMosaic.ValueIdx
open Cert.KernelIdeal.Scalars Cert.Spec Cert.Pre_in_range_dw Cert.Range

variable (x0 : FVec Ideal S2560x1792 .bf16) (x1 : FVec Ideal S2x896x6912 .bf16) (x2 : FVec Ideal S2x896 .f32) (x3 : IVec S2x896x6912 8)

theorem grads (h : (fn (F := Ideal) x0 x1 x2 x3).1 = fun _ => 1#1) (b : Fin 2) (s : Fin 896) (p : Fin 6912) :
    ∃ x : ℝ, (x1 (ix3 b s p) : EReal) = (x : EReal) ∧ Fair x := by
  refine fair_of _ (Ideal.ofBits .f32 0x0D800000#32) (Ideal.ofBits .f32 0x71800000#32) ofBits_low ofBits_high ?_
  rw [← ofBits_zero]
  have h' := congrFun h (ix3 b s p)
  unfold fn at h'
  exact h'

theorem signs (h : (fn (F := Ideal) x0 x1 x2 x3).2 = fun _ => 1#1) (b : Fin 2) (s : Fin 896) :
    ∃ x : ℝ, (x2 (ix2 b s) : EReal) = (x : EReal) ∧ |x| = 1 := by
  refine sign_of _ ?_
  rw [← ofBits_one]
  have h' := congrFun h (ix2 b s)
  unfold fn at h'
  exact h'

/-- The operands as reals, each group of the rotated gradients fair. -/
theorem reals (h1 : (fn (F := Ideal) x0 x1 x2 x3).1 = fun _ => 1#1) (h2 : (fn (F := Ideal) x0 x1 x2 x3).2 = fun _ => 1#1) :
    ∃ (X : Fin 2 → Fin 896 → Fin 6912 → ℝ) (σ : Fin 2 → Fin 896 → ℝ), (∀ b s p, (x1 (ix3 b s p) : EReal) = ((X b s p : ℝ) : EReal))
      ∧ (∀ b s, (x2 (ix2 b s) : EReal) = ((σ b s : ℝ) : EReal)) ∧ ∀ b g p i, Fair (Cert.RefDw.grp X σ b g p i) := by
  choose X hX using grads x0 x1 x2 x3 h1
  choose σ hσ using signs x0 x1 x2 x3 h2
  exact ⟨X, σ, fun b s p => (hX b s p).1, fun b s => (hσ b s).1, fun b g p i => fair_mul _ _ (hX b _ p).2 (hσ b _).2⟩

end Cert.DwRange
-- ==== Proof.DwBlock.lean ====
module

public import proofs.«01_k».proof.Proof.Gen.KernelDwIdeal.Value
public import proofs.«01_k».proof.Proof.Block

/-! # One token block of the kernel body for the weight gradient

The body treats its 1792 tokens in seven blocks of 256, unrolled. This module names the sequence once, stage by stage, as functions of
the loaded values. The elementwise stages are stated for any shape; on a single element they are the stages of `Block`. -/

@[expose] public section

noncomputable section

namespace Cert.KernelDwIdeal.Block

open Cert.KernelDwIdeal Cert.KernelDwIdeal.Gen Idealize.ShloMosaic Idealize.SL.Sem

variable {F : FTy → Type} [FloatOps F]

section Elementwise

variable {S : Shape}

/-- One step of the search for the exponent field. -/
def expStep (x : FVec F S .f32) (b : BitVec 32) (k : IVec S 32) : IVec S 32 :=
  select (cmpf .oge x (bitcastToFloat .f32 (shli (addi k (broadcast S b)) (broadcast S 23#32)))) (addi k (broadcast S b)) k

/-- The search: the exponent field of `x` as a number. -/
def expNum (x : FVec F S .f32) : IVec S 32 :=
  expStep x 1#32 <| expStep x 2#32 <| expStep x 4#32 <| expStep x 8#32 <| expStep x 16#32 <| expStep x 32#32 <|
    expStep x 64#32 <| expStep x 128#32 <| broadcast S 0#32

/-- The exponent field of `x` in place. -/
def expBits (x : FVec F S .f32) : IVec S 32 := shli (expNum x) (broadcast S 23#32)

/-- The bits of `x`. -/
def bitsOf (x : FVec F S .f32) : IVec S 32 :=
  addi (expBits x) (fptosi 32 (ceil (mulf (subf (mulf x (bitcastToFloat .f32 (subi (broadcast S 2130706432#32) (expBits x))))
    (broadcast S (Scalar.ofBits .f32 0x3F800000#32))) (broadcast S (Scalar.ofBits .f32 0x4B000000#32)))))

/-- The multiplier of a group with exponent field `eb`. -/
def multOf (eb : IVec S 32) : FVec F S .f32 :=
  mulf (mulf (bitcastToFloat .f32 (subi (broadcast S 2147483648#32) (maxsi eb (broadcast S 16777216#32))))
    (broadcast S (Scalar.ofBits .f32 0x3FB504F3#32))) (broadcast S (Scalar.ofBits .f32 0x3F400000#32))

/-- The scale exponent of a group. -/
def expOf (eb : IVec S 32) : IVec S 32 :=
  select (cmpi .eq eb (broadcast S 0#32)) (broadcast S 0#32) (subi (shrsi eb (broadcast S 23#32)) (broadcast S 129#32))

/-- The scale of a group. -/
def scaleOf (eb : IVec S 32) : FVec F S .f32 :=
  bitcastToFloat .f32 (maxsi (subi eb (broadcast S 16777216#32)) (broadcast S 0#32))

/-- The value whose bits carry the code. -/
def gOf (v mult : FVec F S .f32) : FVec F S .f32 :=
  addf (absf (mulf v mult)) (maximumf (absf (mulf v mult)) (broadcast S (Scalar.ofBits .f32 0x3F800000#32)))

/-- The four-bit codes before minus zero is removed. -/
def rawCode (v mult : FVec F S .f32) (r : IVec S 32) : IVec S 32 :=
  shrui (subi (addi (bitsOf (gOf v mult)) (select (cmpf .olt v (broadcast S (Scalar.ofBits .f32 0x00000000#32)))
    (broadcast S 3267354623#32) (broadcast S 3233800191#32))) (shli r (broadcast S 14#32)))
    (broadcast S 22#32)

/-- The four-bit codes. -/
def codeOf (v mult : FVec F S .f32) (r : IVec S 32) : IVec S 32 :=
  select (cmpi .eq (rawCode v mult r) (broadcast S 8#32)) (broadcast S 0#32) (rawCode v mult r)

/-- The magnitude of a code, doubled, as an integer. -/
def magOf (c : IVec S 32) : IVec S 32 :=
  select (cmpi .slt (andi c (broadcast S 7#32)) (broadcast S 2#32)) (andi c (broadcast S 7#32))
    (shli (addi (broadcast S 2#32) (andi (andi c (broadcast S 7#32)) (broadcast S 1#32)))
      (subi (shrsi (andi c (broadcast S 7#32)) (broadcast S 1#32)) (broadcast S 1#32)))

/-- The value of a code. -/
def decode (c : IVec S 32) : FVec F S .bf16 :=
  truncf .bf16 (select (cmpi .slt c (broadcast S 8#32))
    (mulf (sitofp .f32 (magOf c)) (broadcast S (Scalar.ofBits .f32 0x3F000000#32)))
    (subf (broadcast S (Scalar.ofBits .f32 0x00000000#32))
      (mulf (sitofp .f32 (magOf c)) (broadcast S (Scalar.ofBits .f32 0x3F000000#32))))) bitsLt_bf16_f32

end Elementwise

/-- The rotated tokens, in groups of 32. -/
def rotated (rot : FVec F S1x256x256 .bf16) (x : FVec F S256x256 .bf16) : FVec F S8x32x256 .f32 :=
  shapeCast S8x32x256 (matmul dot_S256x256_S256x256_S256x256_1_0_0_1_n_n none (shapeCast S256x256 rot shapeCasts_S1x256x256_S256x256)
    (shapeCast S256x256 x shapeCasts_S256x256_S256x256) (constant S256x256 .f32 0x00000000#32)) shapeCasts_S256x256_S8x32x256

/-- The largest magnitude of each group, times the square root of two. -/
def groupMax (v : FVec F S8x32x256 .f32) : FVec F S8x256 .f32 :=
  mulf (multiReduction .maximumf [1] S8x256 (absf v) 0xFF800000#32 reduces_S8x32x256_S8x256 (.inl rfl) rfl)
    (broadcast S8x256 (Scalar.ofBits .f32 0x3FB504F3#32))

/-- The exponent field of each group. -/
def groupExp (v : FVec F S8x32x256 .f32) : IVec S8x256 32 := expBits (groupMax v)

/-- A value of each group, at each of its elements. -/
def spread (x : FVec F S8x256 .f32) : FVec F S8x32x256 .f32 :=
  broadcastTo S8x32x256 (shapeCast S8x1x256 x shapeCasts_S8x256_S8x1x256) broadcasts_S8x1x256_S8x32x256

/-- The random bytes of the block, in groups. -/
def bytes (r : IVec S256x256 8) : IVec S8x32x256 32 :=
  shapeCast S8x32x256 (extui 32 (shapeCast S256x256 r shapeCasts_S256x256_S256x256) natLt_8_32) shapeCasts_S256x256_S8x32x256

/-- The codes of the block. -/
def codes (v : FVec F S8x32x256 .f32) (r : IVec S256x256 8) : IVec S256x256 32 :=
  shapeCast S256x256 (codeOf v (spread (multOf (groupExp v))) (bytes r)) shapeCasts_S8x32x256_S256x256

/-- Two codes to the byte. -/
def pack (c : IVec S256x256 32) : IVec S128x256 8 :=
  trunci 8 (ori (shapeCast S128x256 (extractStridedSlice S128x1x256 ![0, 0, 0] (shapeCast S128x2x256 c shapeCasts_S256x256_S128x2x256)
      slices_S128x2x256_o0_0_0_S128x1x256) shapeCasts_S128x1x256_S128x256)
    (shli (shapeCast S128x256 (extractStridedSlice S128x1x256 ![0, 1, 0] (shapeCast S128x2x256 c shapeCasts_S256x256_S128x2x256)
      slices_S128x2x256_o0_1_0_S128x1x256) shapeCasts_S128x1x256_S128x256) (broadcast S128x256 4#32))) natLt_8_32

/-- What a token block stores as codes. -/
def packed (rot : FVec F S1x256x256 .bf16) (x : FVec F S256x256 .bf16) (r : IVec S256x256 8) : IVec S128x256 8 :=
  pack (codes (rotated rot x) r)

/-- What a token block stores as scale exponents. -/
def exps (rot : FVec F S1x256x256 .bf16) (x : FVec F S256x256 .bf16) : IVec S8x256 32 :=
  shapeCast S8x256 (expOf (groupExp (rotated rot x))) shapeCasts_S8x256_S8x256

/-- The scales, at each element of the block. -/
def scales (v : FVec F S8x32x256 .f32) : FVec F S256x256 .bf16 :=
  truncf .bf16 (shapeCast S256x256 (broadcastTo S8x32x256 (shapeCast S8x1x256 (shapeCast S8x1x256 (scaleOf (F := F) (groupExp v))
    shapeCasts_S8x256_S8x1x256) shapeCasts_S8x1x256_S8x1x256) broadcasts_S8x1x256_S8x32x256) shapeCasts_S8x32x256_S256x256) bitsLt_bf16_f32

/-- What a token block stores as decoded tokens. -/
def decoded (rot : FVec F S1x256x256 .bf16) (x : FVec F S256x256 .bf16) (r : IVec S256x256 8) : FVec F S256x256 .bf16 :=
  shapeCast S256x256 (mulf (decode (codes (rotated rot x) r)) (scales (rotated rot x))) shapeCasts_S256x256_S256x256

/-- Half of the exponents, as they are stored. -/
def narrow (e : IVec S28x256 32) : IVec S1x28x256 8 := shapeCast S1x28x256 (trunci 8 e natLt_8_32) shapeCasts_S28x256_S1x28x256

end Cert.KernelDwIdeal.Block
-- ==== Proof.DwPieces.lean ====
module

public import proofs.«01_k».proof.Proof.DwBlock
public import Idealize.ShloMosaic.Lib.ValueIdx
public import Idealize.ShloMosaic.Lib.Pipeline.ValueKit.Tiles

/-! # What one grid point of the weight gradient leaves behind

One grid point covers 256 columns of `dy`, all its tokens. Its stores into each buffer are tiles of one function of the input blocks. -/

@[expose] public section

noncomputable section

namespace Cert.KernelDwIdeal.Block

open Cert.KernelDwIdeal Cert.KernelDwIdeal.Gen Idealize.ShloMosaic Idealize.ShloMosaic.TcCoe Idealize.SL.Sem Idealize.ShloMosaic.ValueIdx

variable {F : FTy → Type} [FloatOps F]

/-- Token block `b`. -/
def rowsAt {α : Type} (b : Fin 7) (x : S1792x256.Idx → α) : S256x256.Idx → α :=
  fun j => x (ix2 ⟨256 * b.val + (j 0).val, by have := b.isLt; have : (j 0).val < 256 := (j 0).isLt; omega⟩ (j 1))

/-- The rotation of token block `b`. -/
def rotAt {α : Type} (b : Fin 7) (x : S7x256x256.Idx → α) : S1x256x256.Idx → α :=
  fun j => x (ix3 b (j 1) (j 2))

/-- The packed codes of a grid point. -/
def codesBlk (x1 : Vec F S1792x256 .bf16) (x2 : Vec F S1792x256 .i8) (x3 : Vec F S7x256x256 .bf16) : Vec F S896x256 .i8 :=
  fun y => packed (rotAt ⟨(y 0).val / 128, by have : (y 0).val < 896 := (y 0).isLt; omega⟩ x3)
    (rowsAt ⟨(y 0).val / 128, by have : (y 0).val < 896 := (y 0).isLt; omega⟩ x1)
    (rowsAt ⟨(y 0).val / 128, by have : (y 0).val < 896 := (y 0).isLt; omega⟩ x2) (ix2 ⟨(y 0).val % 128, Nat.mod_lt _ (by decide)⟩ (y 1))

/-- The scale exponents of a grid point, as numbers. -/
def numsBlk (x1 : Vec F S1792x256 .bf16) (x3 : Vec F S7x256x256 .bf16) : Vec F S56x256 .i32 :=
  fun y => exps (rotAt ⟨(y 0).val / 8, by have : (y 0).val < 56 := (y 0).isLt; omega⟩ x3)
    (rowsAt ⟨(y 0).val / 8, by have : (y 0).val < 56 := (y 0).isLt; omega⟩ x1) (ix2 ⟨(y 0).val % 8, Nat.mod_lt _ (by decide)⟩ (y 1))

/-- One half of them. -/
def numsAt (b : Fin 2) (x : S56x256.Idx → BitVec 32) : S28x256.Idx → BitVec 32 :=
  fun j => x (ix2 ⟨28 * b.val + (j 0).val, by have := b.isLt; have : (j 0).val < 28 := (j 0).isLt; omega⟩ (j 1))

/-- The scale exponents of a grid point, as they are stored. -/
def expsBlk (x1 : Vec F S1792x256 .bf16) (x3 : Vec F S7x256x256 .bf16) : Vec F S2x28x256 .i8 :=
  fun y => narrow (numsAt (y 0) (numsBlk x1 x3)) (ix3 (0 : Fin 1) (y 1) (y 2))

/-- The decoded tokens of a grid point. -/
def gBlk (x1 : Vec F S1792x256 .bf16) (x2 : Vec F S1792x256 .i8) (x3 : Vec F S7x256x256 .bf16) : Vec F S1792x256 .bf16 :=
  fun y => decoded (rotAt ⟨(y 0).val / 256, by have : (y 0).val < 1792 := (y 0).isLt; omega⟩ x3)
    (rowsAt ⟨(y 0).val / 256, by have : (y 0).val < 1792 := (y 0).isLt; omega⟩ x1)
    (rowsAt ⟨(y 0).val / 256, by have : (y 0).val < 1792 := (y 0).isLt; omega⟩ x2) (ix2 ⟨(y 0).val % 256, Nat.mod_lt _ (by decide)⟩ (y 1))

theorem inb (b : Fin 7) : ∀ a : Fin 2, (![256 * b.val, 0] : Fin 2 → Nat) a + S256x256.size a ≤ S1792x256.size a := by revert b; decide
theorem inbr (b : Fin 7) : ∀ a : Fin 3, (![b.val, 0, 0] : Fin 3 → Nat) a + S1x256x256.size a ≤ S7x256x256.size a := by revert b; decide
theorem inbc (b : Fin 7) : ∀ a : Fin 2, (![128 * b.val, 0] : Fin 2 → Nat) a + S128x256.size a ≤ S896x256.size a := by revert b; decide
theorem inbe (b : Fin 7) : ∀ a : Fin 2, (![8 * b.val, 0] : Fin 2 → Nat) a + S8x256.size a ≤ S56x256.size a := by revert b; decide
theorem inbh (b : Fin 2) : ∀ a : Fin 2, (![28 * b.val, 0] : Fin 2 → Nat) a + S28x256.size a ≤ S56x256.size a := by revert b; decide
theorem inbs (b : Fin 2) : ∀ a : Fin 3, (![b.val, 0, 0] : Fin 3 → Nat) a + S1x28x256.size a ≤ S2x28x256.size a := by revert b; decide

section Loads

variable (arg2 : Memref sig .tc .vmem S1792x256 .bf16) (harg2 : arg2.IsWhole) (arg3 : Memref sig .tc .vmem S1792x256 .i8) (harg3 : arg3.IsWhole)
  (arg4 : Memref sig .tc .vmem S7x256x256 .bf16) (harg4 : arg4.IsWhole)
  (x1 : Vec F S1792x256 .bf16) (x2 : Vec F S1792x256 .i8) (x3 : Vec F S7x256x256 .bf16)

/-- The load of token block `b`, … -/
def ld1 (b : Fin 7) : Vec F S256x256 .bf16 :=
  View.readAt (Elt F) arg2.view (Rect.unit (s := S1792x256) ![256 * b.val, 0] S256x256.size (inb b)).toLoadRect (harg2.unread x1)
/-- … of its random bytes … -/
def ld2 (b : Fin 7) : Vec F S256x256 .i8 :=
  View.readAt (Elt F) arg3.view (Rect.unit (s := S1792x256) ![256 * b.val, 0] S256x256.size (inb b)).toLoadRect (harg3.unread x2)
/-- … and of its rotation. -/
def ld3 (b : Fin 7) : Vec F S1x256x256 .bf16 :=
  View.readAt (Elt F) arg4.view (Rect.unit (s := S7x256x256) ![b.val, 0, 0] S1x256x256.size (inbr b)).toLoadRect (harg4.unread x3)

theorem ld1_eq (b : Fin 7) : ld1 arg2 harg2 x1 b = rowsAt b x1 := by
  funext j
  unfold ld1
  rw [View.readAt_eq_ld, harg2.read_unread]
  exact View.ld_unit_apply_of x1 _ _ _ j _ (by intro a; fin_cases a <;> simp [ix2])
theorem ld2_eq (b : Fin 7) : ld2 arg3 harg3 x2 b = rowsAt b x2 := by
  funext j
  unfold ld2
  rw [View.readAt_eq_ld, harg3.read_unread]
  exact View.ld_unit_apply_of x2 _ _ _ j _ (by intro a; fin_cases a <;> simp [ix2])
theorem ld3_eq (b : Fin 7) : ld3 arg4 harg4 x3 b = rotAt b x3 := by
  funext j
  unfold ld3
  rw [View.readAt_eq_ld, harg4.read_unread]
  exact View.ld_unit_apply_of x3 _ _ _ j _ (by
    intro a
    have h0 : (j 0).val = 0 := by have : (j 0).val < 1 := (j 0).isLt; omega
    fin_cases a <;> simp [ix3, h0])

/-- The stores of the codes, … -/
def codePc (b : Fin 7) : View.Piece (Elt F) S896x256 .i8 :=
  ⟨Rect.unit (s := S896x256) ![128 * b.val, 0] S128x256.size (inbc b),
    packed (ld3 arg4 harg4 x3 b) (ld1 arg2 harg2 x1 b) (ld2 arg3 harg3 x2 b)⟩
/-- … of the exponents … -/
def numPc (b : Fin 7) : View.Piece (Elt F) S56x256 .i32 :=
  ⟨Rect.unit (s := S56x256) ![8 * b.val, 0] S8x256.size (inbe b), exps (ld3 arg4 harg4 x3 b) (ld1 arg2 harg2 x1 b)⟩
/-- … and of the decoded tokens. -/
def gPc (b : Fin 7) : View.Piece (Elt F) S1792x256 .bf16 :=
  ⟨Rect.unit (s := S1792x256) ![256 * b.val, 0] S256x256.size (inb b),
    decoded (ld3 arg4 harg4 x3 b) (ld1 arg2 harg2 x1 b) (ld2 arg3 harg3 x2 b)⟩

/-- The store list of the codes, last store first, … -/
def codeL : List (View.Piece (Elt F) S896x256 .i8) := [6, 5, 4, 3, 2, 1, 0].map (codePc arg2 harg2 arg3 harg3 arg4 harg4 x1 x2 x3)
/-- … of the exponents … -/
def numL : List (View.Piece (Elt F) S56x256 .i32) := [6, 5, 4, 3, 2, 1, 0].map (numPc arg2 harg2 arg4 harg4 x1 x3)
/-- … and of the decoded tokens. -/
def gL : List (View.Piece (Elt F) S1792x256 .bf16) := [6, 5, 4, 3, 2, 1, 0].map (gPc arg2 harg2 arg3 harg3 arg4 harg4 x1 x2 x3)

theorem codeL_tile : ∀ p ∈ codeL arg2 harg2 arg3 harg3 arg4 harg4 x1 x2 x3, ∀ x : p.1.shape.Idx, p.2 x = codesBlk x1 x2 x3 (p.1.emb x) := by
  intro p hp x
  obtain ⟨b, -, rfl⟩ := List.mem_map.mp hp
  change S128x256.Idx at x
  have hx : (x 0).val < 128 := (x 0).isLt
  have h0 : ((codePc arg2 harg2 arg3 harg3 arg4 harg4 x1 x2 x3 b).1.emb x 0).val = 128 * b.val + (x 0).val :=
    Rect.idx_unit_val (s := S896x256) ![128 * b.val, 0] S128x256.size (inbc b) x 0
  have h3 : (codePc arg2 harg2 arg3 harg3 arg4 harg4 x1 x2 x3 b).1.emb x 1 = x 1 :=
    Fin.ext ((Rect.idx_unit_val (s := S896x256) ![128 * b.val, 0] S128x256.size (inbc b) x 1).trans (Nat.zero_add _))
  have h1 : (⟨((codePc arg2 harg2 arg3 harg3 arg4 harg4 x1 x2 x3 b).1.emb x 0).val / 128, by rw [h0]; have := b.isLt; omega⟩ : Fin 7) = b :=
    Fin.ext (by show ((codePc arg2 harg2 arg3 harg3 arg4 harg4 x1 x2 x3 b).1.emb x 0).val / 128 = b.val; rw [h0]; omega)
  have h2 : (⟨((codePc arg2 harg2 arg3 harg3 arg4 harg4 x1 x2 x3 b).1.emb x 0).val % 128, Nat.mod_lt _ (by decide)⟩ : Fin 128) = x 0 :=
    Fin.ext (by show ((codePc arg2 harg2 arg3 harg3 arg4 harg4 x1 x2 x3 b).1.emb x 0).val % 128 = (x 0).val; rw [h0]; omega)
  unfold codesBlk
  rw [h1, h2, h3]
  unfold codePc
  rw [ld1_eq, ld2_eq, ld3_eq]
  exact congrArg _ (eq_ix2 x)

theorem numPc_val (b : Fin 7) (x : S8x256.Idx) (y : S56x256.Idx) (h0 : (y 0).val = 8 * b.val + (x 0).val) (h3 : y 1 = x 1) :
    exps (ld3 arg4 harg4 x3 b) (ld1 arg2 harg2 x1 b) x = numsBlk x1 x3 y := by
  have hx : (x 0).val < 8 := (x 0).isLt
  have h1 : (⟨(y 0).val / 8, by rw [h0]; have := b.isLt; omega⟩ : Fin 7) = b := Fin.ext (by show (y 0).val / 8 = b.val; rw [h0]; omega)
  have h2 : (⟨(y 0).val % 8, Nat.mod_lt _ (by decide)⟩ : Fin 8) = x 0 := Fin.ext (by show (y 0).val % 8 = (x 0).val; rw [h0]; omega)
  unfold numsBlk
  rw [h1, h2, h3, ld1_eq, ld3_eq]
  exact congrArg _ (eq_ix2 x)

section

attribute [local irreducible] exps

theorem numL_tile : ∀ p ∈ numL arg2 harg2 arg4 harg4 x1 x3, ∀ x : p.1.shape.Idx, p.2 x = numsBlk x1 x3 (p.1.emb x) := by
  intro p hp x
  obtain ⟨b, -, rfl⟩ := List.mem_map.mp hp
  exact numPc_val arg2 harg2 arg4 harg4 x1 x3 b x _ (Rect.idx_unit_val (s := S56x256) ![8 * b.val, 0] S8x256.size (inbe b) x 0)
    (Fin.ext ((Rect.idx_unit_val (s := S56x256) ![8 * b.val, 0] S8x256.size (inbe b) x 1).trans (Nat.zero_add _)))

end

theorem gL_tile : ∀ p ∈ gL arg2 harg2 arg3 harg3 arg4 harg4 x1 x2 x3, ∀ x : p.1.shape.Idx, p.2 x = gBlk x1 x2 x3 (p.1.emb x) := by
  intro p hp x
  obtain ⟨b, -, rfl⟩ := List.mem_map.mp hp
  change S256x256.Idx at x
  have hx : (x 0).val < 256 := (x 0).isLt
  have h0 : ((gPc arg2 harg2 arg3 harg3 arg4 harg4 x1 x2 x3 b).1.emb x 0).val = 256 * b.val + (x 0).val :=
    Rect.idx_unit_val (s := S1792x256) ![256 * b.val, 0] S256x256.size (inb b) x 0
  have h3 : (gPc arg2 harg2 arg3 harg3 arg4 harg4 x1 x2 x3 b).1.emb x 1 = x 1 :=
    Fin.ext ((Rect.idx_unit_val (s := S1792x256) ![256 * b.val, 0] S256x256.size (inb b) x 1).trans (Nat.zero_add _))
  have h1 : (⟨((gPc arg2 harg2 arg3 harg3 arg4 harg4 x1 x2 x3 b).1.emb x 0).val / 256, by rw [h0]; have := b.isLt; omega⟩ : Fin 7) = b :=
    Fin.ext (by show ((gPc arg2 harg2 arg3 harg3 arg4 harg4 x1 x2 x3 b).1.emb x 0).val / 256 = b.val; rw [h0]; omega)
  have h2 : (⟨((gPc arg2 harg2 arg3 harg3 arg4 harg4 x1 x2 x3 b).1.emb x 0).val % 256, Nat.mod_lt _ (by decide)⟩ : Fin 256) = x 0 :=
    Fin.ext (by show ((gPc arg2 harg2 arg3 harg3 arg4 harg4 x1 x2 x3 b).1.emb x 0).val % 256 = (x 0).val; rw [h0]; omega)
  unfold gBlk
  rw [h1, h2, h3]
  unfold gPc
  rw [ld1_eq, ld2_eq, ld3_eq]
  exact congrArg _ (eq_ix2 x)

theorem codeL_cover (y : S896x256.Idx) : ∃ p ∈ codeL arg2 harg2 arg3 harg3 arg4 harg4 x1 x2 x3, y ∈ p.1.set :=
  View.cover_of_tiledL (codeL arg2 harg2 arg3 harg3 arg4 harg4 x1 x2 x3) S128x256.size (by sl_kernel_rfl) y
theorem numL_cover (y : S56x256.Idx) : ∃ p ∈ numL arg2 harg2 arg4 harg4 x1 x3, y ∈ p.1.set :=
  View.cover_of_tiledL (numL arg2 harg2 arg4 harg4 x1 x3) S8x256.size (by sl_kernel_rfl) y
theorem gL_cover (y : S1792x256.Idx) : ∃ p ∈ gL arg2 harg2 arg3 harg3 arg4 harg4 x1 x2 x3, y ∈ p.1.set :=
  View.cover_of_tiledL (gL arg2 harg2 arg3 harg3 arg4 harg4 x1 x2 x3) S256x256.size (by sl_kernel_rfl) y

/-- Read back, the stores are the functions. -/
theorem codeL_canon : View.canon (codeL arg2 harg2 arg3 harg3 arg4 harg4 x1 x2 x3) = codesBlk x1 x2 x3 :=
  funext fun y => View.canon_apply_of_pieces _ _ (codeL_tile arg2 harg2 arg3 harg3 arg4 harg4 x1 x2 x3) y (codeL_cover ..)
theorem numL_canon : View.canon (numL arg2 harg2 arg4 harg4 x1 x3) = numsBlk x1 x3 :=
  funext fun y => View.canon_apply_of_pieces _ _ (numL_tile arg2 harg2 arg4 harg4 x1 x3) y (numL_cover ..)
theorem gL_canon : View.canon (gL arg2 harg2 arg3 harg3 arg4 harg4 x1 x2 x3) = gBlk x1 x2 x3 :=
  funext fun y => View.canon_apply_of_pieces _ _ (gL_tile arg2 harg2 arg3 harg3 arg4 harg4 x1 x2 x3) y (gL_cover ..)

/-- The load of the decoded tokens after those stores, … -/
def ldG (v : View sig .tc .vmem S1792x256 .bf16) : Vec F S1792x256 .bf16 :=
  v.readCov (gL arg2 harg2 arg3 harg3 arg4 harg4 x1 x2 x3) (Rect.unit (s := S1792x256) ![0, 0] S1792x256.size (by decide)).toLoadRect
/-- … and of half of the exponents. -/
def ldN (v : View sig .tc .vmem S56x256 .i32) (b : Fin 2) : Vec F S28x256 .i32 :=
  v.readCov (numL arg2 harg2 arg4 harg4 x1 x3) (Rect.unit (s := S56x256) ![28 * b.val, 0] S28x256.size (inbh b)).toLoadRect

theorem ldG_eq (v) : ldG arg2 harg2 arg3 harg3 arg4 harg4 x1 x2 x3 v = gBlk x1 x2 x3 := by
  unfold ldG
  rw [View.readCov_eq_canon_ld _ _ _ (gL_cover arg2 harg2 arg3 harg3 arg4 harg4 x1 x2 x3), gL_canon]
  exact View.ld_unit_zero (by funext a; fin_cases a <;> rfl) _ _
theorem ldN_eq (v) (b : Fin 2) : ldN arg2 harg2 arg4 harg4 x1 x3 v b = numsAt b (numsBlk x1 x3) := by
  funext j
  unfold ldN
  rw [View.readCov_eq_canon_ld _ _ _ (numL_cover arg2 harg2 arg4 harg4 x1 x3), numL_canon]
  exact View.ld_unit_apply_of (numsBlk x1 x3) _ _ _ j _ (by intro a; fin_cases a <;> simp [ix2])

/-- The stores of the two halves of the exponents. -/
def expPc (v : View sig .tc .vmem S56x256 .i32) (b : Fin 2) : View.Piece (Elt F) S2x28x256 .i8 :=
  ⟨Rect.unit (s := S2x28x256) ![b.val, 0, 0] S1x28x256.size (inbs b), narrow (ldN arg2 harg2 arg4 harg4 x1 x3 v b)⟩
@[inherit_doc expPc]
def expL (v : View sig .tc .vmem S56x256 .i32) : List (View.Piece (Elt F) S2x28x256 .i8) := [1, 0].map (expPc arg2 harg2 arg4 harg4 x1 x3 v)

theorem expL_tile (v) : ∀ p ∈ expL arg2 harg2 arg4 harg4 x1 x3 v, ∀ x : p.1.shape.Idx, p.2 x = expsBlk x1 x3 (p.1.emb x) := by
  intro p hp x
  obtain ⟨b, -, rfl⟩ := List.mem_map.mp hp
  change S1x28x256.Idx at x
  have hx : (x 0).val < 1 := (x 0).isLt
  have h0 : (expPc arg2 harg2 arg4 harg4 x1 x3 v b).1.emb x 0 = b :=
    Fin.ext ((Rect.idx_unit_val (s := S2x28x256) ![b.val, 0, 0] S1x28x256.size (inbs b) x 0).trans (by show b.val + (x 0).val = b.val; omega))
  have h1 : (expPc arg2 harg2 arg4 harg4 x1 x3 v b).1.emb x 1 = x 1 :=
    Fin.ext ((Rect.idx_unit_val (s := S2x28x256) ![b.val, 0, 0] S1x28x256.size (inbs b) x 1).trans (Nat.zero_add _))
  have h2 : (expPc arg2 harg2 arg4 harg4 x1 x3 v b).1.emb x 2 = x 2 :=
    Fin.ext ((Rect.idx_unit_val (s := S2x28x256) ![b.val, 0, 0] S1x28x256.size (inbs b) x 2).trans (Nat.zero_add _))
  unfold expsBlk
  rw [h0, h1, h2]
  unfold expPc
  rw [ldN_eq]
  refine congrArg _ (funext fun a => Fin.ext ?_)
  match a with
  | ⟨0, _⟩ => show (x 0).val = 0; omega
  | ⟨1, _⟩ => rfl
  | ⟨2, _⟩ => rfl

theorem expL_cover (v) (y : S2x28x256.Idx) : ∃ p ∈ expL arg2 harg2 arg4 harg4 x1 x3 v, y ∈ p.1.set :=
  View.cover_of_tiledL (expL arg2 harg2 arg4 harg4 x1 x3 v) S1x28x256.size (by sl_kernel_rfl) y
theorem expL_canon (v) : View.canon (expL arg2 harg2 arg4 harg4 x1 x3 v) = expsBlk x1 x3 :=
  funext fun y => View.canon_apply_of_pieces _ _ (expL_tile arg2 harg2 arg4 harg4 x1 x3 v) y (expL_cover ..)

end Loads

section Point

variable (c : Dev nD) (i : grid0.Coords) (arg1 : Memref sig .tc .vmem S2560x1792 .bf16) (harg1 : arg1.IsWhole) (arg2 : Memref sig .tc .vmem S1792x256 .bf16) (harg2 : arg2.IsWhole) (arg3 : Memref sig .tc .vmem S1792x256 .i8) (harg3 : arg3.IsWhole) (arg4 : Memref sig .tc .vmem S7x256x256 .bf16) (harg4 : arg4.IsWhole) (arg5 : Memref sig .tc .vmem S2560x256 .f32) (harg5 : arg5.IsWhole) (arg6 : Memref sig .tc .vmem S896x256 .i8) (harg6 : arg6.IsWhole) (arg7 : Memref sig .tc .vmem S2x28x256 .i8) (harg7 : arg7.IsWhole) (arg8 : Memref sig .tc .vmem S56x256 .i32) (harg8 : arg8.IsWhole) (arg9 : Memref sig .tc .vmem S1792x256 .bf16) (harg9 : arg9.IsWhole)
  (x0 : Vec F S2560x1792 .bf16) (x1 : Vec F S1792x256 .bf16) (x2 : Vec F S1792x256 .i8) (x3 : Vec F S7x256x256 .bf16)

theorem out5_eq : out0_A_5 c i arg1 harg1 arg2 harg2 arg3 harg3 arg4 harg4 arg5 harg5 arg6 harg6 arg7 harg7 arg8 harg8 arg9 harg9 x0 x1 x2 x3 = codesBlk x1 x2 x3 := by
  unfold out0_A_5
  rw [View.read_writes_eq_canon _ _ _ (cover0_A_5 c i arg1 harg1 arg2 harg2 arg3 harg3 arg4 harg4 arg5 harg5 arg6 harg6 arg7 harg7 arg8 harg8 arg9 harg9 x0 x1 x2 x3)]
  unfold kernelRun0_A
  dsimp only
  sl_unfold_words
  exact codeL_canon arg2 harg2 arg3 harg3 arg4 harg4 x1 x2 x3

theorem out6_eq : out0_A_6 c i arg1 harg1 arg2 harg2 arg3 harg3 arg4 harg4 arg5 harg5 arg6 harg6 arg7 harg7 arg8 harg8 arg9 harg9 x0 x1 x2 x3 = expsBlk x1 x3 := by
  unfold out0_A_6
  rw [View.read_writes_eq_canon _ _ _ (cover0_A_6 c i arg1 harg1 arg2 harg2 arg3 harg3 arg4 harg4 arg5 harg5 arg6 harg6 arg7 harg7 arg8 harg8 arg9 harg9 x0 x1 x2 x3)]
  unfold kernelRun0_A
  dsimp only
  sl_unfold_words
  exact expL_canon arg2 harg2 arg4 harg4 x1 x3 arg8.view

theorem out4_eq : out0_A_4 c i arg1 harg1 arg2 harg2 arg3 harg3 arg4 harg4 arg5 harg5 arg6 harg6 arg7 harg7 arg8 harg8 arg9 harg9 x0 x1 x2 x3 = k0_pay1 x0 (gBlk x1 x2 x3) := by
  unfold out0_A_4
  rw [View.read_writes_eq_canon _ _ _ (cover0_A_4 c i arg1 harg1 arg2 harg2 arg3 harg3 arg4 harg4 arg5 harg5 arg6 harg6 arg7 harg7 arg8 harg8 arg9 harg9 x0 x1 x2 x3)]
  unfold kernelRun0_A
  dsimp only
  sl_unfold_words
  trans k0_pay1 (View.readAt (Elt F) arg1.view (Rect.unit (s := S2560x1792) ![0, 0] S2560x1792.size (by decide)).toLoadRect (harg1.unread x0)) (ldG arg2 harg2 arg3 harg3 arg4 harg4 x1 x2 x3 arg9.view)
  · exact View.canon_unit_zero (by funext a; fin_cases a <;> rfl) _ _
  · rw [ldG_eq, View.readAt_eq_ld, harg1.read_unread]
    exact congrArg (fun z => k0_pay1 z _) (View.ld_unit_zero (by funext a; fin_cases a <;> rfl) _ _)

end Point

end Cert.KernelDwIdeal.Block
-- ==== Proof.DwElems.lean ====
module

public import proofs.«01_k».proof.Proof.DwPieces
public import proofs.«01_k».proof.Proof.Lanes
public import proofs.«01_k».proof.Proof.RefGroups

/-! # One column of a token block of the weight gradient

A column of 256 tokens holds eight groups of 32 tokens. -/

@[expose] public section

noncomputable section

namespace Cert.KernelDwIdeal.Cols

open Cert.KernelDwIdeal Cert.KernelDwIdeal.Gen Cert.KernelDwIdeal.Block Cert.Spec
open Idealize.ShloMosaic Idealize.ShloMosaic.ValueIdx
open Cert.KernelIdeal.Lanes (lane col even odd grp coe_sum' sum_cols fieldOf fieldOf_field mult_eq mult_pos expOf_eq)
open Cert.KernelIdeal.Scalars (word ofBits_zero ofBits_root2 abs_coe Field)

/-! ## The elementwise stages -/

section Elementwise

variable {S : Shape} (i : S.Idx)

/-- Any place of the shape that the stages of `Block` are stated for. -/
def place : Cert.KernelIdeal.S256x128.Idx := ix2 (0 : Fin 256) (0 : Fin 128)

theorem expBits_apply (x : FVec Ideal S .f32) (k : ℕ) (t : ℝ) (hx : x i = (t : EReal)) (hk : Field t k) : expBits x i = word k := by
  have h := Cert.KernelIdeal.Scalars.expBits_apply (x := fun _ => x i) (i := place) k t hx hk
  rw [← h]; rfl

theorem multOf_apply (k : ℕ) (hk : k ≤ 254) (eb : IVec S 32) (he : eb i = word k) :
    multOf (F := Ideal) eb i = (((2 : ℝ) ^ (129 - ((max k 2 : ℕ) : ℤ)) * root2 * (3 / 4) : ℝ) : EReal) := by
  have h := Cert.KernelIdeal.Scalars.multOf_apply (i := place) k hk (fun _ => eb i) he
  rw [← h]; rfl

theorem expOf_apply (k : ℕ) (hk : k ≤ 254) (eb : IVec S 32) (he : eb i = word k) :
    expOf eb i = BitVec.ofInt 32 (if k = 0 then 0 else (k : ℤ) - 129) := by
  have h := Cert.KernelIdeal.Scalars.expOf_apply (i := place) k hk (fun _ => eb i) he
  rw [← h]; rfl

theorem scaleOf_apply (k : ℕ) (hk : k ≤ 254) (h3 : 3 ≤ k) (eb : IVec S 32) (he : eb i = word k) :
    scaleOf (F := Ideal) eb i = (((2 : ℝ) ^ ((k : ℤ) - 129) : ℝ) : EReal) := by
  have h := Cert.KernelIdeal.Scalars.scaleOf_apply (i := place) k hk h3 (fun _ => eb i) he
  rw [← h]; rfl

theorem scaleOf_zero (eb : IVec S 32) (he : eb i = word 0) : scaleOf (F := Ideal) eb i = 0 := by
  have h := Cert.KernelIdeal.Scalars.scaleOf_zero (i := place) (fun _ => eb i) he
  rw [← h]; rfl

theorem codeOf_apply (v mult : FVec Ideal S .f32) (t M : ℝ) (ρ : ℕ) (r : IVec S 32) (hv : v i = (t : EReal)) (hm : mult i = (M : EReal)) (hM : 0 < M)
    (hr : r i = BitVec.ofNat 32 ρ) (hρ : ρ ≤ 255) (h6 : |t * M| < 6) :
    codeOf v mult r i = BitVec.ofInt 32 (code (t * M) ρ) := by
  have h := Cert.KernelIdeal.Scalars.codeOf_apply (v := fun _ => v i) (mult := fun _ => mult i) (i := place) t M ρ (fun _ => r i) hv hm hM hr hρ h6
  rw [← h]; rfl

theorem decode_apply (n : ℕ) (hn : n < 16) (c : IVec S 32) (hc : c i = BitVec.ofNat 32 n) :
    decode (F := Ideal) c i = ((e2m1 n : ℝ) : EReal) := by
  have h := Cert.KernelIdeal.Scalars.decode_apply (i := place) n hn (fun _ => c i) hc
  rw [← h]; rfl

end Elementwise

variable (rot : FVec Ideal S1x256x256 .bf16) (x : FVec Ideal S256x256 .bf16) (q : Fin 256) (X σ : Fin 8 → Fin 32 → ℝ)

/-- What column `q` of `dy` and the rotation hold. -/
structure Col : Prop where
  hx : ∀ e i, x (ix2 (col e i) q) = ((X e i : ℝ) : EReal)
  hr : ∀ p e i, rot (ix3 (0 : Fin 1) p (col e i)) = Cert.KernelIdeal.Block.diagonal (F := Ideal) (ix2 p (col e i)) * ((σ e i : ℝ) : EReal)

variable {rot x q X σ}

/-- A group as a block of rows. -/
theorem cast_rows {α : Type} (v : S256x256.Idx → α) (e : Fin 8) (i : Fin 32) :
    shapeCast S8x32x256 v shapeCasts_S256x256_S8x32x256 (ix3 e i q) = v (ix2 (col e i) q) :=
  shapeCast_apply _ _ _ _ (by
    rw [Shape.rowMajor_val_two, Shape.rowMajor_val_three]
    show (32 * e.val + i.val) * 256 + q.val = (e.val * 32 + i.val) * 256 + q.val
    omega)
theorem cast_groups {α : Type} (v : S8x32x256.Idx → α) (e : Fin 8) (i : Fin 32) :
    shapeCast S256x256 v shapeCasts_S8x32x256_S256x256 (ix2 (col e i) q) = v (ix3 e i q) :=
  shapeCast_apply _ _ _ _ (by
    rw [Shape.rowMajor_val_two, Shape.rowMajor_val_three]
    show (e.val * 32 + i.val) * 256 + q.val = (32 * e.val + i.val) * 256 + q.val
    omega)

theorem rotated_apply (h : Col rot x q X σ) (e : Fin 8) (i : Fin 32) :
    rotated rot x (ix3 e i q) = ((V (grp X σ e) i : ℝ) : EReal) := by
  have k : rotated rot x (ix3 e i q) = Ideal.ofBits .f32 0x00000000#32 + ∑ p : Fin 256, shapeCast S256x256 rot shapeCasts_S1x256x256_S256x256 (ix2 (col e i) p) *
      shapeCast S256x256 x shapeCasts_S256x256_S256x256 (ix2 p q) := by
    unfold rotated
    rw [cast_rows]
    exact Ideal.matmul_plain_apply (M := 256) (K := 256) (N := 256) none (shapeCast S256x256 rot shapeCasts_S1x256x256_S256x256)
      (shapeCast S256x256 x shapeCasts_S256x256_S256x256) (constant S256x256 .f32 0x00000000#32) (col e i) q
  rw [k, ofBits_zero, EReal.coe_zero, zero_add, sum_cols]
  have hsc : ∀ p l, shapeCast S256x256 rot shapeCasts_S1x256x256_S256x256 (ix2 p l) = rot (ix3 (0 : Fin 1) p l) := fun p l =>
    shapeCast_apply _ _ _ _ (by
      rw [Shape.rowMajor_val_two, Shape.rowMajor_val_three]
      show (0 * 256 + p.val) * 256 + l.val = p.val * 256 + l.val
      omega)
  have hterm : ∀ e' i', shapeCast S256x256 rot shapeCasts_S1x256x256_S256x256 (ix2 (col e i) (col e' i')) * shapeCast S256x256 x shapeCasts_S256x256_S256x256 (ix2 (col e' i') q)
      = if e = e' then ((grp X σ e' i' * ((had i i' : ℝ) * (1 / 8)) : ℝ) : EReal) else 0 := fun e' i' => by
    rw [shapeCast_self, hsc, h.hx, h.hr, Cert.KernelIdeal.Block.diagonal_apply e e' i i' _ _ rfl rfl]
    split
    · rw [← EReal.coe_mul, ← EReal.coe_mul]
      congr 1
      unfold grp; ring
    · rw [zero_mul, zero_mul]
  simp only [hterm]
  rw [Finset.sum_eq_single e]
  · simp only [if_true]
    rw [← coe_sum']
    rfl
  · intro b' _ hb
    simp only [if_neg (Ne.symm hb), Finset.sum_const_zero]
  · intro hb; exact absurd (Finset.mem_univ e) hb

theorem groupMax_apply (h : Col rot x q X σ) (e : Fin 8) : groupMax (rotated rot x) (ix2 e q) = ((A (grp X σ e) : ℝ) : EReal) := by
  have hs : groupMax (rotated rot x) (ix2 e q)
      = (Finset.univ.sup fun i : Fin 32 => ((|V (grp X σ e) i| : ℝ) : EReal)) * ((root2 : ℝ) : EReal) := by
    have e1 := Ideal.multiReduction_maximumf_single (a := (1 : Fin 3)) (absf (F := Ideal) (rotated rot x)) 0xFF800000#32 reduces_S8x32x256_S8x256 (.inl rfl) rfl (ix2 e q)
    have hb : FloatOps.ofBits (F := Ideal) .f32 0xFF800000#32 = (⊥ : EReal) := Cert.RefGroups.neg_inf
    rw [hb] at e1
    have e2 : groupMax (rotated rot x) (ix2 e q) = (Finset.fold max ⊥ (absf (F := Ideal) (rotated rot x) ∘ reduces_S8x32x256_S8x256.lift (ix2 e q)) Finset.univ : EReal) * ((root2 : ℝ) : EReal) := by
      rw [← e1, ← ofBits_root2]
      rfl
    rw [e2, Cert.RefGroups.fold_max]
    refine congrArg (fun z : EReal => z * ((root2 : ℝ) : EReal)) ?_
    refine Finset.sup_congr rfl fun (i : Fin 32) _ => ?_
    have hl : reduces_S8x32x256_S8x256.lift (ix2 e q) i = ix3 e i q := by funext a; fin_cases a <;> rfl
    show absf (F := Ideal) (rotated rot x) (reduces_S8x32x256_S8x256.lift (ix2 e q) i) = _
    rw [hl]
    show max (rotated rot x (ix3 e i q)) (-(rotated rot x (ix3 e i q))) = _
    rw [rotated_apply h, abs_coe]
  rw [hs]
  obtain ⟨j, -, hj⟩ := Finset.exists_mem_eq_sup (Finset.univ : Finset (Fin 32)) ⟨0, Finset.mem_univ _⟩ (fun i : Fin 32 => ((|V (grp X σ e) i| : ℝ) : EReal))
  have ha : ∀ i, |V (grp X σ e) i * root2| = |V (grp X σ e) i| * root2 := fun i => by rw [abs_mul, abs_of_pos root2_pos]
  apply eq_A
  · intro i
    have hle := Finset.le_sup (f := fun i : Fin 32 => ((|V (grp X σ e) i| : ℝ) : EReal)) (Finset.mem_univ i)
    rw [hj] at hle ⊢
    rw [ha, ← EReal.coe_mul]
    exact EReal.coe_le_coe_iff.mpr (mul_le_mul_of_nonneg_right (EReal.coe_le_coe_iff.mp hle) root2_pos.le)
  · exact ⟨j, by rw [hj, ha, ← EReal.coe_mul]⟩

variable (hf : ∀ e i, Fair (grp X σ e i))

include hf in
theorem groupExp_apply (h : Col rot x q X σ) (e : Fin 8) : groupExp (rotated rot x) (ix2 e q) = word (fieldOf (A (grp X σ e))) :=
  expBits_apply _ _ _ _ (groupMax_apply h e) (fieldOf_field _ (hf e))

include hf in
theorem exps_apply (h : Col rot x q X σ) (e : Fin 8) : exps rot x (ix2 e q) = BitVec.ofInt 32 (expo (A (grp X σ e))) := by
  have k := expOf_apply (ix2 e q) (fieldOf (A (grp X σ e))) (fieldOf_field _ (hf e)).1 _ (groupExp_apply hf h e)
  rw [expOf_eq _ (hf e)] at k
  rw [← k]
  unfold exps
  rw [shapeCast_self]

theorem spread_apply (v : FVec Ideal S8x256 .f32) (e : Fin 8) (i : Fin 32) : spread v (ix3 e i q) = v (ix2 e q) := by
  unfold spread
  rw [broadcastTo_apply _ broadcasts_S8x1x256_S8x32x256 (ix3 e i q) (ix3 e (0 : Fin 1) q) (fun a => by fin_cases a <;> rfl)]
  exact shapeCast_apply _ _ _ _ (by
    rw [Shape.rowMajor_val_two, Shape.rowMajor_val_three]
    show e.val * 256 + q.val = (e.val * 1 + 0) * 256 + q.val
    omega)

variable (r : IVec S256x256 8)

theorem bytes_apply (e : Fin 8) (i : Fin 32) : bytes r (ix3 e i q) = BitVec.ofNat 32 (r (ix2 (col e i) q)).toNat := by
  unfold bytes
  rw [cast_rows, shapeCast_self]
  exact (BitVec.ofNat_toNat _ _).symm

include hf in
theorem codes_apply (h : Col rot x q X σ) (e : Fin 8) (i : Fin 32) :
    codes (rotated rot x) r (ix2 (col e i) q) = BitVec.ofNat 32 (cd (grp X σ e) i (r (ix2 (col e i) q)).toNat) := by
  have k := codeOf_apply (ix3 e i q) (rotated rot x) (spread (multOf (groupExp (rotated rot x)))) (V (grp X σ e) i) _ (r (ix2 (col e i) q)).toNat (bytes r)
    (rotated_apply h e i)
    (by rw [spread_apply]; exact multOf_apply _ _ (fieldOf_field _ (hf e)).1 _ (groupExp_apply hf h e)) (mult_pos _) (bytes_apply r e i)
    (by have := (r (ix2 (col e i) q)).isLt; omega) (by rw [mult_eq _ (hf e)]; exact Y_lt _ _)
  rw [mult_eq _ (hf e), cd_cast, BitVec.ofInt_natCast] at k
  unfold codes
  rw [cast_groups]
  exact k

/-- The two codes of a byte. -/
theorem pack_apply (c : IVec S256x256 32) (e : Fin 8) (j : Fin 16) :
    pack c (ix2 (lane e j) q) = (c (ix2 (col e (even j)) q) ||| IntOp.shli .vector (c (ix2 (col e (odd j)) q)) 4#32).setWidth 8 := by
  have h0 : shapeCast S128x256 (extractStridedSlice S128x1x256 ![0, 0, 0] (shapeCast S128x2x256 c shapeCasts_S256x256_S128x2x256)
      slices_S128x2x256_o0_0_0_S128x1x256) shapeCasts_S128x1x256_S128x256 (ix2 (lane e j) q) = c (ix2 (col e (even j)) q) := by
    rw [shapeCast_apply _ shapeCasts_S128x1x256_S128x256 (ix2 (lane e j) q) (ix3 (lane e j) (0 : Fin 1) q) (by
      rw [Shape.rowMajor_val_two, Shape.rowMajor_val_three]
      show ((lane e j).val * 1 + 0) * 256 + q.val = (lane e j).val * 256 + q.val
      omega), extractStridedSlice_apply _ _ _ _ (ix3 (lane e j) (0 : Fin 2) q) (fun a => by
      match a with
      | ⟨0, _⟩ => show (lane e j).val = 0 + (lane e j).val; omega
      | ⟨1, _⟩ => rfl
      | ⟨2, _⟩ => show q.val = 0 + q.val; omega)]
    exact shapeCast_apply _ _ _ _ (by
      rw [Shape.rowMajor_val_two, Shape.rowMajor_val_three]
      show (32 * e.val + 2 * j.val) * 256 + q.val = ((16 * e.val + j.val) * 2 + 0) * 256 + q.val
      omega)
  have h1 : shapeCast S128x256 (extractStridedSlice S128x1x256 ![0, 1, 0] (shapeCast S128x2x256 c shapeCasts_S256x256_S128x2x256)
      slices_S128x2x256_o0_1_0_S128x1x256) shapeCasts_S128x1x256_S128x256 (ix2 (lane e j) q) = c (ix2 (col e (odd j)) q) := by
    rw [shapeCast_apply _ shapeCasts_S128x1x256_S128x256 (ix2 (lane e j) q) (ix3 (lane e j) (0 : Fin 1) q) (by
      rw [Shape.rowMajor_val_two, Shape.rowMajor_val_three]
      show ((lane e j).val * 1 + 0) * 256 + q.val = (lane e j).val * 256 + q.val
      omega), extractStridedSlice_apply _ _ _ _ (ix3 (lane e j) (1 : Fin 2) q) (fun a => by
      match a with
      | ⟨0, _⟩ => show (lane e j).val = 0 + (lane e j).val; omega
      | ⟨1, _⟩ => rfl
      | ⟨2, _⟩ => show q.val = 0 + q.val; omega)]
    exact shapeCast_apply _ _ _ _ (by
      rw [Shape.rowMajor_val_two, Shape.rowMajor_val_three]
      show (32 * e.val + (2 * j.val + 1)) * 256 + q.val = ((16 * e.val + j.val) * 2 + 1) * 256 + q.val
      omega)
  rw [← h0, ← h1]
  rfl

include hf in
theorem packed_apply (h : Col rot x q X σ) (e : Fin 8) (j : Fin 16) :
    packed rot x r (ix2 (lane e j) q) = (BitVec.ofNat 32 (cd (grp X σ e) (even j) (r (ix2 (col e (even j)) q)).toNat)
      ||| IntOp.shli .vector (BitVec.ofNat 32 (cd (grp X σ e) (odd j) (r (ix2 (col e (odd j)) q)).toNat)) 4#32).setWidth 8 := by
  unfold packed
  rw [pack_apply, codes_apply hf r h, codes_apply hf r h]

theorem scales_apply (v : FVec Ideal S8x32x256 .f32) (e : Fin 8) (i : Fin 32) :
    scales v (ix2 (col e i) q) = scaleOf (F := Ideal) (groupExp v) (ix2 e q) := by
  have k : shapeCast S256x256 (broadcastTo S8x32x256 (shapeCast S8x1x256 (shapeCast S8x1x256 (scaleOf (F := Ideal) (groupExp v))
      shapeCasts_S8x256_S8x1x256) shapeCasts_S8x1x256_S8x1x256) broadcasts_S8x1x256_S8x32x256) shapeCasts_S8x32x256_S256x256 (ix2 (col e i) q)
      = scaleOf (F := Ideal) (groupExp v) (ix2 e q) := by
    rw [cast_groups, shapeCast_self (shapeCast S8x1x256 _ _)]
    exact spread_apply (scaleOf (F := Ideal) (groupExp v)) e i
  exact k

include hf in
theorem scaled_dec (h : Col rot x q X σ) (e : Fin 8) (i : Fin 32) (k : ℕ) :
    ((e2m1 (cd (grp X σ e) i k) : ℝ) : EReal) * scaleOf (F := Ideal) (groupExp (rotated rot x)) (ix2 e q) = ((dec (grp X σ e) i k : ℝ) : EReal) := by
  have hw := groupExp_apply hf h e
  have hE := expOf_eq _ (hf e)
  rcases A_moderate _ (hf e) with h0 | ⟨h0, h1, h2⟩
  · have hz : fieldOf (A (grp X σ e)) = 0 := by unfold fieldOf; rw [if_pos h0]
    rw [hz] at hw
    rw [scaleOf_zero _ _ hw, mul_zero, dec_zero _ h0, EReal.coe_zero]
  · have hz : 3 ≤ fieldOf (A (grp X σ e)) := by unfold fieldOf; rw [if_neg h0.ne']; omega
    rw [scaleOf_apply _ _ (fieldOf_field _ (hf e)).1 hz _ hw, ← EReal.coe_mul]
    rw [if_neg (by omega)] at hE
    unfold dec
    rw [hE]

include hf in
theorem decoded_apply (h : Col rot x q X σ) (e : Fin 8) (i : Fin 32) :
    decoded rot x r (ix2 (col e i) q) = ((dec (grp X σ e) i (r (ix2 (col e i) q)).toNat : ℝ) : EReal) := by
  unfold decoded
  rw [shapeCast_self, mulf_apply, scales_apply, decode_apply _ _ (cd_lt _ _ _) _ (codes_apply hf r h e i), scaled_dec hf h]

end Cert.KernelDwIdeal.Cols
-- ==== Proof.DwValue.lean ====
module

public import proofs.«01_k».proof.Proof.DwElems
public import proofs.«01_k».proof.Proof.Gen.KernelDwIdeal.Value
public import Idealize.ShloMosaic.Lib.StableHlo.RunRead

/-! # What the second product's kernel reads, and what it leaves in its results -/

@[expose] public section

noncomputable section

namespace Cert.KernelDwIdeal.Block

open Cert.KernelDwIdeal Cert.KernelDwIdeal.Gen Cert.KernelDwIdeal.Value Idealize.ShloMosaic Idealize.ShloMosaic.TcCoe Idealize.SL.Sem Idealize.ShloMosaic.ValueIdx

variable {F : FTy → Type} [FloatOps F]

/-- The rotations: the matrix with a token's sign in its column. -/
def rotArr (sg : FVec F S2x896 .f32) : FVec F S7x256x256 .bf16 :=
  truncf .bf16 (mulf (broadcastInDim S7x256x256 ![0, 1, 2] bcast_S1x256x256_S7x256x256_0_1_2
      (broadcastInDim S1x256x256 ![1, 2] bcast_S256x256_S1x256x256_1_2 Cert.KernelIdeal.Block.diagonal))
    (broadcastInDim S7x256x256 ![0, 1, 2] bcast_S7x1x256_S7x256x256_0_1_2 (shapeCast S7x1x256 sg shapeCasts_S2x896_S7x1x256))) bitsLt_bf16_f32

variable (m : (ℓ : Loc nD τ sig) → Buf (Elt F) ℓ) (c : Dev nD)

theorem V_dy : V m c main_v0 = shapeCast S1792x6912 (m (c, main_arg1)) shapeCasts_S2x896x6912_S1792x6912 := by
  dsimp only [V]
  after_reads_simp
  rfl

theorem V_rand : V m c main_v53 = shapeCast S1792x6912 (m (c, main_arg3)) shapeCasts_S2x896x6912_S1792x6912 := by
  dsimp only [V]
  after_reads_simp
  rfl

set_option maxHeartbeats 4000000 in
theorem V_rot : V m c main_v52 = rotArr (m (c, main_arg2)) := by
  dsimp only [V]
  after_reads_simp
  rfl

/-- The blocks the windows read at point `t`, and the blocks they write. -/
theorem idx_in : ∀ t : Fin cfg0.N, win0_0.index t = ![0, 0] ∧ win0_1.index t = ![0, t.val] ∧ win0_2.index t = ![0, t.val]
    ∧ win0_3.index t = ![0, 0, 0] ∧ win0_4.index t = ![0, t.val] ∧ win0_5.index t = ![0, t.val] ∧ win0_6.index t = ![0, 0, t.val] :=
  (by decide +kernel : ∀ t : Fin grid0.N, _)

theorem flush_all : ∀ t : Fin cfg0.N, (cfg0.win 4).flush t = true ∧ (cfg0.win 5).flush t = true ∧ (cfg0.win 6).flush t = true :=
  (by decide +kernel : ∀ t : Fin grid0.N, _)

theorem iblk0_apply (t : Fin cfg0.N) (k : Fin 2560) (r : Fin 1792) :
    (iblk m c 0 t : Vec F S2560x1792 .bf16) (ix2 k r) = (m (c, main_arg0) : Vec F S2560x1792 .bf16) (ix2 k r) := by
  have e1 : (iblk m c 0 t : Vec F S2560x1792 .bf16) (ix2 k r) = (V m c main_arg0 : Vec F S2560x1792 .bf16) (ix2 k r) := by
    refine congrArg (V m c main_arg0 : Vec F S2560x1792 .bf16) (funext fun a => Fin.ext ?_)
    have e := (idx_in t).1
    match a with
    | ⟨0, _⟩ => show win0_0.index t (0 : Fin 2) * 2560 + 1 * k.val = k.val; rw [e]; show 0 * 2560 + 1 * k.val = k.val; omega
    | ⟨1, _⟩ => show win0_0.index t (1 : Fin 2) * 1792 + 1 * r.val = r.val; rw [e]; show 0 * 1792 + 1 * r.val = r.val; omega
  rw [e1, V_main_arg0]

theorem iblk1_apply (t : Fin cfg0.N) (r : Fin 1792) (q : Fin 256) (p : Fin 6912) (hp : p.val = 256 * t.val + q.val) :
    (iblk m c 1 t : Vec F S1792x256 .bf16) (ix2 r q) = (V m c main_v0 : Vec F S1792x6912 .bf16) (ix2 r p) := by
  refine congrArg (V m c main_v0 : Vec F S1792x6912 .bf16) (funext fun a => Fin.ext ?_)
  have e := (idx_in t).2.1
  match a with
  | ⟨0, _⟩ => show win0_1.index t (0 : Fin 2) * 1792 + 1 * r.val = r.val; rw [e]; show 0 * 1792 + 1 * r.val = r.val; omega
  | ⟨1, _⟩ => show win0_1.index t (1 : Fin 2) * 256 + 1 * q.val = p.val; rw [e]; show t.val * 256 + 1 * q.val = p.val; omega

theorem iblk2_apply (t : Fin cfg0.N) (r : Fin 1792) (q : Fin 256) (p : Fin 6912) (hp : p.val = 256 * t.val + q.val) :
    (iblk m c 2 t : Vec F S1792x256 .i8) (ix2 r q) = (V m c main_v53 : Vec F S1792x6912 .i8) (ix2 r p) := by
  refine congrArg (V m c main_v53 : Vec F S1792x6912 .i8) (funext fun a => Fin.ext ?_)
  have e := (idx_in t).2.2.1
  match a with
  | ⟨0, _⟩ => show win0_2.index t (0 : Fin 2) * 1792 + 1 * r.val = r.val; rw [e]; show 0 * 1792 + 1 * r.val = r.val; omega
  | ⟨1, _⟩ => show win0_2.index t (1 : Fin 2) * 256 + 1 * q.val = p.val; rw [e]; show t.val * 256 + 1 * q.val = p.val; omega

theorem iblk3_apply (t : Fin cfg0.N) (i : Fin 7) (q l : Fin 256) :
    (iblk m c 3 t : Vec F S7x256x256 .bf16) (ix3 i q l) = (V m c main_v52 : Vec F S7x256x256 .bf16) (ix3 i q l) := by
  refine congrArg (V m c main_v52 : Vec F S7x256x256 .bf16) (funext fun a => Fin.ext ?_)
  have e := (idx_in t).2.2.2.1
  match a with
  | ⟨0, _⟩ => show win0_3.index t (0 : Fin 3) * 7 + 1 * i.val = i.val; rw [e]; show 0 * 7 + 1 * i.val = i.val; omega
  | ⟨1, _⟩ => show win0_3.index t (1 : Fin 3) * 256 + 1 * q.val = q.val; rw [e]; show 0 * 256 + 1 * q.val = q.val; omega
  | ⟨2, _⟩ => show win0_3.index t (2 : Fin 3) * 256 + 1 * l.val = l.val; rw [e]; show 0 * 256 + 1 * l.val = l.val; omega

/-- The arrays of the results, at the end. -/
def arr4 : Vec F S2560x6912 .f32 := (dats m 0 c).arrAt 4 cfg0.N
@[inherit_doc arr4]
def arr5 : Vec F S896x6912 .i8 := (dats m 0 c).arrAt 5 cfg0.N
@[inherit_doc arr4]
def arr6 : Vec F S2x28x6912 .i8 := (dats m 0 c).arrAt 6 cfg0.N

theorem arr4_apply (t : Fin cfg0.N) (k : Fin 2560) (q : Fin 256) (p : Fin 6912) (hp : p.val = 256 * t.val + q.val) :
    arr4 m c (ix2 k p) = k0_pay1 (iblk m c 0 t) (gBlk (iblk m c 1 t) (iblk m c 2 t) (iblk m c 3 t)) (ix2 k q) := by
  have h := congrFun (blocks4 m c t (flush_all t).1) (ix2 k q)
  rw [flushed4_A, out4_eq] at h
  refine Eq.trans (congrArg (arr4 m c) (funext fun a => Fin.ext ?_)) h
  have e := (idx_in t).2.2.2.2.1
  match a with
  | ⟨0, _⟩ => show k.val = win0_4.index t (0 : Fin 2) * 2560 + 1 * k.val; rw [e]; show k.val = 0 * 2560 + 1 * k.val; omega
  | ⟨1, _⟩ => show p.val = win0_4.index t (1 : Fin 2) * 256 + 1 * q.val; rw [e]; show p.val = t.val * 256 + 1 * q.val; omega

theorem arr5_apply (t : Fin cfg0.N) (r : Fin 896) (q : Fin 256) (p : Fin 6912) (hp : p.val = 256 * t.val + q.val) :
    arr5 m c (ix2 r p) = codesBlk (iblk m c 1 t) (iblk m c 2 t) (iblk m c 3 t) (ix2 r q) := by
  have h := congrFun (blocks5 m c t (flush_all t).2.1) (ix2 r q)
  rw [flushed5_A, out5_eq] at h
  refine Eq.trans (congrArg (arr5 m c) (funext fun a => Fin.ext ?_)) h
  have e := (idx_in t).2.2.2.2.2.1
  match a with
  | ⟨0, _⟩ => show r.val = win0_5.index t (0 : Fin 2) * 896 + 1 * r.val; rw [e]; show r.val = 0 * 896 + 1 * r.val; omega
  | ⟨1, _⟩ => show p.val = win0_5.index t (1 : Fin 2) * 256 + 1 * q.val; rw [e]; show p.val = t.val * 256 + 1 * q.val; omega

theorem arr6_apply (t : Fin cfg0.N) (b : Fin 2) (g : Fin 28) (q : Fin 256) (p : Fin 6912) (hp : p.val = 256 * t.val + q.val) :
    arr6 m c (ix3 b g p) = expsBlk (iblk m c 1 t) (iblk m c 3 t) (ix3 b g q) := by
  have h := congrFun (blocks6 m c t (flush_all t).2.2) (ix3 b g q)
  rw [flushed6_A, out6_eq] at h
  refine Eq.trans (congrArg (arr6 m c) (funext fun a => Fin.ext ?_)) h
  have e := (idx_in t).2.2.2.2.2.2
  match a with
  | ⟨0, _⟩ => show b.val = win0_6.index t (0 : Fin 3) * 2 + 1 * b.val; rw [e]; show b.val = 0 * 2 + 1 * b.val; omega
  | ⟨1, _⟩ => show g.val = win0_6.index t (1 : Fin 3) * 28 + 1 * g.val; rw [e]; show g.val = 0 * 28 + 1 * g.val; omega
  | ⟨2, _⟩ => show p.val = win0_6.index t (2 : Fin 3) * 256 + 1 * q.val; rw [e]; show p.val = t.val * 256 + 1 * q.val; omega

end Cert.KernelDwIdeal.Block
-- ==== Proof.DwResults.lean ====
module

public import proofs.«01_k».proof.Proof.DwValue
public import proofs.«01_k».proof.Proof.DwRef
public import proofs.«01_k».proof.Proof.KernelResults

/-! # What the second product's kernel leaves in its results, element by element

The kernel runs through the 56 groups of tokens of the two batches in seven blocks of eight groups. -/

@[expose] public section

noncomputable section

namespace Cert.KernelDwResults

open Cert.KernelDwIdeal Cert.KernelDwIdeal.Gen Cert.KernelDwIdeal.Block Cert.KernelDwIdeal.Value Cert.KernelIdeal.Scalars Cert.Spec
open Idealize.ShloMosaic Idealize.ShloMosaic.TcCoe Idealize.SL.Sem Idealize.ShloMosaic.ValueIdx
open Cert.KernelIdeal.Lanes (lane col even odd)
open Cert.KernelDwIdeal.Cols (Col)
open Cert.RefGroups (idx2_ext idx3_ext)
open Cert.RefDw (tok brow row dLo dHi cdLo cdHi cdLo_lt cdHi_lt)

/-- The batch of group `e` of block `n`, … -/
def bAt (n : Fin 7) (e : Fin 8) : Fin 2 := ⟨(8 * n.val + e.val) / 28, by omega⟩
/-- … and the group's place in the batch. -/
def gAt (n : Fin 7) (e : Fin 8) : Fin 28 := ⟨(8 * n.val + e.val) % 28, Nat.mod_lt _ (by decide)⟩

theorem group_val (n : Fin 7) (e : Fin 8) : 28 * (bAt n e).val + (gAt n e).val = 8 * n.val + e.val := by
  show 28 * ((8 * n.val + e.val) / 28) + (8 * n.val + e.val) % 28 = _
  omega

theorem group_surj (b : Fin 2) (g : Fin 28) : ∃ (n : Fin 7) (e : Fin 8), b = bAt n e ∧ g = gAt n e := by
  refine ⟨⟨(28 * b.val + g.val) / 8, by omega⟩, ⟨(28 * b.val + g.val) % 8, Nat.mod_lt _ (by decide)⟩, Fin.ext ?_, Fin.ext ?_⟩
  · show b.val = (8 * ((28 * b.val + g.val) / 8) + (28 * b.val + g.val) % 8) / 28
    omega
  · show g.val = (8 * ((28 * b.val + g.val) / 8) + (28 * b.val + g.val) % 8) % 28
    omega

theorem row_val (n : Fin 7) (e : Fin 8) (i : Fin 32) : (row (bAt n e) (gAt n e) i).val = 256 * n.val + (col e i).val := by
  have h := group_val n e
  show 896 * (bAt n e).val + 32 * (gAt n e).val + i.val = 256 * n.val + (32 * e.val + i.val)
  omega

theorem brow_val (n : Fin 7) (e : Fin 8) (j : Fin 16) : (brow (bAt n e) (gAt n e) j).val = 128 * n.val + (lane e j).val := by
  have h := group_val n e
  show 448 * (bAt n e).val + 16 * (gAt n e).val + j.val = 128 * n.val + (16 * e.val + j.val)
  omega

theorem flat_apply {α : Type} (x : S2x896x6912.Idx → α) (b : Fin 2) (g : Fin 28) (i : Fin 32) (p : Fin 6912) :
    shapeCast S1792x6912 x shapeCasts_S2x896x6912_S1792x6912 (ix2 (row b g i) p) = x (ix3 b (tok g i) p) :=
  shapeCast_apply x _ _ _ (by
    rw [Shape.rowMajor_val_three, Shape.rowMajor_val_two]
    show (b.val * 896 + (32 * g.val + i.val)) * 6912 + p.val = (896 * b.val + 32 * g.val + i.val) * 6912 + p.val
    omega)

theorem rotArr_apply (sg : FVec Ideal S2x896 .f32) (n : Fin 7) (k : Fin 256) (e : Fin 8) (i : Fin 32) :
    (rotArr sg (ix3 n k (col e i)) : EReal)
      = Cert.KernelIdeal.Block.diagonal (F := Ideal) (ix2 k (col e i)) * sg (ix2 (bAt n e) (tok (gAt n e) i)) := by
  unfold rotArr
  rw [truncf_apply, mulf_apply]
  rw [broadcastInDim_apply _ bcast_S1x256x256_S7x256x256_0_1_2 _ (ix3 n k (col e i)) (ix3 (0 : Fin 1) k (col e i)) (fun x => by fin_cases x <;> rfl),
    broadcastInDim_apply _ bcast_S256x256_S1x256x256_1_2 _ (ix3 (0 : Fin 1) k (col e i)) (ix2 k (col e i)) (fun x => by fin_cases x <;> rfl),
    broadcastInDim_apply _ bcast_S7x1x256_S7x256x256_0_1_2 _ (ix3 n k (col e i)) (ix3 n (0 : Fin 1) (col e i)) (fun x => by fin_cases x <;> rfl)]
  rw [shapeCast_apply sg shapeCasts_S2x896_S7x1x256 (ix3 n (0 : Fin 1) (col e i)) (ix2 (bAt n e) (tok (gAt n e) i)) (by
    rw [Shape.rowMajor_val_two, Shape.rowMajor_val_three]
    have h := group_val n e
    show (bAt n e).val * 896 + (32 * (gAt n e).val + i.val) = (n.val * 1 + 0) * 256 + (32 * e.val + i.val)
    omega)]

/-! The rows of a point, by the blocks that they are computed in. -/

section Blocks

variable (x1 : FVec Ideal S1792x256 .bf16) (x2 : IVec S1792x256 8) (x3 : FVec Ideal S7x256x256 .bf16) (n : Fin 7) (e : Fin 8) (q : Fin 256)

theorem codesBlk_apply (j : Fin 16) : codesBlk (F := Ideal) x1 x2 x3 (ix2 (brow (bAt n e) (gAt n e) j) q)
    = packed (rotAt n x3) (rowsAt n x1) (rowsAt n x2) (ix2 (lane e j) q) := by
  have h := brow_val n e j
  have hl := (lane e j).isLt
  have h1 : (⟨(brow (bAt n e) (gAt n e) j).val / 128, by omega⟩ : Fin 7) = n := Fin.ext (by show (brow (bAt n e) (gAt n e) j).val / 128 = n.val; omega)
  have h2 : (⟨(brow (bAt n e) (gAt n e) j).val % 128, Nat.mod_lt _ (by decide)⟩ : Fin 128) = lane e j :=
    Fin.ext (by show (brow (bAt n e) (gAt n e) j).val % 128 = (lane e j).val; omega)
  show packed (rotAt ⟨(brow (bAt n e) (gAt n e) j).val / 128, _⟩ x3) (rowsAt ⟨(brow (bAt n e) (gAt n e) j).val / 128, _⟩ x1)
    (rowsAt ⟨(brow (bAt n e) (gAt n e) j).val / 128, _⟩ x2) (ix2 ⟨(brow (bAt n e) (gAt n e) j).val % 128, _⟩ q) = _
  rw [h1, h2]

theorem gBlk_apply (i : Fin 32) : gBlk (F := Ideal) x1 x2 x3 (ix2 (row (bAt n e) (gAt n e) i) q)
    = decoded (rotAt n x3) (rowsAt n x1) (rowsAt n x2) (ix2 (col e i) q) := by
  have h := row_val n e i
  have hl := (col e i).isLt
  have h1 : (⟨(row (bAt n e) (gAt n e) i).val / 256, by omega⟩ : Fin 7) = n := Fin.ext (by show (row (bAt n e) (gAt n e) i).val / 256 = n.val; omega)
  have h2 : (⟨(row (bAt n e) (gAt n e) i).val % 256, Nat.mod_lt _ (by decide)⟩ : Fin 256) = col e i :=
    Fin.ext (by show (row (bAt n e) (gAt n e) i).val % 256 = (col e i).val; omega)
  show decoded (rotAt ⟨(row (bAt n e) (gAt n e) i).val / 256, _⟩ x3) (rowsAt ⟨(row (bAt n e) (gAt n e) i).val / 256, _⟩ x1)
    (rowsAt ⟨(row (bAt n e) (gAt n e) i).val / 256, _⟩ x2) (ix2 ⟨(row (bAt n e) (gAt n e) i).val % 256, _⟩ q) = _
  rw [h1, h2]

attribute [local irreducible] exps in
theorem expsBlk_apply : expsBlk (F := Ideal) x1 x3 (ix3 (bAt n e) (gAt n e) q) = (exps (rotAt n x3) (rowsAt n x1) (ix2 e q)).setWidth 8 := by
  have h := group_val n e
  have h1 : (⟨(28 * (bAt n e).val + (gAt n e).val) / 8, by omega⟩ : Fin 7) = n := Fin.ext (by show (28 * (bAt n e).val + (gAt n e).val) / 8 = n.val; omega)
  have h2 : (⟨(28 * (bAt n e).val + (gAt n e).val) % 8, Nat.mod_lt _ (by decide)⟩ : Fin 8) = e :=
    Fin.ext (by show (28 * (bAt n e).val + (gAt n e).val) % 8 = e.val; omega)
  have k : numsAt (bAt n e) (numsBlk (F := Ideal) x1 x3) (ix2 (gAt n e) q) = exps (F := Ideal) (rotAt n x3) (rowsAt n x1) (ix2 e q) := by
    show exps (F := Ideal) (rotAt ⟨(28 * (bAt n e).val + (gAt n e).val) / 8, _⟩ x3) (rowsAt ⟨(28 * (bAt n e).val + (gAt n e).val) / 8, _⟩ x1)
      (ix2 ⟨(28 * (bAt n e).val + (gAt n e).val) % 8, _⟩ q) = _
    rw [h1, h2]
  rw [← k]
  show narrow (numsAt (bAt n e) (numsBlk (F := Ideal) x1 x3)) (ix3 (0 : Fin 1) (gAt n e) q) = _
  generalize numsAt (bAt n e) (numsBlk (F := Ideal) x1 x3) = v
  unfold narrow
  exact shapeCast_apply _ shapeCasts_S28x256_S1x28x256 (ix3 (0 : Fin 1) (gAt n e) q) (ix2 (gAt n e) q) (by
    rw [Shape.rowMajor_val_two, Shape.rowMajor_val_three]
    show (gAt n e).val * 256 + q.val = (0 * 28 + (gAt n e).val) * 256 + q.val
    omega)

theorem rowsAt_apply {α : Type} (x : S1792x256.Idx → α) (i : Fin 32) : rowsAt n x (ix2 (col e i) q) = x (ix2 (row (bAt n e) (gAt n e) i) q) := by
  unfold rowsAt
  exact congrArg x (idx2_ext _ _ _ (row_val n e i).symm rfl)

end Blocks

variable (m : (ℓ : Loc nD τ sig) → Buf (Elt Ideal) ℓ) (c : Dev nD)

/-- The operands. -/
def a0 : FVec Ideal S2560x1792 .bf16 := m (c, main_arg0)
@[inherit_doc a0]
def a1 : FVec Ideal S2x896x6912 .bf16 := m (c, main_arg1)
@[inherit_doc a0]
def a2 : FVec Ideal S2x896 .f32 := m (c, main_arg2)
@[inherit_doc a0]
def a3 : IVec S2x896x6912 8 := m (c, main_arg3)

theorem point_lt (t : Fin cfg0.N) : t.val < 27 := lt_of_lt_of_eq t.isLt (show cfg0.N = 27 from N_0)

/-- Column `q` of point `t`. -/
def pAt (t : Fin cfg0.N) (q : Fin 256) : Fin 6912 := ⟨256 * t.val + q.val, by have := point_lt t; omega⟩

theorem pAt_surj (p : Fin 6912) : ∃ (t : Fin cfg0.N) (q : Fin 256), p = pAt t q := by
  have hN : cfg0.N = 27 := N_0
  refine ⟨⟨p.val / 256, by rw [hN]; omega⟩, ⟨p.val % 256, Nat.mod_lt _ (by decide)⟩, Fin.ext ?_⟩
  show p.val = 256 * (p.val / 256) + p.val % 256
  omega

variable (X : Fin 2 → Fin 896 → Fin 6912 → ℝ) (σ : Fin 2 → Fin 896 → ℝ)
variable (hx : ∀ b s p, (a1 m c (ix3 b s p) : EReal) = ((X b s p : ℝ) : EReal)) (hs : ∀ b s, (a2 m c (ix2 b s) : EReal) = ((σ b s : ℝ) : EReal))
variable (hf : ∀ b g p i, Fair (Cert.RefDw.grp X σ b g p i))

/-- The random bytes of a block of a point. -/
theorem rand_apply (t : Fin cfg0.N) (n : Fin 7) (e : Fin 8) (i : Fin 32) (q : Fin 256) :
    rowsAt n (iblk m c 2 t : Vec Ideal S1792x256 .i8) (ix2 (col e i) q) = a3 m c (ix3 (bAt n e) (tok (gAt n e) i) (pAt t q)) := by
  rw [rowsAt_apply, iblk2_apply m c t _ q (pAt t q) rfl, V_rand, flat_apply]
  rfl

include hx hs in
theorem col_apply (t : Fin cfg0.N) (n : Fin 7) (q : Fin 256) :
    Col (rotAt n (iblk m c 3 t : Vec Ideal S7x256x256 .bf16)) (rowsAt n (iblk m c 1 t : Vec Ideal S1792x256 .bf16)) q
      (fun e i => X (bAt n e) (tok (gAt n e) i) (pAt t q)) (fun e i => σ (bAt n e) (tok (gAt n e) i)) where
  hx e i := by
    rw [rowsAt_apply, iblk1_apply m c t _ q (pAt t q) rfl, V_dy, flat_apply]
    exact hx _ _ _
  hr k e i := by
    have h1 : rotAt n (iblk m c 3 t : Vec Ideal S7x256x256 .bf16) (ix3 (0 : Fin 1) k (col e i)) = (iblk m c 3 t : Vec Ideal S7x256x256 .bf16) (ix3 n k (col e i)) := rfl
    rw [h1, iblk3_apply, V_rot, rotArr_apply]
    exact congrArg _ (hs _ _)

include hx hs hf in
theorem codes_apply (t : Fin cfg0.N) (n : Fin 7) (e : Fin 8) (j : Fin 16) (q : Fin 256) :
    (arr5 m c) (ix2 (brow (bAt n e) (gAt n e) j) (pAt t q))
      = BitVec.ofNat 8 (cdLo (a3 m c) X σ (bAt n e) (gAt n e) (pAt t q) j + 16 * cdHi (a3 m c) X σ (bAt n e) (gAt n e) (pAt t q) j) := by
  rw [arr5_apply m c t _ q (pAt t q) rfl]
  rw [codesBlk_apply, Cols.packed_apply (fun e i => hf (bAt n e) (gAt n e) (pAt t q) i) _ (col_apply m c X σ hx hs t n q) e j, rand_apply, rand_apply]
  exact Cert.KernelResults.pack_lanes ⟨_, cdLo_lt (a3 m c) X σ (bAt n e) (gAt n e) (pAt t q) j⟩ ⟨_, cdHi_lt (a3 m c) X σ (bAt n e) (gAt n e) (pAt t q) j⟩

include hx hs hf in
theorem exps_apply (t : Fin cfg0.N) (n : Fin 7) (e : Fin 8) (q : Fin 256) :
    (arr6 m c) (ix3 (bAt n e) (gAt n e) (pAt t q)) = (BitVec.ofInt 32 (expo (A (Cert.RefDw.grp X σ (bAt n e) (gAt n e) (pAt t q))))).setWidth 8 := by
  rw [arr6_apply m c t _ _ q (pAt t q) rfl]
  rw [expsBlk_apply, Cols.exps_apply (fun e i => hf (bAt n e) (gAt n e) (pAt t q) i) (col_apply m c X σ hx hs t n q) e]
  rfl

/-- The decoded operand. -/
def gAll (t : Fin cfg0.N) : FVec Ideal S1792x256 .bf16 := gBlk (F := Ideal) (iblk m c 1 t) (iblk m c 2 t) (iblk m c 3 t)

include hx hs hf in
theorem gAll_even (t : Fin cfg0.N) (b : Fin 2) (g : Fin 28) (j : Fin 16) (q : Fin 256) :
    (gAll m c t (ix2 (row b g (even j)) q) : EReal) = ((dLo (a3 m c) X σ b g (pAt t q) j : ℝ) : EReal) := by
  obtain ⟨n, e, rfl, rfl⟩ := group_surj b g
  unfold gAll
  rw [gBlk_apply, Cols.decoded_apply (fun e i => hf (bAt n e) (gAt n e) (pAt t q) i) _ (col_apply m c X σ hx hs t n q) e (even j), rand_apply]
  rfl

include hx hs hf in
theorem gAll_odd (t : Fin cfg0.N) (b : Fin 2) (g : Fin 28) (j : Fin 16) (q : Fin 256) :
    (gAll m c t (ix2 (row b g (odd j)) q) : EReal) = ((dHi (a3 m c) X σ b g (pAt t q) j : ℝ) : EReal) := by
  obtain ⟨n, e, rfl, rfl⟩ := group_surj b g
  unfold gAll
  rw [gBlk_apply, Cols.decoded_apply (fun e i => hf (bAt n e) (gAt n e) (pAt t q) i) _ (col_apply m c X σ hx hs t n q) e (odd j), rand_apply]
  rfl

/-! ## The product -/

theorem sum_rows (f : Fin 1792 → EReal) : ∑ r, f r = (∑ b : Fin 2, ∑ g : Fin 28, ∑ j : Fin 16, f (row b g (even j))) + ∑ b : Fin 2, ∑ g : Fin 28, ∑ j : Fin 16, f (row b g (odd j)) := by
  rw [← Equiv.sum_comp (finProdFinEquiv (m := 2) (n := 896)) f, Fintype.sum_prod_type, ← Finset.sum_add_distrib]
  refine Finset.sum_congr rfl fun b _ => ?_
  rw [← Equiv.sum_comp (finProdFinEquiv (m := 28) (n := 32)), Fintype.sum_prod_type, ← Finset.sum_add_distrib]
  refine Finset.sum_congr rfl fun g _ => ?_
  rw [← Equiv.sum_comp (finProdFinEquiv (m := 16) (n := 2)), Fintype.sum_prod_type, ← Finset.sum_add_distrib]
  refine Finset.sum_congr rfl fun j _ => ?_
  rw [Fin.sum_univ_two]
  refine congrArg₂ (· + ·) (congrArg f (Fin.ext ?_)) (congrArg f (Fin.ext ?_))
  · show ((0 + 2 * j.val) + 32 * g.val) + 896 * b.val = 896 * b.val + 32 * g.val + 2 * j.val
    omega
  · show ((1 + 2 * j.val) + 32 * g.val) + 896 * b.val = 896 * b.val + 32 * g.val + (2 * j.val + 1)
    omega

theorem pay_apply (x : FVec Ideal S2560x1792 .bf16) (g : FVec Ideal S1792x256 .bf16) (k : Fin 2560) (q : Fin 256) :
    (k0_pay1 (F := Ideal) x g (ix2 k q) : EReal)
      = Ideal.ofBits .f32 0x3FE38E39#32 * ∑ r : Fin 1792, (x (ix2 k r) : EReal) * (g (ix2 r q) : EReal) := by
  have h : (matmul (F := Ideal) dot_S2560x1792_S1792x256_S2560x256_1_0_0_1_n_n none x g (constant S2560x256 .f32 0x00000000#32) (ix2 k q) : EReal)
      = Ideal.ofBits .f32 0x00000000#32 + ∑ r : Fin 1792, (x (ix2 k r) : EReal) * (g (ix2 r q) : EReal) :=
    Ideal.matmul_plain_apply (M := 2560) (K := 1792) (N := 256) none x g (constant S2560x256 .f32 0x00000000#32) k q
  rw [ofBits_zero, EReal.coe_zero, zero_add] at h
  rw [← h, mul_comm]
  unfold k0_pay1
  rfl

include hx hs hf in
theorem product_apply (t : Fin cfg0.N) (k : Fin 2560) (q : Fin 256) :
    (arr4 m c (ix2 k (pAt t q)) : EReal)
      = Ideal.ofBits .f32 0x3FE38E39#32 * ((∑ b : Fin 2, ∑ g : Fin 28, ∑ j : Fin 16, (a0 m c (ix2 k (row b g (even j))) : EReal) * ((dLo (a3 m c) X σ b g (pAt t q) j : ℝ) : EReal))
        + ∑ b : Fin 2, ∑ g : Fin 28, ∑ j : Fin 16, (a0 m c (ix2 k (row b g (odd j))) : EReal) * ((dHi (a3 m c) X σ b g (pAt t q) j : ℝ) : EReal)) := by
  have hi (r : Fin 1792) : (iblk m c 0 t : Vec Ideal S2560x1792 .bf16) (ix2 k r) = a0 m c (ix2 k r) := iblk0_apply m c t k r
  rw [arr4_apply m c t k q (pAt t q) rfl]
  refine (pay_apply (iblk m c 0 t) (gAll m c t) k q).trans ?_
  rw [sum_rows]
  refine congrArg₂ (fun a b : EReal => Ideal.ofBits .f32 0x3FE38E39#32 * (a + b)) ?_ ?_
  · refine Finset.sum_congr rfl fun b _ => Finset.sum_congr rfl fun g _ => Finset.sum_congr rfl fun j _ => ?_
    rw [gAll_even m c X σ hx hs hf]
    exact congrArg (fun a : EReal => a * _) (hi _)
  · refine Finset.sum_congr rfl fun b _ => Finset.sum_congr rfl fun g _ => Finset.sum_congr rfl fun j _ => ?_
    rw [gAll_odd m c X σ hx hs hf]
    exact congrArg (fun a : EReal => a * _) (hi _)

end Cert.KernelDwResults
-- ==== Proof.DwEquation.lean ====
module

public import proofs.«01_k».proof.Proof.DwResults

/-! # The second product's kernel has the results of its reference -/

@[expose] public section

noncomputable section

namespace Cert.DwEquation

open Cert.KernelDwIdeal Cert.KernelDwIdeal.Gen Cert.KernelDwIdeal.Value Cert.KernelDwIdeal.Block Cert.Spec Cert.KernelDwResults
open Idealize.ShloMosaic Idealize.ShloMosaic.TcCoe Idealize.SL.Sem Idealize.ShloMosaic.ValueIdx
open Cert.RefDw (brow)

theorem brow_surj (r : Fin 896) : ∃ (b : Fin 2) (g : Fin 28) (j : Fin 16), r = brow b g j := by
  refine ⟨⟨r.val / 448, by omega⟩, ⟨r.val / 16 % 28, Nat.mod_lt _ (by decide)⟩, ⟨r.val % 16, Nat.mod_lt _ (by decide)⟩, Fin.ext ?_⟩
  show r.val = 448 * (r.val / 448) + 16 * (r.val / 16 % 28) + r.val % 16
  omega

variable (m : (ℓ : Loc nD τ sig) → Buf (Elt Ideal) ℓ) (c : Dev nD)
variable (X : Fin 2 → Fin 896 → Fin 6912 → ℝ) (σ : Fin 2 → Fin 896 → ℝ)
variable (hx : ∀ b s p, (a1 m c (ix3 b s p) : EReal) = ((X b s p : ℝ) : EReal)) (hs : ∀ b s, (a2 m c (ix2 b s) : EReal) = ((σ b s : ℝ) : EReal))
variable (hf : ∀ b g p i, Fair (Cert.RefDw.grp X σ b g p i))

include hx hs hf in
theorem product : Cert.ReferenceDwIdeal.Read.val_main_v210 (F := Ideal) (a0 m c) (a1 m c) (a2 m c) (a3 m c) = arr4 m c := by
  funext i
  obtain ⟨k, p, rfl⟩ : ∃ (k : Fin 2560) (p : Fin 6912), i = ix2 k p := ⟨i 0, i 1, eq_ix2 i⟩
  obtain ⟨t, q, rfl⟩ := pAt_surj p
  exact (Cert.RefDw.v210_apply (a0 m c) (a1 m c) (a2 m c) (a3 m c) X σ hx hs hf k (pAt t q)).trans (product_apply m c X σ hx hs hf t k q).symm

include hx hs hf in
theorem codes : Cert.ReferenceDwIdeal.Read.val_main_v211 (F := Ideal) (a1 m c) (a2 m c) (a3 m c) = arr5 m c := by
  funext i
  obtain ⟨r, p, rfl⟩ : ∃ (r : Fin 896) (p : Fin 6912), i = ix2 r p := ⟨i 0, i 1, eq_ix2 i⟩
  obtain ⟨b, g, j, rfl⟩ := brow_surj r
  obtain ⟨n, e, rfl, rfl⟩ := group_surj b g
  obtain ⟨t, q, rfl⟩ := pAt_surj p
  exact (Cert.RefDw.v211_apply (a1 m c) (a2 m c) (a3 m c) X σ hx hs hf (bAt n e) (gAt n e) (pAt t q) j).trans (codes_apply m c X σ hx hs hf t n e j q).symm

include hx hs hf in
theorem exponents : Cert.ReferenceDwIdeal.Read.val_main_v117 (F := Ideal) (a1 m c) (a2 m c) = arr6 m c := by
  funext i
  obtain ⟨b, g, p, rfl⟩ : ∃ (b : Fin 2) (g : Fin 28) (p : Fin 6912), i = ix3 b g p :=
    ⟨i 0, i 1, i 2, Cert.RefGroups.idx3_ext _ _ _ _ rfl rfl rfl⟩
  obtain ⟨n, e, rfl, rfl⟩ := group_surj b g
  obtain ⟨t, q, rfl⟩ := pAt_surj p
  exact (Cert.RefDw.v117_apply (a1 m c) (a2 m c) X σ hx hs hf (bAt n e) (gAt n e) (pAt t q)).trans (exps_apply m c X σ hx hs hf t n e q).symm

end Cert.DwEquation
-- ==== Proof.lean ====
/- The frames of the two calls and of their references, and the equations of their results over the reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_range
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.KernelDw
public import proofs.«01_k».proof.Proof.Gen.KernelDw.Skeleton
public import proofs.«01_k».proof.Proof.Gen.KernelDw.Launch
public import proofs.«01_k».proof.Proof.Gen.KernelDw.Points
public import proofs.«01_k».proof.Proof.Gen.KernelDw.Frame
public import proofs.«01_k».proof.Proof.Gen.KernelDwIdeal
public import proofs.«01_k».proof.Proof.Gen.KernelDwIdeal.Skeleton
public import proofs.«01_k».proof.Proof.Gen.KernelDwIdeal.Launch
public import proofs.«01_k».proof.Proof.Gen.KernelDwIdeal.Points
public import proofs.«01_k».proof.Proof.Gen.KernelDwIdeal.Frame
public import proofs.«01_k».proof.Proof.Gen.ReferenceDwIdeal
public import proofs.«01_k».proof.Proof.Gen.Pre_in_range_dw
public import proofs.«01_k».proof.Proof.Gen.KernelDwIdeal.Value
public import proofs.«01_k».proof.Proof.Gen.ReferenceDwIdeal.Run
public import proofs.«01_k».proof.Proof.Gen.ReferenceDwIdeal.Read
public import proofs.«01_k».proof.Proof.Range
public import proofs.«01_k».proof.Proof.Equation
public import proofs.«01_k».proof.Proof.DwRange
public import proofs.«01_k».proof.Proof.DwEquation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference keeps its operands, and leaves every semaphore counter at zero. -/
theorem referenceFrame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run _ _ _).mono (fun r h => ⟨fun c => (h c).2.2.2, sem_eq_zero_of_no_sems (by decide) r.2⟩) (Cert.ReferenceIdeal.Value.run m ρ)

/-- The results of the kernel and of the reference, from equal operands in range. -/
theorem equation : Cert.algebraic_KernelIdeal_ReferenceIdeal_pre_in_range := by
  intro m ρ m' ρ' hpre hargs
  refine ⟨fun c => Cert.KernelIdeal.Value.G6 m c, fun c => Cert.KernelIdeal.Value.G7 m c, fun c => Cert.KernelIdeal.Value.G8 m c, Cert.KernelIdeal.Value.run m ρ, ?_⟩
  refine (θ_run _ _ _).mono (fun r h c => ?_) (Cert.ReferenceIdeal.Value.run m' ρ')
  obtain ⟨e0, e1, e2, e3, e4⟩ := hargs c
  obtain ⟨X, σ, hx, hs, hf⟩ := Cert.Range.reals _ _ _ _ _ (hpre c).1 (hpre c).2
  obtain ⟨r0, r1, r2, rest⟩ := h c
  refine ⟨r0.trans ((Cert.ReferenceIdeal.Read.val_main_v273_eq _).trans ?_), r1.trans ((Cert.ReferenceIdeal.Read.val_main_v274_eq _).trans ?_),
    r2.trans ((Cert.ReferenceIdeal.Read.val_main_v277_eq _).trans ?_), rest⟩
  · refine Eq.trans ?_ (Cert.Equation.product m c X σ hx hs hf)
    show Cert.ReferenceIdeal.Read.val_main_v273 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) = _
    rw [e0, e1, e2, e3, e4]
    rfl
  · refine Eq.trans ?_ (Cert.Equation.codes m c X σ hx hs hf)
    show Cert.ReferenceIdeal.Read.val_main_v274 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
    rw [e0, e2, e3]
    rfl
  · refine Eq.trans ?_ (Cert.Equation.exponents m c X σ hx hs hf)
    show Cert.ReferenceIdeal.Read.val_main_v277 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) = _
    rw [e0, e2]
    rfl

/-- The second product's reference keeps its operands, and leaves every semaphore counter at zero. -/
theorem referenceDwFrame (m : (ℓ : Loc Cert.ReferenceDwIdeal.nD Cert.ReferenceDwIdeal.τ Cert.ReferenceDwIdeal.sig) → Buf (Elt Ideal) ℓ)
    (ρ : Dev Cert.ReferenceDwIdeal.nD → PrngReg) :
    θ_run (Cert.ReferenceDwIdeal.defs (F := Ideal)) (onTc (τ := Cert.ReferenceDwIdeal.τ) (Cert.ReferenceDwIdeal.main (F := Ideal)))
      ⟨m, fun _ => 0, ρ⟩ (fun r => (∀ c : Dev Cert.ReferenceDwIdeal.nD,
        r.2.mem ((c.tc : Thread Cert.ReferenceDwIdeal.nD Cert.ReferenceDwIdeal.τ).loc Cert.ReferenceDwIdeal.main_arg0) = m ((c.tc : Thread Cert.ReferenceDwIdeal.nD Cert.ReferenceDwIdeal.τ).loc Cert.ReferenceDwIdeal.main_arg0)
        ∧ r.2.mem ((c.tc : Thread Cert.ReferenceDwIdeal.nD Cert.ReferenceDwIdeal.τ).loc Cert.ReferenceDwIdeal.main_arg1) = m ((c.tc : Thread Cert.ReferenceDwIdeal.nD Cert.ReferenceDwIdeal.τ).loc Cert.ReferenceDwIdeal.main_arg1)
        ∧ r.2.mem ((c.tc : Thread Cert.ReferenceDwIdeal.nD Cert.ReferenceDwIdeal.τ).loc Cert.ReferenceDwIdeal.main_arg2) = m ((c.tc : Thread Cert.ReferenceDwIdeal.nD Cert.ReferenceDwIdeal.τ).loc Cert.ReferenceDwIdeal.main_arg2)
        ∧ r.2.mem ((c.tc : Thread Cert.ReferenceDwIdeal.nD Cert.ReferenceDwIdeal.τ).loc Cert.ReferenceDwIdeal.main_arg3) = m ((c.tc : Thread Cert.ReferenceDwIdeal.nD Cert.ReferenceDwIdeal.τ).loc Cert.ReferenceDwIdeal.main_arg3))
      ∧ r.2.sem = fun _ => 0) :=
  (θ_run _ _ _).mono (fun r h => ⟨fun c => (h c).2.2.2, sem_eq_zero_of_no_sems (by decide) r.2⟩) (Cert.ReferenceDwIdeal.Value.run m ρ)

/-- The results of the second product's kernel and of its reference, from equal operands in range. -/
theorem equationDw : Cert.algebraic_KernelDwIdeal_ReferenceDwIdeal_pre_in_range_dw := by
  intro m ρ m' ρ' hpre hargs
  refine ⟨fun c => Cert.KernelDwIdeal.Block.arr4 m c, fun c => Cert.KernelDwIdeal.Block.arr5 m c, fun c => Cert.KernelDwIdeal.Block.arr6 m c,
    Cert.KernelDwIdeal.Value.run_blocks m ρ, ?_⟩
  refine (θ_run _ _ _).mono (fun r h c => ?_) (Cert.ReferenceDwIdeal.Value.run m' ρ')
  obtain ⟨e0, e1, e2, e3⟩ := hargs c
  obtain ⟨X, σ, hx, hs, hf⟩ := Cert.DwRange.reals _ _ _ _ (hpre c).1 (hpre c).2
  obtain ⟨r0, r1, r2, rest⟩ := h c
  refine ⟨r0.trans ((Cert.ReferenceDwIdeal.Read.val_main_v210_eq _).trans ?_), r1.trans ((Cert.ReferenceDwIdeal.Read.val_main_v211_eq _).trans ?_),
    r2.trans ((Cert.ReferenceDwIdeal.Read.val_main_v117_eq _).trans ?_), rest⟩
  · refine Eq.trans ?_ (Cert.DwEquation.product m c X σ hx hs hf)
    show Cert.ReferenceDwIdeal.Read.val_main_v210 (F := Ideal) (m' ((c.tc : Thread Cert.ReferenceDwIdeal.nD Cert.ReferenceDwIdeal.τ).loc Cert.ReferenceDwIdeal.main_arg0)) (m' ((c.tc : Thread Cert.ReferenceDwIdeal.nD Cert.ReferenceDwIdeal.τ).loc Cert.ReferenceDwIdeal.main_arg1)) (m' ((c.tc : Thread Cert.ReferenceDwIdeal.nD Cert.ReferenceDwIdeal.τ).loc Cert.ReferenceDwIdeal.main_arg2)) (m' ((c.tc : Thread Cert.ReferenceDwIdeal.nD Cert.ReferenceDwIdeal.τ).loc Cert.ReferenceDwIdeal.main_arg3)) = _
    rw [e0, e1, e2, e3]
    rfl
  · refine Eq.trans ?_ (Cert.DwEquation.codes m c X σ hx hs hf)
    show Cert.ReferenceDwIdeal.Read.val_main_v211 (F := Ideal) (m' ((c.tc : Thread Cert.ReferenceDwIdeal.nD Cert.ReferenceDwIdeal.τ).loc Cert.ReferenceDwIdeal.main_arg1)) (m' ((c.tc : Thread Cert.ReferenceDwIdeal.nD Cert.ReferenceDwIdeal.τ).loc Cert.ReferenceDwIdeal.main_arg2)) (m' ((c.tc : Thread Cert.ReferenceDwIdeal.nD Cert.ReferenceDwIdeal.τ).loc Cert.ReferenceDwIdeal.main_arg3)) = _
    rw [e1, e2, e3]
    rfl
  · refine Eq.trans ?_ (Cert.DwEquation.exponents m c X σ hx hs hf)
    show Cert.ReferenceDwIdeal.Read.val_main_v117 (F := Ideal) (m' ((c.tc : Thread Cert.ReferenceDwIdeal.nD Cert.ReferenceDwIdeal.τ).loc Cert.ReferenceDwIdeal.main_arg1)) (m' ((c.tc : Thread Cert.ReferenceDwIdeal.nD Cert.ReferenceDwIdeal.τ).loc Cert.ReferenceDwIdeal.main_arg2)) = _
    rw [e1, e2]
    rfl

theorem claim : Cert.Claim := ⟨Cert.Kernel.Gen.facts, Cert.KernelIdeal.Gen.facts, Cert.ReferenceIdeal.Gen.facts, Cert.KernelDw.Gen.facts, Cert.KernelDwIdeal.Gen.facts,
  Cert.ReferenceDwIdeal.Gen.facts, Cert.Pre_in_range.Gen.facts, Cert.Pre_in_range_dw.Gen.facts,
  fun m ρ _ => Cert.Kernel.Gen.frame m ρ, fun m ρ _ => Cert.KernelIdeal.Gen.frame m ρ, fun m ρ _ => Cert.KernelIdeal.Gen.frame m ρ,
  fun m ρ _ => referenceFrame m ρ, fun m ρ _ => referenceFrame m ρ,
  fun m ρ _ => Cert.KernelDw.Gen.frame m ρ, fun m ρ _ => Cert.KernelDwIdeal.Gen.frame m ρ, fun m ρ _ => Cert.KernelDwIdeal.Gen.frame m ρ,
  fun m ρ _ => referenceDwFrame m ρ, fun m ρ _ => referenceDwFrame m ρ, trivial, equation, trivial, equationDw⟩

end Cert.Proof

end
